-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutSample (m : (ℓ : Loc Cert.OutSample.nD Cert.OutSample.τ Cert.OutSample.sig) → Buf (Elt Bits) ℓ) : Prop :=
  True

def Pre_OutSampleIdeal (m : (ℓ : Loc Cert.OutSampleIdeal.nD Cert.OutSampleIdeal.τ Cert.OutSampleIdeal.sig) → Buf (Elt Ideal) ℓ) : Prop :=
  True

def Pre_OutSampleRefIdeal (m : (ℓ : Loc Cert.OutSampleRefIdeal.nD Cert.OutSampleRefIdeal.τ Cert.OutSampleRefIdeal.sig) → Buf (Elt Ideal) ℓ) : Prop :=
  True

def Pre_KvRows (m : (ℓ : Loc Cert.KvRows.nD Cert.KvRows.τ Cert.KvRows.sig) → Buf (Elt Bits) ℓ) : Prop :=
  True

def Pre_KvRowsIdeal (m : (ℓ : Loc Cert.KvRowsIdeal.nD Cert.KvRowsIdeal.τ Cert.KvRowsIdeal.sig) → Buf (Elt Ideal) ℓ) : Prop :=
  True

def Pre_KvRowsRefIdeal (m : (ℓ : Loc Cert.KvRowsRefIdeal.nD Cert.KvRowsRefIdeal.τ Cert.KvRowsRefIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def Pre_SsdState (m : (ℓ : Loc Cert.SsdState.nD Cert.SsdState.τ Cert.SsdState.sig) → Buf (Elt Bits) ℓ) : Prop :=
  True

def Pre_SsdStateIdeal (m : (ℓ : Loc Cert.SsdStateIdeal.nD Cert.SsdStateIdeal.τ Cert.SsdStateIdeal.sig) → Buf (Elt Ideal) ℓ) : Prop :=
  True

def Pre_SsdStateIdeal_decaying [hPre_decaying : Cert.Pre_decaying.Facts] (m : (ℓ : Loc Cert.SsdStateIdeal.nD Cert.SsdStateIdeal.τ Cert.SsdStateIdeal.sig) → Buf (Elt Ideal) ℓ) : Prop :=
  ∀ c : Dev Cert.SsdStateIdeal.nD,
    (Cert.Pre_decaying.fn (F := Ideal) (m ((c.tc : Thread Cert.SsdStateIdeal.nD Cert.SsdStateIdeal.τ).loc Cert.SsdStateIdeal.main_arg0)) (m ((c.tc : Thread Cert.SsdStateIdeal.nD Cert.SsdStateIdeal.τ).loc Cert.SsdStateIdeal.main_arg1)) (m ((c.tc : Thread Cert.SsdStateIdeal.nD Cert.SsdStateIdeal.τ).loc Cert.SsdStateIdeal.main_arg2)) (m ((c.tc : Thread Cert.SsdStateIdeal.nD Cert.SsdStateIdeal.τ).loc Cert.SsdStateIdeal.main_arg3)) (m ((c.tc : Thread Cert.SsdStateIdeal.nD Cert.SsdStateIdeal.τ).loc Cert.SsdStateIdeal.main_arg4)) (m ((c.tc : Thread Cert.SsdStateIdeal.nD Cert.SsdStateIdeal.τ).loc Cert.SsdStateIdeal.main_arg5)) (m ((c.tc : Thread Cert.SsdStateIdeal.nD Cert.SsdStateIdeal.τ).loc Cert.SsdStateIdeal.main_arg6)) (m ((c.tc : Thread Cert.SsdStateIdeal.nD Cert.SsdStateIdeal.τ).loc Cert.SsdStateIdeal.main_arg7)) (m ((c.tc : Thread Cert.SsdStateIdeal.nD Cert.SsdStateIdeal.τ).loc Cert.SsdStateIdeal.main_arg8)) (m ((c.tc : Thread Cert.SsdStateIdeal.nD Cert.SsdStateIdeal.τ).loc Cert.SsdStateIdeal.main_arg9))) = (fun _ => 1#1)

def Pre_SsdStateRefIdeal (m : (ℓ : Loc Cert.SsdStateRefIdeal.nD Cert.SsdStateRefIdeal.τ Cert.SsdStateRefIdeal.sig) → Buf (Elt Ideal) ℓ) : Prop :=
  True

def Pre_SsdStateRefIdeal_decaying [hPre_decaying : Cert.Pre_decaying.Facts] (m : (ℓ : Loc Cert.SsdStateRefIdeal.nD Cert.SsdStateRefIdeal.τ Cert.SsdStateRefIdeal.sig) → Buf (Elt Ideal) ℓ) : Prop :=
  ∀ c : Dev Cert.SsdStateRefIdeal.nD,
    (Cert.Pre_decaying.fn (F := Ideal) (m ((c.tc : Thread Cert.SsdStateRefIdeal.nD Cert.SsdStateRefIdeal.τ).loc Cert.SsdStateRefIdeal.main_arg0)) (m ((c.tc : Thread Cert.SsdStateRefIdeal.nD Cert.SsdStateRefIdeal.τ).loc Cert.SsdStateRefIdeal.main_arg1)) (m ((c.tc : Thread Cert.SsdStateRefIdeal.nD Cert.SsdStateRefIdeal.τ).loc Cert.SsdStateRefIdeal.main_arg2)) (m ((c.tc : Thread Cert.SsdStateRefIdeal.nD Cert.SsdStateRefIdeal.τ).loc Cert.SsdStateRefIdeal.main_arg3)) (m ((c.tc : Thread Cert.SsdStateRefIdeal.nD Cert.SsdStateRefIdeal.τ).loc Cert.SsdStateRefIdeal.main_arg4)) (m ((c.tc : Thread Cert.SsdStateRefIdeal.nD Cert.SsdStateRefIdeal.τ).loc Cert.SsdStateRefIdeal.main_arg5)) (m ((c.tc : Thread Cert.SsdStateRefIdeal.nD Cert.SsdStateRefIdeal.τ).loc Cert.SsdStateRefIdeal.main_arg6)) (m ((c.tc : Thread Cert.SsdStateRefIdeal.nD Cert.SsdStateRefIdeal.τ).loc Cert.SsdStateRefIdeal.main_arg7)) (m ((c.tc : Thread Cert.SsdStateRefIdeal.nD Cert.SsdStateRefIdeal.τ).loc Cert.SsdStateRefIdeal.main_arg8)) (m ((c.tc : Thread Cert.SsdStateRefIdeal.nD Cert.SsdStateRefIdeal.τ).loc Cert.SsdStateRefIdeal.main_arg9))) = (fun _ => 1#1)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_OutSample [hOutSample : Cert.OutSample.Facts] : Prop :=
  ∀ (m : (ℓ : Loc Cert.OutSample.nD Cert.OutSample.τ Cert.OutSample.sig) → Buf (Elt Bits) ℓ) (g : Dev Cert.OutSample.nD → PrngReg), Pre_OutSample m →
    θ_run (Cert.OutSample.defs (F := Bits)) (onTc (τ := Cert.OutSample.τ) (Cert.OutSample.main (F := Bits))) ⟨m, fun _ => 0, g⟩ (fun r => (∀ c : Dev Cert.OutSample.nD,
      r.2.mem ((c.tc : Thread Cert.OutSample.nD Cert.OutSample.τ).loc Cert.OutSample.main_arg0) = m ((c.tc : Thread Cert.OutSample.nD Cert.OutSample.τ).loc Cert.OutSample.main_arg0)
      ∧ r.2.mem ((c.tc : Thread Cert.OutSample.nD Cert.OutSample.τ).loc Cert.OutSample.main_arg1) = m ((c.tc : Thread Cert.OutSample.nD Cert.OutSample.τ).loc Cert.OutSample.main_arg1)
      ∧ r.2.mem ((c.tc : Thread Cert.OutSample.nD Cert.OutSample.τ).loc Cert.OutSample.main_arg2) = m ((c.tc : Thread Cert.OutSample.nD Cert.OutSample.τ).loc Cert.OutSample.main_arg2)
      ∧ r.2.mem ((c.tc : Thread Cert.OutSample.nD Cert.OutSample.τ).loc Cert.OutSample.main_arg3) = m ((c.tc : Thread Cert.OutSample.nD Cert.OutSample.τ).loc Cert.OutSample.main_arg3))
      ∧ r.2.sem = fun _ => 0)

def quiescent_OutSampleIdeal [hOutSampleIdeal : Cert.OutSampleIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg), Pre_OutSampleIdeal m →
    θ_run (Cert.OutSampleIdeal.defs (F := Ideal)) (onTc (τ := Cert.OutSampleIdeal.τ) (Cert.OutSampleIdeal.main (F := Ideal))) ⟨m, fun _ => 0, g⟩ (fun r => (∀ c : Dev Cert.OutSampleIdeal.nD,
      r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
      ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
      ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
      ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3))
      ∧ r.2.sem = fun _ => 0)

def quiescent_OutSampleRefIdeal [hOutSampleRefIdeal : Cert.OutSampleRefIdeal.Facts] : Prop :=
  ∀ (m : (ℓ : Loc Cert.OutSampleRefIdeal.nD Cert.OutSampleRefIdeal.τ Cert.OutSampleRefIdeal.sig) → Buf (Elt Ideal) ℓ) (g : Dev Cert.OutSampleRefIdeal.nD → PrngReg), Pre_OutSampleRefIdeal m →
    θ_run (Cert.OutSampleRefIdeal.defs (F := Ideal)) (onTc (τ := Cert.OutSampleRefIdeal.τ) (Cert.OutSampleRefIdeal.main (F := Ideal))) ⟨m, fun _ => 0, g⟩ (fun r => (∀ c : Dev Cert.OutSampleRefIdeal.nD,
      r.2.mem ((c.tc : Thread Cert.OutSampleRefIdeal.nD Cert.OutSampleRefIdeal.τ).loc Cert.OutSampleRefIdeal.main_arg0) = m ((c.tc : Thread Cert.OutSampleRefIdeal.nD Cert.OutSampleRefIdeal.τ).loc Cert.OutSampleRefIdeal.main_arg0)
      ∧ r.2.mem ((c.tc : Thread Cert.OutSampleRefIdeal.nD Cert.OutSampleRefIdeal.τ).loc Cert.OutSampleRefIdeal.main_arg1) = m ((c.tc : Thread Cert.OutSampleRefIdeal.nD Cert.OutSampleRefIdeal.τ).loc Cert.OutSampleRefIdeal.main_arg1)
      ∧ r.2.mem ((c.tc : Thread Cert.OutSampleRefIdeal.nD Cert.OutSampleRefIdeal.τ).loc Cert.OutSampleRefIdeal.main_arg2) = m ((c.tc : Thread Cert.OutSampleRefIdeal.nD Cert.OutSampleRefIdeal.τ).loc Cert.OutSampleRefIdeal.main_arg2)
      ∧ r.2.mem ((c.tc : Thread Cert.OutSampleRefIdeal.nD Cert.OutSampleRefIdeal.τ).loc Cert.OutSampleRefIdeal.main_arg3) = m ((c.tc : Thread Cert.OutSampleRefIdeal.nD Cert.OutSampleRefIdeal.τ).loc Cert.OutSampleRefIdeal.main_arg3))
      ∧ r.2.sem = fun _ => 0)

def quiescent_KvRows [hKvRows : Cert.KvRows.Facts] : Prop :=
  ∀ (m : (ℓ : Loc Cert.KvRows.nD Cert.KvRows.τ Cert.KvRows.sig) → Buf (Elt Bits) ℓ) (g : Dev Cert.KvRows.nD → PrngReg), Pre_KvRows m →
    θ_run (Cert.KvRows.defs (F := Bits)) (onTc (τ := Cert.KvRows.τ) (Cert.KvRows.main (F := Bits))) ⟨m, fun _ => 0, g⟩ (fun r => (∀ c : Dev Cert.KvRows.nD,
      r.2.mem ((c.tc : Thread Cert.KvRows.nD Cert.KvRows.τ).loc Cert.KvRows.main_arg0) = m ((c.tc : Thread Cert.KvRows.nD Cert.KvRows.τ).loc Cert.KvRows.main_arg0)
      ∧ r.2.mem ((c.tc : Thread Cert.KvRows.nD Cert.KvRows.τ).loc Cert.KvRows.main_arg1) = m ((c.tc : Thread Cert.KvRows.nD Cert.KvRows.τ).loc Cert.KvRows.main_arg1)
      ∧ r.2.mem ((c.tc : Thread Cert.KvRows.nD Cert.KvRows.τ).loc Cert.KvRows.main_arg2) = m ((c.tc : Thread Cert.KvRows.nD Cert.KvRows.τ).loc Cert.KvRows.main_arg2)
      ∧ r.2.mem ((c.tc : Thread Cert.KvRows.nD Cert.KvRows.τ).loc Cert.KvRows.main_arg3) = m ((c.tc : Thread Cert.KvRows.nD Cert.KvRows.τ).loc Cert.KvRows.main_arg3)
      ∧ r.2.mem ((c.tc : Thread Cert.KvRows.nD Cert.KvRows.τ).loc Cert.KvRows.main_arg4) = m ((c.tc : Thread Cert.KvRows.nD Cert.KvRows.τ).loc Cert.KvRows.main_arg4))
      ∧ r.2.sem = fun _ => 0)

def quiescent_KvRowsIdeal [hKvRowsIdeal : Cert.KvRowsIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg), Pre_KvRowsIdeal m →
    θ_run (Cert.KvRowsIdeal.defs (F := Ideal)) (onTc (τ := Cert.KvRowsIdeal.τ) (Cert.KvRowsIdeal.main (F := Ideal))) ⟨m, fun _ => 0, g⟩ (fun r => (∀ c : Dev Cert.KvRowsIdeal.nD,
      r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
      ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
      ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
      ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3)
      ∧ r.2.mem ((c.tc : Thread Cert.KvRowsIdeal.nD Cert.KvRowsIdeal.τ).loc Cert.KvRowsIdeal.main_arg4) = m ((c.tc : Thread Cert.KvRowsIdeal.nD Cert.KvRowsIdeal.τ).loc Cert.KvRowsIdeal.main_arg4))
      ∧ r.2.sem = fun _ => 0)

def quiescent_KvRowsRefIdeal [hKvRowsRefIdeal : Cert.KvRowsRefIdeal.Facts] : Prop :=
  ∀ (m : (ℓ : Loc Cert.KvRowsRefIdeal.nD Cert.KvRowsRefIdeal.τ Cert.KvRowsRefIdeal.sig) → Buf (Elt Ideal) ℓ) (g : Dev Cert.KvRowsRefIdeal.nD → PrngReg), Pre_KvRowsRefIdeal m →
    θ_run (Cert.KvRowsRefIdeal.defs (F := Ideal)) (onTc (τ := Cert.KvRowsRefIdeal.τ) (Cert.KvRowsRefIdeal.main (F := Ideal))) ⟨m, fun _ => 0, g⟩ (fun r => (∀ c : Dev Cert.KvRowsRefIdeal.nD,
      r.2.mem ((c.tc : Thread Cert.KvRowsRefIdeal.nD Cert.KvRowsRefIdeal.τ).loc Cert.KvRowsRefIdeal.main_arg0) = m ((c.tc : Thread Cert.KvRowsRefIdeal.nD Cert.KvRowsRefIdeal.τ).loc Cert.KvRowsRefIdeal.main_arg0)
      ∧ r.2.mem ((c.tc : Thread Cert.KvRowsRefIdeal.nD Cert.KvRowsRefIdeal.τ).loc Cert.KvRowsRefIdeal.main_arg1) = m ((c.tc : Thread Cert.KvRowsRefIdeal.nD Cert.KvRowsRefIdeal.τ).loc Cert.KvRowsRefIdeal.main_arg1)
      ∧ r.2.mem ((c.tc : Thread Cert.KvRowsRefIdeal.nD Cert.KvRowsRefIdeal.τ).loc Cert.KvRowsRefIdeal.main_arg2) = m ((c.tc : Thread Cert.KvRowsRefIdeal.nD Cert.KvRowsRefIdeal.τ).loc Cert.KvRowsRefIdeal.main_arg2)
      ∧ r.2.mem ((c.tc : Thread Cert.KvRowsRefIdeal.nD Cert.KvRowsRefIdeal.τ).loc Cert.KvRowsRefIdeal.main_arg3) = m ((c.tc : Thread Cert.KvRowsRefIdeal.nD Cert.KvRowsRefIdeal.τ).loc Cert.KvRowsRefIdeal.main_arg3)
      ∧ r.2.mem ((c.tc : Thread Cert.KvRowsRefIdeal.nD Cert.KvRowsRefIdeal.τ).loc Cert.KvRowsRefIdeal.main_arg4) = m ((c.tc : Thread Cert.KvRowsRefIdeal.nD Cert.KvRowsRefIdeal.τ).loc Cert.KvRowsRefIdeal.main_arg4))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2)
      ∧ r.2.mem ((c.tc : Thread Cert.InSample.nD Cert.InSample.τ).loc Cert.InSample.main_arg3) = m ((c.tc : Thread Cert.InSample.nD Cert.InSample.τ).loc Cert.InSample.main_arg3)
      ∧ r.2.mem ((c.tc : Thread Cert.InSample.nD Cert.InSample.τ).loc Cert.InSample.main_arg4) = m ((c.tc : Thread Cert.InSample.nD Cert.InSample.τ).loc Cert.InSample.main_arg4)
      ∧ r.2.mem ((c.tc : Thread Cert.InSample.nD Cert.InSample.τ).loc Cert.InSample.main_arg5) = m ((c.tc : Thread Cert.InSample.nD Cert.InSample.τ).loc Cert.InSample.main_arg5)
      ∧ r.2.mem ((c.tc : Thread Cert.InSample.nD Cert.InSample.τ).loc Cert.InSample.main_arg6) = m ((c.tc : Thread Cert.InSample.nD Cert.InSample.τ).loc Cert.InSample.main_arg6))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
      ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
      ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
      ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
      ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1)
      ∧ r.2.mem ((c.tc : Thread Cert.InSampleRefIdeal.nD Cert.InSampleRefIdeal.τ).loc Cert.InSampleRefIdeal.main_arg2) = m ((c.tc : Thread Cert.InSampleRefIdeal.nD Cert.InSampleRefIdeal.τ).loc Cert.InSampleRefIdeal.main_arg2)
      ∧ r.2.mem ((c.tc : Thread Cert.InSampleRefIdeal.nD Cert.InSampleRefIdeal.τ).loc Cert.InSampleRefIdeal.main_arg3) = m ((c.tc : Thread Cert.InSampleRefIdeal.nD Cert.InSampleRefIdeal.τ).loc Cert.InSampleRefIdeal.main_arg3)
      ∧ r.2.mem ((c.tc : Thread Cert.InSampleRefIdeal.nD Cert.InSampleRefIdeal.τ).loc Cert.InSampleRefIdeal.main_arg4) = m ((c.tc : Thread Cert.InSampleRefIdeal.nD Cert.InSampleRefIdeal.τ).loc Cert.InSampleRefIdeal.main_arg4)
      ∧ r.2.mem ((c.tc : Thread Cert.InSampleRefIdeal.nD Cert.InSampleRefIdeal.τ).loc Cert.InSampleRefIdeal.main_arg5) = m ((c.tc : Thread Cert.InSampleRefIdeal.nD Cert.InSampleRefIdeal.τ).loc Cert.InSampleRefIdeal.main_arg5)
      ∧ r.2.mem ((c.tc : Thread Cert.InSampleRefIdeal.nD Cert.InSampleRefIdeal.τ).loc Cert.InSampleRefIdeal.main_arg6) = m ((c.tc : Thread Cert.InSampleRefIdeal.nD Cert.InSampleRefIdeal.τ).loc Cert.InSampleRefIdeal.main_arg6))
      ∧ r.2.sem = fun _ => 0)

def quiescent_SsdState [hSsdState : Cert.SsdState.Facts] : Prop :=
  ∀ (m : (ℓ : Loc Cert.SsdState.nD Cert.SsdState.τ Cert.SsdState.sig) → Buf (Elt Bits) ℓ) (g : Dev Cert.SsdState.nD → PrngReg), Pre_SsdState m →
    θ_run (Cert.SsdState.defs (F := Bits)) (onTc (τ := Cert.SsdState.τ) (Cert.SsdState.main (F := Bits))) ⟨m, fun _ => 0, g⟩ (fun r => (∀ c : Dev Cert.SsdState.nD,
      r.2.mem ((c.tc : Thread Cert.SsdState.nD Cert.SsdState.τ).loc Cert.SsdState.main_arg0) = m ((c.tc : Thread Cert.SsdState.nD Cert.SsdState.τ).loc Cert.SsdState.main_arg0)
      ∧ r.2.mem ((c.tc : Thread Cert.SsdState.nD Cert.SsdState.τ).loc Cert.SsdState.main_arg1) = m ((c.tc : Thread Cert.SsdState.nD Cert.SsdState.τ).loc Cert.SsdState.main_arg1)
      ∧ r.2.mem ((c.tc : Thread Cert.SsdState.nD Cert.SsdState.τ).loc Cert.SsdState.main_arg2) = m ((c.tc : Thread Cert.SsdState.nD Cert.SsdState.τ).loc Cert.SsdState.main_arg2)
      ∧ r.2.mem ((c.tc : Thread Cert.SsdState.nD Cert.SsdState.τ).loc Cert.SsdState.main_arg3) = m ((c.tc : Thread Cert.SsdState.nD Cert.SsdState.τ).loc Cert.SsdState.main_arg3)
      ∧ r.2.mem ((c.tc : Thread Cert.SsdState.nD Cert.SsdState.τ).loc Cert.SsdState.main_arg4) = m ((c.tc : Thread Cert.SsdState.nD Cert.SsdState.τ).loc Cert.SsdState.main_arg4)
      ∧ r.2.mem ((c.tc : Thread Cert.SsdState.nD Cert.SsdState.τ).loc Cert.SsdState.main_arg5) = m ((c.tc : Thread Cert.SsdState.nD Cert.SsdState.τ).loc Cert.SsdState.main_arg5)
      ∧ r.2.mem ((c.tc : Thread Cert.SsdState.nD Cert.SsdState.τ).loc Cert.SsdState.main_arg6) = m ((c.tc : Thread Cert.SsdState.nD Cert.SsdState.τ).loc Cert.SsdState.main_arg6)
      ∧ r.2.mem ((c.tc : Thread Cert.SsdState.nD Cert.SsdState.τ).loc Cert.SsdState.main_arg7) = m ((c.tc : Thread Cert.SsdState.nD Cert.SsdState.τ).loc Cert.SsdState.main_arg7)
      ∧ r.2.mem ((c.tc : Thread Cert.SsdState.nD Cert.SsdState.τ).loc Cert.SsdState.main_arg8) = m ((c.tc : Thread Cert.SsdState.nD Cert.SsdState.τ).loc Cert.SsdState.main_arg8)
      ∧ r.2.mem ((c.tc : Thread Cert.SsdState.nD Cert.SsdState.τ).loc Cert.SsdState.main_arg9) = m ((c.tc : Thread Cert.SsdState.nD Cert.SsdState.τ).loc Cert.SsdState.main_arg9))
      ∧ r.2.sem = fun _ => 0)

def quiescent_SsdStateIdeal [hSsdStateIdeal : Cert.SsdStateIdeal.Facts] : Prop :=
  ∀ (m : (ℓ : Loc Cert.SsdStateIdeal.nD Cert.SsdStateIdeal.τ Cert.SsdStateIdeal.sig) → Buf (Elt Ideal) ℓ) (g : Dev Cert.SsdStateIdeal.nD → PrngReg), Pre_SsdStateIdeal m →
    θ_run (Cert.SsdStateIdeal.defs (F := Ideal)) (onTc (τ := Cert.SsdStateIdeal.τ) (Cert.SsdStateIdeal.main (F := Ideal))) ⟨m, fun _ => 0, g⟩ (fun r => (∀ c : Dev Cert.SsdStateIdeal.nD,
      r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
      ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
      ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
      ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
      ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
      ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
      ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
      ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
      ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8)
      ∧ r.2.mem ((c.tc : Thread Cert.SsdStateIdeal.nD Cert.SsdStateIdeal.τ).loc Cert.SsdStateIdeal.main_arg9) = m ((c.tc : Thread Cert.SsdStateIdeal.nD Cert.SsdStateIdeal.τ).loc Cert.SsdStateIdeal.main_arg9))
      ∧ r.2.sem = fun _ => 0)

def quiescent_SsdStateIdeal_pre_decaying [hSsdStateIdeal : Cert.SsdStateIdeal.Facts] [hPre_decaying : Cert.Pre_decaying.Facts] : Prop :=
  ∀ (m : (ℓ : Loc Cert.SsdStateIdeal.nD Cert.SsdStateIdeal.τ Cert.SsdStateIdeal.sig) → Buf (Elt Ideal) ℓ) (g : Dev Cert.SsdStateIdeal.nD → PrngReg), Pre_SsdStateIdeal_decaying m →
    θ_run (Cert.SsdStateIdeal.defs (F := Ideal)) (onTc (τ := Cert.SsdStateIdeal.τ) (Cert.SsdStateIdeal.main (F := Ideal))) ⟨m, fun _ => 0, g⟩ (fun r => (∀ c : Dev Cert.SsdStateIdeal.nD,
      r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
      ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
      ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
      ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
      ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
      ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
      ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
      ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
      ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8)
      ∧ r.2.mem ((c.tc : Thread Cert.SsdStateIdeal.nD Cert.SsdStateIdeal.τ).loc Cert.SsdStateIdeal.main_arg9) = m ((c.tc : Thread Cert.SsdStateIdeal.nD Cert.SsdStateIdeal.τ).loc Cert.SsdStateIdeal.main_arg9))
      ∧ r.2.sem = fun _ => 0)

def quiescent_SsdStateRefIdeal [hSsdStateRefIdeal : Cert.SsdStateRefIdeal.Facts] : Prop :=
  ∀ (m : (ℓ : Loc Cert.SsdStateRefIdeal.nD Cert.SsdStateRefIdeal.τ Cert.SsdStateRefIdeal.sig) → Buf (Elt Ideal) ℓ) (g : Dev Cert.SsdStateRefIdeal.nD → PrngReg), Pre_SsdStateRefIdeal m →
    θ_run (Cert.SsdStateRefIdeal.defs (F := Ideal)) (onTc (τ := Cert.SsdStateRefIdeal.τ) (Cert.SsdStateRefIdeal.main (F := Ideal))) ⟨m, fun _ => 0, g⟩ (fun r => (∀ c : Dev Cert.SsdStateRefIdeal.nD,
      r.2.mem ((c.tc : Thread Cert.SsdStateRefIdeal.nD Cert.SsdStateRefIdeal.τ).loc Cert.SsdStateRefIdeal.main_arg0) = m ((c.tc : Thread Cert.SsdStateRefIdeal.nD Cert.SsdStateRefIdeal.τ).loc Cert.SsdStateRefIdeal.main_arg0)
      ∧ r.2.mem ((c.tc : Thread Cert.SsdStateRefIdeal.nD Cert.SsdStateRefIdeal.τ).loc Cert.SsdStateRefIdeal.main_arg1) = m ((c.tc : Thread Cert.SsdStateRefIdeal.nD Cert.SsdStateRefIdeal.τ).loc Cert.SsdStateRefIdeal.main_arg1)
      ∧ r.2.mem ((c.tc : Thread Cert.SsdStateRefIdeal.nD Cert.SsdStateRefIdeal.τ).loc Cert.SsdStateRefIdeal.main_arg2) = m ((c.tc : Thread Cert.SsdStateRefIdeal.nD Cert.SsdStateRefIdeal.τ).loc Cert.SsdStateRefIdeal.main_arg2)
      ∧ r.2.mem ((c.tc : Thread Cert.SsdStateRefIdeal.nD Cert.SsdStateRefIdeal.τ).loc Cert.SsdStateRefIdeal.main_arg3) = m ((c.tc : Thread Cert.SsdStateRefIdeal.nD Cert.SsdStateRefIdeal.τ).loc Cert.SsdStateRefIdeal.main_arg3)
      ∧ r.2.mem ((c.tc : Thread Cert.SsdStateRefIdeal.nD Cert.SsdStateRefIdeal.τ).loc Cert.SsdStateRefIdeal.main_arg4) = m ((c.tc : Thread Cert.SsdStateRefIdeal.nD Cert.SsdStateRefIdeal.τ).loc Cert.SsdStateRefIdeal.main_arg4)
      ∧ r.2.mem ((c.tc : Thread Cert.SsdStateRefIdeal.nD Cert.SsdStateRefIdeal.τ).loc Cert.SsdStateRefIdeal.main_arg5) = m ((c.tc : Thread Cert.SsdStateRefIdeal.nD Cert.SsdStateRefIdeal.τ).loc Cert.SsdStateRefIdeal.main_arg5)
      ∧ r.2.mem ((c.tc : Thread Cert.SsdStateRefIdeal.nD Cert.SsdStateRefIdeal.τ).loc Cert.SsdStateRefIdeal.main_arg6) = m ((c.tc : Thread Cert.SsdStateRefIdeal.nD Cert.SsdStateRefIdeal.τ).loc Cert.SsdStateRefIdeal.main_arg6)
      ∧ r.2.mem ((c.tc : Thread Cert.SsdStateRefIdeal.nD Cert.SsdStateRefIdeal.τ).loc Cert.SsdStateRefIdeal.main_arg7) = m ((c.tc : Thread Cert.SsdStateRefIdeal.nD Cert.SsdStateRefIdeal.τ).loc Cert.SsdStateRefIdeal.main_arg7)
      ∧ r.2.mem ((c.tc : Thread Cert.SsdStateRefIdeal.nD Cert.SsdStateRefIdeal.τ).loc Cert.SsdStateRefIdeal.main_arg8) = m ((c.tc : Thread Cert.SsdStateRefIdeal.nD Cert.SsdStateRefIdeal.τ).loc Cert.SsdStateRefIdeal.main_arg8)
      ∧ r.2.mem ((c.tc : Thread Cert.SsdStateRefIdeal.nD Cert.SsdStateRefIdeal.τ).loc Cert.SsdStateRefIdeal.main_arg9) = m ((c.tc : Thread Cert.SsdStateRefIdeal.nD Cert.SsdStateRefIdeal.τ).loc Cert.SsdStateRefIdeal.main_arg9))
      ∧ r.2.sem = fun _ => 0)

def quiescent_SsdStateRefIdeal_pre_decaying [hSsdStateRefIdeal : Cert.SsdStateRefIdeal.Facts] [hPre_decaying : Cert.Pre_decaying.Facts] : Prop :=
  ∀ (m : (ℓ : Loc Cert.SsdStateRefIdeal.nD Cert.SsdStateRefIdeal.τ Cert.SsdStateRefIdeal.sig) → Buf (Elt Ideal) ℓ) (g : Dev Cert.SsdStateRefIdeal.nD → PrngReg), Pre_SsdStateRefIdeal_decaying m →
    θ_run (Cert.SsdStateRefIdeal.defs (F := Ideal)) (onTc (τ := Cert.SsdStateRefIdeal.τ) (Cert.SsdStateRefIdeal.main (F := Ideal))) ⟨m, fun _ => 0, g⟩ (fun r => (∀ c : Dev Cert.SsdStateRefIdeal.nD,
      r.2.mem ((c.tc : Thread Cert.SsdStateRefIdeal.nD Cert.SsdStateRefIdeal.τ).loc Cert.SsdStateRefIdeal.main_arg0) = m ((c.tc : Thread Cert.SsdStateRefIdeal.nD Cert.SsdStateRefIdeal.τ).loc Cert.SsdStateRefIdeal.main_arg0)
      ∧ r.2.mem ((c.tc : Thread Cert.SsdStateRefIdeal.nD Cert.SsdStateRefIdeal.τ).loc Cert.SsdStateRefIdeal.main_arg1) = m ((c.tc : Thread Cert.SsdStateRefIdeal.nD Cert.SsdStateRefIdeal.τ).loc Cert.SsdStateRefIdeal.main_arg1)
      ∧ r.2.mem ((c.tc : Thread Cert.SsdStateRefIdeal.nD Cert.SsdStateRefIdeal.τ).loc Cert.SsdStateRefIdeal.main_arg2) = m ((c.tc : Thread Cert.SsdStateRefIdeal.nD Cert.SsdStateRefIdeal.τ).loc Cert.SsdStateRefIdeal.main_arg2)
      ∧ r.2.mem ((c.tc : Thread Cert.SsdStateRefIdeal.nD Cert.SsdStateRefIdeal.τ).loc Cert.SsdStateRefIdeal.main_arg3) = m ((c.tc : Thread Cert.SsdStateRefIdeal.nD Cert.SsdStateRefIdeal.τ).loc Cert.SsdStateRefIdeal.main_arg3)
      ∧ r.2.mem ((c.tc : Thread Cert.SsdStateRefIdeal.nD Cert.SsdStateRefIdeal.τ).loc Cert.SsdStateRefIdeal.main_arg4) = m ((c.tc : Thread Cert.SsdStateRefIdeal.nD Cert.SsdStateRefIdeal.τ).loc Cert.SsdStateRefIdeal.main_arg4)
      ∧ r.2.mem ((c.tc : Thread Cert.SsdStateRefIdeal.nD Cert.SsdStateRefIdeal.τ).loc Cert.SsdStateRefIdeal.main_arg5) = m ((c.tc : Thread Cert.SsdStateRefIdeal.nD Cert.SsdStateRefIdeal.τ).loc Cert.SsdStateRefIdeal.main_arg5)
      ∧ r.2.mem ((c.tc : Thread Cert.SsdStateRefIdeal.nD Cert.SsdStateRefIdeal.τ).loc Cert.SsdStateRefIdeal.main_arg6) = m ((c.tc : Thread Cert.SsdStateRefIdeal.nD Cert.SsdStateRefIdeal.τ).loc Cert.SsdStateRefIdeal.main_arg6)
      ∧ r.2.mem ((c.tc : Thread Cert.SsdStateRefIdeal.nD Cert.SsdStateRefIdeal.τ).loc Cert.SsdStateRefIdeal.main_arg7) = m ((c.tc : Thread Cert.SsdStateRefIdeal.nD Cert.SsdStateRefIdeal.τ).loc Cert.SsdStateRefIdeal.main_arg7)
      ∧ r.2.mem ((c.tc : Thread Cert.SsdStateRefIdeal.nD Cert.SsdStateRefIdeal.τ).loc Cert.SsdStateRefIdeal.main_arg8) = m ((c.tc : Thread Cert.SsdStateRefIdeal.nD Cert.SsdStateRefIdeal.τ).loc Cert.SsdStateRefIdeal.main_arg8)
      ∧ r.2.mem ((c.tc : Thread Cert.SsdStateRefIdeal.nD Cert.SsdStateRefIdeal.τ).loc Cert.SsdStateRefIdeal.main_arg9) = m ((c.tc : Thread Cert.SsdStateRefIdeal.nD Cert.SsdStateRefIdeal.τ).loc Cert.SsdStateRefIdeal.main_arg9))
      ∧ r.2.sem = fun _ => 0)

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)) (v2 : (c : Dev Cert.InProjIdeal.nD) → Buf (Elt Ideal) ((c.tc : Thread Cert.InProjIdeal.nD Cert.InProjIdeal.τ).loc Cert.InProjIdeal.main_v13_2)) (v3 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_v14) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v60) = v0 c
          ∧ r.2.mem ((c.tc : Thread Cert.InProjRefIdeal.nD Cert.InProjRefIdeal.τ).loc Cert.InProjRefIdeal.main_v62) = v1 c
          ∧ r.2.mem ((c.tc : Thread Cert.InProjRefIdeal.nD Cert.InProjRefIdeal.τ).loc Cert.InProjRefIdeal.main_v20) = v2 c
          ∧ r.2.mem ((c.tc : Thread Cert.InProjRefIdeal.nD Cert.InProjRefIdeal.τ).loc Cert.InProjRefIdeal.main_v63) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_OutSample_OutSampleIdeal : Prop :=
  True

def algebraic_OutSampleIdeal_OutSampleRefIdeal [hOutSampleIdeal : Cert.OutSampleIdeal.Facts] [hOutSampleRefIdeal : Cert.OutSampleRefIdeal.Facts] : Prop :=
  ∀ (m : (ℓ : Loc Cert.OutSampleIdeal.nD Cert.OutSampleIdeal.τ Cert.OutSampleIdeal.sig) → Buf (Elt Ideal) ℓ) (g : Dev Cert.OutSampleIdeal.nD → PrngReg)
    (m' : (ℓ : Loc Cert.OutSampleRefIdeal.nD Cert.OutSampleRefIdeal.τ Cert.OutSampleRefIdeal.sig) → Buf (Elt Ideal) ℓ) (g' : Dev Cert.OutSampleRefIdeal.nD → PrngReg), Pre_OutSampleIdeal m →
    (∀ c : Dev Cert.OutSampleIdeal.nD,
      m' ((c.tc : Thread Cert.OutSampleRefIdeal.nD Cert.OutSampleRefIdeal.τ).loc Cert.OutSampleRefIdeal.main_arg0) = m ((c.tc : Thread Cert.OutSampleIdeal.nD Cert.OutSampleIdeal.τ).loc Cert.OutSampleIdeal.main_arg0)
      ∧ m' ((c.tc : Thread Cert.OutSampleRefIdeal.nD Cert.OutSampleRefIdeal.τ).loc Cert.OutSampleRefIdeal.main_arg1) = m ((c.tc : Thread Cert.OutSampleIdeal.nD Cert.OutSampleIdeal.τ).loc Cert.OutSampleIdeal.main_arg1)
      ∧ m' ((c.tc : Thread Cert.OutSampleRefIdeal.nD Cert.OutSampleRefIdeal.τ).loc Cert.OutSampleRefIdeal.main_arg2) = m ((c.tc : Thread Cert.OutSampleIdeal.nD Cert.OutSampleIdeal.τ).loc Cert.OutSampleIdeal.main_arg2)
      ∧ m' ((c.tc : Thread Cert.OutSampleRefIdeal.nD Cert.OutSampleRefIdeal.τ).loc Cert.OutSampleRefIdeal.main_arg3) = m ((c.tc : Thread Cert.OutSampleIdeal.nD Cert.OutSampleIdeal.τ).loc Cert.OutSampleIdeal.main_arg3)) →
    ∃ (v0 : (c : Dev Cert.OutSampleIdeal.nD) → Buf (Elt Ideal) ((c.tc : Thread Cert.OutSampleIdeal.nD Cert.OutSampleIdeal.τ).loc Cert.OutSampleIdeal.main_v3)),
      θ_run (Cert.OutSampleIdeal.defs (F := Ideal)) (onTc (τ := Cert.OutSampleIdeal.τ) (Cert.OutSampleIdeal.main (F := Ideal))) ⟨m, fun _ => 0, g⟩ (fun r => ∀ c : Dev Cert.OutSampleIdeal.nD,
          r.2.mem ((c.tc : Thread Cert.OutSampleIdeal.nD Cert.OutSampleIdeal.τ).loc Cert.OutSampleIdeal.main_v3) = v0 c
          ∧ r.2.mem ((c.tc : Thread Cert.OutSampleIdeal.nD Cert.OutSampleIdeal.τ).loc Cert.OutSampleIdeal.main_arg0) = m ((c.tc : Thread Cert.OutSampleIdeal.nD Cert.OutSampleIdeal.τ).loc Cert.OutSampleIdeal.main_arg0)
          ∧ r.2.mem ((c.tc : Thread Cert.OutSampleIdeal.nD Cert.OutSampleIdeal.τ).loc Cert.OutSampleIdeal.main_arg1) = m ((c.tc : Thread Cert.OutSampleIdeal.nD Cert.OutSampleIdeal.τ).loc Cert.OutSampleIdeal.main_arg1)
          ∧ r.2.mem ((c.tc : Thread Cert.OutSampleIdeal.nD Cert.OutSampleIdeal.τ).loc Cert.OutSampleIdeal.main_arg2) = m ((c.tc : Thread Cert.OutSampleIdeal.nD Cert.OutSampleIdeal.τ).loc Cert.OutSampleIdeal.main_arg2)
          ∧ r.2.mem ((c.tc : Thread Cert.OutSampleIdeal.nD Cert.OutSampleIdeal.τ).loc Cert.OutSampleIdeal.main_arg3) = m ((c.tc : Thread Cert.OutSampleIdeal.nD Cert.OutSampleIdeal.τ).loc Cert.OutSampleIdeal.main_arg3))
      ∧ θ_run (Cert.OutSampleRefIdeal.defs (F := Ideal)) (onTc (τ := Cert.OutSampleRefIdeal.τ) (Cert.OutSampleRefIdeal.main (F := Ideal))) ⟨m', fun _ => 0, g'⟩ (fun r => ∀ c : Dev Cert.OutSampleRefIdeal.nD,
          r.2.mem ((c.tc : Thread Cert.OutSampleRefIdeal.nD Cert.OutSampleRefIdeal.τ).loc Cert.OutSampleRefIdeal.main_v6) = v0 c
          ∧ r.2.mem ((c.tc : Thread Cert.OutSampleRefIdeal.nD Cert.OutSampleRefIdeal.τ).loc Cert.OutSampleRefIdeal.main_arg0) = m' ((c.tc : Thread Cert.OutSampleRefIdeal.nD Cert.OutSampleRefIdeal.τ).loc Cert.OutSampleRefIdeal.main_arg0)
          ∧ r.2.mem ((c.tc : Thread Cert.OutSampleRefIdeal.nD Cert.OutSampleRefIdeal.τ).loc Cert.OutSampleRefIdeal.main_arg1) = m' ((c.tc : Thread Cert.OutSampleRefIdeal.nD Cert.OutSampleRefIdeal.τ).loc Cert.OutSampleRefIdeal.main_arg1)
          ∧ r.2.mem ((c.tc : Thread Cert.OutSampleRefIdeal.nD Cert.OutSampleRefIdeal.τ).loc Cert.OutSampleRefIdeal.main_arg2) = m' ((c.tc : Thread Cert.OutSampleRefIdeal.nD Cert.OutSampleRefIdeal.τ).loc Cert.OutSampleRefIdeal.main_arg2)
          ∧ r.2.mem ((c.tc : Thread Cert.OutSampleRefIdeal.nD Cert.OutSampleRefIdeal.τ).loc Cert.OutSampleRefIdeal.main_arg3) = m' ((c.tc : Thread Cert.OutSampleRefIdeal.nD Cert.OutSampleRefIdeal.τ).loc Cert.OutSampleRefIdeal.main_arg3))

def preserves_KvRows_KvRowsIdeal : Prop :=
  True

def algebraic_KvRowsIdeal_KvRowsRefIdeal [hKvRowsIdeal : Cert.KvRowsIdeal.Facts] [hKvRowsRefIdeal : Cert.KvRowsRefIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg)
    (m' : (ℓ : Loc Cert.KvRowsRefIdeal.nD Cert.KvRowsRefIdeal.τ Cert.KvRowsRefIdeal.sig) → Buf (Elt Ideal) ℓ) (g' : Dev Cert.KvRowsRefIdeal.nD → PrngReg), Pre_KvRowsIdeal m →
    (∀ c : Dev Cert.KvRowsIdeal.nD,
      m' ((c.tc : Thread Cert.KvRowsRefIdeal.nD Cert.KvRowsRefIdeal.τ).loc Cert.KvRowsRefIdeal.main_arg0) = m ((c.tc : Thread Cert.KvRowsIdeal.nD Cert.KvRowsIdeal.τ).loc Cert.KvRowsIdeal.main_arg0)
      ∧ m' ((c.tc : Thread Cert.KvRowsRefIdeal.nD Cert.KvRowsRefIdeal.τ).loc Cert.KvRowsRefIdeal.main_arg1) = m ((c.tc : Thread Cert.KvRowsIdeal.nD Cert.KvRowsIdeal.τ).loc Cert.KvRowsIdeal.main_arg1)
      ∧ m' ((c.tc : Thread Cert.KvRowsRefIdeal.nD Cert.KvRowsRefIdeal.τ).loc Cert.KvRowsRefIdeal.main_arg2) = m ((c.tc : Thread Cert.KvRowsIdeal.nD Cert.KvRowsIdeal.τ).loc Cert.KvRowsIdeal.main_arg2)
      ∧ m' ((c.tc : Thread Cert.KvRowsRefIdeal.nD Cert.KvRowsRefIdeal.τ).loc Cert.KvRowsRefIdeal.main_arg3) = m ((c.tc : Thread Cert.KvRowsIdeal.nD Cert.KvRowsIdeal.τ).loc Cert.KvRowsIdeal.main_arg3)
      ∧ m' ((c.tc : Thread Cert.KvRowsRefIdeal.nD Cert.KvRowsRefIdeal.τ).loc Cert.KvRowsRefIdeal.main_arg4) = m ((c.tc : Thread Cert.KvRowsIdeal.nD Cert.KvRowsIdeal.τ).loc Cert.KvRowsIdeal.main_arg4)) →
    ∃ (v0 : (c : Dev Cert.KvRowsIdeal.nD) → Buf (Elt Ideal) ((c.tc : Thread Cert.KvRowsIdeal.nD Cert.KvRowsIdeal.τ).loc Cert.KvRowsIdeal.main_v13_0)) (v1 : (c : Dev Cert.KvRowsIdeal.nD) → Buf (Elt Ideal) ((c.tc : Thread Cert.KvRowsIdeal.nD Cert.KvRowsIdeal.τ).loc Cert.KvRowsIdeal.main_v13_1)),
      θ_run (Cert.KvRowsIdeal.defs (F := Ideal)) (onTc (τ := Cert.KvRowsIdeal.τ) (Cert.KvRowsIdeal.main (F := Ideal))) ⟨m, fun _ => 0, g⟩ (fun r => ∀ c : Dev Cert.KvRowsIdeal.nD,
          r.2.mem ((c.tc : Thread Cert.KvRowsIdeal.nD Cert.KvRowsIdeal.τ).loc Cert.KvRowsIdeal.main_v13_0) = v0 c
          ∧ r.2.mem ((c.tc : Thread Cert.KvRowsIdeal.nD Cert.KvRowsIdeal.τ).loc Cert.KvRowsIdeal.main_v13_1) = v1 c
          ∧ r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
          ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
          ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
          ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3)
          ∧ r.2.mem ((c.tc : Thread Cert.KvRowsIdeal.nD Cert.KvRowsIdeal.τ).loc Cert.KvRowsIdeal.main_arg4) = m ((c.tc : Thread Cert.KvRowsIdeal.nD Cert.KvRowsIdeal.τ).loc Cert.KvRowsIdeal.main_arg4))
      ∧ θ_run (Cert.KvRowsRefIdeal.defs (F := Ideal)) (onTc (τ := Cert.KvRowsRefIdeal.τ) (Cert.KvRowsRefIdeal.main (F := Ideal))) ⟨m', fun _ => 0, g'⟩ (fun r => ∀ c : Dev Cert.KvRowsRefIdeal.nD,
          r.2.mem ((c.tc : Thread Cert.KvRowsRefIdeal.nD Cert.KvRowsRefIdeal.τ).loc Cert.KvRowsRefIdeal.main_v36) = v0 c
          ∧ r.2.mem ((c.tc : Thread Cert.KvRowsRefIdeal.nD Cert.KvRowsRefIdeal.τ).loc Cert.KvRowsRefIdeal.main_v37) = v1 c
          ∧ r.2.mem ((c.tc : Thread Cert.KvRowsRefIdeal.nD Cert.KvRowsRefIdeal.τ).loc Cert.KvRowsRefIdeal.main_arg0) = m' ((c.tc : Thread Cert.KvRowsRefIdeal.nD Cert.KvRowsRefIdeal.τ).loc Cert.KvRowsRefIdeal.main_arg0)
          ∧ r.2.mem ((c.tc : Thread Cert.KvRowsRefIdeal.nD Cert.KvRowsRefIdeal.τ).loc Cert.KvRowsRefIdeal.main_arg1) = m' ((c.tc : Thread Cert.KvRowsRefIdeal.nD Cert.KvRowsRefIdeal.τ).loc Cert.KvRowsRefIdeal.main_arg1)
          ∧ r.2.mem ((c.tc : Thread Cert.KvRowsRefIdeal.nD Cert.KvRowsRefIdeal.τ).loc Cert.KvRowsRefIdeal.main_arg2) = m' ((c.tc : Thread Cert.KvRowsRefIdeal.nD Cert.KvRowsRefIdeal.τ).loc Cert.KvRowsRefIdeal.main_arg2)
          ∧ r.2.mem ((c.tc : Thread Cert.KvRowsRefIdeal.nD Cert.KvRowsRefIdeal.τ).loc Cert.KvRowsRefIdeal.main_arg3) = m' ((c.tc : Thread Cert.KvRowsRefIdeal.nD Cert.KvRowsRefIdeal.τ).loc Cert.KvRowsRefIdeal.main_arg3)
          ∧ r.2.mem ((c.tc : Thread Cert.KvRowsRefIdeal.nD Cert.KvRowsRefIdeal.τ).loc Cert.KvRowsRefIdeal.main_arg4) = m' ((c.tc : Thread Cert.KvRowsRefIdeal.nD Cert.KvRowsRefIdeal.τ).loc Cert.KvRowsRefIdeal.main_arg4))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)
      ∧ m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2)
      ∧ m' ((c.tc : Thread Cert.InSampleRefIdeal.nD Cert.InSampleRefIdeal.τ).loc Cert.InSampleRefIdeal.main_arg3) = m ((c.tc : Thread Cert.InSampleIdeal.nD Cert.InSampleIdeal.τ).loc Cert.InSampleIdeal.main_arg3)
      ∧ m' ((c.tc : Thread Cert.InSampleRefIdeal.nD Cert.InSampleRefIdeal.τ).loc Cert.InSampleRefIdeal.main_arg4) = m ((c.tc : Thread Cert.InSampleIdeal.nD Cert.InSampleIdeal.τ).loc Cert.InSampleIdeal.main_arg4)
      ∧ m' ((c.tc : Thread Cert.InSampleRefIdeal.nD Cert.InSampleRefIdeal.τ).loc Cert.InSampleRefIdeal.main_arg5) = m ((c.tc : Thread Cert.InSampleIdeal.nD Cert.InSampleIdeal.τ).loc Cert.InSampleIdeal.main_arg5)
      ∧ m' ((c.tc : Thread Cert.InSampleRefIdeal.nD Cert.InSampleRefIdeal.τ).loc Cert.InSampleRefIdeal.main_arg6) = m ((c.tc : Thread Cert.InSampleIdeal.nD Cert.InSampleIdeal.τ).loc Cert.InSampleIdeal.main_arg6)) →
    ∃ (v0 : (c : Dev Cert.InSampleIdeal.nD) → Buf (Elt Ideal) ((c.tc : Thread Cert.InSampleIdeal.nD Cert.InSampleIdeal.τ).loc Cert.InSampleIdeal.main_v13_0)) (v1 : (c : Dev Cert.InSampleIdeal.nD) → Buf (Elt Ideal) ((c.tc : Thread Cert.InSampleIdeal.nD Cert.InSampleIdeal.τ).loc Cert.InSampleIdeal.main_v13_1)) (v2 : (c : Dev Cert.InSampleIdeal.nD) → Buf (Elt Ideal) ((c.tc : Thread Cert.InSampleIdeal.nD Cert.InSampleIdeal.τ).loc Cert.InSampleIdeal.main_v13_2)) (v3 : (c : Dev Cert.InSampleIdeal.nD) → Buf (Elt Ideal) ((c.tc : Thread Cert.InSampleIdeal.nD Cert.InSampleIdeal.τ).loc Cert.InSampleIdeal.main_v13_3)) (v4 : (c : Dev Cert.InSampleIdeal.nD) → Buf (Elt Ideal) ((c.tc : Thread Cert.InSampleIdeal.nD Cert.InSampleIdeal.τ).loc Cert.InSampleIdeal.main_v13_4)) (v5 : (c : Dev Cert.InSampleIdeal.nD) → Buf (Elt Ideal) ((c.tc : Thread Cert.InSampleIdeal.nD Cert.InSampleIdeal.τ).loc Cert.InSampleIdeal.main_v15)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v13_0) = v0 c
          ∧ r.2.mem ((c.tc : Thread Cert.InSampleIdeal.nD Cert.InSampleIdeal.τ).loc Cert.InSampleIdeal.main_v13_1) = v1 c
          ∧ r.2.mem ((c.tc : Thread Cert.InSampleIdeal.nD Cert.InSampleIdeal.τ).loc Cert.InSampleIdeal.main_v13_2) = v2 c
          ∧ r.2.mem ((c.tc : Thread Cert.InSampleIdeal.nD Cert.InSampleIdeal.τ).loc Cert.InSampleIdeal.main_v13_3) = v3 c
          ∧ r.2.mem ((c.tc : Thread Cert.InSampleIdeal.nD Cert.InSampleIdeal.τ).loc Cert.InSampleIdeal.main_v13_4) = v4 c
          ∧ r.2.mem ((c.tc : Thread Cert.InSampleIdeal.nD Cert.InSampleIdeal.τ).loc Cert.InSampleIdeal.main_v15) = v5 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
          ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
          ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
          ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
          ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v60) = v0 c
          ∧ r.2.mem ((c.tc : Thread Cert.InSampleRefIdeal.nD Cert.InSampleRefIdeal.τ).loc Cert.InSampleRefIdeal.main_v62) = v1 c
          ∧ r.2.mem ((c.tc : Thread Cert.InSampleRefIdeal.nD Cert.InSampleRefIdeal.τ).loc Cert.InSampleRefIdeal.main_v20) = v2 c
          ∧ r.2.mem ((c.tc : Thread Cert.InSampleRefIdeal.nD Cert.InSampleRefIdeal.τ).loc Cert.InSampleRefIdeal.main_v65) = v3 c
          ∧ r.2.mem ((c.tc : Thread Cert.InSampleRefIdeal.nD Cert.InSampleRefIdeal.τ).loc Cert.InSampleRefIdeal.main_v66) = v4 c
          ∧ r.2.mem ((c.tc : Thread Cert.InSampleRefIdeal.nD Cert.InSampleRefIdeal.τ).loc Cert.InSampleRefIdeal.main_v64) = v5 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1)
          ∧ r.2.mem ((c.tc : Thread Cert.InSampleRefIdeal.nD Cert.InSampleRefIdeal.τ).loc Cert.InSampleRefIdeal.main_arg2) = m' ((c.tc : Thread Cert.InSampleRefIdeal.nD Cert.InSampleRefIdeal.τ).loc Cert.InSampleRefIdeal.main_arg2)
          ∧ r.2.mem ((c.tc : Thread Cert.InSampleRefIdeal.nD Cert.InSampleRefIdeal.τ).loc Cert.InSampleRefIdeal.main_arg3) = m' ((c.tc : Thread Cert.InSampleRefIdeal.nD Cert.InSampleRefIdeal.τ).loc Cert.InSampleRefIdeal.main_arg3)
          ∧ r.2.mem ((c.tc : Thread Cert.InSampleRefIdeal.nD Cert.InSampleRefIdeal.τ).loc Cert.InSampleRefIdeal.main_arg4) = m' ((c.tc : Thread Cert.InSampleRefIdeal.nD Cert.InSampleRefIdeal.τ).loc Cert.InSampleRefIdeal.main_arg4)
          ∧ r.2.mem ((c.tc : Thread Cert.InSampleRefIdeal.nD Cert.InSampleRefIdeal.τ).loc Cert.InSampleRefIdeal.main_arg5) = m' ((c.tc : Thread Cert.InSampleRefIdeal.nD Cert.InSampleRefIdeal.τ).loc Cert.InSampleRefIdeal.main_arg5)
          ∧ r.2.mem ((c.tc : Thread Cert.InSampleRefIdeal.nD Cert.InSampleRefIdeal.τ).loc Cert.InSampleRefIdeal.main_arg6) = m' ((c.tc : Thread Cert.InSampleRefIdeal.nD Cert.InSampleRefIdeal.τ).loc Cert.InSampleRefIdeal.main_arg6))

def preserves_SsdState_SsdStateIdeal : Prop :=
  IdealRules.named_const.Statement Cert.SsdStateIdeal.κ "neg_log2e" .f32 0xBFB8AA3B#32 ((-((Real.log 2)⁻¹) : ℝ) : EReal)
  ∧ IdealRules.named_const.Statement Cert.SsdStateIdeal.κ "log2e" .f32 0x3FB8AA3B#32 (((Real.log 2)⁻¹ : ℝ) : EReal)

def algebraic_SsdStateIdeal_SsdStateRefIdeal_pre_decaying [hSsdStateIdeal : Cert.SsdStateIdeal.Facts] [hSsdStateRefIdeal : Cert.SsdStateRefIdeal.Facts] [hPre_decaying : Cert.Pre_decaying.Facts] : Prop :=
  ∀ (m : (ℓ : Loc Cert.SsdStateIdeal.nD Cert.SsdStateIdeal.τ Cert.SsdStateIdeal.sig) → Buf (Elt Ideal) ℓ) (g : Dev Cert.SsdStateIdeal.nD → PrngReg)
    (m' : (ℓ : Loc Cert.SsdStateRefIdeal.nD Cert.SsdStateRefIdeal.τ Cert.SsdStateRefIdeal.sig) → Buf (Elt Ideal) ℓ) (g' : Dev Cert.SsdStateRefIdeal.nD → PrngReg), Pre_SsdStateIdeal_decaying m →
    (∀ c : Dev Cert.SsdStateIdeal.nD,
      m' ((c.tc : Thread Cert.SsdStateRefIdeal.nD Cert.SsdStateRefIdeal.τ).loc Cert.SsdStateRefIdeal.main_arg0) = m ((c.tc : Thread Cert.SsdStateIdeal.nD Cert.SsdStateIdeal.τ).loc Cert.SsdStateIdeal.main_arg0)
      ∧ m' ((c.tc : Thread Cert.SsdStateRefIdeal.nD Cert.SsdStateRefIdeal.τ).loc Cert.SsdStateRefIdeal.main_arg1) = m ((c.tc : Thread Cert.SsdStateIdeal.nD Cert.SsdStateIdeal.τ).loc Cert.SsdStateIdeal.main_arg1)
      ∧ m' ((c.tc : Thread Cert.SsdStateRefIdeal.nD Cert.SsdStateRefIdeal.τ).loc Cert.SsdStateRefIdeal.main_arg2) = m ((c.tc : Thread Cert.SsdStateIdeal.nD Cert.SsdStateIdeal.τ).loc Cert.SsdStateIdeal.main_arg2)
      ∧ m' ((c.tc : Thread Cert.SsdStateRefIdeal.nD Cert.SsdStateRefIdeal.τ).loc Cert.SsdStateRefIdeal.main_arg3) = m ((c.tc : Thread Cert.SsdStateIdeal.nD Cert.SsdStateIdeal.τ).loc Cert.SsdStateIdeal.main_arg3)
      ∧ m' ((c.tc : Thread Cert.SsdStateRefIdeal.nD Cert.SsdStateRefIdeal.τ).loc Cert.SsdStateRefIdeal.main_arg4) = m ((c.tc : Thread Cert.SsdStateIdeal.nD Cert.SsdStateIdeal.τ).loc Cert.SsdStateIdeal.main_arg4)
      ∧ m' ((c.tc : Thread Cert.SsdStateRefIdeal.nD Cert.SsdStateRefIdeal.τ).loc Cert.SsdStateRefIdeal.main_arg5) = m ((c.tc : Thread Cert.SsdStateIdeal.nD Cert.SsdStateIdeal.τ).loc Cert.SsdStateIdeal.main_arg5)
      ∧ m' ((c.tc : Thread Cert.SsdStateRefIdeal.nD Cert.SsdStateRefIdeal.τ).loc Cert.SsdStateRefIdeal.main_arg6) = m ((c.tc : Thread Cert.SsdStateIdeal.nD Cert.SsdStateIdeal.τ).loc Cert.SsdStateIdeal.main_arg6)
      ∧ m' ((c.tc : Thread Cert.SsdStateRefIdeal.nD Cert.SsdStateRefIdeal.τ).loc Cert.SsdStateRefIdeal.main_arg7) = m ((c.tc : Thread Cert.SsdStateIdeal.nD Cert.SsdStateIdeal.τ).loc Cert.SsdStateIdeal.main_arg7)
      ∧ m' ((c.tc : Thread Cert.SsdStateRefIdeal.nD Cert.SsdStateRefIdeal.τ).loc Cert.SsdStateRefIdeal.main_arg8) = m ((c.tc : Thread Cert.SsdStateIdeal.nD Cert.SsdStateIdeal.τ).loc Cert.SsdStateIdeal.main_arg8)
      ∧ m' ((c.tc : Thread Cert.SsdStateRefIdeal.nD Cert.SsdStateRefIdeal.τ).loc Cert.SsdStateRefIdeal.main_arg9) = m ((c.tc : Thread Cert.SsdStateIdeal.nD Cert.SsdStateIdeal.τ).loc Cert.SsdStateIdeal.main_arg9)) →
    ∃ (v0 : (c : Dev Cert.SsdStateIdeal.nD) → Buf (Elt Ideal) ((c.tc : Thread Cert.SsdStateIdeal.nD Cert.SsdStateIdeal.τ).loc Cert.SsdStateIdeal.main_v28_1)),
      θ_run (Cert.SsdStateIdeal.defs (F := Ideal)) (onTc (τ := Cert.SsdStateIdeal.τ) (Cert.SsdStateIdeal.main (F := Ideal))) ⟨m, fun _ => 0, g⟩ (fun r => ∀ c : Dev Cert.SsdStateIdeal.nD,
          r.2.mem ((c.tc : Thread Cert.SsdStateIdeal.nD Cert.SsdStateIdeal.τ).loc Cert.SsdStateIdeal.main_v28_1) = v0 c
          ∧ r.2.mem ((c.tc : Thread Cert.SsdStateIdeal.nD Cert.SsdStateIdeal.τ).loc Cert.SsdStateIdeal.main_arg0) = m ((c.tc : Thread Cert.SsdStateIdeal.nD Cert.SsdStateIdeal.τ).loc Cert.SsdStateIdeal.main_arg0)
          ∧ r.2.mem ((c.tc : Thread Cert.SsdStateIdeal.nD Cert.SsdStateIdeal.τ).loc Cert.SsdStateIdeal.main_arg1) = m ((c.tc : Thread Cert.SsdStateIdeal.nD Cert.SsdStateIdeal.τ).loc Cert.SsdStateIdeal.main_arg1)
          ∧ r.2.mem ((c.tc : Thread Cert.SsdStateIdeal.nD Cert.SsdStateIdeal.τ).loc Cert.SsdStateIdeal.main_arg2) = m ((c.tc : Thread Cert.SsdStateIdeal.nD Cert.SsdStateIdeal.τ).loc Cert.SsdStateIdeal.main_arg2)
          ∧ r.2.mem ((c.tc : Thread Cert.SsdStateIdeal.nD Cert.SsdStateIdeal.τ).loc Cert.SsdStateIdeal.main_arg3) = m ((c.tc : Thread Cert.SsdStateIdeal.nD Cert.SsdStateIdeal.τ).loc Cert.SsdStateIdeal.main_arg3)
          ∧ r.2.mem ((c.tc : Thread Cert.SsdStateIdeal.nD Cert.SsdStateIdeal.τ).loc Cert.SsdStateIdeal.main_arg4) = m ((c.tc : Thread Cert.SsdStateIdeal.nD Cert.SsdStateIdeal.τ).loc Cert.SsdStateIdeal.main_arg4)
          ∧ r.2.mem ((c.tc : Thread Cert.SsdStateIdeal.nD Cert.SsdStateIdeal.τ).loc Cert.SsdStateIdeal.main_arg5) = m ((c.tc : Thread Cert.SsdStateIdeal.nD Cert.SsdStateIdeal.τ).loc Cert.SsdStateIdeal.main_arg5)
          ∧ r.2.mem ((c.tc : Thread Cert.SsdStateIdeal.nD Cert.SsdStateIdeal.τ).loc Cert.SsdStateIdeal.main_arg6) = m ((c.tc : Thread Cert.SsdStateIdeal.nD Cert.SsdStateIdeal.τ).loc Cert.SsdStateIdeal.main_arg6)
          ∧ r.2.mem ((c.tc : Thread Cert.SsdStateIdeal.nD Cert.SsdStateIdeal.τ).loc Cert.SsdStateIdeal.main_arg7) = m ((c.tc : Thread Cert.SsdStateIdeal.nD Cert.SsdStateIdeal.τ).loc Cert.SsdStateIdeal.main_arg7)
          ∧ r.2.mem ((c.tc : Thread Cert.SsdStateIdeal.nD Cert.SsdStateIdeal.τ).loc Cert.SsdStateIdeal.main_arg8) = m ((c.tc : Thread Cert.SsdStateIdeal.nD Cert.SsdStateIdeal.τ).loc Cert.SsdStateIdeal.main_arg8)
          ∧ r.2.mem ((c.tc : Thread Cert.SsdStateIdeal.nD Cert.SsdStateIdeal.τ).loc Cert.SsdStateIdeal.main_arg9) = m ((c.tc : Thread Cert.SsdStateIdeal.nD Cert.SsdStateIdeal.τ).loc Cert.SsdStateIdeal.main_arg9))
      ∧ θ_run (Cert.SsdStateRefIdeal.defs (F := Ideal)) (onTc (τ := Cert.SsdStateRefIdeal.τ) (Cert.SsdStateRefIdeal.main (F := Ideal))) ⟨m', fun _ => 0, g'⟩ (fun r => ∀ c : Dev Cert.SsdStateRefIdeal.nD,
          r.2.mem ((c.tc : Thread Cert.SsdStateRefIdeal.nD Cert.SsdStateRefIdeal.τ).loc Cert.SsdStateRefIdeal.main_v96) = v0 c
          ∧ r.2.mem ((c.tc : Thread Cert.SsdStateRefIdeal.nD Cert.SsdStateRefIdeal.τ).loc Cert.SsdStateRefIdeal.main_arg0) = m' ((c.tc : Thread Cert.SsdStateRefIdeal.nD Cert.SsdStateRefIdeal.τ).loc Cert.SsdStateRefIdeal.main_arg0)
          ∧ r.2.mem ((c.tc : Thread Cert.SsdStateRefIdeal.nD Cert.SsdStateRefIdeal.τ).loc Cert.SsdStateRefIdeal.main_arg1) = m' ((c.tc : Thread Cert.SsdStateRefIdeal.nD Cert.SsdStateRefIdeal.τ).loc Cert.SsdStateRefIdeal.main_arg1)
          ∧ r.2.mem ((c.tc : Thread Cert.SsdStateRefIdeal.nD Cert.SsdStateRefIdeal.τ).loc Cert.SsdStateRefIdeal.main_arg2) = m' ((c.tc : Thread Cert.SsdStateRefIdeal.nD Cert.SsdStateRefIdeal.τ).loc Cert.SsdStateRefIdeal.main_arg2)
          ∧ r.2.mem ((c.tc : Thread Cert.SsdStateRefIdeal.nD Cert.SsdStateRefIdeal.τ).loc Cert.SsdStateRefIdeal.main_arg3) = m' ((c.tc : Thread Cert.SsdStateRefIdeal.nD Cert.SsdStateRefIdeal.τ).loc Cert.SsdStateRefIdeal.main_arg3)
          ∧ r.2.mem ((c.tc : Thread Cert.SsdStateRefIdeal.nD Cert.SsdStateRefIdeal.τ).loc Cert.SsdStateRefIdeal.main_arg4) = m' ((c.tc : Thread Cert.SsdStateRefIdeal.nD Cert.SsdStateRefIdeal.τ).loc Cert.SsdStateRefIdeal.main_arg4)
          ∧ r.2.mem ((c.tc : Thread Cert.SsdStateRefIdeal.nD Cert.SsdStateRefIdeal.τ).loc Cert.SsdStateRefIdeal.main_arg5) = m' ((c.tc : Thread Cert.SsdStateRefIdeal.nD Cert.SsdStateRefIdeal.τ).loc Cert.SsdStateRefIdeal.main_arg5)
          ∧ r.2.mem ((c.tc : Thread Cert.SsdStateRefIdeal.nD Cert.SsdStateRefIdeal.τ).loc Cert.SsdStateRefIdeal.main_arg6) = m' ((c.tc : Thread Cert.SsdStateRefIdeal.nD Cert.SsdStateRefIdeal.τ).loc Cert.SsdStateRefIdeal.main_arg6)
          ∧ r.2.mem ((c.tc : Thread Cert.SsdStateRefIdeal.nD Cert.SsdStateRefIdeal.τ).loc Cert.SsdStateRefIdeal.main_arg7) = m' ((c.tc : Thread Cert.SsdStateRefIdeal.nD Cert.SsdStateRefIdeal.τ).loc Cert.SsdStateRefIdeal.main_arg7)
          ∧ r.2.mem ((c.tc : Thread Cert.SsdStateRefIdeal.nD Cert.SsdStateRefIdeal.τ).loc Cert.SsdStateRefIdeal.main_arg8) = m' ((c.tc : Thread Cert.SsdStateRefIdeal.nD Cert.SsdStateRefIdeal.τ).loc Cert.SsdStateRefIdeal.main_arg8)
          ∧ r.2.mem ((c.tc : Thread Cert.SsdStateRefIdeal.nD Cert.SsdStateRefIdeal.τ).loc Cert.SsdStateRefIdeal.main_arg9) = m' ((c.tc : Thread Cert.SsdStateRefIdeal.nD Cert.SsdStateRefIdeal.τ).loc Cert.SsdStateRefIdeal.main_arg9))

def Claim : Prop :=
  ∃ (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hOutSample : Cert.OutSample.Facts) (hOutSampleIdeal : Cert.OutSampleIdeal.Facts) (hOutSampleRefIdeal : Cert.OutSampleRefIdeal.Facts) (hKvRows : Cert.KvRows.Facts) (hKvRowsIdeal : Cert.KvRowsIdeal.Facts) (hKvRowsRefIdeal : Cert.KvRowsRefIdeal.Facts) (hInSample : Cert.InSample.Facts) (hInSampleIdeal : Cert.InSampleIdeal.Facts) (hInSampleRefIdeal : Cert.InSampleRefIdeal.Facts) (hSsdState : Cert.SsdState.Facts) (hSsdStateIdeal : Cert.SsdStateIdeal.Facts) (hSsdStateRefIdeal : Cert.SsdStateRefIdeal.Facts) (hPre_decaying : Cert.Pre_decaying.Facts),
    quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutSample (hOutSample := hOutSample)
    ∧ quiescent_OutSampleIdeal (hOutSampleIdeal := hOutSampleIdeal)
    ∧ quiescent_OutSampleRefIdeal (hOutSampleRefIdeal := hOutSampleRefIdeal)
    ∧ quiescent_KvRows (hKvRows := hKvRows)
    ∧ quiescent_KvRowsIdeal (hKvRowsIdeal := hKvRowsIdeal)
    ∧ quiescent_KvRowsRefIdeal (hKvRowsRefIdeal := hKvRowsRefIdeal)
    ∧ quiescent_InSample (hInSample := hInSample)
    ∧ quiescent_InSampleIdeal (hInSampleIdeal := hInSampleIdeal)
    ∧ quiescent_InSampleRefIdeal (hInSampleRefIdeal := hInSampleRefIdeal)
    ∧ quiescent_SsdState (hSsdState := hSsdState)
    ∧ quiescent_SsdStateIdeal (hSsdStateIdeal := hSsdStateIdeal)
    ∧ quiescent_SsdStateIdeal_pre_decaying (hSsdStateIdeal := hSsdStateIdeal) (hPre_decaying := hPre_decaying)
    ∧ quiescent_SsdStateRefIdeal (hSsdStateRefIdeal := hSsdStateRefIdeal)
    ∧ quiescent_SsdStateRefIdeal_pre_decaying (hSsdStateRefIdeal := hSsdStateRefIdeal) (hPre_decaying := hPre_decaying)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_OutSample_OutSampleIdeal
    ∧ algebraic_OutSampleIdeal_OutSampleRefIdeal (hOutSampleIdeal := hOutSampleIdeal) (hOutSampleRefIdeal := hOutSampleRefIdeal)
    ∧ preserves_KvRows_KvRowsIdeal
    ∧ algebraic_KvRowsIdeal_KvRowsRefIdeal (hKvRowsIdeal := hKvRowsIdeal) (hKvRowsRefIdeal := hKvRowsRefIdeal)
    ∧ preserves_InSample_InSampleIdeal
    ∧ algebraic_InSampleIdeal_InSampleRefIdeal (hInSampleIdeal := hInSampleIdeal) (hInSampleRefIdeal := hInSampleRefIdeal)
    ∧ preserves_SsdState_SsdStateIdeal
    ∧ algebraic_SsdStateIdeal_SsdStateRefIdeal_pre_decaying (hSsdStateIdeal := hSsdStateIdeal) (hSsdStateRefIdeal := hSsdStateRefIdeal) (hPre_decaying := hPre_decaying)
-- ==== Pre_decaying.lean ====
abbrev S1024x7168 : Shape := ⟨2, ![1024, 7168]⟩
abbrev S1024x128 : Shape := ⟨2, ![1024, 128]⟩
abbrev S1x32x3x3072 : Shape := ⟨4, ![1, 32, 3, 3072]⟩
abbrev S1x32x32x64x128 : Shape := ⟨5, ![1, 32, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S_ : Shape := ⟨0, ![]⟩

class Facts : Prop where
  bcast_S_S1x32 : S_.BroadcastsInDim S1x32 (![] : Fin 0 → Fin S1x32.rank)

variable [Facts]

def fn {F : FTy → Type} [FloatOps F] (main_arg0 : FVec F S1024x7168 .f32) (main_arg1 : FVec F S1024x128 .f32) (main_arg2 : FVec F S1x32x3x3072 .f32) (main_arg3 : FVec F S1x32x32x64x128 .f32) (main_arg4 : FVec F S1x4x3072 .f32) (main_arg5 : FVec F S1x3072 .f32) (main_arg6 : FVec F S1x32 .f32) (main_arg7 : FVec F S1x32 .f32) (main_arg8 : FVec F S1x32 .f32) (main_arg9 : FVec F S1x2048 .f32) : IVec S1x32 1 :=
  let main_cst : FVec F S_ .f32 := constant S_ .f32 0xFF800000#32
  let main_v0 : FVec F S1x32 .f32 := broadcastInDim S1x32 ![] bcast_S_S1x32 main_cst
  let main_v1 : IVec S1x32 1 := cmpf .ogt main_arg7 main_v0
  main_v1
-- ==== OutProj.lean ====
abbrev S16384x2048 : Shape := ⟨2, ![16384, 2048]⟩
abbrev S1x4096x2048 : Shape := ⟨3, ![1, 4096, 2048]⟩
abbrev S1x16384x2048 : Shape := ⟨3, ![1, 16384, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x2048, .f32⟩
  | .hbm, ⟨3, _⟩ => ⟨S1x16384x2048, .f32⟩
  | .hbm, ⟨4, _⟩ => ⟨S4096x2048, .f32⟩
  | .hbm, ⟨5, _⟩ => ⟨S4096x2048, .bf16⟩
  | .hbm, ⟨6, _⟩ => ⟨S16384x2048, .f32⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S16384x2048 : Shape := ⟨2, ![16384, 2048]⟩
abbrev S1x4096x2048 : Shape := ⟨3, ![1, 4096, 2048]⟩
abbrev S1x16384x2048 : Shape := ⟨3, ![1, 16384, 2048]⟩
abbrev S16384x4096 : Shape := ⟨2, ![16384, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x4096x2048, .f32⟩
  | .hbm, ⟨3, _⟩ => ⟨S1x16384x2048, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x2048, .f32⟩
  | .hbm, ⟨8, _⟩ => ⟨S4096x2048, .f32⟩
  | .hbm, ⟨9, _⟩ => ⟨S16384x2048, .f32⟩
  | .hbm, ⟨10, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InProj.lean ====
abbrev S1x16384x2048 : Shape := ⟨3, ![1, 16384, 2048]⟩
abbrev S1x2048 : Shape := ⟨2, ![1, 2048]⟩
abbrev S2048x8192 : Shape := ⟨2, ![2048, 8192]⟩
abbrev S2048x5120 : Shape := ⟨2, ![2048, 5120]⟩
abbrev S2048x128 : Shape := ⟨2, ![2048, 128]⟩
abbrev S1x128 : Shape := ⟨2, ![1, 128]⟩
abbrev S128 : Shape := ⟨1, ![128]⟩
abbrev S16x128 : Shape := ⟨2, ![16, 128]⟩
abbrev S2048 : Shape := ⟨1, ![2048]⟩
abbrev S4096 : Shape := ⟨1, ![4096]⟩
abbrev S1x4096 : Shape := ⟨2, ![1, 4096]⟩
abbrev S16384x2048 : Shape := ⟨2, ![16384, 2048]⟩
abbrev S3x16x16384x128 : Shape := ⟨4, ![3, 16, 16384, 128]⟩
abbrev S16384x7168 : Shape := ⟨2, ![16384, 7168]⟩
abbrev S16384x128 : Shape := ⟨2, ![16384, 128]⟩
abbrev S1024x2048 : Shape := ⟨2, ![1024, 2048]⟩
abbrev S2048x1024 : Shape := ⟨2, ![2048, 1024]⟩
abbrev S1x1024 : Shape := ⟨2, ![1, 1024]⟩
abbrev S1x8x1024x128 : Shape := ⟨4, ![1, 8, 1024, 128]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S1x1x1024x128 : Shape := ⟨4, ![1, 1, 1024, 128]⟩
abbrev S3x3072 : Shape := ⟨2, ![3, 3072]⟩

abbrev nBuf : Space → Nat
  | .hbm => 24
  | .vmem => 17
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S2048x8192, .bf16⟩
  | .hbm, ⟨3, _⟩ => ⟨S2048x5120, .bf16⟩
  | .hbm, ⟨4, _⟩ => ⟨S2048x128, .bf16⟩
  | .hbm, ⟨5, _⟩ => ⟨S1x128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S16x128, .f32⟩
  | .hbm, ⟨10, _⟩ => ⟨S2048, .f32⟩
  | .hbm, ⟨11, _⟩ => ⟨S128, .f32⟩
  | .hbm, ⟨12, _⟩ => ⟨S1x128, .f32⟩
  | .hbm, ⟨13, _⟩ => ⟨S16x128, .f32⟩
  | .hbm, ⟨14, _⟩ => ⟨S2048, .f32⟩
  | .hbm, ⟨15, _⟩ => ⟨S4096, .f32⟩
  | .hbm, ⟨16, _⟩ => ⟨S1x4096, .f32⟩
  | .hbm, ⟨17, _⟩ => ⟨S16384x2048, .f32⟩
  | .hbm, ⟨18, _⟩ => ⟨S2048, .f32⟩
  | .hbm, ⟨19, _⟩ => ⟨S1x2048, .f32⟩
  | .hbm, ⟨20, _⟩ => ⟨S3x16x16384x128, .bf16⟩
  | .hbm, ⟨21, _⟩ => ⟨S16384x7168, .f32⟩
  | .hbm, ⟨22, _⟩ => ⟨S16384x128, .f32⟩
  | .hbm, ⟨23, _⟩ => ⟨S3x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1x1024, .f32⟩
  | .local _ .vmem, ⟨9, _⟩ => ⟨S1x1024, .f32⟩
  | .local _ .vmem, ⟨10, _⟩ => ⟨S1x8x1024x128, .bf16⟩
  | .local _ .vmem, ⟨11, _⟩ => ⟨S1x8x1024x128, .bf16⟩
  | .local _ .vmem, ⟨12, _⟩ => ⟨S1024x1024, .f32⟩
  | .local _ .vmem, ⟨13, _⟩ => ⟨S1024x1024, .f32⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 13], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let c6_i32 : BitVec 32 := 6#32
  let v7 : BitVec 1 := Scalar.cmpi .slt arg1 c6_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c6_i32_4 : BitVec 32 := 6#32
  let v11 : BitVec 1 := Scalar.cmpi .sge arg1 c6_i32_4
  let c8_i32 : BitVec 32 := 8#32
  let v12 : BitVec 1 := Scalar.cmpi .slt arg1 c8_i32
  let v13 : BitVec 1 := Scalar.andi v11 v12
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c8_i32_6 : BitVec 32 := 8#32
  let v16 : BitVec 1 := Scalar.cmpi .sge arg1 c8_i32_6
  let v17 : BitVec 32 := Scalar.extui v16
  let c0_i32_7 : BitVec 32 := 0#32
  let v18 : BitVec 1 := Scalar.cmpi .ne v17 c0_i32_7
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c2_i32 : BitVec 32 := 2#32
  let v1 : BitVec 32 := Scalar.subi v0 c2_i32
  let c0_i32 : BitVec 32 := 0#32
  let c4_i32 : BitVec 32 := 4#32
  let v2 : BitVec 32 := Scalar.maxsi c0_i32 v1
  let v3 : BitVec 32 := Scalar.minsi c4_i32 v2
  let c0_i32_0 : BitVec 32 := 0#32
  let c0_i32_1 : BitVec 32 := 0#32
  ![c0_i32_0.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let v18 : BitVec 32 := Scalar.addi v17 c2_i32_4
  let c3_i32 : BitVec 32 := 3#32
  let c0_i32_5 : BitVec 32 := 0#32
  let v19 : BitVec 1 := Scalar.cmpi .eq c3_i32 c0_i32_5
  let c1_i32_6 : BitVec 32 := 1#32
  let v20 : BitVec 32 := Scalar.select v19 c1_i32_6 c3_i32
  let v21 : BitVec 32 := Scalar.remsi v18 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v0 v30
  let c0_i32_13 : BitVec 32 := 0#32
  let v32 : BitVec 1 := Scalar.cmpi .ne v31 c0_i32_13
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let v36 : BitVec 1 := Scalar.andi v35 v32
  let v37 : BitVec 32 := Scalar.addi v31 v30
  let v38 : BitVec 32 := Scalar.select v36 v37 v31
  let c0_i32_16 : BitVec 32 := 0#32
  let c0_i32_17 : BitVec 32 := 0#32
  ![v28.toNat, v38.toNat, arg0.toNat, c0_i32_16.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InProjRefIdeal.lean ====
abbrev S1x16384x2048 : Shape := ⟨3, ![1, 16384, 2048]⟩
abbrev S1x2048 : Shape := ⟨2, ![1, 2048]⟩
abbrev S2048x8192 : Shape := ⟨2, ![2048, 8192]⟩
abbrev S2048x5120 : Shape := ⟨2, ![2048, 5120]⟩
abbrev S2048x128 : Shape := ⟨2, ![2048, 128]⟩
abbrev S1x128 : Shape := ⟨2, ![1, 128]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S16384x5120 : Shape := ⟨2, ![16384, 5120]⟩
abbrev S16384x128 : Shape := ⟨2, ![16384, 128]⟩
abbrev S16384x16x128 : Shape := ⟨3, ![16384, 16, 128]⟩
abbrev S128 : Shape := ⟨1, ![128]⟩
abbrev S16384x16 : Shape := ⟨2, ![16384, 16]⟩
abbrev S16384x16x1 : Shape := ⟨3, ![16384, 16, 1]⟩
abbrev S1x1x128 : Shape := ⟨3, ![1, 1, 128]⟩
abbrev S1x16384x16x128 : Shape := ⟨4, ![1, 16384, 16, 128]⟩
abbrev S3x16384x16x128 : Shape := ⟨4, ![3, 16384, 16, 128]⟩
abbrev S3x16x16384x128 : Shape := ⟨4, ![3, 16, 16384, 128]⟩
abbrev S16384x7168 : Shape := ⟨2, ![16384, 7168]⟩
abbrev S3x3072 : Shape := ⟨2, ![3, 3072]⟩

abbrev nBuf : Space → Nat
  | .hbm => 80
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S2048x8192, .bf16⟩
  | .hbm, ⟨3, _⟩ => ⟨S2048x5120, .bf16⟩
  | .hbm, ⟨4, _⟩ => ⟨S2048x128, .bf16⟩
  | .hbm, ⟨5, _⟩ => ⟨S1x128, .f32⟩
  | .hbm, ⟨6, _⟩ => ⟨S1x128, .f32⟩
  | .hbm, ⟨7, _⟩ => ⟨S16384x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x8192, .f32⟩
  | .hbm, ⟨26, _⟩ => ⟨S16384x8192, .f32⟩
  | .hbm, ⟨27, _⟩ => ⟨S2048x5120, .f32⟩
  | .hbm, ⟨28, _⟩ => ⟨S16384x5120, .f32⟩
  | .hbm, ⟨29, _⟩ => ⟨S2048x128, .f32⟩
  | .hbm, ⟨30, _⟩ => ⟨S16384x128, .f32⟩
  | .hbm, ⟨31, _⟩ => ⟨S16384x2048, .f32⟩
  | .hbm, ⟨32, _⟩ => ⟨S16384x16x128, .f32⟩
  | .hbm, ⟨33, _⟩ => ⟨S128, .f32⟩
  | .hbm, ⟨34, _⟩ => ⟨S16384x16x128, .f32⟩
  | .hbm, ⟨35, _⟩ => ⟨S_, .f32⟩
  | .hbm, ⟨36, _⟩ => ⟨S16384x16, .f32⟩
  | .hbm, ⟨37, _⟩ => ⟨S16384x16x1, .f32⟩
  | .hbm, ⟨38, _⟩ => ⟨S_, .f32⟩
  | .hbm, ⟨39, _⟩ => ⟨S16384x16x1, .f32⟩
  | .hbm, ⟨40, _⟩ => ⟨S16384x16x1, .f32⟩
  | .hbm, ⟨41, _⟩ => ⟨S_, .f32⟩
  | .hbm, ⟨42, _⟩ => ⟨S16384x16x1, .f32⟩
  | .hbm, ⟨43, _⟩ => ⟨S16384x16x1, .f32⟩
  | .hbm, ⟨44, _⟩ => ⟨S16384x16x1, .f32⟩
  | .hbm, ⟨45, _⟩ => ⟨S16384x16x128, .f32⟩
  | .hbm, ⟨46, _⟩ => ⟨S16384x16x128, .f32⟩
  | .hbm, ⟨47, _⟩ => ⟨S1x1x128, .f32⟩
  | .hbm, ⟨48, _⟩ => ⟨S16384x16x128, .f32⟩
  | .hbm, ⟨49, _⟩ => ⟨S16384x16x128, .f32⟩
  | .hbm, ⟨50, _⟩ => ⟨S16384x2048, .f32⟩
  | .hbm, ⟨51, _⟩ => ⟨S16384x16x128, .f32⟩
  | .hbm, ⟨52, _⟩ => ⟨S128, .f32⟩
  | .hbm, ⟨53, _⟩ => ⟨S16384x16x128, .f32⟩
  | .hbm, ⟨54, _⟩ => ⟨S_, .f32⟩
  | .hbm, ⟨55, _⟩ => ⟨S16384x16, .f32⟩
  | .hbm, ⟨56, _⟩ => ⟨S16384x16x1, .f32⟩
  | .hbm, ⟨57, _⟩ => ⟨S_, .f32⟩
  | .hbm, ⟨58, _⟩ => ⟨S16384x16x1, .f32⟩
  | .hbm, ⟨59, _⟩ => ⟨S16384x16x1, .f32⟩
  | .hbm, ⟨60, _⟩ => ⟨S_, .f32⟩
  | .hbm, ⟨61, _⟩ => ⟨S16384x16x1, .f32⟩
  | .hbm, ⟨62, _⟩ => ⟨S16384x16x1, .f32⟩
  | .hbm, ⟨63, _⟩ => ⟨S16384x16x1, .f32⟩
  | .hbm, ⟨64, _⟩ => ⟨S16384x16x128, .f32⟩
  | .hbm, ⟨65, _⟩ => ⟨S16384x16x128, .f32⟩
  | .hbm, ⟨66, _⟩ => ⟨S1x1x128, .f32⟩
  | .hbm, ⟨67, _⟩ => ⟨S16384x16x128, .f32⟩
  | .hbm, ⟨68, _⟩ => ⟨S16384x16x128, .f32⟩
  | .hbm, ⟨69, _⟩ => ⟨S16384x2048, .f32⟩
  | .hbm, ⟨70, _⟩ => ⟨S16384x16x128, .f32⟩
  | .hbm, ⟨71, _⟩ => ⟨S1x16384x16x128, .f32⟩
  | .hbm, ⟨72, _⟩ => ⟨S1x16384x16x128, .f32⟩
  | .hbm, ⟨73, _⟩ => ⟨S1x16384x16x128, .f32⟩
  | .hbm, ⟨74, _⟩ => ⟨S3x16384x16x128, .f32⟩
  | .hbm, ⟨75, _⟩ => ⟨S3x16x16384x128, .f32⟩
  | .hbm, ⟨76, _⟩ => ⟨S3x16x16384x128, .bf16⟩
  | .hbm, ⟨77, _⟩ => ⟨S16384x2048, .f32⟩
  | .hbm, ⟨78, _⟩ => ⟨S16384x7168, .f32⟩
  | .hbm, ⟨79, _⟩ => ⟨S3x3072, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== OutSample.lean ====
abbrev S1024x2048 : Shape := ⟨2, ![1024, 2048]⟩
abbrev S1x4096x2048 : Shape := ⟨3, ![1, 4096, 2048]⟩
abbrev S32x32x2048 : Shape := ⟨3, ![32, 32, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1x4096x2048, .f32⟩
  | .hbm, ⟨3, _⟩ => ⟨S32x32x2048, .f32⟩
  | .hbm, ⟨4, _⟩ => ⟨S4096x2048, .f32⟩
  | .hbm, ⟨5, _⟩ => ⟨S4096x2048, .bf16⟩
  | .hbm, ⟨6, _⟩ => ⟨S1024x2048, .f32⟩
  | .hbm, ⟨7, _⟩ => ⟨S1024x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutSampleRefIdeal.lean ====
abbrev S1024x2048 : Shape := ⟨2, ![1024, 2048]⟩
abbrev S1x4096x2048 : Shape := ⟨3, ![1, 4096, 2048]⟩
abbrev S32x32x2048 : Shape := ⟨3, ![32, 32, 2048]⟩
abbrev S1024x4096 : Shape := ⟨2, ![1024, 4096]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1024x2048, .bf16⟩
  | .hbm, ⟨2, _⟩ => ⟨S1x4096x2048, .f32⟩
  | .hbm, ⟨3, _⟩ => ⟨S32x32x2048, .f32⟩
  | .hbm, ⟨4, _⟩ => ⟨S1024x2048, .f32⟩
  | .hbm, ⟨5, _⟩ => ⟨S1024x2048, .f32⟩
  | .hbm, ⟨6, _⟩ => ⟨S1024x4096, .f32⟩
  | .hbm, ⟨7, _⟩ => ⟨S1024x2048, .f32⟩
  | .hbm, ⟨8, _⟩ => ⟨S4096x2048, .f32⟩
  | .hbm, ⟨9, _⟩ => ⟨S1024x2048, .f32⟩
  | .hbm, ⟨10, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KvRows.lean ====
abbrev S1x16384x2048 : Shape := ⟨3, ![1, 16384, 2048]⟩
abbrev S1x2048 : Shape := ⟨2, ![1, 2048]⟩
abbrev S2048x8192 : Shape := ⟨2, ![2048, 8192]⟩
abbrev S1x128 : Shape := ⟨2, ![1, 128]⟩
abbrev S128 : Shape := ⟨1, ![128]⟩
abbrev S16x128 : Shape := ⟨2, ![16, 128]⟩
abbrev S2048 : Shape := ⟨1, ![2048]⟩
abbrev S4096 : Shape := ⟨1, ![4096]⟩
abbrev S1x4096 : Shape := ⟨2, ![1, 4096]⟩
abbrev S16384x2048 : Shape := ⟨2, ![16384, 2048]⟩
abbrev S8192x128 : Shape := ⟨2, ![8192, 128]⟩
abbrev S512x2048 : Shape := ⟨2, ![512, 2048]⟩
abbrev S2048x1024 : Shape := ⟨2, ![2048, 1024]⟩
abbrev S1x1024 : Shape := ⟨2, ![1, 1024]⟩
abbrev S512 : Shape := ⟨1, ![512]⟩
abbrev S512x1 : Shape := ⟨2, ![512, 1]⟩
abbrev S512x1024 : Shape := ⟨2, ![512, 1024]⟩
abbrev S512x128 : Shape := ⟨2, ![512, 128]⟩

abbrev nBuf : Space → Nat
  | .hbm => 20
  | .vmem => 9
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S2048x8192, .bf16⟩
  | .hbm, ⟨3, _⟩ => ⟨S1x128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S16x128, .f32⟩
  | .hbm, ⟨8, _⟩ => ⟨S2048, .f32⟩
  | .hbm, ⟨9, _⟩ => ⟨S128, .f32⟩
  | .hbm, ⟨10, _⟩ => ⟨S1x128, .f32⟩
  | .hbm, ⟨11, _⟩ => ⟨S16x128, .f32⟩
  | .hbm, ⟨12, _⟩ => ⟨S2048, .f32⟩
  | .hbm, ⟨13, _⟩ => ⟨S4096, .f32⟩
  | .hbm, ⟨14, _⟩ => ⟨S1x4096, .f32⟩
  | .hbm, ⟨15, _⟩ => ⟨S16384x2048, .f32⟩
  | .hbm, ⟨16, _⟩ => ⟨S2048, .f32⟩
  | .hbm, ⟨17, _⟩ => ⟨S1x2048, .f32⟩
  | .hbm, ⟨18, _⟩ => ⟨S8192x128, .f32⟩
  | .hbm, ⟨19, _⟩ => ⟨S8192x128, .f32⟩
  | .local _ .vmem, ⟨0, _⟩ => ⟨S512x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S8192x128, .f32⟩
  | .local _ .vmem, ⟨7, _⟩ => ⟨S8192x128, .f32⟩
  | .local _ .vmem, ⟨8, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c2_i32_5 : BitVec 32 := 2#32
  let v14 : BitVec 1 := Scalar.cmpi .slt arg1 c2_i32_5
  let v15 : BitVec 32 := Scalar.extui v14
  let c0_i32_6 : BitVec 32 := 0#32
  let v16 : BitVec 1 := Scalar.cmpi .ne v15 c0_i32_6
  v16

def k0_off1 (i : grid0.Coords) (c0_i32_17 : BitVec 32) : Fin 2 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v38 : BitVec 32 := Scalar.addi v10 c0_i32_17
  let v39 : Index := Scalar.indexCast v38
  let c0_18 : Index := 0#32
  ![v39.toNat, 0]
def k0_cond3 (i : grid0.Coords) : BitVec 1 :=
  let arg1 : BitVec 32 := BitVec.ofNat 32 (i 1).val
  let c2_i32_7 : BitVec 32 := 2#32
  let v17 : BitVec 1 := Scalar.cmpi .sge arg1 c2_i32_7
  let v18 : BitVec 32 := Scalar.extui v17
  let c0_i32_8 : BitVec 32 := 0#32
  let v19 : BitVec 1 := Scalar.cmpi .ne v18 c0_i32_8
  v19

def k0_off2 (i : grid0.Coords) (c0_i32_12 : BitVec 32) : Fin 2 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v24 : BitVec 32 := Scalar.addi v10 c0_i32_12
  let v25 : Index := Scalar.indexCast v24
  let c0_13 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.addi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c3_i32 : BitVec 32 := 3#32
  let v1 : BitVec 32 := Scalar.minsi v0 c3_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== KvRowsRefIdeal.lean ====
abbrev S1x16384x2048 : Shape := ⟨3, ![1, 16384, 2048]⟩
abbrev S1x2048 : Shape := ⟨2, ![1, 2048]⟩
abbrev S2048x8192 : Shape := ⟨2, ![2048, 8192]⟩
abbrev S1x128 : Shape := ⟨2, ![1, 128]⟩
abbrev S1x512x2048 : Shape := ⟨3, ![1, 512, 2048]⟩
abbrev S512x2048 : Shape := ⟨2, ![512, 2048]⟩
abbrev S2048 : Shape := ⟨1, ![2048]⟩
abbrev S_ : Shape := ⟨0, ![]⟩
abbrev S512 : Shape := ⟨1, ![512]⟩
abbrev S512x1 : Shape := ⟨2, ![512, 1]⟩
abbrev S2048x4096 : Shape := ⟨2, ![2048, 4096]⟩
abbrev S512x4096 : Shape := ⟨2, ![512, 4096]⟩
abbrev S512x16x128 : Shape := ⟨3, ![512, 16, 128]⟩
abbrev S128 : Shape := ⟨1, ![128]⟩
abbrev S512x16 : Shape := ⟨2, ![512, 16]⟩
abbrev S512x16x1 : Shape := ⟨3, ![512, 16, 1]⟩
abbrev S1x1x128 : Shape := ⟨3, ![1, 1, 128]⟩
abbrev S8192x128 : Shape := ⟨2, ![8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S2048x8192, .bf16⟩
  | .hbm, ⟨3, _⟩ => ⟨S1x128, .f32⟩
  | .hbm, ⟨4, _⟩ => ⟨S1x128, .f32⟩
  | .hbm, ⟨5, _⟩ => ⟨S1x512x2048, .f32⟩
  | .hbm, ⟨6, _⟩ => ⟨S512x2048, .f32⟩
  | .hbm, ⟨7, _⟩ => ⟨S2048, .f32⟩
  | .hbm, ⟨8, _⟩ => ⟨S512x2048, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x2048, .f32⟩
  | .hbm, ⟨20, _⟩ => ⟨S512x2048, .f32⟩
  | .hbm, ⟨21, _⟩ => ⟨S1x2048, .f32⟩
  | .hbm, ⟨22, _⟩ => ⟨S512x2048, .f32⟩
  | .hbm, ⟨23, _⟩ => ⟨S512x2048, .f32⟩
  | .hbm, ⟨24, _⟩ => ⟨S2048x4096, .bf16⟩
  | .hbm, ⟨25, _⟩ => ⟨S2048x4096, .f32⟩
  | .hbm, ⟨26, _⟩ => ⟨S512x4096, .f32⟩
  | .hbm, ⟨27, _⟩ => ⟨S512x2048, .f32⟩
  | .hbm, ⟨28, _⟩ => ⟨S512x16x128, .f32⟩
  | .hbm, ⟨29, _⟩ => ⟨S128, .f32⟩
  | .hbm, ⟨30, _⟩ => ⟨S512x16x128, .f32⟩
  | .hbm, ⟨31, _⟩ => ⟨S_, .f32⟩
  | .hbm, ⟨32, _⟩ => ⟨S512x16, .f32⟩
  | .hbm, ⟨33, _⟩ => ⟨S512x16x1, .f32⟩
  | .hbm, ⟨34, _⟩ => ⟨S_, .f32⟩
  | .hbm, ⟨35, _⟩ => ⟨S512x16x1, .f32⟩
  | .hbm, ⟨36, _⟩ => ⟨S512x16x1, .f32⟩
  | .hbm, ⟨37, _⟩ => ⟨S_, .f32⟩
  | .hbm, ⟨38, _⟩ => ⟨S512x16x1, .f32⟩
  | .hbm, ⟨39, _⟩ => ⟨S512x16x1, .f32⟩
  | .hbm, ⟨40, _⟩ => ⟨S512x16x1, .f32⟩
  | .hbm, ⟨41, _⟩ => ⟨S512x16x128, .f32⟩
  | .hbm, ⟨42, _⟩ => ⟨S512x16x128, .f32⟩
  | .hbm, ⟨43, _⟩ => ⟨S1x1x128, .f32⟩
  | .hbm, ⟨44, _⟩ => ⟨S512x16x128, .f32⟩
  | .hbm, ⟨45, _⟩ => ⟨S512x16x128, .f32⟩
  | .hbm, ⟨46, _⟩ => ⟨S512x2048, .f32⟩
  | .hbm, ⟨47, _⟩ => ⟨S8192x128, .f32⟩
  | .hbm, ⟨48, _⟩ => ⟨S8192x128, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== InSample.lean ====
abbrev S32x32x2048 : Shape := ⟨3, ![32, 32, 2048]⟩
abbrev S1x2048 : Shape := ⟨2, ![1, 2048]⟩
abbrev S2048x8192 : Shape := ⟨2, ![2048, 8192]⟩
abbrev S2048x5120 : Shape := ⟨2, ![2048, 5120]⟩
abbrev S2048x128 : Shape := ⟨2, ![2048, 128]⟩
abbrev S1x128 : Shape := ⟨2, ![1, 128]⟩
abbrev S128 : Shape := ⟨1, ![128]⟩
abbrev S16x128 : Shape := ⟨2, ![16, 128]⟩
abbrev S2048 : Shape := ⟨1, ![2048]⟩
abbrev S4096 : Shape := ⟨1, ![4096]⟩
abbrev S1x4096 : Shape := ⟨2, ![1, 4096]⟩
abbrev S1024x2048 : Shape := ⟨2, ![1024, 2048]⟩
abbrev S3x16x1024x128 : Shape := ⟨4, ![3, 16, 1024, 128]⟩
abbrev S1024x7168 : Shape := ⟨2, ![1024, 7168]⟩
abbrev S1024x128 : Shape := ⟨2, ![1024, 128]⟩
abbrev S16384x128 : Shape := ⟨2, ![16384, 128]⟩
abbrev S512x2048 : Shape := ⟨2, ![512, 2048]⟩
abbrev S2048x1024 : Shape := ⟨2, ![2048, 1024]⟩
abbrev S1x1024 : Shape := ⟨2, ![1, 1024]⟩
abbrev S1x8x512x128 : Shape := ⟨4, ![1, 8, 512, 128]⟩
abbrev S512x1024 : Shape := ⟨2, ![512, 1024]⟩
abbrev S512x128 : Shape := ⟨2, ![512, 128]⟩
abbrev S8192x128 : Shape := ⟨2, ![8192, 128]⟩
abbrev S512 : Shape := ⟨1, ![512]⟩
abbrev S512x1 : Shape := ⟨2, ![512, 1]⟩
abbrev S1x1x512x128 : Shape := ⟨4, ![1, 1, 512, 128]⟩
abbrev S32x32x7168 : Shape := ⟨3, ![32, 32, 7168]⟩
abbrev S32x3x3072 : Shape := ⟨3, ![32, 3, 3072]⟩

abbrev nBuf : Space → Nat
  | .hbm => 27
  | .vmem => 21
  | .smem => 0
  | _ => 0

abbrev bufTy : (tb : Table) → Fin (tcTables nBuf tb) → BufTy
  | .hbm, ⟨0, _⟩ => ⟨S32x32x2048, .f32⟩
  | .hbm, ⟨1, _⟩ => ⟨S1x2048, .f32⟩
  | .hbm, ⟨2, _⟩ => ⟨S2048x8192, .bf16⟩
  | .hbm, ⟨3, _⟩ => ⟨S2048x5120, .bf16⟩
  | .hbm, ⟨4, _⟩ => ⟨S2048x128, .bf16⟩
  | .hbm, ⟨5, _⟩ => ⟨S1x128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S16x128, .f32⟩
  | .hbm, ⟨10, _⟩ => ⟨S2048, .f32⟩
  | .hbm, ⟨11, _⟩ => ⟨S128, .f32⟩
  | .hbm, ⟨12, _⟩ => ⟨S1x128, .f32⟩
  | .hbm, ⟨13, _⟩ => ⟨S16x128, .f32⟩
  | .hbm, ⟨14, _⟩ => ⟨S2048, .f32⟩
  | .hbm, ⟨15, _⟩ => ⟨S4096, .f32⟩
  | .hbm, ⟨16, _⟩ => ⟨S1x4096, .f32⟩
  | .hbm, ⟨17, _⟩ => ⟨S1024x2048, .f32⟩
  | .hbm, ⟨18, _⟩ => ⟨S2048, .f32⟩
  | .hbm, ⟨19, _⟩ => ⟨S1x2048, .f32⟩
  | .hbm, ⟨20, _⟩ => ⟨S3x16x1024x128, .bf16⟩
  | .hbm, ⟨21, _⟩ => ⟨S1024x7168, .f32⟩
  | .hbm, ⟨22, _⟩ => ⟨S1024x128, .f32⟩
  | .hbm, ⟨23, _⟩ => ⟨S16384x128, .f32⟩
  | .hbm, ⟨24, _⟩ => ⟨S16384x128, .f32⟩
  | .hbm, ⟨25, _⟩ => ⟨S32x32x7168, .f32⟩
  | .hbm, ⟨26, _⟩ => ⟨S32x3x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x128, .bf16⟩
  | .local _ .vmem, ⟨8, _⟩ => ⟨S1x1024, .f32⟩
  | .local _ .vmem, ⟨9, _⟩ => ⟨S1x1024, .f32⟩
  | .local _ .vmem, ⟨10, _⟩ => ⟨S1x8x512x128, .bf16⟩
  | .local _ .vmem, ⟨11, _⟩ => ⟨S1x8x512x128, .bf16⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S512x2048, .bf16⟩
  | _, _ => ⟨S32x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 13], ![false, false]⟩

def k0_cond2 (i : grid0.Coords) : BitVec 1 :=
  let arg1 : BitVec 32 := BitVec.ofNat 32 (i 1).val
  let c4_i32 : BitVec 32 := 4#32
  let v14 : BitVec 1 := Scalar.cmpi .slt arg1 c4_i32
  let v15 : BitVec 32 := Scalar.extui v14
  let c0_i32_5 : BitVec 32 := 0#32
  let v16 : BitVec 1 := Scalar.cmpi .ne v15 c0_i32_5
  v16

def k0_off1 (i : grid0.Coords) (c0_i32_25 : BitVec 32) : Fin 2 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v52 : BitVec 32 := Scalar.addi v10 c0_i32_25
  let v53 : Index := Scalar.indexCast v52
  let c0_26 : Index := 0#32
  ![v53.toNat, 0]
def k0_cond3 (i : grid0.Coords) : BitVec 1 :=
  let arg1 : BitVec 32 := BitVec.ofNat 32 (i 1).val
  let c4_i32_6 : BitVec 32 := 4#32
  let v17 : BitVec 1 := Scalar.cmpi .sge arg1 c4_i32_6
  let c6_i32 : BitVec 32 := 6#32
  let v18 : BitVec 1 := Scalar.cmpi .slt arg1 c6_i32
  let v19 : BitVec 1 := Scalar.andi v17 v18
  let v20 : BitVec 32 := Scalar.extui v19
  let c0_i32_7 : BitVec 32 := 0#32
  let v21 : BitVec 1 := Scalar.cmpi .ne v20 c0_i32_7
  v21

def k0_off2 (i : grid0.Coords) (c0_i32_20 : BitVec 32) : Fin 2 → Nat :=
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32 : BitVec 32 := 8#32
  let v10 : BitVec 32 := Scalar.muli v9 c8_i32
  let v38 : BitVec 32 := Scalar.addi v10 c0_i32_20
  let v39 : Index := Scalar.indexCast v38
  let c0_21 : Index := 0#32
  ![v39.toNat, 0]
def k0_cond4 (i : grid0.Coords) : BitVec 1 :=
  let arg1 : BitVec 32 := BitVec.ofNat 32 (i 1).val
  let c6_i32_8 : BitVec 32 := 6#32
  let v22 : BitVec 1 := Scalar.cmpi .sge arg1 c6_i32_8
  let c8_i32_9 : BitVec 32 := 8#32
  let v23 : BitVec 1 := Scalar.cmpi .slt arg1 c8_i32_9
  let v24 : BitVec 1 := Scalar.andi v22 v23
  let v25 : BitVec 32 := Scalar.extui v24
  let c0_i32_10 : BitVec 32 := 0#32
  let v26 : BitVec 1 := Scalar.cmpi .ne v25 c0_i32_10
  v26

def k0_cond5 (i : grid0.Coords) : BitVec 1 :=
  let arg1 : BitVec 32 := BitVec.ofNat 32 (i 1).val
  let c8_i32_11 : BitVec 32 := 8#32
  let v27 : BitVec 1 := Scalar.cmpi .sge arg1 c8_i32_11
  let v28 : BitVec 32 := Scalar.extui v27
  let c0_i32_12 : BitVec 32 := 0#32
  let v29 : BitVec 1 := Scalar.cmpi .ne v28 c0_i32_12
  v29

def k0_cond1 (i : grid0.Coords) : BitVec 1 :=
  let arg1 : BitVec 32 := BitVec.ofNat 32 (i 1).val
  let c0_i32_3 : BitVec 32 := 0#32
  let v11 : BitVec 1 := Scalar.cmpi .eq arg1 c0_i32_3
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c2_i32 : BitVec 32 := 2#32
  let v1 : BitVec 32 := Scalar.subi v0 c2_i32
  let c0_i32 : BitVec 32 := 0#32
  let c4_i32 : BitVec 32 := 4#32
  let v2 : BitVec 32 := Scalar.maxsi c0_i32 v1
  let v3 : BitVec 32 := Scalar.minsi c4_i32 v2
  let c0_i32_0 : BitVec 32 := 0#32
  let c0_i32_1 : BitVec 32 := 0#32
  ![c0_i32_0.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_6 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let v18 : BitVec 32 := Scalar.addi v17 c2_i32_4
  let c3_i32 : BitVec 32 := 3#32
  let c0_i32_5 : BitVec 32 := 0#32
  let v19 : BitVec 1 := Scalar.cmpi .eq c3_i32 c0_i32_5
  let c1_i32_6 : BitVec 32 := 1#32
  let v20 : BitVec 32 := Scalar.select v19 c1_i32_6 c3_i32
  let v21 : BitVec 32 := Scalar.remsi v18 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c2_i32_10 : BitVec 32 := 2#32
  let c0_i32_11 : BitVec 32 := 0#32
  let v29 : BitVec 1 := Scalar.cmpi .eq c2_i32_10 c0_i32_11
  let c1_i32_12 : BitVec 32 := 1#32
  let v30 : BitVec 32 := Scalar.select v29 c1_i32_12 c2_i32_10
  let v31 : BitVec 32 := Scalar.remsi v0 v30
  let c0_i32_13 : BitVec 32 := 0#32
  let v32 : BitVec 1 := Scalar.cmpi .ne v31 c0_i32_13
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let v36 : BitVec 1 := Scalar.andi v35 v32
  let v37 : BitVec 32 := Scalar.addi v31 v30
  let v38 : BitVec 32 := Scalar.select v36 v37 v31
  let c0_i32_16 : BitVec 32 := 0#32
  let c0_i32_17 : BitVec 32 := 0#32
  ![v28.toNat, v38.toNat, arg0.toNat, c0_i32_16.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== InSampleRefIdeal.lean ====
abbrev S32x32x2048 : Shape := ⟨3, ![32, 32, 2048]⟩
abbrev S1x2048 : Shape := ⟨2, ![1, 2048]⟩
abbrev S2048x8192 : Shape := ⟨2, ![2048, 8192]⟩
abbrev S2048x5120 : Shape := ⟨2, ![2048, 5120]⟩
abbrev S2048x128 : Shape := ⟨2, ![2048, 128]⟩
abbrev S1x128 : Shape := ⟨2, ![1, 128]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1024x8192 : Shape := ⟨2, ![1024, 8192]⟩
abbrev S1024x5120 : Shape := ⟨2, ![1024, 5120]⟩
abbrev S1024x128 : Shape := ⟨2, ![1024, 128]⟩
abbrev S1024x16x128 : Shape := ⟨3, ![1024, 16, 128]⟩
abbrev S128 : Shape := ⟨1, ![128]⟩
abbrev S1024x16 : Shape := ⟨2, ![1024, 16]⟩
abbrev S1024x16x1 : Shape := ⟨3, ![1024, 16, 1]⟩
abbrev S1x1x128 : Shape := ⟨3, ![1, 1, 128]⟩
abbrev S1x1024x16x128 : Shape := ⟨4, ![1, 1024, 16, 128]⟩
abbrev S3x1024x16x128 : Shape := ⟨4, ![3, 1024, 16, 128]⟩
abbrev S3x16x1024x128 : Shape := ⟨4, ![3, 16, 1024, 128]⟩
abbrev S1024x7168 : Shape := ⟨2, ![1024, 7168]⟩
abbrev S32x32x7168 : Shape := ⟨3, ![32, 32, 7168]⟩
abbrev S32x3x3072 : Shape := ⟨3, ![32, 3, 3072]⟩
abbrev S16384x128 : Shape := ⟨2, ![16384, 128]⟩

abbrev nBuf : Space → Nat
  | .hbm => 83
  | .vmem => 0
  | .smem => 0
  | _ => 0

abbrev bufTy : (tb : Table) → Fin (tcTables nBuf tb) → BufTy
  | .hbm, ⟨0, _⟩ => ⟨S32x32x2048, .f32⟩
  | .hbm, ⟨1, _⟩ => ⟨S1x2048, .f32⟩
  | .hbm, ⟨2, _⟩ => ⟨S2048x8192, .bf16⟩
  | .hbm, ⟨3, _⟩ => ⟨S2048x5120, .bf16⟩
  | .hbm, ⟨4, _⟩ => ⟨S2048x128, .bf16⟩
  | .hbm, ⟨5, _⟩ => ⟨S1x128, .f32⟩
  | .hbm, ⟨6, _⟩ => ⟨S1x128, .f32⟩
  | .hbm, ⟨7, _⟩ => ⟨S1024x2048, .f32⟩
  | .hbm, ⟨8, _⟩ => ⟨S2048, .f32⟩
  | .hbm, ⟨9, _⟩ => ⟨S1024x2048, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x2048, .f32⟩
  | .hbm, ⟨21, _⟩ => ⟨S1024x2048, .f32⟩
  | .hbm, ⟨22, _⟩ => ⟨S1x2048, .f32⟩
  | .hbm, ⟨23, _⟩ => ⟨S1024x2048, .f32⟩
  | .hbm, ⟨24, _⟩ => ⟨S1024x2048, .f32⟩
  | .hbm, ⟨25, _⟩ => ⟨S2048x8192, .f32⟩
  | .hbm, ⟨26, _⟩ => ⟨S1024x8192, .f32⟩
  | .hbm, ⟨27, _⟩ => ⟨S2048x5120, .f32⟩
  | .hbm, ⟨28, _⟩ => ⟨S1024x5120, .f32⟩
  | .hbm, ⟨29, _⟩ => ⟨S2048x128, .f32⟩
  | .hbm, ⟨30, _⟩ => ⟨S1024x128, .f32⟩
  | .hbm, ⟨31, _⟩ => ⟨S1024x2048, .f32⟩
  | .hbm, ⟨32, _⟩ => ⟨S1024x16x128, .f32⟩
  | .hbm, ⟨33, _⟩ => ⟨S128, .f32⟩
  | .hbm, ⟨34, _⟩ => ⟨S1024x16x128, .f32⟩
  | .hbm, ⟨35, _⟩ => ⟨S_, .f32⟩
  | .hbm, ⟨36, _⟩ => ⟨S1024x16, .f32⟩
  | .hbm, ⟨37, _⟩ => ⟨S1024x16x1, .f32⟩
  | .hbm, ⟨38, _⟩ => ⟨S_, .f32⟩
  | .hbm, ⟨39, _⟩ => ⟨S1024x16x1, .f32⟩
  | .hbm, ⟨40, _⟩ => ⟨S1024x16x1, .f32⟩
  | .hbm, ⟨41, _⟩ => ⟨S_, .f32⟩
  | .hbm, ⟨42, _⟩ => ⟨S1024x16x1, .f32⟩
  | .hbm, ⟨43, _⟩ => ⟨S1024x16x1, .f32⟩
  | .hbm, ⟨44, _⟩ => ⟨S1024x16x1, .f32⟩
  | .hbm, ⟨45, _⟩ => ⟨S1024x16x128, .f32⟩
  | .hbm, ⟨46, _⟩ => ⟨S1024x16x128, .f32⟩
  | .hbm, ⟨47, _⟩ => ⟨S1x1x128, .f32⟩
  | .hbm, ⟨48, _⟩ => ⟨S1024x16x128, .f32⟩
  | .hbm, ⟨49, _⟩ => ⟨S1024x16x128, .f32⟩
  | .hbm, ⟨50, _⟩ => ⟨S1024x2048, .f32⟩
  | .hbm, ⟨51, _⟩ => ⟨S1024x16x128, .f32⟩
  | .hbm, ⟨52, _⟩ => ⟨S128, .f32⟩
  | .hbm, ⟨53, _⟩ => ⟨S1024x16x128, .f32⟩
  | .hbm, ⟨54, _⟩ => ⟨S_, .f32⟩
  | .hbm, ⟨55, _⟩ => ⟨S1024x16, .f32⟩
  | .hbm, ⟨56, _⟩ => ⟨S1024x16x1, .f32⟩
  | .hbm, ⟨57, _⟩ => ⟨S_, .f32⟩
  | .hbm, ⟨58, _⟩ => ⟨S1024x16x1, .f32⟩
  | .hbm, ⟨59, _⟩ => ⟨S1024x16x1, .f32⟩
  | .hbm, ⟨60, _⟩ => ⟨S_, .f32⟩
  | .hbm, ⟨61, _⟩ => ⟨S1024x16x1, .f32⟩
  | .hbm, ⟨62, _⟩ => ⟨S1024x16x1, .f32⟩
  | .hbm, ⟨63, _⟩ => ⟨S1024x16x1, .f32⟩
  | .hbm, ⟨64, _⟩ => ⟨S1024x16x128, .f32⟩
  | .hbm, ⟨65, _⟩ => ⟨S1024x16x128, .f32⟩
  | .hbm, ⟨66, _⟩ => ⟨S1x1x128, .f32⟩
  | .hbm, ⟨67, _⟩ => ⟨S1024x16x128, .f32⟩
  | .hbm, ⟨68, _⟩ => ⟨S1024x16x128, .f32⟩
  | .hbm, ⟨69, _⟩ => ⟨S1024x2048, .f32⟩
  | .hbm, ⟨70, _⟩ => ⟨S1024x16x128, .f32⟩
  | .hbm, ⟨71, _⟩ => ⟨S1x1024x16x128, .f32⟩
  | .hbm, ⟨72, _⟩ => ⟨S1x1024x16x128, .f32⟩
  | .hbm, ⟨73, _⟩ => ⟨S1x1024x16x128, .f32⟩
  | .hbm, ⟨74, _⟩ => ⟨S3x1024x16x128, .f32⟩
  | .hbm, ⟨75, _⟩ => ⟨S3x16x1024x128, .f32⟩
  | .hbm, ⟨76, _⟩ => ⟨S3x16x1024x128, .bf16⟩
  | .hbm, ⟨77, _⟩ => ⟨S1024x2048, .f32⟩
  | .hbm, ⟨78, _⟩ => ⟨S1024x7168, .f32⟩
  | .hbm, ⟨79, _⟩ => ⟨S32x32x7168, .f32⟩
  | .hbm, ⟨80, _⟩ => ⟨S32x3x3072, .f32⟩
  | .hbm, ⟨81, _⟩ => ⟨S16384x128, .f32⟩
  | .hbm, ⟨82, _⟩ => ⟨S16384x128, .f32⟩
  | _, _ => ⟨S32x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== SsdState.lean ====
abbrev S1024x7168 : Shape := ⟨2, ![1024, 7168]⟩
abbrev S1024x128 : Shape := ⟨2, ![1024, 128]⟩
abbrev S1x32x3x3072 : Shape := ⟨4, ![1, 32, 3, 3072]⟩
abbrev S1x32x32x64x128 : Shape := ⟨5, ![1, 32, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S32x3x3072 : Shape := ⟨3, ![32, 3, 3072]⟩
abbrev S_ : Shape := ⟨0, ![]⟩
abbrev S32x8x3072 : Shape := ⟨3, ![32, 8, 3072]⟩
abbrev S32x32x64x128 : Shape := ⟨4, ![32, 32, 64, 128]⟩
abbrev S32x2048x128 : Shape := ⟨3, ![32, 2048, 128]⟩
abbrev S4x3072 : Shape := ⟨2, ![4, 3072]⟩
abbrev S3072 : Shape := ⟨1, ![3072]⟩
abbrev S5x3072 : Shape := ⟨2, ![5, 3072]⟩
abbrev S8x3072 : Shape := ⟨2, ![8, 3072]⟩
abbrev S32 : Shape := ⟨1, ![32]⟩
abbrev S2x32 : Shape := ⟨2, ![2, 32]⟩
abbrev S2x128 : Shape := ⟨2, ![2, 128]⟩
abbrev S8x128 : Shape := ⟨2, ![8, 128]⟩
abbrev S32x64 : Shape := ⟨2, ![32, 64]⟩
abbrev S2048 : Shape := ⟨1, ![2048]⟩
abbrev S128x32x64 : Shape := ⟨3, ![128, 32, 64]⟩
abbrev S128x2048 : Shape := ⟨2, ![128, 2048]⟩
abbrev S384x2048 : Shape := ⟨2, ![384, 2048]⟩
abbrev S1024x2048 : Shape := ⟨2, ![1024, 2048]⟩
abbrev S32x2048 : Shape := ⟨2, ![32, 2048]⟩
abbrev S32x1024 : Shape := ⟨2, ![32, 1024]⟩
abbrev S32x128 : Shape := ⟨2, ![32, 128]⟩
abbrev S1x8x3072 : Shape := ⟨3, ![1, 8, 3072]⟩
abbrev S1x2048x128 : Shape := ⟨3, ![1, 2048, 128]⟩
abbrev S40x3072 : Shape := ⟨2, ![40, 3072]⟩
abbrev S32x3072 : Shape := ⟨2, ![32, 3072]⟩
abbrev S4x128x512 : Shape := ⟨3, ![4, 128, 512]⟩
abbrev S1x32x2048 : Shape := ⟨3, ![1, 32, 2048]⟩
abbrev S1x72x2048 : Shape := ⟨3, ![1, 72, 2048]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S40x512 : Shape := ⟨2, ![40, 512]⟩
abbrev S1x512 : Shape := ⟨2, ![1, 512]⟩
abbrev S32x512 : Shape := ⟨2, ![32, 512]⟩
abbrev S32x32 : Shape := ⟨2, ![32, 32]⟩
abbrev S32x96 : Shape := ⟨2, ![32, 96]⟩
abbrev S1x128 : Shape := ⟨2, ![1, 128]⟩
abbrev S96x128 : Shape := ⟨2, ![96, 128]⟩
abbrev S128x128 : Shape := ⟨2, ![128, 128]⟩
abbrev S128x32 : Shape := ⟨2, ![128, 32]⟩
abbrev S72x128 : Shape := ⟨2, ![72, 128]⟩
abbrev S72x384 : Shape := ⟨2, ![72, 384]⟩
abbrev S72x2048 : Shape := ⟨2, ![72, 2048]⟩
abbrev S32x1 : Shape := ⟨2, ![32, 1]⟩
abbrev S1x32x64 : Shape := ⟨3, ![1, 32, 64]⟩
abbrev S1x32x512 : Shape := ⟨3, ![1, 32, 512]⟩
abbrev S1x1x512 : Shape := ⟨3, ![1, 1, 512]⟩

abbrev nBuf : Space → Nat
  | .hbm => 48
  | .vmem => 26
  | .smem => 0
  | _ => 0

abbrev bufTy : (tb : Table) → Fin (tcTables nBuf tb) → BufTy
  | .hbm, ⟨0, _⟩ => ⟨S1024x7168, .f32⟩
  | .hbm, ⟨1, _⟩ => ⟨S1024x128, .f32⟩
  | .hbm, ⟨2, _⟩ => ⟨S1x32x3x3072, .f32⟩
  | .hbm, ⟨3, _⟩ => ⟨S1x32x32x64x128, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x2048, .f32⟩
  | .hbm, ⟨10, _⟩ => ⟨S32x3x3072, .f32⟩
  | .hbm, ⟨11, _⟩ => ⟨S_, .i32⟩
  | .hbm, ⟨12, _⟩ => ⟨S_, .f32⟩
  | .hbm, ⟨13, _⟩ => ⟨S32x8x3072, .f32⟩
  | .hbm, ⟨14, _⟩ => ⟨S32x32x64x128, .f32⟩
  | .hbm, ⟨15, _⟩ => ⟨S32x2048x128, .f32⟩
  | .hbm, ⟨16, _⟩ => ⟨S4x3072, .f32⟩
  | .hbm, ⟨17, _⟩ => ⟨S3072, .f32⟩
  | .hbm, ⟨18, _⟩ => ⟨S1x3072, .f32⟩
  | .hbm, ⟨19, _⟩ => ⟨S5x3072, .f32⟩
  | .hbm, ⟨20, _⟩ => ⟨S_, .i32⟩
  | .hbm, ⟨21, _⟩ => ⟨S_, .f32⟩
  | .hbm, ⟨22, _⟩ => ⟨S8x3072, .f32⟩
  | .hbm, ⟨23, _⟩ => ⟨S32, .f32⟩
  | .hbm, ⟨24, _⟩ => ⟨S32, .f32⟩
  | .hbm, ⟨25, _⟩ => ⟨S1x32, .f32⟩
  | .hbm, ⟨26, _⟩ => ⟨S1x32, .f32⟩
  | .hbm, ⟨27, _⟩ => ⟨S2x32, .f32⟩
  | .hbm, ⟨28, _⟩ => ⟨S_, .i32⟩
  | .hbm, ⟨29, _⟩ => ⟨S_, .f32⟩
  | .hbm, ⟨30, _⟩ => ⟨S2x128, .f32⟩
  | .hbm, ⟨31, _⟩ => ⟨S_, .i32⟩
  | .hbm, ⟨32, _⟩ => ⟨S_, .f32⟩
  | .hbm, ⟨33, _⟩ => ⟨S8x128, .f32⟩
  | .hbm, ⟨34, _⟩ => ⟨S32, .f32⟩
  | .hbm, ⟨35, _⟩ => ⟨S32x64, .f32⟩
  | .hbm, ⟨36, _⟩ => ⟨S2048, .f32⟩
  | .hbm, ⟨37, _⟩ => ⟨S1x2048, .f32⟩
  | .hbm, ⟨38, _⟩ => ⟨S128x32x64, .i32⟩
  | .hbm, ⟨39, _⟩ => ⟨S128x2048, .i32⟩
  | .hbm, ⟨40, _⟩ => ⟨S128x2048, .i32⟩
  | .hbm, ⟨41, _⟩ => ⟨S128x2048, .i1⟩
  | .hbm, ⟨42, _⟩ => ⟨S128x2048, .bf16⟩
  | .hbm, ⟨43, _⟩ => ⟨S384x2048, .bf16⟩
  | .hbm, ⟨44, _⟩ => ⟨S2048, .f32⟩
  | .hbm, ⟨45, _⟩ => ⟨S1x2048, .f32⟩
  | .hbm, ⟨46, _⟩ => ⟨S1024x2048, .bf16⟩
  | .hbm, ⟨47, _⟩ => ⟨S32x2048x128, .f32⟩
  | .local _ .vmem, ⟨0, _⟩ => ⟨S32x2048, .f32⟩
  | .local _ .vmem, ⟨1, _⟩ => ⟨S32x2048, .f32⟩
  | .local _ .vmem, ⟨2, _⟩ => ⟨S32x1024, .f32⟩
  | .local _ .vmem, ⟨3, _⟩ => ⟨S32x1024, .f32⟩
  | .local _ .vmem, ⟨4, _⟩ => ⟨S32x2048, .f32⟩
  | .local _ .vmem, ⟨5, _⟩ => ⟨S32x2048, .f32⟩
  | .local _ .vmem, ⟨6, _⟩ => ⟨S32x128, .f32⟩
  | .local _ .vmem, ⟨7, _⟩ => ⟨S32x128, .f32⟩
  | .local _ .vmem, ⟨8, _⟩ => ⟨S1x8x3072, .f32⟩
  | .local _ .vmem, ⟨9, _⟩ => ⟨S1x8x3072, .f32⟩
  | .local _ .vmem, ⟨10, _⟩ => ⟨S1x2048x128, .f32⟩
  | .local _ .vmem, ⟨11, _⟩ => ⟨S1x2048x128, .f32⟩
  | .local _ .vmem, ⟨12, _⟩ => ⟨S8x3072, .f32⟩
  | .local _ .vmem, ⟨13, _⟩ => ⟨S8x128, .f32⟩
  | .local _ .vmem, ⟨14, _⟩ => ⟨S1x2048, .f32⟩
  | .local _ .vmem, ⟨15, _⟩ => ⟨S1x2048, .f32⟩
  | .local _ .vmem, ⟨16, _⟩ => ⟨S384x2048, .bf16⟩
  | .local _ .vmem, ⟨17, _⟩ => ⟨S32x2048, .bf16⟩
  | .local _ .vmem, ⟨18, _⟩ => ⟨S32x2048, .bf16⟩
  | .local _ .vmem, ⟨19, _⟩ => ⟨S1x2048x128, .f32⟩
  | .local _ .vmem, ⟨20, _⟩ => ⟨S1x2048x128, .f32⟩
  | .local _ .vmem, ⟨21, _⟩ => ⟨S40x3072, .f32⟩
  | .local _ .vmem, ⟨22, _⟩ => ⟨S32x3072, .f32⟩
  | .local _ .vmem, ⟨23, _⟩ => ⟨S4x128x512, .f32⟩
  | .local _ .vmem, ⟨24, _⟩ => ⟨S1x32x2048, .f32⟩
  | .local _ .vmem, ⟨25, _⟩ => ⟨S1x72x2048, .f32⟩
  | _, _ => ⟨S1024x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_call2_v0 : Ref sig .tc := ⟨.hbm, 29, rfl⟩
abbrev main_v14 : Ref sig .tc := ⟨.hbm, 30, rfl⟩
abbrev main_c_2 : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_426 : BitVec 32 := 0#32
  let v1089 : BitVec 1 := Scalar.cmpi .eq arg1 c0_i32_426
  let v1090 : BitVec 32 := Scalar.extui v1089
  let c0_i32_427 : BitVec 32 := 0#32
  let v1091 : BitVec 1 := Scalar.cmpi .ne v1090 c0_i32_427
  v1091

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SsdStateIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | _ => none
-- ==== SsdStateRefIdeal.lean ====
abbrev S1024x7168 : Shape := ⟨2, ![1024, 7168]⟩
abbrev S1024x128 : Shape := ⟨2, ![1024, 128]⟩
abbrev S1x32x3x3072 : Shape := ⟨4, ![1, 32, 3, 3072]⟩
abbrev S1x32x32x64x128 : Shape := ⟨5, ![1, 32, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S32x32x7168 : Shape := ⟨3, ![32, 32, 7168]⟩
abbrev S32x32x3072 : Shape := ⟨3, ![32, 32, 3072]⟩
abbrev S32x3x3072 : Shape := ⟨3, ![32, 3, 3072]⟩
abbrev S32x35x3072 : Shape := ⟨3, ![32, 35, 3072]⟩
abbrev S3072 : Shape := ⟨1, ![3072]⟩
abbrev S1x1x3072 : Shape := ⟨3, ![1, 1, 3072]⟩
abbrev S_ : Shape := ⟨0, ![]⟩
abbrev S32x32x2048 : Shape := ⟨3, ![32, 32, 2048]⟩
abbrev S32x32x4x8x64 : Shape := ⟨5, ![32, 32, 4, 8, 64]⟩
abbrev S32x32x512 : Shape := ⟨3, ![32, 32, 512]⟩
abbrev S32x32x4x128 : Shape := ⟨4, ![32, 32, 4, 128]⟩
abbrev S32x32x128 : Shape := ⟨3, ![32, 32, 128]⟩
abbrev S32x32x32 : Shape := ⟨3, ![32, 32, 32]⟩
abbrev S32 : Shape := ⟨1, ![32]⟩
abbrev S1x1x32 : Shape := ⟨3, ![1, 1, 32]⟩
abbrev S32x1 : Shape := ⟨2, ![32, 1]⟩
abbrev S32x32 : Shape := ⟨2, ![32, 32]⟩
abbrev S32x32x1 : Shape := ⟨3, ![32, 32, 1]⟩
abbrev S32x1x32x32 : Shape := ⟨4, ![32, 1, 32, 32]⟩
abbrev S32x32x32x32 : Shape := ⟨4, ![32, 32, 32, 32]⟩
abbrev S32x1x32 : Shape := ⟨3, ![32, 1, 32]⟩
abbrev S32x32x4x8 : Shape := ⟨4, ![32, 32, 4, 8]⟩
abbrev S32x32x4x8x1 : Shape := ⟨5, ![32, 32, 4, 8, 1]⟩
abbrev S32x4x8x64x128 : Shape := ⟨5, ![32, 4, 8, 64, 128]⟩
abbrev S32x32x64x128 : Shape := ⟨4, ![32, 32, 64, 128]⟩
abbrev S32x4x8 : Shape := ⟨3, ![32, 4, 8]⟩
abbrev S32x4x8x1x1 : Shape := ⟨5, ![32, 4, 8, 1, 1]⟩
abbrev S32x2048x128 : Shape := ⟨3, ![32, 2048, 128]⟩

abbrev nBuf : Space → Nat
  | .hbm => 116
  | .vmem => 0
  | .smem => 0
  | _ => 0

abbrev bufTy : (tb : Table) → Fin (tcTables nBuf tb) → BufTy
  | .hbm, ⟨0, _⟩ => ⟨S1024x7168, .f32⟩
  | .hbm, ⟨1, _⟩ => ⟨S1024x128, .f32⟩
  | .hbm, ⟨2, _⟩ => ⟨S1x32x3x3072, .f32⟩
  | .hbm, ⟨3, _⟩ => ⟨S1x32x32x64x128, .f32⟩
  | .hbm, ⟨4, _⟩ => ⟨S1x4x3072, .f32⟩
  | .hbm, ⟨5, _⟩ => ⟨S1x3072, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x2048, .f32⟩
  | .hbm, ⟨10, _⟩ => ⟨S32x32x7168, .f32⟩
  | .hbm, ⟨11, _⟩ => ⟨S32x32x3072, .f32⟩
  | .hbm, ⟨12, _⟩ => ⟨S32x3x3072, .f32⟩
  | .hbm, ⟨13, _⟩ => ⟨S32x35x3072, .f32⟩
  | .hbm, ⟨14, _⟩ => ⟨S3072, .f32⟩
  | .hbm, ⟨15, _⟩ => ⟨S1x1x3072, .f32⟩
  | .hbm, ⟨16, _⟩ => ⟨S3072, .f32⟩
  | .hbm, ⟨17, _⟩ => ⟨S32x32x3072, .f32⟩
  | .hbm, ⟨18, _⟩ => ⟨S1x1x3072, .f32⟩
  | .hbm, ⟨19, _⟩ => ⟨S32x32x3072, .f32⟩
  | .hbm, ⟨20, _⟩ => ⟨S32x32x3072, .f32⟩
  | .hbm, ⟨21, _⟩ => ⟨S1x1x3072, .f32⟩
  | .hbm, ⟨22, _⟩ => ⟨S32x32x3072, .f32⟩
  | .hbm, ⟨23, _⟩ => ⟨S32x32x3072, .f32⟩
  | .hbm, ⟨24, _⟩ => ⟨S1x1x3072, .f32⟩
  | .hbm, ⟨25, _⟩ => ⟨S3072, .f32⟩
  | .hbm, ⟨26, _⟩ => ⟨S32x32x3072, .f32⟩
  | .hbm, ⟨27, _⟩ => ⟨S1x1x3072, .f32⟩
  | .hbm, ⟨28, _⟩ => ⟨S32x32x3072, .f32⟩
  | .hbm, ⟨29, _⟩ => ⟨S32x32x3072, .f32⟩
  | .hbm, ⟨30, _⟩ => ⟨S32x32x3072, .f32⟩
  | .hbm, ⟨31, _⟩ => ⟨S1x1x3072, .f32⟩
  | .hbm, ⟨32, _⟩ => ⟨S3072, .f32⟩
  | .hbm, ⟨33, _⟩ => ⟨S32x32x3072, .f32⟩
  | .hbm, ⟨34, _⟩ => ⟨S1x1x3072, .f32⟩
  | .hbm, ⟨35, _⟩ => ⟨S32x32x3072, .f32⟩
  | .hbm, ⟨36, _⟩ => ⟨S32x32x3072, .f32⟩
  | .hbm, ⟨37, _⟩ => ⟨S32x32x3072, .f32⟩
  | .hbm, ⟨38, _⟩ => ⟨S1x1x3072, .f32⟩
  | .hbm, ⟨39, _⟩ => ⟨S3072, .f32⟩
  | .hbm, ⟨40, _⟩ => ⟨S32x32x3072, .f32⟩
  | .hbm, ⟨41, _⟩ => ⟨S1x1x3072, .f32⟩
  | .hbm, ⟨42, _⟩ => ⟨S32x32x3072, .f32⟩
  | .hbm, ⟨43, _⟩ => ⟨S32x32x3072, .f32⟩
  | .hbm, ⟨44, _⟩ => ⟨S32x32x3072, .f32⟩
  | .hbm, ⟨45, _⟩ => ⟨S32x32x3072, .f32⟩
  | .hbm, ⟨46, _⟩ => ⟨S32x32x3072, .f32⟩
  | .hbm, ⟨47, _⟩ => ⟨S_, .f32⟩
  | .hbm, ⟨48, _⟩ => ⟨S32x32x3072, .f32⟩
  | .hbm, ⟨49, _⟩ => ⟨S32x32x3072, .f32⟩
  | .hbm, ⟨50, _⟩ => ⟨S_, .f32⟩
  | .hbm, ⟨51, _⟩ => ⟨S32x32x3072, .f32⟩
  | .hbm, ⟨52, _⟩ => ⟨S32x32x3072, .f32⟩
  | .hbm, ⟨53, _⟩ => ⟨S32x32x3072, .f32⟩
  | .hbm, ⟨54, _⟩ => ⟨S32x32x2048, .f32⟩
  | .hbm, ⟨55, _⟩ => ⟨S32x32x4x8x64, .f32⟩
  | .hbm, ⟨56, _⟩ => ⟨S32x32x512, .f32⟩
  | .hbm, ⟨57, _⟩ => ⟨S32x32x4x128, .f32⟩
  | .hbm, ⟨58, _⟩ => ⟨S32x32x128, .f32⟩
  | .hbm, ⟨59, _⟩ => ⟨S32x32x32, .f32⟩
  | .hbm, ⟨60, _⟩ => ⟨S32, .f32⟩
  | .hbm, ⟨61, _⟩ => ⟨S1x1x32, .f32⟩
  | .hbm, ⟨62, _⟩ => ⟨S32x32x32, .f32⟩
  | .hbm, ⟨63, _⟩ => ⟨S32x32x32, .f32⟩
  | .hbm, ⟨64, _⟩ => ⟨S_, .f32⟩
  | .hbm, ⟨65, _⟩ => ⟨S32x32x32, .f32⟩
  | .hbm, ⟨66, _⟩ => ⟨S32x32x32, .f32⟩
  | .hbm, ⟨67, _⟩ => ⟨S32x32x32, .f32⟩
  | .hbm, ⟨68, _⟩ => ⟨S32x32x32, .f32⟩
  | .hbm, ⟨69, _⟩ => ⟨S32x32x32, .f32⟩
  | .hbm, ⟨70, _⟩ => ⟨S32x32x32, .f32⟩
  | .hbm, ⟨71, _⟩ => ⟨S32x32x32, .f32⟩
  | .hbm, ⟨72, _⟩ => ⟨S32, .f32⟩
  | .hbm, ⟨73, _⟩ => ⟨S32, .f32⟩
  | .hbm, ⟨74, _⟩ => ⟨S32, .f32⟩
  | .hbm, ⟨75, _⟩ => ⟨S1x1x32, .f32⟩
  | .hbm, ⟨76, _⟩ => ⟨S32x32x32, .f32⟩
  | .hbm, ⟨77, _⟩ => ⟨S32x32x32, .f32⟩
  | .hbm, ⟨78, _⟩ => ⟨S32, .i32⟩
  | .hbm, ⟨79, _⟩ => ⟨S32x1, .i32⟩
  | .hbm, ⟨80, _⟩ => ⟨S32, .i32⟩
  | .hbm, ⟨81, _⟩ => ⟨S1x32, .i32⟩
  | .hbm, ⟨82, _⟩ => ⟨S32x32, .i32⟩
  | .hbm, ⟨83, _⟩ => ⟨S32x32, .i32⟩
  | .hbm, ⟨84, _⟩ => ⟨S32x32, .i1⟩
  | .hbm, ⟨85, _⟩ => ⟨S32x32x1, .i1⟩
  | .hbm, ⟨86, _⟩ => ⟨S32x1x32x32, .f32⟩
  | .hbm, ⟨87, _⟩ => ⟨S_, .f32⟩
  | .hbm, ⟨88, _⟩ => ⟨S_, .f32⟩
  | .hbm, ⟨89, _⟩ => ⟨S32x32x32x32, .i1⟩
  | .hbm, ⟨90, _⟩ => ⟨S32x32x32x32, .f32⟩
  | .hbm, ⟨91, _⟩ => ⟨S32x32x32x32, .f32⟩
  | .hbm, ⟨92, _⟩ => ⟨S32x32x32x32, .f32⟩
  | .hbm, ⟨93, _⟩ => ⟨S_, .f32⟩
  | .hbm, ⟨94, _⟩ => ⟨S32x32x32, .f32⟩
  | .hbm, ⟨95, _⟩ => ⟨S32x1x32, .f32⟩
  | .hbm, ⟨96, _⟩ => ⟨S32x32x32, .f32⟩
  | .hbm, ⟨97, _⟩ => ⟨S32x32x32, .f32⟩
  | .hbm, ⟨98, _⟩ => ⟨S32x32x32, .f32⟩
  | .hbm, ⟨99, _⟩ => ⟨S32x32x32, .f32⟩
  | .hbm, ⟨100, _⟩ => ⟨S32x32x4x8, .f32⟩
  | .hbm, ⟨101, _⟩ => ⟨S32x32x4x8x1, .f32⟩
  | .hbm, ⟨102, _⟩ => ⟨S32x32x4x8x64, .f32⟩
  | .hbm, ⟨103, _⟩ => ⟨S32x32x4x8x64, .f32⟩
  | .hbm, ⟨104, _⟩ => ⟨S32x4x8x64x128, .f32⟩
  | .hbm, ⟨105, _⟩ => ⟨S32x32x64x128, .f32⟩
  | .hbm, ⟨106, _⟩ => ⟨S32x4x8x64x128, .f32⟩
  | .hbm, ⟨107, _⟩ => ⟨S32x1x32, .f32⟩
  | .hbm, ⟨108, _⟩ => ⟨S32x32, .f32⟩
  | .hbm, ⟨109, _⟩ => ⟨S32x32, .f32⟩
  | .hbm, ⟨110, _⟩ => ⟨S32x4x8, .f32⟩
  | .hbm, ⟨111, _⟩ => ⟨S32x4x8x1x1, .f32⟩
  | .hbm, ⟨112, _⟩ => ⟨S32x4x8x64x128, .f32⟩
  | .hbm, ⟨113, _⟩ => ⟨S32x4x8x64x128, .f32⟩
  | .hbm, ⟨114, _⟩ => ⟨S32x4x8x64x128, .f32⟩
  | .hbm, ⟨115, _⟩ => ⟨S32x2048x128, .f32⟩
  | _, _ => ⟨S1024x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev main_v38 : Ref sig .tc := ⟨.hbm, 49, rfl⟩
abbrev main_cst_0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_1 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_2 : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_v74 : Ref sig .tc := ⟨.hbm, 92, rfl⟩
abbrev main_cst_3 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩

abbrev nD : Nat := 1
abbrev τ : Topo := Topo.v7x

variable {F : FTy → Type} [FloatOps F]
-- ==== Proof.OutProj.lean ====
/-
  The output projection of the prompt rows: what the tiled kernel leaves in its result array, and that it is what
  the plain product of the concatenated branches computes, on the extended reals.

  The kernel keeps the two branches apart: a block of the result is the residual block plus the sum of two products, one
  per branch, each over its own half of the weight rows. The reference joins the branches and contracts once over 4096.
  The two agree because a sum over 4096 is the sum over its two halves.
-/
module

public import proofs.«01_k».proof.Defs
public import proofs.«01_k».proof.Proof.Gen.OutProj.Frame
public import proofs.«01_k».proof.Proof.Gen.OutProjIdeal.Value
public import proofs.«01_k».proof.Proof.Gen.OutProjRefIdeal.Read
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.OutProjIdeal.Tiles

open Cert.OutProjIdeal Cert.OutProjIdeal.Gen

variable (m : (ℓ : Loc nD τ sig) → Buf (Elt Ideal) ℓ) (ρ : Dev nD → PrngReg)

/-- The weights as the kernel finds them: the argument without its leading axis (the cast is the identity here). -/
theorem V_weights (c : Dev nD) : V (F := Ideal) m c main_v1
    = (truncf .bf16 (shapeCast S4096x2048 (m ((c : Thread nD τ).loc main_arg2) : FVec Ideal S1x4096x2048 .f32) shapeCasts_S1x4096x2048_S4096x2048 : FVec Ideal S4096x2048 .f32) bitsLt_bf16_f32 : FVec Ideal S4096x2048 .bf16) := by
  show StableHlo.after hostOps0 _ (Proc.devRef .tc main_v1) = _
  after_results
  rfl

/-- The residual as the kernel finds it. -/
theorem V_residual (c : Dev nD) : V (F := Ideal) m c main_v2
    = shapeCast S16384x2048 (m ((c : Thread nD τ).loc main_arg3)) shapeCasts_S1x16384x2048_S16384x2048 := by
  show StableHlo.after hostOps0 _ (Proc.devRef .tc main_v2) = _
  after_results
  rfl

/-- Weight (k, j). -/
theorem weights_apply (c : Dev nD) (k : Fin 4096) (j : Fin 2048) :
    V (F := Ideal) m c main_v1 (ix2 k j) = m ((c : Thread nD τ).loc main_arg2) (ix3 (0 : Fin 1) k j) := by
  rw [V_weights]
  exact shapeCast_1ab_ab_apply _ _ k j

/-- Residual element (i, j). -/
theorem residual_apply (c : Dev nD) (i : Fin 16384) (j : Fin 2048) :
    V (F := Ideal) m c main_v2 (ix2 i j) = m ((c : Thread nD τ).loc main_arg3) (ix3 (0 : Fin 1) i j) := by
  rw [V_residual]
  exact shapeCast_1ab_ab_apply _ _ i j

/-- The projection, element by element, the branches apart. -/
def proj (x0 x1 : S16384x2048.Idx → EReal) (x2 : S1x4096x2048.Idx → EReal) (x3 : S1x16384x2048.Idx → EReal) : S16384x2048.Idx → EReal :=
  fun i => x3 (ix3 (0 : Fin 1) (i 0) (i 1))
    + ((∑ k : Fin 2048, x0 (ix2 (i 0) k) * x2 (ix3 (0 : Fin 1) (⟨k.val, by omega⟩ : Fin 4096) (i 1)))
      + (∑ k : Fin 2048, x1 (ix2 (i 0) k) * x2 (ix3 (0 : Fin 1) (⟨2048 + k.val, by omega⟩ : Fin 4096) (i 1))))

/-- The same of the arguments as launched: what the result array is shown to hold. -/
abbrev G (c : Dev nD) : Buf (Elt Ideal) ((c : Thread nD τ).loc main_v3) :=
  proj (m ((c : Thread nD τ).loc main_arg0)) (m ((c : Thread nD τ).loc main_arg1)) (m ((c : Thread nD τ).loc main_arg2))
    (m ((c : Thread nD τ).loc main_arg3))

theorem hz : (![0, 0] : Fin 2 → Nat) = fun _ => 0 := funext fun a => by fin_cases a <;> rfl

/-- The block's payload at an element. -/
theorem pay_apply (v0 : Vec Ideal S1024x2048 .bf16) (v1 : Vec Ideal S2048x1024 .bf16) (v4 : Vec Ideal S1024x2048 .bf16)
    (v5 : Vec Ideal S2048x1024 .bf16) (v9 : Vec Ideal S1024x1024 .f32) (r c : Fin 1024) :
    k0_pay1 v0 v1 v4 v5 v9 (ix2 r c) = (v9 (ix2 r c) : EReal)
      + ((∑ k : Fin 2048, v0 (ix2 r k) * v1 (ix2 k c)) + ∑ k : Fin 2048, v4 (ix2 r k) * v5 (ix2 k c)) := by
  unfold k0_pay1
  simp only [shapeCast_self]
  have key (a : FVec Ideal S1024x2048 .bf16) (b : FVec Ideal S2048x1024 .bf16) :
      (matmul (F := Ideal) dot_S1024x2048_S2048x1024_S1024x1024_1_0_0_1_n_n none a b (constant S1024x1024 .f32 0x00000000#32) (ix2 r c) : EReal)
        = ∑ k : Fin 2048, a (ix2 r k) * b (ix2 k c) := by
    refine (Ideal.matmul_plain_apply none a b _ r c).trans ?_
    show Ideal.ofBits .f32 0x00000000#32 + _ = _
    rw [Ideal.ofBits_zero_f32, zero_add]
  show (v9 (ix2 r c) : EReal) + ((matmul (F := Ideal) dot_S1024x2048_S2048x1024_S1024x1024_1_0_0_1_n_n none v0 v1 (constant S1024x1024 .f32 0x00000000#32) (ix2 r c) : EReal) + (matmul (F := Ideal) dot_S1024x2048_S2048x1024_S1024x1024_1_0_0_1_n_n none v4 v5 (constant S1024x1024 .f32 0x00000000#32) (ix2 r c) : EReal)) = _
  rw [key, key]

/-- Each window's block index, of the point's number. -/
theorem idx_all : ∀ t : Fin grid0.N,
    (win0_0.index t 0 = t.val / 2 ∧ win0_0.index t 1 = 0) ∧ (win0_1.index t 0 = t.val / 2 ∧ win0_1.index t 1 = 0)
    ∧ (win0_2.index t 0 = 0 ∧ win0_2.index t 1 = t.val % 2) ∧ (win0_3.index t 0 = 1 ∧ win0_3.index t 1 = t.val % 2)
    ∧ (win0_4.index t 0 = t.val / 2 ∧ win0_4.index t 1 = t.val % 2)
    ∧ (win0_5.index t 0 = t.val / 2 ∧ win0_5.index t 1 = t.val % 2) := by decide +kernel

theorem t_lt (t : Fin cfg0.N) : t.val < 32 := lt_of_lt_of_eq t.isLt N_0

/-- The blocks of the inputs, element by element. -/
theorem blk0 (c : Dev nD) (t : Fin cfg0.N) (r : Fin 1024) (k : Fin 2048) :
    iblk (F := Ideal) m c 0 t (ix2 r k)
      = m ((c : Thread nD τ).loc main_arg0) (ix2 (⟨t.val / 2 * 1024 + r.val, by have := t_lt t; omega⟩ : Fin 16384) k) := by
  refine Eq.trans ?_ (congrFun (V_main_arg0 m c) _)
  unfold iblk
  refine congrArg (V (F := Ideal) m c main_arg0) (funext fun a => Fin.ext ?_)
  obtain ⟨h0, -⟩ := idx_all t
  match a with
  | ⟨0, _⟩ => show win0_0.index t 0 * 1024 + 1 * r.val = t.val / 2 * 1024 + r.val; rw [h0.1]; omega
  | ⟨1, _⟩ => show win0_0.index t 1 * 2048 + 1 * k.val = k.val; rw [h0.2]; omega

theorem blk1 (c : Dev nD) (t : Fin cfg0.N) (r : Fin 1024) (k : Fin 2048) :
    iblk (F := Ideal) m c 1 t (ix2 r k)
      = m ((c : Thread nD τ).loc main_arg1) (ix2 (⟨t.val / 2 * 1024 + r.val, by have := t_lt t; omega⟩ : Fin 16384) k) := by
  refine Eq.trans ?_ (congrFun (V_main_arg1 m c) _)
  unfold iblk
  refine congrArg (V (F := Ideal) m c main_arg1) (funext fun a => Fin.ext ?_)
  obtain ⟨-, h0, -⟩ := idx_all t
  match a with
  | ⟨0, _⟩ => show win0_1.index t 0 * 1024 + 1 * r.val = t.val / 2 * 1024 + r.val; rw [h0.1]; omega
  | ⟨1, _⟩ => show win0_1.index t 1 * 2048 + 1 * k.val = k.val; rw [h0.2]; omega

theorem blk2 (c : Dev nD) (t : Fin cfg0.N) (k : Fin 2048) (j : Fin 1024) :
    iblk (F := Ideal) m c 2 t (ix2 k j) = m ((c : Thread nD τ).loc main_arg2)
      (ix3 (0 : Fin 1) (⟨k.val, by omega⟩ : Fin 4096) (⟨t.val % 2 * 1024 + j.val, by omega⟩ : Fin 2048)) := by
  refine Eq.trans ?_ (weights_apply m c _ _)
  unfold iblk
  refine congrArg (V (F := Ideal) m c main_v1) (funext fun a => Fin.ext ?_)
  obtain ⟨-, -, h0, -⟩ := idx_all t
  match a with
  | ⟨0, _⟩ => show win0_2.index t 0 * 2048 + 1 * k.val = k.val; rw [h0.1]; omega
  | ⟨1, _⟩ => show win0_2.index t 1 * 1024 + 1 * j.val = t.val % 2 * 1024 + j.val; rw [h0.2]; omega

theorem blk3 (c : Dev nD) (t : Fin cfg0.N) (k : Fin 2048) (j : Fin 1024) :
    iblk (F := Ideal) m c 3 t (ix2 k j) = m ((c : Thread nD τ).loc main_arg2)
      (ix3 (0 : Fin 1) (⟨2048 + k.val, by omega⟩ : Fin 4096) (⟨t.val % 2 * 1024 + j.val, by omega⟩ : Fin 2048)) := by
  refine Eq.trans ?_ (weights_apply m c _ _)
  unfold iblk
  refine congrArg (V (F := Ideal) m c main_v1) (funext fun a => Fin.ext ?_)
  obtain ⟨-, -, -, h0, -⟩ := idx_all t
  match a with
  | ⟨0, _⟩ => show win0_3.index t 0 * 2048 + 1 * k.val = 2048 + k.val; rw [h0.1]; omega
  | ⟨1, _⟩ => show win0_3.index t 1 * 1024 + 1 * j.val = t.val % 2 * 1024 + j.val; rw [h0.2]; omega

theorem blk4 (c : Dev nD) (t : Fin cfg0.N) (r : Fin 1024) (j : Fin 1024) :
    iblk (F := Ideal) m c 4 t (ix2 r j) = m ((c : Thread nD τ).loc main_arg3)
      (ix3 (0 : Fin 1) (⟨t.val / 2 * 1024 + r.val, by have := t_lt t; omega⟩ : Fin 16384)
        (⟨t.val % 2 * 1024 + j.val, by omega⟩ : Fin 2048)) := by
  refine Eq.trans ?_ (residual_apply m c _ _)
  unfold iblk
  refine congrArg (V (F := Ideal) m c main_v2) (funext fun a => Fin.ext ?_)
  obtain ⟨-, -, -, -, h0, -⟩ := idx_all t
  match a with
  | ⟨0, _⟩ => show win0_4.index t 0 * 1024 + 1 * r.val = t.val / 2 * 1024 + r.val; rw [h0.1]; omega
  | ⟨1, _⟩ => show win0_4.index t 1 * 1024 + 1 * j.val = t.val % 2 * 1024 + j.val; rw [h0.2]; omega

/-- What point `t` writes back is block `t` of the projection. -/
theorem flushed_eq (c : Dev nD) (t : Fin cfg0.N) :
    (dats (F := Ideal) m 0 c).flushed 5 t = ((cfg0.win 5).blk t).view.read (Elt Ideal) (G m c) := by
  rw [Value.flushed5]
  unfold out0_5
  rw [View.canon_unit_zero hz, View.ld_unit_zero hz, View.ld_unit_zero hz, View.ld_unit_zero hz, View.ld_unit_zero hz,
    View.ld_unit_zero hz]
  funext y
  obtain ⟨r, j, rfl⟩ : ∃ (r : Fin 1024) (j : Fin 1024), y = ix2 r j := ⟨y 0, y 1, eq_ix2 y⟩
  refine (pay_apply _ _ _ _ _ r j).trans ?_
  simp only [blk0, blk1, blk2, blk3, blk4]
  have e : ((cfg0.win 5).blk t).view.read (Elt Ideal) (G m c) (ix2 r j)
      = G m c (ix2 (⟨t.val / 2 * 1024 + r.val, by have := t_lt t; omega⟩ : Fin 16384)
          (⟨t.val % 2 * 1024 + j.val, by omega⟩ : Fin 2048)) := by
    refine congrArg (G m c) (funext fun a => Fin.ext ?_)
    obtain ⟨-, -, -, -, -, h0⟩ := idx_all t
    match a with
    | ⟨0, _⟩ => show win0_5.index t 0 * 1024 + 1 * r.val = t.val / 2 * 1024 + r.val; rw [h0.1]; omega
    | ⟨1, _⟩ => show win0_5.index t 1 * 1024 + 1 * j.val = t.val % 2 * 1024 + j.val; rw [h0.2]; omega
  exact Eq.trans rfl e.symm

/-- The blocks fill the array. -/
theorem cover (i : S16384x2048.Idx) :
    ∃ t : Fin cfg0.N, (cfg0.win 5).flush t = true ∧ i ∈ ((cfg0.win 5).blk t).view.set := by
  have h0 : (i 0 : Nat) < 16384 := (i 0).isLt
  have h1 : (i 1 : Nat) < 2048 := (i 1).isLt
  have hN : cfg0.N = 32 := N_0
  have ht : (i 0 : Nat) / 1024 * 2 + (i 1 : Nat) / 1024 < cfg0.N := by omega
  refine ⟨⟨_, ht⟩, flush0_5 _, ?_⟩
  show i ∈ ((View.whole main_v3).slice (win0_5.rect ⟨(i 0 : Nat) / 1024 * 2 + (i 1 : Nat) / 1024, ht⟩)).set
  rw [View.set_slice_whole, Rect.mem_set_unit]
  obtain ⟨-, -, -, -, -, e0, e1⟩ := idx_all ⟨_, ht⟩
  dsimp only at e0 e1
  intro a
  match a with
  | ⟨0, _⟩ =>
    show win0_5.index ⟨_, ht⟩ 0 * 1024 ≤ (i 0 : Nat) ∧ (i 0 : Nat) < win0_5.index ⟨_, ht⟩ 0 * 1024 + 1024
    rw [e0]; omega
  | ⟨1, _⟩ =>
    show win0_5.index ⟨_, ht⟩ 1 * 1024 ≤ (i 1 : Nat) ∧ (i 1 : Nat) < win0_5.index ⟨_, ht⟩ 1 * 1024 + 1024
    rw [e1]; omega

/-- The kernel's run: the result array holds the projection, the arguments are as launched. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 5 (G m c) (fun t _ => flushed_eq m c t) cover), (h c).2⟩)
    (Value.run_blocks m ρ)

end Cert.OutProjIdeal.Tiles

namespace Cert.OutProjRefIdeal.Plain

open Cert.OutProjRefIdeal Cert.OutProjRefIdeal.Gen Cert.OutProjRefIdeal.Read

/-- The joined branches in the left half of the columns … -/
theorem joined_left (x0 x1 : (⟨S16384x2048, .bf16⟩ : BufTy).Contents (Elt Ideal)) (r : Fin 16384) (k : Fin 2048) :
    val_main_v2 (F := Ideal) x0 x1 (ix2 r (⟨k.val, by omega⟩ : Fin 4096)) = x0 (ix2 r k) := by
  unfold val_main_v2
  refine (concatenate_pair_apply_left (t := S16384x4096) (s₁ := S16384x2048) (s₂ := S16384x2048) 1 _ _ _ _ rfl (ix2 r k) (fun b => ?_)).trans rfl
  match b with
  | ⟨0, _⟩ => rfl
  | ⟨1, _⟩ => rfl

/-- … and in the right half. -/
theorem joined_right (x0 x1 : (⟨S16384x2048, .bf16⟩ : BufTy).Contents (Elt Ideal)) (r : Fin 16384) (k : Fin 2048) :
    val_main_v2 (F := Ideal) x0 x1 (ix2 r (⟨2048 + k.val, by omega⟩ : Fin 4096)) = x1 (ix2 r k) := by
  unfold val_main_v2
  refine (concatenate_pair_apply_right (t := S16384x4096) (s₁ := S16384x2048) (s₂ := S16384x2048) 1 _ _ _ _ rfl rfl (ix2 r k) (fun b hb => ?_) ?_).trans rfl
  · match b with
    | ⟨0, _⟩ => rfl
    | ⟨1, _⟩ => exact absurd rfl hb
  · show k.val + 2048 = 2048 + k.val
    omega

/-- A sum over 4096 by halves. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- The reference's result, element by element. -/
theorem result_apply (x0 x1 : (⟨S16384x2048, .bf16⟩ : BufTy).Contents (Elt Ideal))
    (x2 : (⟨S1x4096x2048, .f32⟩ : BufTy).Contents (Elt Ideal)) (x3 : (⟨S1x16384x2048, .f32⟩ : BufTy).Contents (Elt Ideal))
    (r : Fin 16384) (j : Fin 2048) :
    val_main_v6 (F := Ideal) x0 x1 x2 x3 (ix2 r j) = (x3 (ix3 (0 : Fin 1) r j) : EReal)
      + ((∑ k : Fin 2048, x0 (ix2 r k) * x2 (ix3 (0 : Fin 1) (⟨k.val, by omega⟩ : Fin 4096) j))
        + ∑ k : Fin 2048, x1 (ix2 r k) * x2 (ix3 (0 : Fin 1) (⟨2048 + k.val, by omega⟩ : Fin 4096) j)) := by
  rw [val_main_v6_apply, val_main_v5_apply]
  have e3 : val_main_v3 (F := Ideal) x3 (ix2 r j) = x3 (ix3 (0 : Fin 1) r j) := shapeCast_1ab_ab_apply x3 _ r j
  have e4 (k : Fin 4096) : val_main_v4 (F := Ideal) x2 (ix2 k j) = x2 (ix3 (0 : Fin 1) k j) := shapeCast_1ab_ab_apply x2 _ k j
  rw [e3, sum_halves]
  refine congrArg (x3 (ix3 (0 : Fin 1) r j) + ·) (congrArg₂ (· + ·) ?_ ?_)
  · refine Finset.sum_congr rfl fun k _ => ?_
    exact congrArg₂ (· * ·) ((congrArg _ (eq_ix2 _)).trans (joined_left x0 x1 r k)) ((congrArg _ (eq_ix2 _)).trans (e4 _))
  · refine Finset.sum_congr rfl fun k _ => ?_
    exact congrArg₂ (· * ·) ((congrArg _ (eq_ix2 _)).trans (joined_right x0 x1 r k)) ((congrArg _ (eq_ix2 _)).trans (e4 _))

end Cert.OutProjRefIdeal.Plain

namespace Cert.Proof.OutProjClaims

theorem frame_kernel : Cert.quiescent_OutProj := fun m ρ _ => Cert.OutProj.Gen.frame m ρ
theorem frame_ideal : Cert.quiescent_OutProjIdeal := fun m ρ _ => Cert.OutProjIdeal.Gen.frame m ρ
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)
theorem preserves : Cert.preserves_OutProj_OutProjIdeal := trivial

/-- The tiled kernel computes the plain projection. -/
theorem algebraic : Cert.algebraic_OutProjIdeal_OutProjRefIdeal := by
  intro m ρ m' ρ' _ hagree
  refine ⟨fun c => Cert.OutProjIdeal.Tiles.G m c, Cert.OutProjIdeal.Tiles.run m ρ, ?_⟩
  refine (θ_run Cert.OutProjRefIdeal.defs _ _).mono (fun _ h c => ⟨(h c).1.trans ?_, (h c).2⟩)
    (Cert.OutProjRefIdeal.Value.run (F := Ideal) m' ρ')
  obtain ⟨h0, h1, h2, h3⟩ := hagree c
  rw [h0, h1, h2, h3]
  refine (Cert.OutProjRefIdeal.Read.val_main_v6_eq (F := Ideal) _ _ _ _).trans (funext fun i => ?_)
  obtain ⟨r, j, rfl⟩ : ∃ (r : Fin 16384) (j : Fin 2048), i = ix2 r j := ⟨i 0, i 1, eq_ix2 i⟩
  exact Cert.OutProjRefIdeal.Plain.result_apply _ _ _ _ r j

end Cert.Proof.OutProjClaims

end
-- ==== Proof.InProjRuns.lean ====
/- One grid point of the input projection's body, by the five kinds of point the grid has: what each leaves in the
   buffers it stores to, named as a function of what it loaded. -/
module

public import proofs.«01_k».proof.Proof.Gen.InProjIdeal.Frame
public import proofs.«01_k».proof.Proof.Gen.InProjIdeal.Skeleton
public import Idealize.ShloMosaic.Lib.Pipeline.Value
public import Idealize.ShloMosaic.Lib.ValueIdx

@[expose] public section

set_option maxRecDepth 16384

noncomputable section

namespace Cert.InProjIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.InProjIdeal Cert.InProjIdeal.Gen

variable {F : FTy → Type} [FloatOps F]

local notation "𝕄" => MT nD τ sig Unit (Elt F) ℕ (UR sig nD τ) ℕ

/-! ## A tile of eight heads -/

/-- Eight heads' rows side by side in one block, the second axis the head. -/
def heads8 (f : Fin 8 → FVec F S1x1x1024x128 .bf16) : FVec F S1x8x1024x128 .bf16 :=
  fun y => f (y 1) (ix4 0 0 (y 2) (y 3))

/-- Head `a`'s part of the block. -/
theorem heads8_part (f : Fin 8 → FVec F S1x1x1024x128 .bf16) (a : Fin 8) (inb : ∀ b, (![0, a.val, 0, 0] : Fin 4 → Nat) b + S1x1x1024x128.size b ≤ S1x8x1024x128.size b)
    (x : S1x1x1024x128.Idx) : f a x = heads8 f ((Rect.unit (s := S1x8x1024x128) ![0, a.val, 0, 0] S1x1x1024x128.size inb).emb x) := by
  obtain ⟨i0, i1, i2, i3, rfl⟩ : ∃ (i0 : Fin 1) (i1 : Fin 1) (i2 : Fin 1024) (i3 : Fin 128), x = ix4 i0 i1 i2 i3 := ⟨x 0, x 1, x 2, x 3, eq_ix4 x⟩
  have h0 : i0 = 0 := Subsingleton.elim _ _
  have h1 : i1 = 0 := Subsingleton.elim _ _
  subst h0 h1
  unfold heads8
  have e1 : ((Rect.unit (s := S1x8x1024x128) ![0, a.val, 0, 0] S1x1x1024x128.size inb).emb (ix4 0 0 i2 i3)) 1 = a :=
    Fin.ext (show a.val + 1 * 0 = a.val by omega)
  have e2 : ((Rect.unit (s := S1x8x1024x128) ![0, a.val, 0, 0] S1x1x1024x128.size inb).emb (ix4 0 0 i2 i3)) 2 = i2 :=
    Fin.ext (show 0 + 1 * i2.val = i2.val by omega)
  have e3 : ((Rect.unit (s := S1x8x1024x128) ![0, a.val, 0, 0] S1x1x1024x128.size inb).emb (ix4 0 0 i2 i3)) 3 = i3 :=
    Fin.ext (show 0 + 1 * i3.val = i3.val by omega)
  rw [e1, e2, e3]

/-- Eight stores, one head each, leave the eight heads' block, whatever was there before. -/
theorem read_heads {κ : Kind} {sp : Space} (v : View sig κ sp S1x8x1024x128 .bf16) (g : v.ty.Contents (Elt F))
    (p0 p1 p2 p3 p4 p5 p6 p7 : FVec F S1x1x1024x128 .bf16) :
    v.read (Elt F) (v.writes (Elt F) g
      [⟨Rect.unit (s := S1x8x1024x128) ![0, 7, 0, 0] S1x1x1024x128.size inb_S1x8x1024x128_S1x1x1024x128_0_7_0_0, p7⟩,
       ⟨Rect.unit (s := S1x8x1024x128) ![0, 6, 0, 0] S1x1x1024x128.size inb_S1x8x1024x128_S1x1x1024x128_0_6_0_0, p6⟩,
       ⟨Rect.unit (s := S1x8x1024x128) ![0, 5, 0, 0] S1x1x1024x128.size inb_S1x8x1024x128_S1x1x1024x128_0_5_0_0, p5⟩,
       ⟨Rect.unit (s := S1x8x1024x128) ![0, 4, 0, 0] S1x1x1024x128.size inb_S1x8x1024x128_S1x1x1024x128_0_4_0_0, p4⟩,
       ⟨Rect.unit (s := S1x8x1024x128) ![0, 3, 0, 0] S1x1x1024x128.size inb_S1x8x1024x128_S1x1x1024x128_0_3_0_0, p3⟩,
       ⟨Rect.unit (s := S1x8x1024x128) ![0, 2, 0, 0] S1x1x1024x128.size inb_S1x8x1024x128_S1x1x1024x128_0_2_0_0, p2⟩,
       ⟨Rect.unit (s := S1x8x1024x128) ![0, 1, 0, 0] S1x1x1024x128.size inb_S1x8x1024x128_S1x1x1024x128_0_1_0_0, p1⟩,
       ⟨Rect.unit (s := S1x8x1024x128) ![0, 0, 0, 0] S1x1x1024x128.size inb_S1x8x1024x128_S1x1x1024x128_0_0_0_0, p0⟩])
      = heads8 ![p0, p1, p2, p3, p4, p5, p6, p7] := by
  have hc := View.cover_of_tiledL (Val := Elt F) (e := .bf16)
      [⟨Rect.unit (s := S1x8x1024x128) ![0, 7, 0, 0] S1x1x1024x128.size inb_S1x8x1024x128_S1x1x1024x128_0_7_0_0, p7⟩,
       ⟨Rect.unit (s := S1x8x1024x128) ![0, 6, 0, 0] S1x1x1024x128.size inb_S1x8x1024x128_S1x1x1024x128_0_6_0_0, p6⟩,
       ⟨Rect.unit (s := S1x8x1024x128) ![0, 5, 0, 0] S1x1x1024x128.size inb_S1x8x1024x128_S1x1x1024x128_0_5_0_0, p5⟩,
       ⟨Rect.unit (s := S1x8x1024x128) ![0, 4, 0, 0] S1x1x1024x128.size inb_S1x8x1024x128_S1x1x1024x128_0_4_0_0, p4⟩,
       ⟨Rect.unit (s := S1x8x1024x128) ![0, 3, 0, 0] S1x1x1024x128.size inb_S1x8x1024x128_S1x1x1024x128_0_3_0_0, p3⟩,
       ⟨Rect.unit (s := S1x8x1024x128) ![0, 2, 0, 0] S1x1x1024x128.size inb_S1x8x1024x128_S1x1x1024x128_0_2_0_0, p2⟩,
       ⟨Rect.unit (s := S1x8x1024x128) ![0, 1, 0, 0] S1x1x1024x128.size inb_S1x8x1024x128_S1x1x1024x128_0_1_0_0, p1⟩,
       ⟨Rect.unit (s := S1x8x1024x128) ![0, 0, 0, 0] S1x1x1024x128.size inb_S1x8x1024x128_S1x1x1024x128_0_0_0_0, p0⟩]
      S1x1x1024x128.size (by sl_kernel_rfl)
  rw [View.read_writes_eq_canon _ _ _ hc]
  funext y
  refine View.canon_apply_of_pieces _ _ (fun p hp x => ?_) y (hc y)
  simp only [List.mem_cons, List.not_mem_nil, or_false] at hp
  rcases hp with rfl | rfl | rfl | rfl | rfl | rfl | rfl | rfl
  · exact heads8_part ![p0, p1, p2, p3, p4, p5, p6, p7] 7 inb_S1x8x1024x128_S1x1x1024x128_0_7_0_0 x
  · exact heads8_part ![p0, p1, p2, p3, p4, p5, p6, p7] 6 inb_S1x8x1024x128_S1x1x1024x128_0_6_0_0 x
  · exact heads8_part ![p0, p1, p2, p3, p4, p5, p6, p7] 5 inb_S1x8x1024x128_S1x1x1024x128_0_5_0_0 x
  · exact heads8_part ![p0, p1, p2, p3, p4, p5, p6, p7] 4 inb_S1x8x1024x128_S1x1x1024x128_0_4_0_0 x
  · exact heads8_part ![p0, p1, p2, p3, p4, p5, p6, p7] 3 inb_S1x8x1024x128_S1x1x1024x128_0_3_0_0 x
  · exact heads8_part ![p0, p1, p2, p3, p4, p5, p6, p7] 2 inb_S1x8x1024x128_S1x1x1024x128_0_2_0_0 x
  · exact heads8_part ![p0, p1, p2, p3, p4, p5, p6, p7] 1 inb_S1x8x1024x128_S1x1x1024x128_0_1_0_0 x
  · exact heads8_part ![p0, p1, p2, p3, p4, p5, p6, p7] 0 inb_S1x8x1024x128_S1x1x1024x128_0_0_0_0 x

/-- Eight heads' weights, head `a`'s 128 of them. -/
abbrev headW (qw : FVec F S1x1024 .f32) (a : Nat) (inb : ∀ b, (![0, a] : Fin 2 → Nat) b + S1x128.size b ≤ S1x1024.size b) : FVec F S1x128 .f32 :=
  View.ld (Val := Elt F) (e' := .f32) qw (Rect.unit (s := S1x1024) ![0, a] S1x128.size inb)

/-- A tile of queries or keys: normalised rows by a tile of weights, each head normalised. -/
def qkTile (h : FVec F S1024x2048 .bf16) (w : FVec F S2048x1024 .bf16) (qw : FVec F S1x1024 .f32) : FVec F S1x8x1024x128 .bf16 :=
  heads8 ![k0_pay10 h w (headW qw 0 inb_S1x1024_S1x128_0_0),
    k0_pay12 (k0_pay11 h w (headW qw 128 inb_S1x1024_S1x128_0_128)),
    k0_pay13 (k0_pay9 h w) (headW qw 256 inb_S1x1024_S1x128_0_256),
    k0_pay15 (k0_pay14 (k0_pay9 h w) (headW qw 384 inb_S1x1024_S1x128_0_384)),
    k0_pay16 (k0_pay9 h w) (headW qw 512 inb_S1x1024_S1x128_0_512),
    k0_pay18 (k0_pay17 (k0_pay9 h w) (headW qw 640 inb_S1x1024_S1x128_0_640)),
    k0_pay19 (k0_pay9 h w) (headW qw 768 inb_S1x1024_S1x128_0_768),
    k0_pay20 (k0_pay9 h w) (headW qw 896 inb_S1x1024_S1x128_0_896)]

/-- A tile of values: normalised rows by a tile of weights. -/
def vTile (h : FVec F S1024x2048 .bf16) (w : FVec F S2048x1024 .bf16) : FVec F S1x8x1024x128 .bf16 :=
  heads8 ![k0_pay22 h w, k0_pay23 h w, k0_pay24 h w, k0_pay25 h w, k0_pay26 h w,
    k0_pay4 (k0_pay27 h w), k0_pay5 (k0_pay21 h w), k0_pay6 (k0_pay21 h w)]

/-- The offsets of a load or store of a whole buffer are all zero. -/
theorem off2 : (![0, 0] : Fin 2 → Nat) = fun _ => 0 := by funext a; fin_cases a <;> rfl

/-- A buffer stored whole holds what was stored. -/
theorem read_whole2 {κ : Kind} {sp : Space} {S : Shape} {e : EltTy} (v : View sig κ sp S e) (g : v.ty.Contents (Elt F)) {off : Fin S.rank → Nat}
    (h : off = fun _ => 0) (inb : ∀ a, off a + S.size a ≤ S.size a) (p : S.Idx → Elt F e) :
    v.read (Elt F) (v.writes (Elt F) g [⟨Rect.unit off S.size inb, p⟩]) = p := by
  rw [View.read_writes_eq_canon _ _ _ (fun y => ⟨_, List.mem_singleton_self _, View.mem_set_unit_zero h inb y⟩), View.canon_unit_zero h]

/-! Loads of a whole buffer read its contents. -/
theorem ld_S1024x2048 {e : EltTy} (X : S1024x2048.Idx → Elt F e) (inb) :
    View.ld (Val := Elt F) (e' := e) X (Rect.unit (s := S1024x2048) ![0, 0] ![1024, 2048] inb) = X := View.ld_unit_zero (S := S1024x2048) off2 inb X
theorem ld_S1x2048 {e : EltTy} (X : S1x2048.Idx → Elt F e) (inb) :
    View.ld (Val := Elt F) (e' := e) X (Rect.unit (s := S1x2048) ![0, 0] ![1, 2048] inb) = X := View.ld_unit_zero (S := S1x2048) off2 inb X
theorem ld_S2048x1024 {e : EltTy} (X : S2048x1024.Idx → Elt F e) (inb) :
    View.ld (Val := Elt F) (e' := e) X (Rect.unit (s := S2048x1024) ![0, 0] ![2048, 1024] inb) = X := View.ld_unit_zero (S := S2048x1024) off2 inb X
theorem ld_S2048x128 {e : EltTy} (X : S2048x128.Idx → Elt F e) (inb) :
    View.ld (Val := Elt F) (e' := e) X (Rect.unit (s := S2048x128) ![0, 0] ![2048, 128] inb) = X := View.ld_unit_zero (S := S2048x128) off2 inb X
/-- A load of the whole of what one store of the whole left. -/
theorem readCov_rows {κ : Kind} {sp : Space} (v : View sig κ sp S1024x2048 .bf16) (inb) (inb') (w : S1024x2048.Idx → Elt F .bf16) :
    v.readCov (Val := Elt F) [(⟨Rect.unit (s := S1024x2048) ![0, 0] ![1024, 2048] inb, w⟩ : View.Piece (Elt F) S1024x2048 .bf16)]
      (Rect.unit (s := S1024x2048) ![0, 0] ![1024, 2048] inb').toLoadRect = w :=
  View.readCov_unit_zero (S := S1024x2048) v off2 inb w

/-! ## The five kinds of point -/

set_option maxHeartbeats 1000000 in
/-- The first point of a row block: the rows are normalised and kept, the time steps and a tile of queries or keys computed. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x1024x128 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1024x2048 .bf16) (harg11 : arg11.IsWhole)
    (hc0 : k0_cond1 i = 1#1) (hc1 : k0_cond2 i = 1#1) (hc2 : ¬ k0_cond3 i = 1#1) (hc3 : ¬ k0_cond4 i = 1#1) (hc4 : ¬ k0_cond5 i = 1#1)
    (x2 : Vec F S1024x2048 .f32) (x3 : Vec F S1x2048 .f32) (x4 : Vec F S2048x1024 .bf16) (x6 : Vec F S2048x128 .bf16) (x7 : Vec F S1x1024 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ (∃ d, owns (c : Thread nD τ) arg8 fullShare d) ∗ (∃ d, owns (c : Thread nD τ) arg10 fullShare d) ∗ (∃ d, owns (c : Thread nD τ) arg11 fullShare d)
      ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare (qkTile (k0_pay2 x2 x3) x4 x7) ∗ owns (c : Thread nD τ) arg10 fullShare (k0_pay3 x2 x3 x6) ∗ owns (c : Thread nD τ) arg11 fullShare (k0_pay2 x2 x3)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K := by
  simp only [cc0_in_projection_eq_skeleton]; unfold cc0_in_projection_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f6, %hf6, H6⟩, ⟨%f7, %hf7, H7⟩, ⟨%d8, %f8, -, H8⟩, ⟨%d10, %f10, -, H10⟩, ⟨%d11, %f11, -, H11⟩, Hk⟩
  obtain rfl := harg2.eq_unread hf2; obtain rfl := harg3.eq_unread hf3; obtain rfl := harg4.eq_unread hf4; obtain rfl := harg6.eq_unread hf6; obtain rfl := harg7.eq_unread hf7
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (read_heads _ _ _ _ _ _ _ _ _ _).trans ?_
    sl_unfold_words
    simp only [View.readAt_eq_ld, harg2.read_unread, harg3.read_unread, harg4.read_unread, harg6.read_unread, harg7.read_unread, readCov_rows, ld_S1024x2048, ld_S1x2048, ld_S2048x1024, ld_S2048x128]
    rfl
  isplitl [H10]
  · iexists _; isplitr; swap; · iexact H10
    ipureintro
    refine (read_whole2 _ _ off2 _ _).trans ?_
    simp only [View.readAt_eq_ld, harg2.read_unread, harg3.read_unread, harg4.read_unread, harg6.read_unread, harg7.read_unread, readCov_rows, ld_S1024x2048, ld_S1x2048, ld_S2048x1024, ld_S2048x128]
  iexists _; isplitr; swap; · iexact H11
  ipureintro
  refine (read_whole2 _ _ off2 _ _).trans ?_
  simp only [View.readAt_eq_ld, harg2.read_unread, harg3.read_unread, harg4.read_unread, harg6.read_unread, harg7.read_unread, readCov_rows, ld_S1024x2048, ld_S1x2048, ld_S2048x1024, ld_S2048x128]

set_option maxHeartbeats 1000000 in
/-- The point that computes a tile of queries or keys. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x1024x128 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1024x2048 .bf16) (harg11 : arg11.IsWhole)
    (hc0 : ¬ k0_cond1 i = 1#1) (hc1 : k0_cond2 i = 1#1) (hc2 : ¬ k0_cond3 i = 1#1) (hc3 : ¬ k0_cond4 i = 1#1) (hc4 : ¬ k0_cond5 i = 1#1)
    (x4 : Vec F S2048x1024 .bf16) (x7 : Vec F S1x1024 .f32) (x11 : Vec F S1024x2048 .bf16) (E : Set ℕ) (K : PUnit → sProp 𝕄) :
    iprop(owns (c : Thread nD τ) arg4 fullShare x4 ∗ owns (c : Thread nD τ) arg7 fullShare x7 ∗ owns (c : Thread nD τ) arg11 fullShare x11 ∗ (∃ d, owns (c : Thread nD τ) arg8 fullShare d)
      ∗ (iprop(owns (c : Thread nD τ) arg4 fullShare x4 ∗ owns (c : Thread nD τ) arg7 fullShare x7 ∗ owns (c : Thread nD τ) arg11 fullShare x11 ∗ owns (c : Thread nD τ) arg8 fullShare (qkTile x11 x4 x7)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K := by
  simp only [cc0_in_projection_eq_skeleton]; unfold cc0_in_projection_skel
  simp only [k0_part1_eq_skeleton, k0_part2_eq_skeleton, k0_part3_eq_skeleton, k0_part4_eq_skeleton]
  unfold owns
  iintro ⟨⟨%f4, %hf4, H4⟩, ⟨%f7, %hf7, H7⟩, ⟨%f11, %hf11, H11⟩, ⟨%d8, %f8, -, H8⟩, Hk⟩
  obtain rfl := harg4.eq_unread hf4; obtain rfl := harg7.eq_unread hf7; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H7]
  · iexists _; isplitr; · ipureintro; exact harg7.read_unread _
    iexact H7
  isplitl [H11]
  · iexists _; isplitr; · ipureintro; exact harg11.read_unread _
    iexact H11
  iexists _; isplitr; swap; · iexact H8
  ipureintro
  refine (read_heads _ _ _ _ _ _ _ _ _ _).trans ?_
  sl_unfold_words
  simp only [View.readAt_eq_ld, harg4.read_unread, harg7.read_unread, harg11.read_unread, readCov_rows, ld_S1024x2048, ld_S1x2048, ld_S2048x1024, ld_S2048x128]
  rfl

set_option maxHeartbeats 1000000 in
/-- The point that computes a tile of values. -/
theorem runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x1024x128 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1024x2048 .bf16) (harg11 : arg11.IsWhole)
    (hc0 : ¬ k0_cond1 i = 1#1) (hc1 : ¬ k0_cond2 i = 1#1) (hc2 : k0_cond3 i = 1#1) (hc3 : ¬ k0_cond4 i = 1#1) (hc4 : ¬ k0_cond5 i = 1#1)
    (x4 : Vec F S2048x1024 .bf16) (x11 : Vec F S1024x2048 .bf16) (E : Set ℕ) (K : PUnit → sProp 𝕄) :
    iprop(owns (c : Thread nD τ) arg4 fullShare x4 ∗ owns (c : Thread nD τ) arg11 fullShare x11 ∗ (∃ d, owns (c : Thread nD τ) arg8 fullShare d)
      ∗ (iprop(owns (c : Thread nD τ) arg4 fullShare x4 ∗ owns (c : Thread nD τ) arg11 fullShare x11 ∗ owns (c : Thread nD τ) arg8 fullShare (vTile x11 x4)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K := by
  simp only [cc0_in_projection_eq_skeleton]; unfold cc0_in_projection_skel
  simp only [k0_part5_eq_skeleton]
  unfold owns
  iintro ⟨⟨%f4, %hf4, H4⟩, ⟨%f11, %hf11, H11⟩, ⟨%d8, %f8, -, H8⟩, Hk⟩
  obtain rfl := harg4.eq_unread hf4; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H11]
  · iexists _; isplitr; · ipureintro; exact harg11.read_unread _
    iexact H11
  iexists _; isplitr; swap; · iexact H8
  ipureintro
  refine (read_heads _ _ _ _ _ _ _ _ _ _).trans ?_
  sl_unfold_words
  simp only [View.readAt_eq_ld, harg4.read_unread, harg11.read_unread, readCov_rows, ld_S1024x2048, ld_S1x2048, ld_S2048x1024, ld_S2048x128]
  rfl

set_option maxHeartbeats 1000000 in
/-- The point that computes a tile of gates. -/
theorem runD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x1024x128 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1024x2048 .bf16) (harg11 : arg11.IsWhole)
    (hc0 : ¬ k0_cond1 i = 1#1) (hc1 : ¬ k0_cond2 i = 1#1) (hc2 : ¬ k0_cond3 i = 1#1) (hc3 : k0_cond4 i = 1#1) (hc4 : ¬ k0_cond5 i = 1#1)
    (x4 : Vec F S2048x1024 .bf16) (x11 : Vec F S1024x2048 .bf16) (E : Set ℕ) (K : PUnit → sProp 𝕄) :
    iprop(owns (c : Thread nD τ) arg4 fullShare x4 ∗ owns (c : Thread nD τ) arg11 fullShare x11 ∗ (∃ d, owns (c : Thread nD τ) arg9 fullShare d)
      ∗ (iprop(owns (c : Thread nD τ) arg4 fullShare x4 ∗ owns (c : Thread nD τ) arg11 fullShare x11 ∗ owns (c : Thread nD τ) arg9 fullShare (k0_pay7 x11 x4)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K := by
  simp only [cc0_in_projection_eq_skeleton]; unfold cc0_in_projection_skel
  unfold owns
  iintro ⟨⟨%f4, %hf4, H4⟩, ⟨%f11, %hf11, H11⟩, ⟨%d9, %f9, -, H9⟩, Hk⟩
  obtain rfl := harg4.eq_unread hf4; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H11]
  · iexists _; isplitr; · ipureintro; exact harg11.read_unread _
    iexact H11
  iexists _; isplitr; swap; · iexact H9
  ipureintro
  refine (read_whole2 _ _ off2 _ _).trans ?_
  simp only [View.readAt_eq_ld, harg4.read_unread, harg11.read_unread, readCov_rows, ld_S1024x2048, ld_S1x2048, ld_S2048x1024, ld_S2048x128]

set_option maxHeartbeats 1000000 in
/-- The point that computes a tile of the other columns. -/
theorem runE (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x1024x128 .bf16) (harg8 : arg8.IsWhole) (arg9 : Memref sig .tc .vmem S1024x1024 .f32) (harg9 : arg9.IsWhole) (arg10 : Memref sig .tc .vmem S1024x128 .f32) (harg10 : arg10.IsWhole) (arg11 : Memref sig .tc .vmem S1024x2048 .bf16) (harg11 : arg11.IsWhole)
    (hc0 : ¬ k0_cond1 i = 1#1) (hc1 : ¬ k0_cond2 i = 1#1) (hc2 : ¬ k0_cond3 i = 1#1) (hc3 : ¬ k0_cond4 i = 1#1) (hc4 : k0_cond5 i = 1#1)
    (x5 : Vec F S2048x1024 .bf16) (x11 : Vec F S1024x2048 .bf16) (E : Set ℕ) (K : PUnit → sProp 𝕄) :
    iprop(owns (c : Thread nD τ) arg5 fullShare x5 ∗ owns (c : Thread nD τ) arg11 fullShare x11 ∗ (∃ d, owns (c : Thread nD τ) arg9 fullShare d)
      ∗ (iprop(owns (c : Thread nD τ) arg5 fullShare x5 ∗ owns (c : Thread nD τ) arg11 fullShare x11 ∗ owns (c : Thread nD τ) arg9 fullShare (k0_pay8 x11 x5)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11) K := by
  simp only [cc0_in_projection_eq_skeleton]; unfold cc0_in_projection_skel
  unfold owns
  iintro ⟨⟨%f5, %hf5, H5⟩, ⟨%f11, %hf11, H11⟩, ⟨%d9, %f9, -, H9⟩, Hk⟩
  obtain rfl := harg5.eq_unread hf5; obtain rfl := harg11.eq_unread hf11
  sl_exec (disch := first | sl_exact hc0 | sl_exact hc1 | sl_exact hc2 | sl_exact hc3 | sl_exact hc4)
  sl_step
  iapply Hk
  isplitl [H5]
  · iexists _; isplitr; · ipureintro; exact harg5.read_unread _
    iexact H5
  isplitl [H11]
  · iexists _; isplitr; · ipureintro; exact harg11.read_unread _
    iexact H11
  iexists _; isplitr; swap; · iexact H9
  ipureintro
  refine (read_whole2 _ _ off2 _ _).trans ?_
  simp only [View.readAt_eq_ld, harg5.read_unread, harg11.read_unread, readCov_rows, ld_S1024x2048, ld_S1x2048, ld_S2048x1024, ld_S2048x128]

end Cert.InProjIdeal.Rows

end
-- ==== Proof.InProjFrame.lean ====
/- The input projection over its whole grid: what the scratch rows hold from one grid point to the next, what each output
   window's buffer holds when it is written back, and the run that leaves the result arrays as those blocks. -/
module

public import proofs.«01_k».proof.Proof.InProjRuns
public import Idealize.ShloMosaic.Lib.Claim

@[expose] public section

set_option maxRecDepth 16384

noncomputable section

namespace Cert.InProjIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.InProjIdeal Cert.InProjIdeal.Gen

section Kept

variable {F : FTy → Type} [FloatOps F]
variable {c : Dev nD} (D : Dat τ (Elt F) Unit ℕ (UR sig nD τ) ℕ cfg0 c)

/-- A window left alone at a point gives its buffer back as it was found, provided that is what is written back when the
    point is the last of its block. -/
theorem leaves_found (w : Fin cfg0.W) (t : Fin cfg0.N) (d) (hi : cfg0.idle w (cfg0.grid.coords t) = true)
    (hf : (cfg0.win w).flush t = true → D.before w t d = D.after w t) :
    owns (c : Thread nD τ) ((cfg0.win w).stage (cfg0.slots t w)) fullShare (D.before w t d) ⊢ D.leavesExact w t := by
  unfold Dat.leavesExact
  rw [hi]
  cases hfl : (cfg0.win w).flush t with
  | false => iintro H; iexists d; iexact H
  | true => rw [hf hfl]

theorem leaves_live (w : Fin cfg0.W) (t : Fin cfg0.N) (hi : cfg0.idle w (cfg0.grid.coords t) = false) :
    D.leavesExact w t = owns (c : Thread nD τ) ((cfg0.win w).stage (cfg0.slots t w)) fullShare (D.after w t) := by
  unfold Dat.leavesExact; rw [hi]

/-- A buffer the points of a row leave alone after some point keeps what that point stored: `val` is what the row's points
    from the storing one on are said to leave. -/
theorem before_row (w : Fin cfg0.W) (P : Fin cfg0.N → Prop) (hft : ∀ t : Fin cfg0.N, (cfg0.win w).fetch t = false)
    (hk : ∀ t d, D.kept w t d = D.after w t)
    (hprev : ∀ (t : Fin cfg0.N) (h : t.val < cfg0.N + 1), P t → ∃ s : Fin cfg0.N, s.val + 1 = t.val ∧ (cfg0.win w).flush s = false
      ∧ D.after w s = D.after w t ∧ (cfg0.idle w (cfg0.grid.coords s) = false ∨ (cfg0.idle w (cfg0.grid.coords s) = true ∧ P s)))
    (t : Fin cfg0.N) (ht : P t) (d) : D.before w t d = D.after w t := by
  obtain ⟨n, hn⟩ := t
  induction n with
  | zero =>
    obtain ⟨s, hs, -⟩ := hprev _ (Nat.lt_succ_of_lt hn) ht
    exact absurd hs (Nat.succ_ne_zero _)
  | succ n ih =>
    obtain ⟨s, hs, hfl, ha, hi⟩ := hprev _ (Nat.lt_succ_of_lt hn) ht
    obtain rfl : s = ⟨n, Nat.lt_of_succ_lt hn⟩ := Fin.ext (by simpa using hs)
    rw [D.before_of_pos w _ (Nat.succ_ne_zero n) (hft _) d]
    show (if (cfg0.win w).flush ⟨n, _⟩ then d else D.left w ⟨n, _⟩ d) = _
    rw [hfl]
    show D.left w ⟨n, _⟩ d = _
    unfold Dat.left
    rcases hi with hi | ⟨hi, hP⟩
    · rw [hi]; exact (hk _ d).trans ha
    · rw [hi]; exact (ih _ hP).trans ha

end Kept

/-! ## The grid, point by point -/

theorem cond1_iff : ∀ t : Fin grid0.N, k0_cond1 (grid0.coords t) = 1#1 ↔ t.val % 13 = 0 := by decide +kernel
theorem cond2_iff : ∀ t : Fin grid0.N, k0_cond2 (grid0.coords t) = 1#1 ↔ t.val % 13 ≤ 3 := by decide +kernel
theorem cond3_iff : ∀ t : Fin grid0.N, k0_cond3 (grid0.coords t) = 1#1 ↔ (4 ≤ t.val % 13 ∧ t.val % 13 ≤ 5) := by decide +kernel
theorem cond4_iff : ∀ t : Fin grid0.N, k0_cond4 (grid0.coords t) = 1#1 ↔ (6 ≤ t.val % 13 ∧ t.val % 13 ≤ 7) := by decide +kernel
theorem cond5_iff : ∀ t : Fin grid0.N, k0_cond5 (grid0.coords t) = 1#1 ↔ 8 ≤ t.val % 13 := by decide +kernel

theorem idle_in : ∀ (t : Fin grid0.N), cfg0.idle 0 (grid0.coords t) = false ∧ cfg0.idle 1 (grid0.coords t) = false
    ∧ cfg0.idle 2 (grid0.coords t) = false ∧ cfg0.idle 3 (grid0.coords t) = false ∧ cfg0.idle 4 (grid0.coords t) = false
    ∧ cfg0.idle 5 (grid0.coords t) = false := by decide +kernel
theorem idle6_iff : ∀ t : Fin grid0.N, cfg0.idle 6 (grid0.coords t) = decide (6 ≤ t.val % 13) := by decide +kernel
theorem idle7_iff : ∀ t : Fin grid0.N, cfg0.idle 7 (grid0.coords t) = decide (t.val % 13 ≤ 5) := by decide +kernel
theorem idle8_iff : ∀ t : Fin grid0.N, cfg0.idle 8 (grid0.coords t) = decide (t.val % 13 ≠ 0) := by decide +kernel
theorem flush6_iff : ∀ t : Fin grid0.N, (cfg0.win 6).flush t = decide (t.val % 13 ≤ 4 ∨ t.val % 13 = 12) := by decide +kernel
theorem flush7_iff : ∀ t : Fin grid0.N, (cfg0.win 7).flush t = decide (6 ≤ t.val % 13) := by decide +kernel
theorem flush8_iff : ∀ t : Fin grid0.N, (cfg0.win 8).flush t = decide (t.val % 13 = 12) := by decide +kernel
theorem fetch_out : ∀ t : Fin grid0.N, (cfg0.win 6).fetch t = false ∧ (cfg0.win 7).fetch t = false ∧ (cfg0.win 8).fetch t = false := by decide +kernel

theorem val_lt (t : Fin cfg0.N) : t.val < 208 := lt_of_lt_of_eq t.isLt N_0

/-- The point `j` of the row that point number `n` lies in. -/
def inRow (n j : ℕ) : Fin cfg0.N := ⟨13 * (n / 13 % 16) + j % 13, lt_of_lt_of_eq (by omega) N_0.symm⟩

theorem inRow_self (t : Fin cfg0.N) : inRow t.val (t.val % 13) = t := by
  have := val_lt t
  exact Fin.ext (by show 13 * (t.val / 13 % 16) + t.val % 13 % 13 = t.val; omega)

theorem inRow_succ (n j : ℕ) (h : (n + 1) % 13 ≠ 0) : inRow (n + 1) j = inRow n j :=
  Fin.ext (by show 13 * ((n + 1) / 13 % 16) + j % 13 = 13 * (n / 13 % 16) + j % 13; omega)

variable {F : FTy → Type} [FloatOps F]
local notation "𝕄" => MT nD τ sig Unit (Elt F) ℕ (UR sig nD τ) ℕ
variable (m : (ℓ : Loc nD τ sig) → Buf (Elt F) ℓ) (ρ : Dev nD → PrngReg)

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x1024 .bf16 := win0_2.stage (cfg0.slots t 2)
abbrev st3 (t : Fin cfg0.N) : Memref sig .tc .vmem S2048x1024 .bf16 := win0_3.stage (cfg0.slots t 3)
abbrev st4 (t : Fin cfg0.N) : Memref sig .tc .vmem S2048x128 .bf16 := win0_4.stage (cfg0.slots t 4)
abbrev st5 (t : Fin cfg0.N) : Memref sig .tc .vmem S1x1024 .f32 := win0_5.stage (cfg0.slots t 5)
abbrev st6 (t : Fin cfg0.N) : Memref sig .tc .vmem S1x8x1024x128 .bf16 := win0_6.stage (cfg0.slots t 6)
abbrev st7 (t : Fin cfg0.N) : Memref sig .tc .vmem S1024x1024 .f32 := win0_7.stage (cfg0.slots t 7)
abbrev st8 (t : Fin cfg0.N) : Memref sig .tc .vmem S1024x128 .f32 := win0_8.stage (cfg0.slots t 8)

/-- The scratch buffer that carries a row's normalised tile from its first point to its last. -/
abbrev scr : Memref sig .tc .vmem S1024x2048 .bf16 := Memref.whole cc0_scratch0

theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## The tiles the launch writes -/

/-- The normalised rows of the row of the grid that point number `n` lies in. -/
def hRow (c : Dev nD) (n : ℕ) : FVec F S1024x2048 .bf16 := k0_pay2 (iblk m c 0 (inRow n 0)) (iblk m c 1 (inRow n 0))

def out6 (c : Dev nD) (t : Fin cfg0.N) : FVec F S1x8x1024x128 .bf16 :=
  if t.val % 13 ≤ 3 then qkTile (hRow m c t.val) (iblk m c 2 t) (iblk m c 5 t)
  else if t.val % 13 ≤ 5 then vTile (hRow m c t.val) (iblk m c 2 t)
  else vTile (hRow m c t.val) (iblk m c 2 (inRow t.val 5))

def out7 (c : Dev nD) (t : Fin cfg0.N) : FVec F S1024x1024 .f32 :=
  if t.val % 13 ≤ 7 then k0_pay7 (hRow m c t.val) (iblk m c 2 t) else k0_pay8 (hRow m c t.val) (iblk m c 3 t)

def out8 (c : Dev nD) (t : Fin cfg0.N) : FVec F S1024x128 .f32 :=
  k0_pay3 (iblk m c 0 (inRow t.val 0)) (iblk m c 1 (inRow t.val 0)) (iblk m c 4 (inRow t.val 0))

/-- The launch's data: every input window keeps its block, the three outputs are the tiles above, and between the points of
    one row the scratch buffer holds the row's normalised tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
  Φ s := if s.val % 13 = 0 then Pipeline.ΦA spec0 c
    else iprop(owns (c : Thread nD τ) scr fullShare (hRow m c s.val) ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 m c t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]
theorem found0 (c : Dev nD) (t : Fin cfg0.N) (d) : (dats m 0 c).before 0 t d = iblk m c 0 t :=
  before0_0_of m (dats m 0 c) (A_eq m c 0) (after0 m c) t d
theorem found1 (c : Dev nD) (t : Fin cfg0.N) (d) : (dats m 0 c).before 1 t d = iblk m c 1 t :=
  before0_1_of m (dats m 0 c) (A_eq m c 1) (after1 m c) t d
theorem found2 (c : Dev nD) (t : Fin cfg0.N) (d) : (dats m 0 c).before 2 t d = iblk m c 2 t :=
  before0_2_of m (dats m 0 c) (A_eq m c 2) (after2 m c) t d
theorem found3 (c : Dev nD) (t : Fin cfg0.N) (d) : (dats m 0 c).before 3 t d = iblk m c 3 t :=
  before0_3_of m (dats m 0 c) (A_eq m c 3) (after3 m c) t d
theorem found4 (c : Dev nD) (t : Fin cfg0.N) (d) : (dats m 0 c).before 4 t d = iblk m c 4 t :=
  before0_4_of m (dats m 0 c) (A_eq m c 4) (after4 m c) t d
theorem found5 (c : Dev nD) (t : Fin cfg0.N) (d) : (dats m 0 c).before 5 t d = iblk m c 5 t :=
  before0_5_of m (dats m 0 c) (A_eq m c 5) (after5 m c) t d

theorem inv_first (c : Dev nD) (s : Fin (cfg0.N + 1)) (h : s.val % 13 = 0) : (dats m 0 c).Φ s = Pipeline.ΦA spec0 c := by
  dsimp only [dats]; exact if_pos h

theorem inv_in (c : Dev nD) (s : Fin (cfg0.N + 1)) (h : ¬ s.val % 13 = 0) : (dats m 0 c).Φ s
    = iprop(owns (c : Thread nD τ) scr fullShare (hRow m c s.val) ∗ (∃ r, prngReg c r)) := by
  dsimp only [dats]; exact if_neg h

/-- After a point the scratch buffer still holds its row's tile, or nothing more is said of it when the row is done. -/
theorem inv_keep (c : Dev nD) (t : Fin cfg0.N) :
    iprop(owns (c : Thread nD τ) scr fullShare (hRow m c t.val) ∗ (∃ r, prngReg c r)) ⊢ (dats m 0 c).Φ t.succ := by
  by_cases h : (t.val + 1) % 13 = 0
  · rw [inv_first m c t.succ h, inv_eq]
    iintro ⟨H, Hg⟩
    isplitl [H]
    · iexists _; iexact H
    iexact Hg
  · rw [inv_in m c t.succ h]
    rw [show hRow m c t.succ.val = hRow m c t.val from by
      unfold hRow; rw [show inRow t.succ.val 0 = inRow t.val 0 from inRow_succ t.val 0 h]]

/-- The buffer of the query/key/value heads holds the row's second value tile from the sixth point on. -/
theorem found6 (c : Dev nD) (t : Fin cfg0.N) (h : 6 ≤ t.val % 13) (d) : (dats m 0 c).before 6 t d = (dats m 0 c).after 6 t := by
  refine before_row (dats m 0 c) 6 (fun t => 6 ≤ t.val % 13) (fun t => (fetch_out t).1) (fun _ _ => rfl) ?_ t h d
  intro t hN ht
  refine ⟨⟨t.val - 1, by omega⟩, by show t.val - 1 + 1 = t.val; omega, ?_, ?_, ?_⟩
  · rw [flush6_iff]; exact decide_eq_false (by show ¬ ((t.val - 1) % 13 ≤ 4 ∨ (t.val - 1) % 13 = 12); omega)
  · have e : inRow t.val 5 = inRow (t.val - 1) 5 := by
      have := inRow_succ (t.val - 1) 5 (by omega); rwa [show t.val - 1 + 1 = t.val by omega] at this
    have e0 : hRow m c t.val = hRow m c (t.val - 1) := by
      unfold hRow
      have := inRow_succ (t.val - 1) 0 (by omega)
      rw [show t.val - 1 + 1 = t.val by omega] at this
      rw [this]
    rw [after6, after6]
    unfold out6
    show (if (t.val - 1) % 13 ≤ 3 then _ else if (t.val - 1) % 13 ≤ 5 then _ else _) = _
    rw [if_neg (by omega : ¬ (t.val - 1) % 13 ≤ 3), if_neg (by omega : ¬ t.val % 13 ≤ 3), if_neg (by omega : ¬ t.val % 13 ≤ 5)]
    by_cases h5 : (t.val - 1) % 13 ≤ 5
    · rw [if_pos h5, e0, e]
      refine congrArg (fun p => vTile (hRow m c (t.val - 1)) (iblk m c 2 p)) ?_
      have h5' : (t.val - 1) % 13 = 5 := by omega
      have := inRow_self ⟨t.val - 1, by omega⟩
      rw [← this, show (⟨t.val - 1, by omega⟩ : Fin cfg0.N).val = t.val - 1 from rfl, h5']
    · rw [if_neg h5, e0, e]
  · rw [idle6_iff]
    by_cases h6 : 6 ≤ (t.val - 1) % 13
    · exact .inr ⟨decide_eq_true h6, h6⟩
    · exact .inl (decide_eq_false h6)

/-- The buffer of the step sizes holds what the row's first point stored. -/
theorem found8 (c : Dev nD) (t : Fin cfg0.N) (h : ¬ t.val % 13 = 0) (d) : (dats m 0 c).before 8 t d = (dats m 0 c).after 8 t := by
  refine before_row (dats m 0 c) 8 (fun t => ¬ t.val % 13 = 0) (fun t => (fetch_out t).2.2) (fun _ _ => rfl) ?_ t h d
  intro t hN ht
  refine ⟨⟨t.val - 1, by omega⟩, by show t.val - 1 + 1 = t.val; omega, ?_, ?_, ?_⟩
  · rw [flush8_iff]; exact decide_eq_false (by show ¬ (t.val - 1) % 13 = 12; omega)
  · have e : inRow t.val 0 = inRow (t.val - 1) 0 := by
      have := inRow_succ (t.val - 1) 0 (by omega); rwa [show t.val - 1 + 1 = t.val by omega] at this
    rw [after8, after8]
    unfold out8
    rw [e]
  · rw [idle8_iff]
    by_cases h6 : (t.val - 1) % 13 = 0
    · exact .inl (decide_eq_false (fun hh => hh h6))
    · exact .inr ⟨decide_eq_true h6, h6⟩

theorem keep6 (c : Dev nD) (t : Fin cfg0.N) (h : 6 ≤ t.val % 13) (d) :
    owns (c : Thread nD τ) (st6 t) fullShare ((dats m 0 c).before 6 t d) ⊢ (dats m 0 c).leavesExact 6 t :=
  leaves_found (dats m 0 c) 6 t d ((idle6_iff t).trans (decide_eq_true h)) fun _ => found6 m c t h d

theorem keep7 (c : Dev nD) (t : Fin cfg0.N) (h : t.val % 13 ≤ 5) (d) :
    owns (c : Thread nD τ) (st7 t) fullShare ((dats m 0 c).before 7 t d) ⊢ (dats m 0 c).leavesExact 7 t :=
  leaves_found (dats m 0 c) 7 t d ((idle7_iff t).trans (decide_eq_true h)) fun hf =>
    absurd (of_decide_eq_true ((flush7_iff t).symm.trans hf)) (by omega)

theorem keep8 (c : Dev nD) (t : Fin cfg0.N) (h : ¬ t.val % 13 = 0) (d) :
    owns (c : Thread nD τ) (st8 t) fullShare ((dats m 0 c).before 8 t d) ⊢ (dats m 0 c).leavesExact 8 t :=
  leaves_found (dats m 0 c) 8 t d ((idle8_iff t).trans (decide_eq_true h)) fun _ => found8 m c t h d

theorem store6 (c : Dev nD) (t : Fin cfg0.N) (h : ¬ 6 ≤ t.val % 13) :
    (dats m 0 c).leavesExact 6 t = owns (c : Thread nD τ) (st6 t) fullShare (out6 m c t) :=
  (leaves_live (dats m 0 c) 6 t ((idle6_iff t).trans (decide_eq_false h))).trans (by rw [after6])

theorem store7 (c : Dev nD) (t : Fin cfg0.N) (h : ¬ t.val % 13 ≤ 5) :
    (dats m 0 c).leavesExact 7 t = owns (c : Thread nD τ) (st7 t) fullShare (out7 m c t) :=
  (leaves_live (dats m 0 c) 7 t ((idle7_iff t).trans (decide_eq_false h))).trans (by rw [after7])

theorem store8 (c : Dev nD) (t : Fin cfg0.N) (h : t.val % 13 = 0) :
    (dats m 0 c).leavesExact 8 t = owns (c : Thread nD τ) (st8 t) fullShare (out8 m c t) :=
  (leaves_live (dats m 0 c) 8 t ((idle8_iff t).trans (decide_eq_false (fun hh => hh h)))).trans (by rw [after8])

/-! ## The body at a point -/

def given (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d)))

def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2000000 in
theorem bodyA (c : Dev nD) (t : Fin cfg0.N) (h : t.val % 13 = 0) :
    given m c t ⊢ wp frame (wpE (defs₀ (F := F)) Variants.none c none) Set.univ (bodyAt0 t) (fun _ => returned m c t) := by
  unfold given returned bodyAt0
  simp only [found0, found1, found2, found3, found4, found5]
  rw [leaves_live (dats m 0 c) 0 t (idle_in t).1, after0]
  rw [leaves_live (dats m 0 c) 1 t (idle_in t).2.1, after1]
  rw [leaves_live (dats m 0 c) 2 t (idle_in t).2.2.1, after2]
  rw [leaves_live (dats m 0 c) 3 t (idle_in t).2.2.2.1, after3]
  rw [leaves_live (dats m 0 c) 4 t (idle_in t).2.2.2.2.1, after4]
  rw [leaves_live (dats m 0 c) 5 t (idle_in t).2.2.2.2.2, after5]
  rw [show (dats m 0 c).owesAt () t.succ = (dats m 0 c).owesAt () t.castSucc from rfl]
  rw [inv_first m c t.castSucc h, inv_eq]
  have h0 : inRow t.val 0 = t := by have := inRow_self t; rwa [h] at this
  rw [store6 m c t (by omega)]
  rw [store8 m c t h]
  rw [show out6 m c t = qkTile (k0_pay2 (iblk m c 0 t) (iblk m c 1 t)) (iblk m c 2 t) (iblk m c 5 t) from by
    unfold out6 hRow; rw [if_pos (by omega), h0]]
  rw [show out8 m c t = k0_pay3 (iblk m c 0 t) (iblk m c 1 t) (iblk m c 4 t) from by unfold out8; rw [h0]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) _ _ _ _ _ _ _ _ _ _ _ _ _ _ _ _ _ _ _ _ ((cond1_iff t).mpr (by omega)) ((cond2_iff t).mpr (by omega)) (fun hh => absurd ((cond3_iff t).mp hh) (by omega)) (fun hh => absurd ((cond4_iff t).mp hh) (by omega)) (fun hh => absurd ((cond5_iff t).mp hh) (by omega)) (iblk m c 0 t) (iblk m c 1 t) (iblk m c 2 t) (iblk m c 4 t) (iblk m c 5 t)) Set.univ _)
  isplitl [H0]; · iexact H0
  isplitl [H1]; · iexact H1
  isplitl [H2]; · iexact H2
  isplitl [H4]; · iexact H4
  isplitl [H5]; · iexact H5
  isplitl [H6]; · iexists _; iexact H6
  isplitl [H8]; · iexists _; iexact H8
  isplitl [HS]; · iexact HS
  iintro ⟨H0, H1, H2, H4, H5, H6, H8, HS⟩
  isplitl [HS Hg]
  · iapply (inv_keep m c t)
    rw [show hRow m c t.val = k0_pay2 (iblk m c 0 t) (iblk m c 1 t) from by unfold hRow; rw [h0]]
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep7 m c t (by omega) d7); iexact H7
  iexact H8

set_option maxHeartbeats 2000000 in
theorem bodyB (c : Dev nD) (t : Fin cfg0.N) (h : 1 ≤ t.val % 13 ∧ t.val % 13 ≤ 3) :
    given m c t ⊢ wp frame (wpE (defs₀ (F := F)) Variants.none c none) Set.univ (bodyAt0 t) (fun _ => returned m c t) := by
  unfold given returned bodyAt0
  simp only [found0, found1, found2, found3, found4, found5]
  rw [leaves_live (dats m 0 c) 0 t (idle_in t).1, after0]
  rw [leaves_live (dats m 0 c) 1 t (idle_in t).2.1, after1]
  rw [leaves_live (dats m 0 c) 2 t (idle_in t).2.2.1, after2]
  rw [leaves_live (dats m 0 c) 3 t (idle_in t).2.2.2.1, after3]
  rw [leaves_live (dats m 0 c) 4 t (idle_in t).2.2.2.2.1, after4]
  rw [leaves_live (dats m 0 c) 5 t (idle_in t).2.2.2.2.2, after5]
  rw [show (dats m 0 c).owesAt () t.succ = (dats m 0 c).owesAt () t.castSucc from rfl]
  rw [inv_in m c t.castSucc (show ¬ t.val % 13 = 0 by omega)]
  rw [show hRow m c t.castSucc.val = hRow m c t.val from rfl]
  rw [store6 m c t (by omega)]
  rw [show out6 m c t = qkTile (hRow m c t.val) (iblk m c 2 t) (iblk m c 5 t) from by unfold out6; rw [if_pos h.2]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) _ _ _ _ _ _ _ _ _ _ _ _ _ _ _ _ _ _ _ _ (fun hh => absurd ((cond1_iff t).mp hh) (by omega)) ((cond2_iff t).mpr (by omega)) (fun hh => absurd ((cond3_iff t).mp hh) (by omega)) (fun hh => absurd ((cond4_iff t).mp hh) (by omega)) (fun hh => absurd ((cond5_iff t).mp hh) (by omega)) (iblk m c 2 t) (iblk m c 5 t) (hRow m c t.val)) Set.univ _)
  isplitl [H2]; · iexact H2
  isplitl [H5]; · iexact H5
  isplitl [HS]; · iexact HS
  isplitl [H6]; · iexists _; iexact H6
  iintro ⟨H2, H5, HS, H6⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep7 m c t (by omega) d7); iexact H7
  iapply (keep8 m c t (by omega) d8); iexact H8

set_option maxHeartbeats 2000000 in
theorem bodyC (c : Dev nD) (t : Fin cfg0.N) (h : 4 ≤ t.val % 13 ∧ t.val % 13 ≤ 5) :
    given m c t ⊢ wp frame (wpE (defs₀ (F := F)) Variants.none c none) Set.univ (bodyAt0 t) (fun _ => returned m c t) := by
  unfold given returned bodyAt0
  simp only [found0, found1, found2, found3, found4, found5]
  rw [leaves_live (dats m 0 c) 0 t (idle_in t).1, after0]
  rw [leaves_live (dats m 0 c) 1 t (idle_in t).2.1, after1]
  rw [leaves_live (dats m 0 c) 2 t (idle_in t).2.2.1, after2]
  rw [leaves_live (dats m 0 c) 3 t (idle_in t).2.2.2.1, after3]
  rw [leaves_live (dats m 0 c) 4 t (idle_in t).2.2.2.2.1, after4]
  rw [leaves_live (dats m 0 c) 5 t (idle_in t).2.2.2.2.2, after5]
  rw [show (dats m 0 c).owesAt () t.succ = (dats m 0 c).owesAt () t.castSucc from rfl]
  rw [inv_in m c t.castSucc (show ¬ t.val % 13 = 0 by omega)]
  rw [show hRow m c t.castSucc.val = hRow m c t.val from rfl]
  rw [store6 m c t (by omega)]
  rw [show out6 m c t = vTile (hRow m c t.val) (iblk m c 2 t) from by unfold out6; rw [if_neg (by omega), if_pos h.2]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) _ _ _ _ _ _ _ _ _ _ _ _ _ _ _ _ _ _ _ _ (fun hh => absurd ((cond1_iff t).mp hh) (by omega)) (fun hh => absurd ((cond2_iff t).mp hh) (by omega)) ((cond3_iff t).mpr (by omega)) (fun hh => absurd ((cond4_iff t).mp hh) (by omega)) (fun hh => absurd ((cond5_iff t).mp hh) (by omega)) (iblk m c 2 t) (hRow m c t.val)) Set.univ _)
  isplitl [H2]; · iexact H2
  isplitl [HS]; · iexact HS
  isplitl [H6]; · iexists _; iexact H6
  iintro ⟨H2, HS, H6⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (keep7 m c t (by omega) d7); iexact H7
  iapply (keep8 m c t (by omega) d8); iexact H8

set_option maxHeartbeats 2000000 in
theorem bodyD (c : Dev nD) (t : Fin cfg0.N) (h : 6 ≤ t.val % 13 ∧ t.val % 13 ≤ 7) :
    given m c t ⊢ wp frame (wpE (defs₀ (F := F)) Variants.none c none) Set.univ (bodyAt0 t) (fun _ => returned m c t) := by
  unfold given returned bodyAt0
  simp only [found0, found1, found2, found3, found4, found5]
  rw [leaves_live (dats m 0 c) 0 t (idle_in t).1, after0]
  rw [leaves_live (dats m 0 c) 1 t (idle_in t).2.1, after1]
  rw [leaves_live (dats m 0 c) 2 t (idle_in t).2.2.1, after2]
  rw [leaves_live (dats m 0 c) 3 t (idle_in t).2.2.2.1, after3]
  rw [leaves_live (dats m 0 c) 4 t (idle_in t).2.2.2.2.1, after4]
  rw [leaves_live (dats m 0 c) 5 t (idle_in t).2.2.2.2.2, after5]
  rw [show (dats m 0 c).owesAt () t.succ = (dats m 0 c).owesAt () t.castSucc from rfl]
  rw [inv_in m c t.castSucc (show ¬ t.val % 13 = 0 by omega)]
  rw [show hRow m c t.castSucc.val = hRow m c t.val from rfl]
  rw [store7 m c t (by omega)]
  rw [show out7 m c t = k0_pay7 (hRow m c t.val) (iblk m c 2 t) from by unfold out7; rw [if_pos h.2]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD c (grid0.coords t) _ _ _ _ _ _ _ _ _ _ _ _ _ _ _ _ _ _ _ _ (fun hh => absurd ((cond1_iff t).mp hh) (by omega)) (fun hh => absurd ((cond2_iff t).mp hh) (by omega)) (fun hh => absurd ((cond3_iff t).mp hh) (by omega)) ((cond4_iff t).mpr (by omega)) (fun hh => absurd ((cond5_iff t).mp hh) (by omega)) (iblk m c 2 t) (hRow m c t.val)) Set.univ _)
  isplitl [H2]; · iexact H2
  isplitl [HS]; · iexact HS
  isplitl [H7]; · iexists _; iexact H7
  iintro ⟨H2, HS, H7⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep6 m c t (by omega) d6); iexact H6
  isplitl [H7]; · iexact H7
  iapply (keep8 m c t (by omega) d8); iexact H8

set_option maxHeartbeats 2000000 in
theorem bodyE (c : Dev nD) (t : Fin cfg0.N) (h : 8 ≤ t.val % 13) :
    given m c t ⊢ wp frame (wpE (defs₀ (F := F)) Variants.none c none) Set.univ (bodyAt0 t) (fun _ => returned m c t) := by
  unfold given returned bodyAt0
  simp only [found0, found1, found2, found3, found4, found5]
  rw [leaves_live (dats m 0 c) 0 t (idle_in t).1, after0]
  rw [leaves_live (dats m 0 c) 1 t (idle_in t).2.1, after1]
  rw [leaves_live (dats m 0 c) 2 t (idle_in t).2.2.1, after2]
  rw [leaves_live (dats m 0 c) 3 t (idle_in t).2.2.2.1, after3]
  rw [leaves_live (dats m 0 c) 4 t (idle_in t).2.2.2.2.1, after4]
  rw [leaves_live (dats m 0 c) 5 t (idle_in t).2.2.2.2.2, after5]
  rw [show (dats m 0 c).owesAt () t.succ = (dats m 0 c).owesAt () t.castSucc from rfl]
  rw [inv_in m c t.castSucc (show ¬ t.val % 13 = 0 by omega)]
  rw [show hRow m c t.castSucc.val = hRow m c t.val from rfl]
  rw [store7 m c t (by omega)]
  rw [show out7 m c t = k0_pay8 (hRow m c t.val) (iblk m c 3 t) from by unfold out7; rw [if_neg (by omega)]]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runE c (grid0.coords t) _ _ _ _ _ _ _ _ _ _ _ _ _ _ _ _ _ _ _ _ (fun hh => absurd ((cond1_iff t).mp hh) (by omega)) (fun hh => absurd ((cond2_iff t).mp hh) (by omega)) (fun hh => absurd ((cond3_iff t).mp hh) (by omega)) (fun hh => absurd ((cond4_iff t).mp hh) (by omega)) ((cond5_iff t).mpr (by omega)) (iblk m c 3 t) (hRow m c t.val)) Set.univ _)
  isplitl [H3]; · iexact H3
  isplitl [HS]; · iexact HS
  isplitl [H7]; · iexists _; iexact H7
  iintro ⟨H3, HS, H7⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep6 m c t (by omega) d6); iexact H6
  isplitl [H7]; · iexact H7
  iapply (keep8 m c t (by omega) d8); iexact H8

theorem body_at (c : Dev nD) (t : Fin cfg0.N) :
    given m c t ⊢ wp frame (wpE (defs₀ (F := F)) Variants.none c none) Set.univ (bodyAt0 t) (fun _ => returned m c t) := by
  by_cases h0 : t.val % 13 = 0
  · exact bodyA m c t h0
  by_cases h1 : t.val % 13 ≤ 3
  · exact bodyB m c t ⟨by omega, h1⟩
  by_cases h2 : t.val % 13 ≤ 5
  · exact bodyC m c t ⟨by omega, h2⟩
  by_cases h3 : t.val % 13 ≤ 7
  · exact bodyD m c t ⟨by omega, h3⟩
  · exact bodyE m c t (by omega)

theorem row_eq (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_eq]
  exact triple_restated (body_at m c t) rfl .rfl fun _ => .rfl

/-! ## The launch -/

set_option backward.isDefEq.respectTransparency.types false in
theorem launch_ends : θ_run defs (onTc (τ := τ) (main (F := F))) ⟨m, fun _ => 0, ρ⟩
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m)
    (hin := fun c => by rw [inv_first m c 0 (by rfl)])
    (hout := fun c => by rw [inv_first m c (Fin.last cfg0.N) (by show cfg0.N % 13 = 0; rw [show cfg0.N = 208 from N_0])])

theorem launch_post : θ_run defs (onTc (τ := τ) (main (F := F))) ⟨m, fun _ => 0, ρ⟩ (Pipeline.FramePost cfgs (dats m) 0 (Pipeline.afterTail₀ cfgs (dats m) 0 (V0 m) [hostOps1])) :=
  (θ_run defs _ _).mono (fun _ h => h.1) (launch_ends m ρ)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (launch_post m ρ)

/-- The launch ends with its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (args_kept m ρ) ((θ_run defs _ _).mono (fun _ h => h.2) (launch_ends m ρ))

end Cert.InProjIdeal.Rows

end
-- ==== Proof.RowNorm.lean ====
/-
  Rows divided by the root of their mean square, on the extended reals: the one formula, and that a kernel's vector
  operations compute it.
-/
module

public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.ValueLayoutCasts

@[expose] public section

noncomputable section

open Idealize.ShloMosaic
open Idealize.ShloMosaic.ValueIdx
open scoped BigOperators

namespace Cert.RowNorm

/-- Entry `k` of the row `f` scaled by the reciprocal root of its mean square (`len` the number of entries, as the
    programs' constant writes it) and by the weight `w k`. -/
def unitRow {n : Nat} (len : BitVec 32) (f w : Fin n → EReal) (k : Fin n) : EReal :=
  f k * Ideal.rsqrt (Ideal.div (∑ j, f j * f j) (Ideal.ofBits .f32 len) + Ideal.ofBits .f32 0x358637BD#32) * w k

variable {a b : Nat}

/-- The column of mean squares' reciprocal roots, broadcast along the rows and multiplied in, then the row of weights. -/
theorem normed_apply (len : BitVec 32) (x : FVec Ideal ⟨2, ![a, b]⟩ .f32) (w : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hw : (⟨2, ![1, b]⟩ : Shape).Broadcasts ⟨2, ![a, b]⟩)
    (h1 : a ≠ 1) (r : Fin a) (k : Fin b) :
    (mulf (mulf x (broadcastTo ⟨2, ![a, b]⟩ (rsqrt (addf (divf (shapeCast ⟨2, ![a, 1]⟩ (multiReduction (F := Ideal) .add [1] ⟨1, ![a]⟩ (mulf x x) 0x00000000#32 hr (.inl rfl) rfl) hc)
      (broadcast ⟨2, ![a, 1]⟩ (Scalar.ofBits (F := Ideal) .f32 len))) (broadcast ⟨2, ![a, 1]⟩ (Scalar.ofBits (F := Ideal) .f32 0x358637BD#32)))) hb))
      (broadcastTo ⟨2, ![a, b]⟩ w hw) (ix2 r k) : EReal)
      = unitRow len (fun k => x (ix2 r k)) (fun k => w (ix2 (0 : Fin 1) k)) k := by
  have es : shapeCast ⟨2, ![a, 1]⟩ (multiReduction (F := Ideal) .add [1] ⟨1, ![a]⟩ (mulf x x) 0x00000000#32 hr (.inl rfl) rfl) hc (ix2 r (0 : Fin 1))
      = (∑ j : Fin b, x (ix2 r j) * x (ix2 r j) : EReal) := by
    refine (shapeCast_a_a1_apply _ hc r (0 : Fin 1)).trans ?_
    refine (Ideal.multiReduction_add_single (mulf x x) _ hr _ _ (ix1 r)).trans ?_
    refine Finset.sum_congr rfl fun j _ => ?_
    have e : hr.lift (ix1 r) j = ix2 r j := funext fun c => Fin.ext (match c with | ⟨0, _⟩ => rfl | ⟨1, _⟩ => rfl)
    rw [e]
    rfl
  have eb : broadcastTo ⟨2, ![a, b]⟩ (rsqrt (addf (divf (shapeCast ⟨2, ![a, 1]⟩ (multiReduction (F := Ideal) .add [1] ⟨1, ![a]⟩ (mulf x x) 0x00000000#32 hr (.inl rfl) rfl) hc)
      (broadcast ⟨2, ![a, 1]⟩ (Scalar.ofBits (F := Ideal) .f32 len))) (broadcast ⟨2, ![a, 1]⟩ (Scalar.ofBits (F := Ideal) .f32 0x358637BD#32)))) hb (ix2 r k)
      = Ideal.rsqrt (Ideal.div (∑ j, x (ix2 r j) * x (ix2 r j)) (Ideal.ofBits .f32 len) + Ideal.ofBits .f32 0x358637BD#32) := by
    refine (broadcastTo_apply _ hb (ix2 r k) (ix2 r (0 : Fin 1)) fun c => ?_).trans ?_
    · match c with
      | ⟨0, _⟩ => exact (if_neg h1).symm
      | ⟨1, _⟩ => rfl
    · show Ideal.rsqrt (Ideal.div (shapeCast ⟨2, ![a, 1]⟩ (multiReduction (F := Ideal) .add [1] ⟨1, ![a]⟩ (mulf x x) 0x00000000#32 hr (.inl rfl) rfl) hc (ix2 r (0 : Fin 1))) _ + _) = _
      rw [es]
      rfl
  show (x (ix2 r k) * broadcastTo ⟨2, ![a, b]⟩ _ hb (ix2 r k) * broadcastTo ⟨2, ![a, b]⟩ w hw (ix2 r k) : EReal) = _
  rw [eb, broadcastTo_1b_ab_apply]
  rfl

/-- A block of one head's rows under two unit axes. -/
theorem under_units {α : Type} (x : (⟨2, ![a, b]⟩ : Shape).Idx → α) (h : (⟨2, ![a, b]⟩ : Shape).ShapeCasts ⟨4, ![1, 1, a, b]⟩)
    (i : Fin a) (j : Fin b) : shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp)

end Cert.RowNorm

end
-- ==== Proof.InProjTiles.lean ====
/-
  What the input projection's tiles hold, element by element on the extended reals, and what the launch leaves in its three
  result arrays: normalised rows times the weights, the query and key heads normalised.
-/
module

public import proofs.«01_k».proof.Proof.InProjFrame
public import proofs.«01_k».proof.Proof.RowNorm

@[expose] public section

set_option maxRecDepth 16384

noncomputable section

open Idealize.ShloMosaic Idealize.ShloMosaic.TcCoe Idealize.SL.Sem
open Idealize.ShloMosaic.Pipeline (Dat)
open Idealize.ShloMosaic.ValueIdx
open Cert.RowNorm
open scoped BigOperators

namespace Cert.InProjIdeal.Tiles

open Cert.InProjIdeal Cert.InProjIdeal.Gen Cert.InProjIdeal.Rows

/-! ## The tiles -/

/-- A tile of normalised rows. -/
theorem rows_apply (x : Vec Ideal S1024x2048 .f32) (w : Vec Ideal S1x2048 .f32) (r : Fin 1024) (k : Fin 2048) :
    (k0_pay2 (F := Ideal) x w (ix2 r k) : EReal)
      = unitRow 0x45000000#32 (fun k => (x (ix2 r k) : EReal)) (fun k => (w (ix2 (0 : Fin 1) k) : EReal)) k := by
  unfold k0_pay2 k0_pay1
  simp only [shapeCast_self]
  exact normed_apply (a := 1024) (b := 2048) _ x w _ _ _ _ (by decide) r k

theorem rows_same (x : Vec Ideal S1024x2048 .f32) (w : Vec Ideal S1x2048 .f32) : k0_pay1 (F := Ideal) x w = k0_pay2 (F := Ideal) x w := by
  unfold k0_pay2
  simp only [shapeCast_self]

/-- A product of a tile of rows and a tile of columns, from zero. -/
theorem prod_apply (h : FVec Ideal S1024x2048 .bf16) (w : FVec Ideal S2048x1024 .bf16) (r : Fin 1024) (j : Fin 1024) :
    (matmul (F := Ideal) dot_S1024x2048_S2048x1024_S1024x1024_1_0_0_1_n_n none h w (constant S1024x1024 .f32 0x00000000#32) (ix2 r j) : EReal)
      = ∑ k : Fin 2048, h (ix2 r k) * w (ix2 k j) := by
  refine (Ideal.matmul_plain_apply none h w _ r j).trans ?_
  show Ideal.ofBits .f32 0x00000000#32 + _ = _
  rw [Ideal.ofBits_zero_f32, zero_add]

theorem steps_apply (x : Vec Ideal S1024x2048 .f32) (w : Vec Ideal S1x2048 .f32) (u : Vec Ideal S2048x128 .bf16) (r : Fin 1024) (j : Fin 128) :
    (k0_pay3 (F := Ideal) x w u (ix2 r j) : EReal) = ∑ k : Fin 2048, (k0_pay2 (F := Ideal) x w (ix2 r k) : EReal) * u (ix2 k j) := by
  unfold k0_pay3
  rw [rows_same]
  refine (Ideal.matmul_plain_apply none (k0_pay2 (F := Ideal) x w : FVec Ideal S1024x2048 .bf16) (u : FVec Ideal S2048x128 .bf16) _ r j).trans ?_
  show Ideal.ofBits .f32 0x00000000#32 + _ = _
  rw [Ideal.ofBits_zero_f32, zero_add]

/-- One head of a tile of products, normalised. -/
theorem head_apply (off : Nat) (p : FVec Ideal S1024x1024 .f32) (w : FVec Ideal S1x128 .f32) (hs : S1024x1024.Slices ![0, off] S1024x128)
    (hr : S1024x128.Reduces [1] S1024) (hc : S1024.ShapeCasts S1024x1) (hb : S1024x1.Broadcasts S1024x128) (hw : S1x128.Broadcasts S1024x128)
    (hf : FTy.bits .bf16 < FTy.bits .f32) (h4 : S1024x128.ShapeCasts S1x1x1024x128) (r : Fin 1024) (d : Fin 128) (ho : off + 128 ≤ 1024) :
    (shapeCast S1x1x1024x128 (truncf .bf16 (mulf (mulf (extractStridedSlice S1024x128 ![0, off] p hs) (broadcastTo S1024x128 (rsqrt (addf (divf
      (shapeCast S1024x1 (multiReduction (F := Ideal) .add [1] S1024 (mulf (extractStridedSlice S1024x128 ![0, off] p hs) (extractStridedSlice S1024x128 ![0, off] p hs)) 0x00000000#32 hr (.inl rfl) rfl) hc)
      (broadcast S1024x1 (Scalar.ofBits (F := Ideal) .f32 0x43000000#32))) (broadcast S1024x1 (Scalar.ofBits (F := Ideal) .f32 0x358637BD#32)))) hb))
      (broadcastTo S1024x128 w hw)) hf : FVec Ideal S1024x128 .bf16) h4 (ix4 (0 : Fin 1) (0 : Fin 1) r d) : EReal)
      = unitRow 0x43000000#32 (fun d : Fin 128 => p (ix2 r (⟨off + d.val, by omega⟩ : Fin 1024))) (fun d => w (ix2 (0 : Fin 1) d)) d := by
  refine (under_units (a := 1024) (b := 128) _ h4 r d).trans ?_
  refine (normed_apply (a := 1024) (b := 128) _ (extractStridedSlice S1024x128 ![0, off] p hs) w hr hc hb hw (by decide) r d).trans ?_
  unfold unitRow
  have e (d : Fin 128) : extractStridedSlice S1024x128 ![0, off] p hs (ix2 r d) = p (ix2 r (⟨off + d.val, by omega⟩ : Fin 1024)) :=
    slice2_axis1_eq off p hs r d
  simp only [e]

theorem plain_head_apply (off : Nat) (p : FVec Ideal S1024x1024 .f32) (hs : S1024x1024.Slices ![0, off] S1024x128)
    (hf : FTy.bits .bf16 < FTy.bits .f32) (h4 : S1024x128.ShapeCasts S1x1x1024x128) (r : Fin 1024) (d : Fin 128) (ho : off + 128 ≤ 1024) :
    (shapeCast S1x1x1024x128 (truncf .bf16 (extractStridedSlice S1024x128 ![0, off] p hs) hf : FVec Ideal S1024x128 .bf16) h4 (ix4 (0 : Fin 1) (0 : Fin 1) r d) : EReal)
      = p (ix2 r (⟨off + d.val, by omega⟩ : Fin 1024)) :=
  (under_units (a := 1024) (b := 128) _ h4 r d).trans (slice2_axis1_eq off p hs r d)

/-- The weights of head `a` are the tile's entries from `a` on. -/
theorem headW_apply (qw : FVec Ideal S1x1024 .f32) (a : Nat) (inb) (d : Fin 128) (ho : a + 128 ≤ 1024) :
    headW qw a inb (ix2 (0 : Fin 1) d) = qw (ix2 (0 : Fin 1) (⟨a + d.val, by omega⟩ : Fin 1024)) := by
  refine congrArg qw (funext fun b => Fin.ext ?_)
  match b with
  | ⟨0, _⟩ => rfl
  | ⟨1, _⟩ => show a + 1 * d.val = a + d.val; omega

/-- A tile of eight query or key heads. -/
theorem qk_apply (h : FVec Ideal S1024x2048 .bf16) (w : FVec Ideal S2048x1024 .bf16) (qw : FVec Ideal S1x1024 .f32) (a : Fin 8) (r : Fin 1024) (d : Fin 128) :
    (qkTile (F := Ideal) h w qw (ix4 (0 : Fin 1) a r d) : EReal)
      = unitRow 0x43000000#32 (fun d : Fin 128 => ∑ k : Fin 2048, h (ix2 r k) * w (ix2 k (⟨a.val * 128 + d.val, by omega⟩ : Fin 1024)))
          (fun d : Fin 128 => qw (ix2 (0 : Fin 1) (⟨a.val * 128 + d.val, by omega⟩ : Fin 1024))) d := by
  have fin (off : Nat) (inb) (ho : off + 128 ≤ 1024) (q : FVec Ideal S1024x1024 .f32)
      (hq : q = matmul (F := Ideal) dot_S1024x2048_S2048x1024_S1024x1024_1_0_0_1_n_n none h w (constant S1024x1024 .f32 0x00000000#32)) :
      unitRow 0x43000000#32 (fun d : Fin 128 => (q (ix2 r (⟨off + d.val, by omega⟩ : Fin 1024)) : EReal)) (fun d => (headW qw off inb (ix2 (0 : Fin 1) d) : EReal)) d
        = unitRow 0x43000000#32 (fun d : Fin 128 => ∑ k : Fin 2048, h (ix2 r k) * w (ix2 k (⟨off + d.val, by omega⟩ : Fin 1024)))
          (fun d : Fin 128 => qw (ix2 (0 : Fin 1) (⟨off + d.val, by omega⟩ : Fin 1024))) d := by
    subst hq
    exact congrArg₂ (fun f g => unitRow 0x43000000#32 f g d) (funext fun d => prod_apply h w r _) (funext fun d => headW_apply qw off inb d ho)
  unfold qkTile heads8
  fin_cases a
  · show (k0_pay10 (F := Ideal) h w (headW qw 0 inb_S1x1024_S1x128_0_0) (ix4 (0 : Fin 1) (0 : Fin 1) r d) : EReal) = _
    unfold k0_pay10 k0_pay9
    simp only [shapeCast_self]
    exact (head_apply 0 _ (headW qw 0 _) _ _ _ _ _ _ _ r d (by decide)).trans (fin 0 _ (by decide) _ rfl)
  · show (k0_pay12 (F := Ideal) (k0_pay11 h w (headW qw 128 inb_S1x1024_S1x128_0_128)) (ix4 (0 : Fin 1) (0 : Fin 1) r d) : EReal) = _
    unfold k0_pay12 k0_pay11 k0_pay9
    simp only [shapeCast_self]
    exact (head_apply 128 _ (headW qw 128 _) _ _ _ _ _ _ _ r d (by decide)).trans (fin 128 _ (by decide) _ rfl)
  · show (k0_pay13 (F := Ideal) (k0_pay9 h w) (headW qw 256 inb_S1x1024_S1x128_0_256) (ix4 (0 : Fin 1) (0 : Fin 1) r d) : EReal) = _
    unfold k0_pay13 k0_pay9
    simp only [shapeCast_self]
    exact (head_apply 256 _ (headW qw 256 _) _ _ _ _ _ _ _ r d (by decide)).trans (fin 256 _ (by decide) _ rfl)
  · show (k0_pay15 (F := Ideal) (k0_pay14 (k0_pay9 h w) (headW qw 384 inb_S1x1024_S1x128_0_384)) (ix4 (0 : Fin 1) (0 : Fin 1) r d) : EReal) = _
    unfold k0_pay15 k0_pay14 k0_pay9
    simp only [shapeCast_self]
    exact (head_apply 384 _ (headW qw 384 _) _ _ _ _ _ _ _ r d (by decide)).trans (fin 384 _ (by decide) _ rfl)
  · show (k0_pay16 (F := Ideal) (k0_pay9 h w) (headW qw 512 inb_S1x1024_S1x128_0_512) (ix4 (0 : Fin 1) (0 : Fin 1) r d) : EReal) = _
    unfold k0_pay16 k0_pay9
    simp only [shapeCast_self]
    exact (head_apply 512 _ (headW qw 512 _) _ _ _ _ _ _ _ r d (by decide)).trans (fin 512 _ (by decide) _ rfl)
  · show (k0_pay18 (F := Ideal) (k0_pay17 (k0_pay9 h w) (headW qw 640 inb_S1x1024_S1x128_0_640)) (ix4 (0 : Fin 1) (0 : Fin 1) r d) : EReal) = _
    unfold k0_pay18 k0_pay17 k0_pay9
    simp only [shapeCast_self]
    exact (head_apply 640 _ (headW qw 640 _) _ _ _ _ _ _ _ r d (by decide)).trans (fin 640 _ (by decide) _ rfl)
  · show (k0_pay19 (F := Ideal) (k0_pay9 h w) (headW qw 768 inb_S1x1024_S1x128_0_768) (ix4 (0 : Fin 1) (0 : Fin 1) r d) : EReal) = _
    unfold k0_pay19 k0_pay9
    simp only [shapeCast_self]
    exact (head_apply 768 _ (headW qw 768 _) _ _ _ _ _ _ _ r d (by decide)).trans (fin 768 _ (by decide) _ rfl)
  · show (k0_pay20 (F := Ideal) (k0_pay9 h w) (headW qw 896 inb_S1x1024_S1x128_0_896) (ix4 (0 : Fin 1) (0 : Fin 1) r d) : EReal) = _
    unfold k0_pay20 k0_pay9
    simp only [shapeCast_self]
    exact (head_apply 896 _ (headW qw 896 _) _ _ _ _ _ _ _ r d (by decide)).trans (fin 896 _ (by decide) _ rfl)

/-- A tile of eight value heads. -/
theorem v_apply (h : FVec Ideal S1024x2048 .bf16) (w : FVec Ideal S2048x1024 .bf16) (a : Fin 8) (r : Fin 1024) (d : Fin 128) :
    (vTile (F := Ideal) h w (ix4 (0 : Fin 1) a r d) : EReal) = ∑ k : Fin 2048, h (ix2 r k) * w (ix2 k (⟨a.val * 128 + d.val, by omega⟩ : Fin 1024)) := by
  unfold vTile heads8
  fin_cases a
  · show (k0_pay22 (F := Ideal) h w (ix4 (0 : Fin 1) (0 : Fin 1) r d) : EReal) = _
    unfold k0_pay22 k0_pay21
    exact (plain_head_apply 0 _ _ _ _ r d (by decide)).trans (prod_apply h w r _)
  · show (k0_pay23 (F := Ideal) h w (ix4 (0 : Fin 1) (0 : Fin 1) r d) : EReal) = _
    unfold k0_pay23 k0_pay21
    exact (plain_head_apply 128 _ _ _ _ r d (by decide)).trans (prod_apply h w r _)
  · show (k0_pay24 (F := Ideal) h w (ix4 (0 : Fin 1) (0 : Fin 1) r d) : EReal) = _
    unfold k0_pay24 k0_pay21
    exact (plain_head_apply 256 _ _ _ _ r d (by decide)).trans (prod_apply h w r _)
  · show (k0_pay25 (F := Ideal) h w (ix4 (0 : Fin 1) (0 : Fin 1) r d) : EReal) = _
    unfold k0_pay25 k0_pay21
    exact (plain_head_apply 384 _ _ _ _ r d (by decide)).trans (prod_apply h w r _)
  · show (k0_pay26 (F := Ideal) h w (ix4 (0 : Fin 1) (0 : Fin 1) r d) : EReal) = _
    unfold k0_pay26 k0_pay21
    exact (plain_head_apply 512 _ _ _ _ r d (by decide)).trans (prod_apply h w r _)
  · show (k0_pay4 (F := Ideal) (k0_pay27 h w) (ix4 (0 : Fin 1) (0 : Fin 1) r d) : EReal) = _
    unfold k0_pay4 k0_pay27 k0_pay21
    exact (plain_head_apply 640 _ _ _ _ r d (by decide)).trans (prod_apply h w r _)
  · show (k0_pay5 (F := Ideal) (k0_pay21 h w) (ix4 (0 : Fin 1) (0 : Fin 1) r d) : EReal) = _
    unfold k0_pay5 k0_pay21
    exact (plain_head_apply 768 _ _ _ _ r d (by decide)).trans (prod_apply h w r _)
  · show (k0_pay6 (F := Ideal) (k0_pay21 h w) (ix4 (0 : Fin 1) (0 : Fin 1) r d) : EReal) = _
    unfold k0_pay6 k0_pay21
    exact (plain_head_apply 896 _ _ _ _ r d (by decide)).trans (prod_apply h w r _)

theorem gate_apply (h : FVec Ideal S1024x2048 .bf16) (w : FVec Ideal S2048x1024 .bf16) (r : Fin 1024) (j : Fin 1024) :
    (k0_pay7 (F := Ideal) h w (ix2 r j) : EReal) = ∑ k : Fin 2048, h (ix2 r k) * w (ix2 k j) := by
  unfold k0_pay7; exact prod_apply h w r j

theorem rest_apply (h : FVec Ideal S1024x2048 .bf16) (w : FVec Ideal S2048x1024 .bf16) (r : Fin 1024) (j : Fin 1024) :
    (k0_pay8 (F := Ideal) h w (ix2 r j) : EReal) = ∑ k : Fin 2048, h (ix2 r k) * w (ix2 k j) := by
  unfold k0_pay8; exact prod_apply h w r j

/-! ## What the launch finds -/

variable (m : (ℓ : Loc nD τ sig) → Buf (Elt Ideal) ℓ) (ρ : Dev nD → PrngReg)

theorem found_x (c : Dev nD) : V (F := Ideal) m c main_v10
    = shapeCast S16384x2048 (m ((c : Thread nD τ).loc main_arg0)) shapeCasts_S1x16384x2048_S16384x2048 := by
  show StableHlo.after hostOps0 _ (Proc.devRef .tc main_v10) = _
  after_results
  rfl

theorem x_apply (c : Dev nD) (r : Fin 16384) (k : Fin 2048) :
    V (F := Ideal) m c main_v10 (ix2 r k) = m ((c : Thread nD τ).loc main_arg0) (ix3 (0 : Fin 1) r k) := by
  rw [found_x]; exact shapeCast_1ab_ab_apply _ _ r k

theorem found_w (c : Dev nD) : V (F := Ideal) m c main_v12
    = shapeCast S1x2048 (shapeCast S2048 (m ((c : Thread nD τ).loc main_arg1)) shapeCasts_S1x2048_S2048) shapeCasts_S2048_S1x2048 := by
  show StableHlo.after hostOps0 _ (Proc.devRef .tc main_v12) = _
  after_results
  rfl

theorem w_apply (c : Dev nD) (k : Fin 2048) :
    V (F := Ideal) m c main_v12 (ix2 (0 : Fin 1) k) = m ((c : Thread nD τ).loc main_arg1) (ix2 (0 : Fin 1) k) := by
  rw [found_w]; exact (shapeCast_a_1a_apply _ _ (0 : Fin 1) k).trans (shapeCast_1a_a_apply _ _ k)

/-- One head's weights sixteen times over. -/
abbrev spread (w : S1x128.Idx → EReal) : S2048.Idx → EReal :=
  shapeCast S2048 (broadcastInDim S16x128 ![0, 1] bcast_S1x128_S16x128_0_1 (shapeCast S1x128 (shapeCast S128 w shapeCasts_S1x128_S128) shapeCasts_S128_S1x128)) shapeCasts_S16x128_S2048

theorem spread_apply (w : S1x128.Idx → EReal) (h : Fin 16) (d : Fin 128) :
    spread w (ix1 (⟨h.val * 128 + d.val, by omega⟩ : Fin 2048)) = w (ix2 (0 : Fin 1) d) := by
  refine (shapeCast_apply _ _ _ (ix2 h d) ?_).trans ?_
  · rw [Shape.rowMajor_val_two, Shape.rowMajor_val_one]; rfl
  refine (broadcastInDim_apply _ _ _ _ (ix2 (0 : Fin 1) d) fun a => ?_).trans ?_
  · match a with
    | ⟨0, _⟩ => rfl
    | ⟨1, _⟩ => rfl
  exact (shapeCast_a_1a_apply _ _ (0 : Fin 1) d).trans (shapeCast_1a_a_apply _ _ d)

theorem found_qk (c : Dev nD) : V (F := Ideal) m c main_v9
    = shapeCast S1x4096 (concatenate S4096 0 [⟨S2048, spread (m ((c : Thread nD τ).loc main_arg5))⟩, ⟨S2048, spread (m ((c : Thread nD τ).loc main_arg6))⟩]
        concatenates_S2048_S2048_S4096_d0) shapeCasts_S4096_S1x4096 := by
  show StableHlo.after hostOps0 _ (Proc.devRef .tc main_v9) = _
  after_results
  rfl

theorem q_weight (c : Dev nD) (h : Fin 16) (d : Fin 128) :
    V (F := Ideal) m c main_v9 (ix2 (0 : Fin 1) (⟨h.val * 128 + d.val, by omega⟩ : Fin 4096)) = m ((c : Thread nD τ).loc main_arg5) (ix2 (0 : Fin 1) d) := by
  rw [found_qk]
  refine (shapeCast_a_1a_apply _ _ (0 : Fin 1) _).trans ?_
  refine (concatenate_pair_apply_left (t := S4096) (s₁ := S2048) (s₂ := S2048) 0 _ _ _ _ rfl (ix1 (⟨h.val * 128 + d.val, by omega⟩ : Fin 2048)) fun b => ?_).trans (spread_apply _ h d)
  match b with
  | ⟨0, _⟩ => rfl

theorem k_weight (c : Dev nD) (h : Fin 16) (d : Fin 128) :
    V (F := Ideal) m c main_v9 (ix2 (0 : Fin 1) (⟨2048 + (h.val * 128 + d.val), by omega⟩ : Fin 4096)) = m ((c : Thread nD τ).loc main_arg6) (ix2 (0 : Fin 1) d) := by
  rw [found_qk]
  refine (shapeCast_a_1a_apply _ _ (0 : Fin 1) _).trans ?_
  refine (concatenate_pair_apply_right (t := S4096) (s₁ := S2048) (s₂ := S2048) 0 _ _ _ _ rfl rfl (ix1 (⟨h.val * 128 + d.val, by omega⟩ : Fin 2048)) (fun b hb => ?_) ?_).trans (spread_apply _ h d)
  · match b with
    | ⟨0, _⟩ => exact absurd rfl hb
  · show h.val * 128 + d.val + 2048 = 2048 + (h.val * 128 + d.val)
    omega

/-! ## The blocks -/

theorem idx_in : ∀ t : Fin grid0.N,
    (win0_0.index t 0 = t.val / 13 ∧ win0_0.index t 1 = 0) ∧ (win0_1.index t 0 = 0 ∧ win0_1.index t 1 = 0)
    ∧ (win0_2.index t 0 = 0 ∧ win0_2.index t 1 = min (t.val % 13) 7) ∧ (win0_3.index t 0 = 0 ∧ win0_3.index t 1 = t.val % 13 - 8)
    ∧ (win0_4.index t 0 = 0 ∧ win0_4.index t 1 = 0) ∧ (win0_5.index t 0 = 0 ∧ win0_5.index t 1 = min (t.val % 13) 3) := by decide +kernel

theorem idx_out : ∀ t : Fin grid0.N,
    (win0_6.index t 0 = (if t.val % 13 ≤ 1 then 2 else if t.val % 13 ≤ 3 then 0 else 1) ∧ win0_6.index t 1 = min (t.val % 13) 5 % 2
      ∧ win0_6.index t 2 = t.val / 13 ∧ win0_6.index t 3 = 0)
    ∧ (win0_7.index t 0 = t.val / 13 ∧ win0_7.index t 1 = t.val % 13 - 6)
    ∧ (win0_8.index t 0 = t.val / 13 ∧ win0_8.index t 1 = 0) := by decide +kernel

theorem blk0 (c : Dev nD) (t : Fin cfg0.N) (r : Fin 1024) (k : Fin 2048) :
    iblk (F := Ideal) m c 0 t (ix2 r k) = m ((c : Thread nD τ).loc main_arg0) (ix3 (0 : Fin 1) (⟨t.val / 13 * 1024 + r.val, by have := val_lt t; omega⟩ : Fin 16384) k) := by
  refine Eq.trans ?_ (x_apply m c _ k)
  unfold iblk
  refine congrArg (V (F := Ideal) m c main_v10) (funext fun a => Fin.ext ?_)
  have h0 := (idx_in t).1
  match a with
  | ⟨0, _⟩ => show win0_0.index t 0 * 1024 + 1 * r.val = t.val / 13 * 1024 + r.val; rw [h0.1]; omega
  | ⟨1, _⟩ => show win0_0.index t 1 * 2048 + 1 * k.val = k.val; rw [h0.2]; omega

theorem blk1 (c : Dev nD) (t : Fin cfg0.N) (k : Fin 2048) :
    iblk (F := Ideal) m c 1 t (ix2 (0 : Fin 1) k) = m ((c : Thread nD τ).loc main_arg1) (ix2 (0 : Fin 1) k) := by
  refine Eq.trans ?_ (w_apply m c k)
  unfold iblk
  refine congrArg (V (F := Ideal) m c main_v12) (funext fun a => Fin.ext ?_)
  have h0 := (idx_in t).2.1
  match a with
  | ⟨0, _⟩ => show win0_1.index t 0 * 1 + 1 * 0 = 0; rw [h0.1]
  | ⟨1, _⟩ => show win0_1.index t 1 * 2048 + 1 * k.val = k.val; rw [h0.2]; omega

theorem blk2 (c : Dev nD) (t : Fin cfg0.N) (k : Fin 2048) (j : Fin 1024) :
    iblk (F := Ideal) m c 2 t (ix2 k j) = m ((c : Thread nD τ).loc main_arg2) (ix2 k (⟨min (t.val % 13) 7 * 1024 + j.val, by omega⟩ : Fin 8192)) := by
  refine Eq.trans ?_ (congrFun (V_main_arg2 m c) _)
  unfold iblk
  refine congrArg (V (F := Ideal) m c main_arg2) (funext fun a => Fin.ext ?_)
  have h0 := (idx_in t).2.2.1
  match a with
  | ⟨0, _⟩ => show win0_2.index t 0 * 2048 + 1 * k.val = k.val; rw [h0.1]; omega
  | ⟨1, _⟩ => show win0_2.index t 1 * 1024 + 1 * j.val = min (t.val % 13) 7 * 1024 + j.val; rw [h0.2]; omega

theorem blk3 (c : Dev nD) (t : Fin cfg0.N) (k : Fin 2048) (j : Fin 1024) :
    iblk (F := Ideal) m c 3 t (ix2 k j) = m ((c : Thread nD τ).loc main_arg3) (ix2 k (⟨(t.val % 13 - 8) * 1024 + j.val, by omega⟩ : Fin 5120)) := by
  refine Eq.trans ?_ (congrFun (V_main_arg3 m c) _)
  unfold iblk
  refine congrArg (V (F := Ideal) m c main_arg3) (funext fun a => Fin.ext ?_)
  have h0 := (idx_in t).2.2.2.1
  match a with
  | ⟨0, _⟩ => show win0_3.index t 0 * 2048 + 1 * k.val = k.val; rw [h0.1]; omega
  | ⟨1, _⟩ => show win0_3.index t 1 * 1024 + 1 * j.val = (t.val % 13 - 8) * 1024 + j.val; rw [h0.2]; omega

theorem blk4 (c : Dev nD) (t : Fin cfg0.N) (k : Fin 2048) (j : Fin 128) :
    iblk (F := Ideal) m c 4 t (ix2 k j) = m ((c : Thread nD τ).loc main_arg4) (ix2 k j) := by
  refine Eq.trans ?_ (congrFun (V_main_arg4 m c) _)
  unfold iblk
  refine congrArg (V (F := Ideal) m c main_arg4) (funext fun a => Fin.ext ?_)
  have h0 := (idx_in t).2.2.2.2.1
  match a with
  | ⟨0, _⟩ => show win0_4.index t 0 * 2048 + 1 * k.val = k.val; rw [h0.1]; omega
  | ⟨1, _⟩ => show win0_4.index t 1 * 128 + 1 * j.val = j.val; rw [h0.2]; omega

theorem blk5 (c : Dev nD) (t : Fin cfg0.N) (j : Fin 1024) :
    iblk (F := Ideal) m c 5 t (ix2 (0 : Fin 1) j) = V (F := Ideal) m c main_v9 (ix2 (0 : Fin 1) (⟨min (t.val % 13) 3 * 1024 + j.val, by omega⟩ : Fin 4096)) := by
  refine Eq.trans ?_ (Eq.refl _)
  unfold iblk
  refine congrArg (V (F := Ideal) m c main_v9) (funext fun a => Fin.ext ?_)
  have h0 := (idx_in t).2.2.2.2.2
  match a with
  | ⟨0, _⟩ => show win0_5.index t 0 * 1 + 1 * 0 = 0; rw [h0.1]
  | ⟨1, _⟩ => show win0_5.index t 1 * 1024 + 1 * j.val = min (t.val % 13) 3 * 1024 + j.val; rw [h0.2]; omega

/-! ## The result arrays -/

/-- Normalised rows of the input. -/
def rowH (x0 : S1x16384x2048.Idx → EReal) (x1 : S1x2048.Idx → EReal) (r : Fin 16384) : Fin 2048 → EReal :=
  unitRow 0x45000000#32 (fun k => x0 (ix3 (0 : Fin 1) r k)) (fun k => x1 (ix2 (0 : Fin 1) k))

/-- Normalised rows times column `j` of a weight matrix. -/
def rowP {n : Nat} (x0 : S1x16384x2048.Idx → EReal) (x1 : S1x2048.Idx → EReal) (u : (⟨2, ![2048, n]⟩ : Shape).Idx → EReal) (r : Fin 16384) (j : Fin n) : EReal :=
  ∑ k : Fin 2048, rowH x0 x1 r k * u (ix2 k j)

/-- A normalised head of queries (`off` 0) or keys (`off` 2048). -/
def rowQ (x0 : S1x16384x2048.Idx → EReal) (x1 : S1x2048.Idx → EReal) (x2 : S2048x8192.Idx → EReal) (w : S1x128.Idx → EReal)
    (off : Nat) (ho : off ≤ 2048) (r : Fin 16384) (h : Fin 16) : Fin 128 → EReal :=
  unitRow 0x43000000#32 (fun d => rowP x0 x1 x2 r (⟨off + (h.val * 128 + d.val), by omega⟩ : Fin 8192)) (fun d => w (ix2 (0 : Fin 1) d))

/-- Keys, values and queries, by head. -/
def heads (x0 : S1x16384x2048.Idx → EReal) (x1 : S1x2048.Idx → EReal) (x2 : S2048x8192.Idx → EReal) (x5 x6 : S1x128.Idx → EReal) : S3x16x16384x128.Idx → EReal :=
  fun i => if (i 0).val = 0 then rowQ x0 x1 x2 x6 2048 (le_refl _) (i 2) (i 1) (i 3)
    else if (i 0).val = 1 then rowP x0 x1 x2 (i 2) (⟨4096 + ((i 1).val * 128 + (i 3).val), by
      have h1 : (i 1).val < 16 := (i 1).isLt
      have h3 : (i 3).val < 128 := (i 3).isLt
      omega⟩ : Fin 8192)
    else rowQ x0 x1 x2 x5 0 (Nat.zero_le _) (i 2) (i 1) (i 3)

/-- The gate's columns, then the recurrence's. -/
def rest (x0 : S1x16384x2048.Idx → EReal) (x1 : S1x2048.Idx → EReal) (x2 : S2048x8192.Idx → EReal) (x3 : S2048x5120.Idx → EReal) : S16384x7168.Idx → EReal :=
  fun i => if h : (i 1).val < 2048 then rowP x0 x1 x2 (i 0) (⟨6144 + (i 1).val, by omega⟩ : Fin 8192)
    else rowP x0 x1 x3 (i 0) (⟨(i 1).val - 2048, by have h1 : (i 1).val < 7168 := (i 1).isLt; omega⟩ : Fin 5120)

/-- The time steps. -/
def steps (x0 : S1x16384x2048.Idx → EReal) (x1 : S1x2048.Idx → EReal) (x4 : S2048x128.Idx → EReal) : S16384x128.Idx → EReal :=
  fun i => rowP x0 x1 x4 (i 0) (i 1)

theorem heads_at (x0 : S1x16384x2048.Idx → EReal) (x1 : S1x2048.Idx → EReal) (x2 : S2048x8192.Idx → EReal) (x5 x6 : S1x128.Idx → EReal)
    (p : Fin 3) (g : Fin 16) (r : Fin 16384) (d : Fin 128) :
    heads x0 x1 x2 x5 x6 (ix4 p g r d) = if p.val = 0 then rowQ x0 x1 x2 x6 2048 (le_refl _) r g d
      else if p.val = 1 then rowP x0 x1 x2 r (⟨4096 + (g.val * 128 + d.val), by omega⟩ : Fin 8192)
      else rowQ x0 x1 x2 x5 0 (Nat.zero_le _) r g d := rfl

theorem rest_at (x0 : S1x16384x2048.Idx → EReal) (x1 : S1x2048.Idx → EReal) (x2 : S2048x8192.Idx → EReal) (x3 : S2048x5120.Idx → EReal)
    (r : Fin 16384) (j : Fin 7168) :
    rest x0 x1 x2 x3 (ix2 r j) = if h : j.val < 2048 then rowP x0 x1 x2 r (⟨6144 + j.val, by omega⟩ : Fin 8192)
      else rowP x0 x1 x3 r (⟨j.val - 2048, by omega⟩ : Fin 5120) := rfl

abbrev G6 (c : Dev nD) : Buf (Elt Ideal) ((c : Thread nD τ).loc main_v13_0) :=
  heads (m ((c : Thread nD τ).loc main_arg0)) (m ((c : Thread nD τ).loc main_arg1)) (m ((c : Thread nD τ).loc main_arg2)) (m ((c : Thread nD τ).loc main_arg5)) (m ((c : Thread nD τ).loc main_arg6))
abbrev G7 (c : Dev nD) : Buf (Elt Ideal) ((c : Thread nD τ).loc main_v13_1) :=
  rest (m ((c : Thread nD τ).loc main_arg0)) (m ((c : Thread nD τ).loc main_arg1)) (m ((c : Thread nD τ).loc main_arg2)) (m ((c : Thread nD τ).loc main_arg3))
abbrev G8 (c : Dev nD) : Buf (Elt Ideal) ((c : Thread nD τ).loc main_v13_2) :=
  steps (m ((c : Thread nD τ).loc main_arg0)) (m ((c : Thread nD τ).loc main_arg1)) (m ((c : Thread nD τ).loc main_arg4))

/-- What the scratch buffer holds in a row of the grid. -/
theorem hRow_apply (c : Dev nD) (t : Fin cfg0.N) (r : Fin 1024) (k : Fin 2048) :
    (hRow (F := Ideal) m c t.val (ix2 r k) : EReal)
      = rowH (m ((c : Thread nD τ).loc main_arg0)) (m ((c : Thread nD τ).loc main_arg1)) (⟨t.val / 13 * 1024 + r.val, by have := val_lt t; omega⟩ : Fin 16384) k := by
  unfold hRow rowH
  refine (rows_apply _ _ r k).trans ?_
  refine congrArg₂ (fun f g => unitRow 0x45000000#32 f g k) (funext fun k => ?_) (funext fun k => blk1 m c _ k)
  refine (blk0 m c _ r k).trans ?_
  have hv := val_lt t
  have e : (inRow t.val 0).val / 13 = t.val / 13 := by show (13 * (t.val / 13 % 16) + 0 % 13) / 13 = _; omega
  simp only [e]

theorem prodRow (c : Dev nD) (t s : Fin cfg0.N) (r : Fin 1024) (j : Fin 1024) :
    (∑ k : Fin 2048, (hRow (F := Ideal) m c t.val (ix2 r k) : EReal) * iblk (F := Ideal) m c 2 s (ix2 k j))
      = rowP (m ((c : Thread nD τ).loc main_arg0)) (m ((c : Thread nD τ).loc main_arg1)) (m ((c : Thread nD τ).loc main_arg2))
          (⟨t.val / 13 * 1024 + r.val, by have := val_lt t; omega⟩ : Fin 16384) (⟨min (s.val % 13) 7 * 1024 + j.val, by omega⟩ : Fin 8192) := by
  unfold rowP
  exact Finset.sum_congr rfl fun k _ => congrArg₂ (· * ·) (hRow_apply m c t r k) (blk2 m c s k j)

theorem prodRest (c : Dev nD) (t : Fin cfg0.N) (r : Fin 1024) (j : Fin 1024) :
    (∑ k : Fin 2048, (hRow (F := Ideal) m c t.val (ix2 r k) : EReal) * iblk (F := Ideal) m c 3 t (ix2 k j))
      = rowP (m ((c : Thread nD τ).loc main_arg0)) (m ((c : Thread nD τ).loc main_arg1)) (m ((c : Thread nD τ).loc main_arg3))
          (⟨t.val / 13 * 1024 + r.val, by have := val_lt t; omega⟩ : Fin 16384) (⟨(t.val % 13 - 8) * 1024 + j.val, by omega⟩ : Fin 5120) := by
  unfold rowP
  exact Finset.sum_congr rfl fun k _ => congrArg₂ (· * ·) (hRow_apply m c t r k) (blk3 m c t k j)

/-- Where an element of an output block lies in its array. -/
theorem at6 (c : Dev nD) (t : Fin cfg0.N) (X : S3x16x16384x128.Idx → EReal) (z : Fin 1) (a : Fin 8) (r : Fin 1024) (d : Fin 128) :
    ((cfg0.win 6).blk t).view.read (Elt Ideal) X (ix4 z a r d)
      = X (ix4 (⟨(if t.val % 13 ≤ 1 then 2 else if t.val % 13 ≤ 3 then 0 else 1), by split <;> [omega; split <;> omega]⟩ : Fin 3)
          (⟨min (t.val % 13) 5 % 2 * 8 + a.val, by omega⟩ : Fin 16) (⟨t.val / 13 * 1024 + r.val, by have := val_lt t; omega⟩ : Fin 16384) d) := by
  refine congrArg X (funext fun b => Fin.ext ?_)
  obtain ⟨⟨h0, h1, h2, h3⟩, -⟩ := idx_out t
  match b with
  | ⟨0, _⟩ => show win0_6.index t 0 * 1 + 1 * z.val = (if t.val % 13 ≤ 1 then 2 else if t.val % 13 ≤ 3 then 0 else 1); rw [h0]; have := z.isLt; omega
  | ⟨1, _⟩ => show win0_6.index t 1 * 8 + 1 * a.val = min (t.val % 13) 5 % 2 * 8 + a.val; rw [h1]; omega
  | ⟨2, _⟩ => show win0_6.index t 2 * 1024 + 1 * r.val = t.val / 13 * 1024 + r.val; rw [h2]; omega
  | ⟨3, _⟩ => show win0_6.index t 3 * 128 + 1 * d.val = d.val; rw [h3]; omega

theorem at7 (c : Dev nD) (t : Fin cfg0.N) (X : S16384x7168.Idx → EReal) (r : Fin 1024) (j : Fin 1024) :
    ((cfg0.win 7).blk t).view.read (Elt Ideal) X (ix2 r j)
      = X (ix2 (⟨t.val / 13 * 1024 + r.val, by have := val_lt t; omega⟩ : Fin 16384) (⟨(t.val % 13 - 6) * 1024 + j.val, by omega⟩ : Fin 7168)) := by
  refine congrArg X (funext fun b => Fin.ext ?_)
  obtain ⟨-, ⟨h0, h1⟩, -⟩ := idx_out t
  match b with
  | ⟨0, _⟩ => show win0_7.index t 0 * 1024 + 1 * r.val = t.val / 13 * 1024 + r.val; rw [h0]; omega
  | ⟨1, _⟩ => show win0_7.index t 1 * 1024 + 1 * j.val = (t.val % 13 - 6) * 1024 + j.val; rw [h1]; omega

theorem at8 (c : Dev nD) (t : Fin cfg0.N) (X : S16384x128.Idx → EReal) (r : Fin 1024) (j : Fin 128) :
    ((cfg0.win 8).blk t).view.read (Elt Ideal) X (ix2 r j)
      = X (ix2 (⟨t.val / 13 * 1024 + r.val, by have := val_lt t; omega⟩ : Fin 16384) j) := by
  refine congrArg X (funext fun b => Fin.ext ?_)
  obtain ⟨-, -, ⟨h0, h1⟩⟩ := idx_out t
  match b with
  | ⟨0, _⟩ => show win0_8.index t 0 * 1024 + 1 * r.val = t.val / 13 * 1024 + r.val; rw [h0]; omega
  | ⟨1, _⟩ => show win0_8.index t 1 * 128 + 1 * j.val = j.val; rw [h1]; omega

/-- A query/key tile, in terms of the arrays. -/
theorem qk_tile (c : Dev nD) (t : Fin cfg0.N) (h3 : t.val % 13 ≤ 3) (a : Fin 8) (r : Fin 1024) (d : Fin 128)
    (w : S1x128.Idx → EReal) (off : Nat) (ho : off ≤ 2048) (g : Fin 16) (hg : off + (g.val * 128) = t.val % 13 * 1024 + a.val * 128)
    (hw : ∀ d : Fin 128, V (F := Ideal) m c main_v9 (ix2 (0 : Fin 1) (⟨off + (g.val * 128 + d.val), by omega⟩ : Fin 4096)) = w (ix2 (0 : Fin 1) d)) :
    (qkTile (F := Ideal) (hRow m c t.val) (iblk m c 2 t) (iblk m c 5 t) (ix4 (0 : Fin 1) a r d) : EReal)
      = rowQ (m ((c : Thread nD τ).loc main_arg0)) (m ((c : Thread nD τ).loc main_arg1)) (m ((c : Thread nD τ).loc main_arg2)) w off ho
          (⟨t.val / 13 * 1024 + r.val, by have := val_lt t; omega⟩ : Fin 16384) g d := by
  refine (qk_apply _ _ _ a r d).trans ?_
  unfold rowQ
  refine congrArg₂ (fun f g => unitRow 0x43000000#32 f g d) (funext fun d => ?_) (funext fun d => ?_)
  · refine (prodRow m c t t r _).trans (congrArg _ (Fin.ext ?_))
    show min (t.val % 13) 7 * 1024 + (a.val * 128 + d.val) = off + (g.val * 128 + d.val)
    omega
  · refine (blk5 m c t _).trans (Eq.trans (congrArg _ (congrArg _ (Fin.ext ?_))) (hw d))
    show min (t.val % 13) 3 * 1024 + (a.val * 128 + d.val) = off + (g.val * 128 + d.val)
    omega

/-- A value tile, in terms of the arrays. -/
theorem v_tile (c : Dev nD) (t s : Fin cfg0.N) (hs : s.val % 13 ≤ 5) (h4 : 4 ≤ s.val % 13) (a : Fin 8) (r : Fin 1024) (d : Fin 128) :
    (vTile (F := Ideal) (hRow m c t.val) (iblk m c 2 s) (ix4 (0 : Fin 1) a r d) : EReal)
      = rowP (m ((c : Thread nD τ).loc main_arg0)) (m ((c : Thread nD τ).loc main_arg1)) (m ((c : Thread nD τ).loc main_arg2))
          (⟨t.val / 13 * 1024 + r.val, by have := val_lt t; omega⟩ : Fin 16384) (⟨4096 + ((s.val % 13 % 2 * 8 + a.val) * 128 + d.val), by omega⟩ : Fin 8192) := by
  refine (v_apply _ _ a r d).trans ((prodRow m c t s r _).trans (congrArg _ (Fin.ext ?_)))
  show min (s.val % 13) 7 * 1024 + (a.val * 128 + d.val) = 4096 + ((s.val % 13 % 2 * 8 + a.val) * 128 + d.val)
  omega

/-- Every tile of heads written back is its block of the array. -/
theorem out6_apply (c : Dev nD) (t : Fin cfg0.N) (a : Fin 8) (r : Fin 1024) (d : Fin 128) :
    (out6 (F := Ideal) m c t (ix4 (0 : Fin 1) a r d) : EReal) = ((cfg0.win 6).blk t).view.read (Elt Ideal) (G6 m c) (ix4 (0 : Fin 1) a r d) := by
  rw [at6 c]
  refine Eq.trans ?_ (heads_at _ _ _ _ _ _ _ _ _).symm
  unfold out6
  by_cases h1 : t.val % 13 ≤ 1
  · simp only [if_pos (by omega : t.val % 13 ≤ 3), if_pos h1, Nat.reduceEqDiff, reduceIte]
    refine qk_tile m c t (by omega) a r d _ 0 (Nat.zero_le _) _ ?_ fun d => ?_
    · show 0 + (min (t.val % 13) 5 % 2 * 8 + a.val) * 128 = _; omega
    · refine Eq.trans (congrArg _ (congrArg _ (Fin.ext ?_))) (q_weight m c (⟨min (t.val % 13) 5 % 2 * 8 + a.val, by omega⟩ : Fin 16) d)
      exact Nat.zero_add _
  by_cases h3 : t.val % 13 ≤ 3
  · simp only [if_pos h3, if_neg h1, reduceIte]
    refine qk_tile m c t h3 a r d _ 2048 (le_refl _) _ ?_ fun d => k_weight m c _ d
    show 2048 + (min (t.val % 13) 5 % 2 * 8 + a.val) * 128 = _; omega
  · simp only [if_neg h3, if_neg h1, Nat.reduceEqDiff, reduceIte]
    by_cases h5 : t.val % 13 ≤ 5
    · rw [if_pos h5]
      refine (v_tile m c t t h5 (by omega) a r d).trans (congrArg _ (Fin.ext ?_))
      show 4096 + ((t.val % 13 % 2 * 8 + a.val) * 128 + d.val) = 4096 + ((min (t.val % 13) 5 % 2 * 8 + a.val) * 128 + d.val)
      omega
    · rw [if_neg h5]
      have e : (inRow t.val 5).val % 13 = 5 := by show (13 * (t.val / 13 % 16) + 5 % 13) % 13 = 5; omega
      refine (v_tile m c t (inRow t.val 5) (by omega) (by omega) a r d).trans (congrArg _ (Fin.ext ?_))
      show 4096 + (((inRow t.val 5).val % 13 % 2 * 8 + a.val) * 128 + d.val) = 4096 + ((min (t.val % 13) 5 % 2 * 8 + a.val) * 128 + d.val)
      rw [e]; omega

theorem out7_apply (c : Dev nD) (t : Fin cfg0.N) (h6 : 6 ≤ t.val % 13) (r : Fin 1024) (j : Fin 1024) :
    (out7 (F := Ideal) m c t (ix2 r j) : EReal) = ((cfg0.win 7).blk t).view.read (Elt Ideal) (G7 m c) (ix2 r j) := by
  rw [at7 c]
  refine Eq.trans ?_ (rest_at _ _ _ _ _ _).symm
  unfold out7
  by_cases h7 : t.val % 13 ≤ 7
  · rw [if_pos h7, dif_pos (by show (t.val % 13 - 6) * 1024 + j.val < 2048; omega)]
    refine (gate_apply _ _ r j).trans ((prodRow m c t t r j).trans (congrArg _ (Fin.ext ?_)))
    show min (t.val % 13) 7 * 1024 + j.val = 6144 + ((t.val % 13 - 6) * 1024 + j.val)
    omega
  · rw [if_neg h7, dif_neg (by show ¬ (t.val % 13 - 6) * 1024 + j.val < 2048; omega)]
    refine (rest_apply _ _ r j).trans ((prodRest m c t r j).trans (congrArg _ (Fin.ext ?_)))
    show (t.val % 13 - 8) * 1024 + j.val = (t.val % 13 - 6) * 1024 + j.val - 2048
    omega

theorem out8_apply (c : Dev nD) (t : Fin cfg0.N) (r : Fin 1024) (j : Fin 128) :
    (out8 (F := Ideal) m c t (ix2 r j) : EReal) = ((cfg0.win 8).blk t).view.read (Elt Ideal) (G8 m c) (ix2 r j) := by
  rw [at8 c]
  unfold out8
  refine (steps_apply _ _ _ r j).trans ?_
  show _ = rowP _ _ _ _ _
  unfold rowP
  refine Finset.sum_congr rfl fun k _ => congrArg₂ (· * ·) ?_ (blk4 m c _ k j)
  exact hRow_apply m c t r k

/-- What a point writes back, window by window, is that point's block. -/
theorem flushed6 (c : Dev nD) (t : Fin cfg0.N) :
    (dats (F := Ideal) m 0 c).flushed 6 t = ((cfg0.win 6).blk t).view.read (Elt Ideal) (G6 m c) := by
  refine Eq.trans (show _ = out6 m c t from rfl) (funext fun y => ?_)
  obtain ⟨z, a, r, d, rfl⟩ : ∃ (z : Fin 1) (a : Fin 8) (r : Fin 1024) (d : Fin 128), y = ix4 z a r d := ⟨y 0, y 1, y 2, y 3, eq_ix4 y⟩
  obtain rfl : z = 0 := Subsingleton.elim _ _
  exact out6_apply m c t a r d

theorem flushed7 (c : Dev nD) (t : Fin cfg0.N) (hf : (cfg0.win 7).flush t = true) :
    (dats (F := Ideal) m 0 c).flushed 7 t = ((cfg0.win 7).blk t).view.read (Elt Ideal) (G7 m c) := by
  refine Eq.trans (show _ = out7 m c t from rfl) (funext fun y => ?_)
  obtain ⟨r, j, rfl⟩ : ∃ (r : Fin 1024) (j : Fin 1024), y = ix2 r j := ⟨y 0, y 1, eq_ix2 y⟩
  exact out7_apply m c t (of_decide_eq_true ((flush7_iff t).symm.trans hf)) r j

theorem flushed8 (c : Dev nD) (t : Fin cfg0.N) :
    (dats (F := Ideal) m 0 c).flushed 8 t = ((cfg0.win 8).blk t).view.read (Elt Ideal) (G8 m c) := by
  refine Eq.trans (show _ = out8 m c t from rfl) (funext fun y => ?_)
  obtain ⟨r, j, rfl⟩ : ∃ (r : Fin 1024) (j : Fin 128), y = ix2 r j := ⟨y 0, y 1, eq_ix2 y⟩
  exact out8_apply m c t r j

/-- The blocks fill the arrays. -/
theorem cover6 (i : S3x16x16384x128.Idx) : ∃ t : Fin cfg0.N, (cfg0.win 6).flush t = true ∧ i ∈ ((cfg0.win 6).blk t).view.set := by
  have h0 : (i 0 : Nat) < 3 := (i 0).isLt
  have h1 : (i 1 : Nat) < 16 := (i 1).isLt
  have h2 : (i 2 : Nat) < 16384 := (i 2).isLt
  have h3 : (i 3 : Nat) < 128 := (i 3).isLt
  have hN : cfg0.N = 208 := N_0
  obtain ⟨j, hj, hjf, hjs, hjh⟩ : ∃ j : Nat, j < 13 ∧ (j ≤ 4 ∨ j = 12) ∧ (if j ≤ 1 then 2 else if j ≤ 3 then 0 else 1) = (i 0 : Nat) ∧ min j 5 % 2 = (i 1 : Nat) / 8 := by
    obtain hA | hA : (i 1 : Nat) / 8 = 0 ∨ (i 1 : Nat) / 8 = 1 := by omega
    all_goals obtain hB | hB | hB : (i 0 : Nat) = 0 ∨ (i 0 : Nat) = 1 ∨ (i 0 : Nat) = 2 := by omega
    all_goals rw [hA, hB]
    · exact ⟨2, by decide⟩
    · exact ⟨4, by decide⟩
    · exact ⟨0, by decide⟩
    · exact ⟨3, by decide⟩
    · exact ⟨12, by decide⟩
    · exact ⟨1, by decide⟩
  have ht : (i 2 : Nat) / 1024 * 13 + j < cfg0.N := by omega
  have em : ((i 2 : Nat) / 1024 * 13 + j) % 13 = j := by omega
  have ed : ((i 2 : Nat) / 1024 * 13 + j) / 13 = (i 2 : Nat) / 1024 := by omega
  refine ⟨⟨_, ht⟩, (flush6_iff _).trans (decide_eq_true (by show _ % 13 ≤ 4 ∨ _ % 13 = 12; rw [em]; exact hjf)), ?_⟩
  show i ∈ ((View.whole main_v13_0).slice (win0_6.rect ⟨(i 2 : Nat) / 1024 * 13 + j, ht⟩)).set
  rw [View.set_slice_whole, Rect.mem_set_unit]
  obtain ⟨⟨e0, e1, e2, e3⟩, -⟩ := idx_out ⟨_, ht⟩
  dsimp only at e0 e1 e2 e3
  rw [em] at e0 e1
  rw [ed] at e2
  rw [hjs] at e0
  rw [hjh] at e1
  intro a
  match a with
  | ⟨0, _⟩ => show win0_6.index ⟨_, ht⟩ 0 * 1 ≤ (i 0 : Nat) ∧ (i 0 : Nat) < win0_6.index ⟨_, ht⟩ 0 * 1 + 1; rw [e0]; omega
  | ⟨1, _⟩ => show win0_6.index ⟨_, ht⟩ 1 * 8 ≤ (i 1 : Nat) ∧ (i 1 : Nat) < win0_6.index ⟨_, ht⟩ 1 * 8 + 8; rw [e1]; omega
  | ⟨2, _⟩ => show win0_6.index ⟨_, ht⟩ 2 * 1024 ≤ (i 2 : Nat) ∧ (i 2 : Nat) < win0_6.index ⟨_, ht⟩ 2 * 1024 + 1024; rw [e2]; omega
  | ⟨3, _⟩ => show win0_6.index ⟨_, ht⟩ 3 * 128 ≤ (i 3 : Nat) ∧ (i 3 : Nat) < win0_6.index ⟨_, ht⟩ 3 * 128 + 128; rw [e3]; omega

theorem cover7 (i : S16384x7168.Idx) : ∃ t : Fin cfg0.N, (cfg0.win 7).flush t = true ∧ i ∈ ((cfg0.win 7).blk t).view.set := by
  have h0 : (i 0 : Nat) < 16384 := (i 0).isLt
  have h1 : (i 1 : Nat) < 7168 := (i 1).isLt
  have hN : cfg0.N = 208 := N_0
  have ht : (i 0 : Nat) / 1024 * 13 + (6 + (i 1 : Nat) / 1024) < cfg0.N := by omega
  refine ⟨⟨_, ht⟩, (flush7_iff _).trans (decide_eq_true (by show 6 ≤ ((i 0 : Nat) / 1024 * 13 + (6 + (i 1 : Nat) / 1024)) % 13; omega)), ?_⟩
  show i ∈ ((View.whole main_v13_1).slice (win0_7.rect ⟨(i 0 : Nat) / 1024 * 13 + (6 + (i 1 : Nat) / 1024), ht⟩)).set
  rw [View.set_slice_whole, Rect.mem_set_unit]
  obtain ⟨-, ⟨e0, e1⟩, -⟩ := idx_out ⟨_, ht⟩
  dsimp only at e0 e1
  intro a
  match a with
  | ⟨0, _⟩ => show win0_7.index ⟨_, ht⟩ 0 * 1024 ≤ (i 0 : Nat) ∧ (i 0 : Nat) < win0_7.index ⟨_, ht⟩ 0 * 1024 + 1024; rw [e0]; omega
  | ⟨1, _⟩ => show win0_7.index ⟨_, ht⟩ 1 * 1024 ≤ (i 1 : Nat) ∧ (i 1 : Nat) < win0_7.index ⟨_, ht⟩ 1 * 1024 + 1024; rw [e1]; omega

theorem cover8 (i : S16384x128.Idx) : ∃ t : Fin cfg0.N, (cfg0.win 8).flush t = true ∧ i ∈ ((cfg0.win 8).blk t).view.set := by
  have h0 : (i 0 : Nat) < 16384 := (i 0).isLt
  have h1 : (i 1 : Nat) < 128 := (i 1).isLt
  have hN : cfg0.N = 208 := N_0
  have ht : (i 0 : Nat) / 1024 * 13 + 12 < cfg0.N := by omega
  refine ⟨⟨_, ht⟩, (flush8_iff _).trans (decide_eq_true (by show ((i 0 : Nat) / 1024 * 13 + 12) % 13 = 12; omega)), ?_⟩
  show i ∈ ((View.whole main_v13_2).slice (win0_8.rect ⟨(i 0 : Nat) / 1024 * 13 + 12, ht⟩)).set
  rw [View.set_slice_whole, Rect.mem_set_unit]
  obtain ⟨-, -, ⟨e0, e1⟩⟩ := idx_out ⟨_, ht⟩
  dsimp only at e0 e1
  intro a
  match a with
  | ⟨0, _⟩ => show win0_8.index ⟨_, ht⟩ 0 * 1024 ≤ (i 0 : Nat) ∧ (i 0 : Nat) < win0_8.index ⟨_, ht⟩ 0 * 1024 + 1024; rw [e0]; omega
  | ⟨1, _⟩ => show win0_8.index ⟨_, ht⟩ 1 * 128 ≤ (i 1 : Nat) ∧ (i 1 : Nat) < win0_8.index ⟨_, ht⟩ 1 * 128 + 128; rw [e1]; omega

/-- The convolution's carried rows: the last three rows of the columns the convolution reads. -/
abbrev G9 (c : Dev nD) : Buf (Elt Ideal) ((c : Thread nD τ).loc main_v14) :=
  extractStridedSlice S3x3072 ![16381, 4096] (G7 m c) slices_S16384x7168_S3x3072_16381_4096

/-- The host line after the launch cuts them from the second result array. -/
theorem carried (c : Dev nD) : Pipeline.afterTail₀ cfgs (dats m) 0 (V0 m) [hostOps1] c main_v14 = G9 m c := by
  unfold Pipeline.afterTail₀
  show StableHlo.after hostOps1 _ (Proc.devRef .tc main_v14) = _
  after_results
  refine congrArg (fun X : FVec Ideal S16384x7168 .f32 => extractStridedSlice S3x3072 ![16381, 4096] X slices_S16384x7168_S3x3072_16381_4096) ?_
  exact (Pipeline.withArrays_arr spec0 (by decide) c (V0 m c) _ 7).trans
    ((dats m 0 c).arrAt_eq_of_cover 7 (G7 m c) (fun t hf => flushed7 m c t hf) cover7)

/-- The kernel's run: the four results and the arguments. -/
theorem run : θ_run defs (onTc (τ := τ) (main (F := Ideal))) ⟨m, fun _ => 0, ρ⟩ fun r => ∀ c : Dev nD,
      r.2.mem ((c : Thread nD τ).loc main_v13_0) = G6 m c
      ∧ r.2.mem ((c : Thread nD τ).loc main_v13_1) = G7 m c
      ∧ r.2.mem ((c : Thread nD τ).loc main_v13_2) = G8 m c
      ∧ r.2.mem ((c : Thread nD τ).loc main_v14) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨
      ((h.1 c).1 6).trans ((dats m 0 c).arrAt_eq_of_cover 6 (G6 m c) (fun t _ => flushed6 m c t) cover6),
      ((h.1 c).1 7).trans ((dats m 0 c).arrAt_eq_of_cover 7 (G7 m c) (fun t hf => flushed7 m c t hf) cover7),
      ((h.1 c).1 8).trans ((dats m 0 c).arrAt_eq_of_cover 8 (G8 m c) (fun t _ => flushed8 m c t) cover8),
      ((h.1 c).2 main_v14 (Pipeline.mem_restRefs_of main_v14 (by decide) (by decide))).trans (carried m c), h.2 c⟩)
    (θ_run_and (launch_post m ρ) (args_kept m ρ))

end Cert.InProjIdeal.Tiles

end
-- ==== Proof.InProj.lean ====
/-
  The input projection against its plain statement.  The kernel normalises a tile of rows once and multiplies it by thirteen
  tiles of weight columns, normalising the query and key heads as it goes; the reference multiplies whole arrays and normalises
  whole heads.  On the extended reals both are the same sums.
-/
module

public import proofs.«01_k».proof.Defs
public import proofs.«01_k».proof.Proof.Gen.InProj.Frame
public import proofs.«01_k».proof.Proof.Gen.InProjRefIdeal.Read
public import proofs.«01_k».proof.Proof.InProjTiles

@[expose] public section

set_option maxRecDepth 16384

noncomputable section

open Idealize.ShloMosaic Idealize.ShloMosaic.TcCoe Idealize.SL.Sem
open Idealize.ShloMosaic.ValueIdx
open Cert.RowNorm
open scoped BigOperators

namespace Cert.InProjRefIdeal.Plain

open Cert.InProjRefIdeal Cert.InProjRefIdeal.Gen Cert.InProjRefIdeal.Read
open Cert.InProjIdeal.Tiles (rowH rowP rowQ heads rest steps heads_at rest_at)

/-- A row's factor. -/
theorem factor_apply (x0 : (⟨S1x16384x2048, .f32⟩ : BufTy).Contents (Elt Ideal)) (r : Fin 16384) (z : Fin 1) :
    (val_main_v9 (F := Ideal) x0 (ix2 r z) : EReal)
      = Ideal.rsqrt (Ideal.div (∑ j : Fin 2048, (x0 (ix3 (0 : Fin 1) r j) : EReal) * x0 (ix3 (0 : Fin 1) r j)) (Ideal.ofBits .f32 0x45000000#32) + Ideal.ofBits .f32 0x358637BD#32) := by
  rw [val_main_v9_apply, val_main_v8_apply, val_main_v6_apply, val_main_v4_apply, val_main_v3_apply, val_main_v7_apply, val_main_v5_apply]
  refine congrArg (fun s : EReal => Ideal.rsqrt (Ideal.div s (Ideal.ofBits .f32 0x45000000#32) + Ideal.ofBits .f32 0x358637BD#32)) ?_
  refine (congrArg₂ (· + ·) (show _ = (0 : EReal) from Ideal.ofBits_zero_f32) (Finset.sum_congr rfl fun k _ => ?_)).trans (zero_add _)
  rw [val_main_v2_apply]
  have e : val_main_v0 (F := Ideal) x0 (ix2 r k) = x0 (ix3 (0 : Fin 1) r k) := shapeCast_1ab_ab_apply x0 _ r k
  exact congrArg₂ (fun a b : EReal => a * b) ((congrArg _ (eq_ix2 _)).trans e) ((congrArg _ (eq_ix2 _)).trans e)

/-- The normalised rows. -/
theorem rows_apply (x0 : (⟨S1x16384x2048, .f32⟩ : BufTy).Contents (Elt Ideal)) (x1 : (⟨S1x2048, .f32⟩ : BufTy).Contents (Elt Ideal)) (r : Fin 16384) (k : Fin 2048) :
    (val_main_v14 (F := Ideal) x0 x1 (ix2 r k) : EReal) = rowH x0 x1 r k := by
  rw [val_main_v14_apply, val_main_v11_apply, val_main_v10_apply, val_main_v13_apply, val_main_v12_apply]
  refine congrArg₂ (fun a b : EReal => a * b) (congrArg₂ (fun a b : EReal => a * b) ?_ ?_) ?_
  · exact shapeCast_1ab_ab_apply x0 _ r k
  · exact (congrArg _ (eq_ix2 _)).trans (factor_apply x0 r 0)
  · exact (congrArg _ (eq_ix1 _)).trans (shapeCast_1a_a_apply x1 _ k)

theorem qkvg_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (r : Fin 16384) (j : Fin 8192) :
    (val_main_v16 (F := Ideal) x0 x1 x2 (ix2 r j) : EReal) = rowP x0 x1 x2 r j := by
  rw [val_main_v16_apply]
  unfold rowP
  refine Finset.sum_congr rfl fun k _ => congrArg₂ (fun a b : EReal => a * b) ((congrArg _ (eq_ix2 _)).trans (rows_apply x0 x1 r k)) ?_
  rw [val_main_v15_apply]
  exact congrArg x2 (eq_ix2 _)

theorem zxbc_apply (x0 : (⟨S1x16384x2048, .f32⟩ : BufTy).Contents (Elt Ideal)) (x1 : (⟨S1x2048, .f32⟩ : BufTy).Contents (Elt Ideal)) (x3 : (⟨S2048x5120, .bf16⟩ : BufTy).Contents (Elt Ideal)) (r : Fin 16384) (j : Fin 5120) :
    (val_main_v18 (F := Ideal) x0 x1 x3 (ix2 r j) : EReal) = rowP x0 x1 x3 r j := by
  rw [val_main_v18_apply]
  unfold rowP
  refine Finset.sum_congr rfl fun k _ => congrArg₂ (fun a b : EReal => a * b) ((congrArg _ (eq_ix2 _)).trans (rows_apply x0 x1 r k)) ?_
  rw [val_main_v17_apply]
  exact congrArg x3 (eq_ix2 _)

theorem steps_apply (x0 : (⟨S1x16384x2048, .f32⟩ : BufTy).Contents (Elt Ideal)) (x1 : (⟨S1x2048, .f32⟩ : BufTy).Contents (Elt Ideal)) (x4 : (⟨S2048x128, .bf16⟩ : BufTy).Contents (Elt Ideal)) (r : Fin 16384) (j : Fin 128) :
    (val_main_v20 (F := Ideal) x0 x1 x4 (ix2 r j) : EReal) = rowP x0 x1 x4 r j := by
  rw [val_main_v20_apply]
  unfold rowP
  refine Finset.sum_congr rfl fun k _ => congrArg₂ (fun a b : EReal => a * b) ((congrArg _ (eq_ix2 _)).trans (rows_apply x0 x1 r k)) ?_
  rw [val_main_v19_apply]
  exact congrArg x4 (eq_ix2 _)

theorem q_raw_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (r : Fin 16384) (h : Fin 16) (d : Fin 128) :
    (val_main_v22 (F := Ideal) x0 x1 x2 (ix3 r h d) : EReal) = rowP x0 x1 x2 r (⟨0 + (h.val * 128 + d.val), by omega⟩ : Fin 8192) := by
  rw [val_main_v22_apply, val_main_v21_apply]
  refine Eq.trans (congrArg _ (funext fun a => Fin.ext ?_)) (qkvg_apply x0 x1 x2 r _)
  have hr := r.isLt
  have hh := h.isLt
  have hd := d.isLt
  match a with
  | ⟨0, _⟩ => show ((r.val * 16 + h.val) * 128 + d.val) / 2048 = r.val; omega
  | ⟨1, _⟩ => show ((r.val * 16 + h.val) * 128 + d.val) % 2048 = 0 + (h.val * 128 + d.val); omega

theorem k_raw_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (r : Fin 16384) (h : Fin 16) (d : Fin 128) :
    (val_main_v38 (F := Ideal) x0 x1 x2 (ix3 r h d) : EReal) = rowP x0 x1 x2 r (⟨2048 + (h.val * 128 + d.val), by omega⟩ : Fin 8192) := by
  rw [val_main_v38_apply, val_main_v37_apply]
  refine Eq.trans (congrArg _ (funext fun a => Fin.ext ?_)) (qkvg_apply x0 x1 x2 r _)
  have hr := r.isLt
  have hh := h.isLt
  have hd := d.isLt
  match a with
  | ⟨0, _⟩ => show ((r.val * 16 + h.val) * 128 + d.val) / 2048 = r.val; omega
  | ⟨1, _⟩ => show 2048 + ((r.val * 16 + h.val) * 128 + d.val) % 2048 = 2048 + (h.val * 128 + d.val); omega

theorem v_raw_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (r : Fin 16384) (h : Fin 16) (d : Fin 128) :
    (val_main_v54 (F := Ideal) x0 x1 x2 (ix3 r h d) : EReal) = rowP x0 x1 x2 r (⟨4096 + (h.val * 128 + d.val), by omega⟩ : Fin 8192) := by
  rw [val_main_v54_apply, val_main_v53_apply]
  refine Eq.trans (congrArg _ (funext fun a => Fin.ext ?_)) (qkvg_apply x0 x1 x2 r _)
  have hr := r.isLt
  have hh := h.isLt
  have hd := d.isLt
  match a with
  | ⟨0, _⟩ => show ((r.val * 16 + h.val) * 128 + d.val) / 2048 = r.val; omega
  | ⟨1, _⟩ => show 4096 + ((r.val * 16 + h.val) * 128 + d.val) % 2048 = 4096 + (h.val * 128 + d.val); omega

theorem q_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (x5 : (⟨S1x128, .f32⟩ : BufTy).Contents (Elt Ideal)) (r : Fin 16384) (h : Fin 16) (d : Fin 128) :
    (val_main_v36 (F := Ideal) x0 x1 x2 x5 (ix3 r h d) : EReal) = rowQ x0 x1 x2 x5 0 (Nat.zero_le _) r h d := by
  rw [val_main_v36_apply, val_main_v33_apply, val_main_v32_apply, val_main_v31_apply, val_main_v30_apply, val_main_v28_apply, val_main_v26_apply, val_main_v25_apply, val_main_v27_apply, val_main_v29_apply, val_main_v35_apply, val_main_v34_apply]
  refine congrArg₂ (fun a b : EReal => a * b) (congrArg₂ (fun a b : EReal => a * b) (q_raw_apply x0 x1 x2 r h d) ?_) ?_
  · refine congrArg (fun s : EReal => Ideal.rsqrt (Ideal.div s (Ideal.ofBits .f32 0x43000000#32) + Ideal.ofBits .f32 0x358637BD#32)) ?_
    refine (congrArg₂ (· + ·) (show _ = (0 : EReal) from Ideal.ofBits_zero_f32) (Finset.sum_congr rfl fun k _ => ?_)).trans (zero_add _)
    rw [val_main_v24_apply]
    have e := q_raw_apply x0 x1 x2 r h k
    exact congrArg₂ (fun a b : EReal => a * b) ((congrArg _ (eq_ix3 _)).trans e) ((congrArg _ (eq_ix3 _)).trans e)
  · exact (congrArg _ (eq_ix1 _)).trans (shapeCast_1a_a_apply x5 _ d)

theorem k_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (x6 : (⟨S1x128, .f32⟩ : BufTy).Contents (Elt Ideal)) (r : Fin 16384) (h : Fin 16) (d : Fin 128) :
    (val_main_v52 (F := Ideal) x0 x1 x2 x6 (ix3 r h d) : EReal) = rowQ x0 x1 x2 x6 2048 (le_refl _) r h d := by
  rw [val_main_v52_apply, val_main_v49_apply, val_main_v48_apply, val_main_v47_apply, val_main_v46_apply, val_main_v44_apply, val_main_v42_apply, val_main_v41_apply, val_main_v43_apply, val_main_v45_apply, val_main_v51_apply, val_main_v50_apply]
  refine congrArg₂ (fun a b : EReal => a * b) (congrArg₂ (fun a b : EReal => a * b) (k_raw_apply x0 x1 x2 r h d) ?_) ?_
  · refine congrArg (fun s : EReal => Ideal.rsqrt (Ideal.div s (Ideal.ofBits .f32 0x43000000#32) + Ideal.ofBits .f32 0x358637BD#32)) ?_
    refine (congrArg₂ (· + ·) (show _ = (0 : EReal) from Ideal.ofBits_zero_f32) (Finset.sum_congr rfl fun k _ => ?_)).trans (zero_add _)
    rw [val_main_v40_apply]
    have e := k_raw_apply x0 x1 x2 r h k
    exact congrArg₂ (fun a b : EReal => a * b) ((congrArg _ (eq_ix3 _)).trans e) ((congrArg _ (eq_ix3 _)).trans e)
  · exact (congrArg _ (eq_ix1 _)).trans (shapeCast_1a_a_apply x6 _ d)

/-- Keys, values and queries, side by side. -/
theorem stack_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (x5 : (⟨S1x128, .f32⟩ : BufTy).Contents (Elt Ideal)) (x6 : (⟨S1x128, .f32⟩ : BufTy).Contents (Elt Ideal)) (p : Fin 3) (g : Fin 16) (r : Fin 16384) (d : Fin 128) :
    (val_main_v60 (F := Ideal) x0 x1 x2 x5 x6 (ix4 p g r d) : EReal) = heads x0 x1 x2 x5 x6 (ix4 p g r d) := by
  rw [val_main_v60_apply, val_main_v59_apply]
  refine Eq.trans ?_ (heads_at _ _ _ _ _ _ _ _ _).symm
  have e : idx_main_v59 (ix4 p g r d) = ix4 p r g d := eq_ix4 _
  rw [e]
  unfold val_main_v58
  fin_cases p
  · refine (concatenate_apply_piece (t := S3x16384x16x128) 0 _ _ _ 0 (by simp) S1x16384x16x128 (val_main_v55 (F := Ideal) x0 x1 x2 x6) rfl rfl 0 rfl (ix4 (0 : Fin 1) r g d) (fun b hb => ?_) ?_).trans ?_
    · match b with
      | ⟨0, _⟩ => exact absurd rfl hb
      | ⟨1, _⟩ => rfl
      | ⟨2, _⟩ => rfl
      | ⟨3, _⟩ => rfl
    · rfl
    · rw [val_main_v55_apply]; exact (congrArg _ (eq_ix3 _)).trans (k_apply x0 x1 x2 x6 r g d)
  · refine (concatenate_apply_piece (t := S3x16384x16x128) 0 _ _ _ 1 (by simp) S1x16384x16x128 (val_main_v56 (F := Ideal) x0 x1 x2) rfl rfl 1 rfl (ix4 (0 : Fin 1) r g d) (fun b hb => ?_) ?_).trans ?_
    · match b with
      | ⟨0, _⟩ => exact absurd rfl hb
      | ⟨1, _⟩ => rfl
      | ⟨2, _⟩ => rfl
      | ⟨3, _⟩ => rfl
    · rfl
    · rw [val_main_v56_apply]; exact (congrArg _ (eq_ix3 _)).trans (v_raw_apply x0 x1 x2 r g d)
  · refine (concatenate_apply_piece (t := S3x16384x16x128) 0 _ _ _ 2 (by simp) S1x16384x16x128 (val_main_v57 (F := Ideal) x0 x1 x2 x5) rfl rfl 2 rfl (ix4 (0 : Fin 1) r g d) (fun b hb => ?_) ?_).trans ?_
    · match b with
      | ⟨0, _⟩ => exact absurd rfl hb
      | ⟨1, _⟩ => rfl
      | ⟨2, _⟩ => rfl
      | ⟨3, _⟩ => rfl
    · rfl
    · rw [val_main_v57_apply]; exact (congrArg _ (eq_ix3 _)).trans (q_apply x0 x1 x2 x5 r g d)

theorem gate_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (r : Fin 16384) (j : Fin 2048) :
    (val_main_v61 (F := Ideal) x0 x1 x2 (ix2 r j) : EReal) = rowP x0 x1 x2 r (⟨6144 + j.val, by omega⟩ : Fin 8192) := by
  rw [val_main_v61_apply]
  exact (congrArg _ (eq_ix2 _)).trans (qkvg_apply x0 x1 x2 r _)

/-- The gate and the recurrence's inputs, side by side. -/
theorem rest_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (x3 : (⟨S2048x5120, .bf16⟩ : BufTy).Contents (Elt Ideal)) (r : Fin 16384) (j : Fin 7168) :
    (val_main_v62 (F := Ideal) x0 x1 x2 x3 (ix2 r j) : EReal) = rest x0 x1 x2 x3 (ix2 r j) := by
  refine Eq.trans ?_ (rest_at _ _ _ _ _ _).symm
  unfold val_main_v62
  by_cases h : j.val < 2048
  · rw [dif_pos h]
    refine (concatenate_pair_apply_left (t := S16384x7168) (s₁ := S16384x2048) (s₂ := S16384x5120) 1 _ _ _ _ rfl (ix2 r (⟨j.val, h⟩ : Fin 2048)) (fun b => ?_)).trans (gate_apply x0 x1 x2 r _)
    match b with
    | ⟨0, _⟩ => rfl
    | ⟨1, _⟩ => rfl
  · rw [dif_neg h]
    refine (concatenate_pair_apply_right (t := S16384x7168) (s₁ := S16384x2048) (s₂ := S16384x5120) 1 _ _ _ _ rfl rfl (ix2 r (⟨j.val - 2048, by omega⟩ : Fin 5120)) (fun b hb => ?_) ?_).trans (zxbc_apply x0 x1 x3 r _)
    · match b with
      | ⟨0, _⟩ => rfl
      | ⟨1, _⟩ => exact absurd rfl hb
    · show j.val - 2048 + 2048 = j.val
      omega

/-- The whole of it. -/
theorem rest_all (x0 : (⟨S1x16384x2048, .f32⟩ : BufTy).Contents (Elt Ideal)) (x1 : (⟨S1x2048, .f32⟩ : BufTy).Contents (Elt Ideal))
    (x2 : (⟨S2048x8192, .bf16⟩ : BufTy).Contents (Elt Ideal)) (x3 : (⟨S2048x5120, .bf16⟩ : BufTy).Contents (Elt Ideal)) :
    val_main_v62 (F := Ideal) x0 x1 x2 x3 = rest x0 x1 x2 x3 := by
  funext i
  obtain ⟨r, j, rfl⟩ : ∃ (r : Fin 16384) (j : Fin 7168), i = ix2 r j := ⟨i 0, i 1, eq_ix2 i⟩
  exact rest_apply _ _ _ _ r j

end Cert.InProjRefIdeal.Plain

namespace Cert.Proof.InProjClaims

/-! The kernel as it is and as it is read on the extended reals are the same text, so one run serves both. -/

theorem bodies_same {F : FTy → Type} [FloatOps F] : Cert.InProj.defs₀ (F := F) = Cert.InProjIdeal.defs₀ (F := F) := by
  unfold Cert.InProj.defs₀ Cert.InProjIdeal.defs₀
  refine congrArg Defs.onTc (funext fun l => funext fun ts => ?_)
  match l, ts with
  | 0, (t, s) => rfl

theorem tables_same {F : FTy → Type} [FloatOps F] : Cert.InProj.defs (F := F) = Cert.InProjIdeal.defs (F := F) :=
  congrArg (Pipeline.defs Cert.InProjIdeal.pcfgs) bodies_same

theorem frame_kernel : Cert.quiescent_InProj := fun m ρ _ => by
  rw [tables_same]
  exact Cert.InProjIdeal.Rows.frame m ρ
theorem frame_ideal : Cert.quiescent_InProjIdeal := fun m ρ _ => Cert.InProjIdeal.Rows.frame m ρ
theorem frame_ref : Cert.quiescent_InProjRefIdeal := fun m ρ _ =>
  (θ_run Cert.InProjRefIdeal.defs _ _).mono (fun r h => ⟨fun c => (h c).2.2.2.2,
      Idealize.ShloMosaic.sem_eq_zero_of_no_sems (by decide) r.2⟩)
    (Cert.InProjRefIdeal.Value.run (F := Ideal) m ρ)
theorem preserves : Cert.preserves_InProj_InProjIdeal := trivial

/-- The tiled kernel computes the plain projections. -/
theorem algebraic : Cert.algebraic_InProjIdeal_InProjRefIdeal := by
  intro m ρ m' ρ' _ hagree
  refine ⟨fun c => Cert.InProjIdeal.Tiles.G6 m c, fun c => Cert.InProjIdeal.Tiles.G7 m c, fun c => Cert.InProjIdeal.Tiles.G8 m c,
    fun c => Cert.InProjIdeal.Tiles.G9 m c,
    Cert.InProjIdeal.Tiles.run m ρ, ?_⟩
  refine (θ_run Cert.InProjRefIdeal.defs _ _).mono (fun _ h c => ⟨(h c).1.trans ?_, (h c).2.1.trans ?_, (h c).2.2.1.trans ?_,
    (h c).2.2.2.1.trans ?_, (h c).2.2.2.2⟩)
    (Cert.InProjRefIdeal.Value.run (F := Ideal) m' ρ')
  · obtain ⟨h0, h1, h2, h3, h4, h5, h6⟩ := hagree c
    refine (Cert.InProjRefIdeal.Read.val_main_v60_eq (F := Ideal) _ _).trans ?_
    rw [h0, h1, h2, h5, h6]
    funext i
    obtain ⟨p, g, r, d, rfl⟩ : ∃ (p : Fin 3) (g : Fin 16) (r : Fin 16384) (d : Fin 128), i = ix4 p g r d := ⟨i 0, i 1, i 2, i 3, eq_ix4 i⟩
    exact Cert.InProjRefIdeal.Plain.stack_apply _ _ _ _ _ p g r d
  · obtain ⟨h0, h1, h2, h3, h4, h5, h6⟩ := hagree c
    rw [h0, h1, h2, h3]
    exact (Cert.InProjRefIdeal.Read.val_main_v62_eq (F := Ideal) _ _ _ _).trans (Cert.InProjRefIdeal.Plain.rest_all _ _ _ _)
  · obtain ⟨h0, h1, h2, h3, h4, h5, h6⟩ := hagree c
    rw [h0, h1, h4]
    refine (Cert.InProjRefIdeal.Read.val_main_v20_eq (F := Ideal) _ _ _).trans (funext fun i => ?_)
    obtain ⟨r, j, rfl⟩ : ∃ (r : Fin 16384) (j : Fin 128), i = ix2 r j := ⟨i 0, i 1, eq_ix2 i⟩
    exact Cert.InProjRefIdeal.Plain.steps_apply _ _ _ r j
  · obtain ⟨h0, h1, h2, h3, h4, h5, h6⟩ := hagree c
    rw [h0, h1, h2, h3]
    refine (Cert.InProjRefIdeal.Read.val_main_v63_eq (F := Ideal) _ _ _ _).trans ?_
    unfold Cert.InProjRefIdeal.Read.val_main_v63
    exact congrArg (fun X : FVec Ideal Cert.InProjRefIdeal.S16384x7168 .f32 => extractStridedSlice Cert.InProjRefIdeal.S3x3072 ![16381, 4096] X _)
      (Cert.InProjRefIdeal.Plain.rest_all _ _ _ _)

end Cert.Proof.InProjClaims

end
-- ==== Proof.OutSample.lean ====
/-
  The output projection of the running streams' rows: what the tiled kernel leaves in its result array, and that it is
  what the plain product of the concatenated branches computes, on the extended reals. The residual comes as 32 streams
  of 32 rows; its row i is row i mod 32 of stream i / 32.

  The kernel keeps the two branches apart: a block of the result is the residual block plus the sum of two products, one
  per branch, each over its own half of the weight rows. The reference joins the branches and contracts once over 4096.
  The two agree because a sum over 4096 is the sum over its two halves.
-/
module

public import proofs.«01_k».proof.Defs
public import proofs.«01_k».proof.Proof.Gen.OutSample.Frame
public import proofs.«01_k».proof.Proof.Gen.OutSampleIdeal.Value
public import proofs.«01_k».proof.Proof.Gen.OutSampleRefIdeal.Read
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.OutSampleIdeal.Tiles

/-- The stream a row belongs to … -/
abbrev stream (i : Fin 1024) : Fin 32 := ⟨i.val / 32, by omega⟩
/-- … and its place there. -/
abbrev place (i : Fin 1024) : Fin 32 := ⟨i.val % 32, by omega⟩

open Cert.OutSampleIdeal Cert.OutSampleIdeal.Gen

variable (m : (ℓ : Loc nD τ sig) → Buf (Elt Ideal) ℓ) (ρ : Dev nD → PrngReg)

/-- The weights as the kernel finds them: the argument without its leading axis (the cast is the identity here). -/
theorem V_weights (c : Dev nD) : V (F := Ideal) m c main_v1
    = (truncf .bf16 (shapeCast S4096x2048 (m ((c : Thread nD τ).loc main_arg2) : FVec Ideal S1x4096x2048 .f32) shapeCasts_S1x4096x2048_S4096x2048 : FVec Ideal S4096x2048 .f32) bitsLt_bf16_f32 : FVec Ideal S4096x2048 .bf16) := by
  show StableHlo.after hostOps0 _ (Proc.devRef .tc main_v1) = _
  after_results
  rfl

/-- The residual as the kernel finds it. -/
theorem V_residual (c : Dev nD) : V (F := Ideal) m c main_v2
    = shapeCast S1024x2048 (m ((c : Thread nD τ).loc main_arg3)) shapeCasts_S32x32x2048_S1024x2048 := by
  show StableHlo.after hostOps0 _ (Proc.devRef .tc main_v2) = _
  after_results
  rfl

/-- Weight (k, j). -/
theorem weights_apply (c : Dev nD) (k : Fin 4096) (j : Fin 2048) :
    V (F := Ideal) m c main_v1 (ix2 k j) = m ((c : Thread nD τ).loc main_arg2) (ix3 (0 : Fin 1) k j) := by
  rw [V_weights]
  exact shapeCast_1ab_ab_apply _ _ k j

/-- Residual element (i, j). -/
theorem residual_apply (c : Dev nD) (i : Fin 1024) (j : Fin 2048) :
    V (F := Ideal) m c main_v2 (ix2 i j) = m ((c : Thread nD τ).loc main_arg3) (ix3 (stream i) (place i) j) := by
  rw [V_residual]
  exact shapeCast_apply _ _ (ix2 i j) (ix3 (stream i) (place i) j) ((Shape.rowMajor_val_three _).trans (Eq.trans (by
    show (i.val / 32 * 32 + i.val % 32) * 2048 + j.val = i.val * 2048 + j.val
    omega) (Shape.rowMajor_val_two _).symm))

/-- The projection, element by element, the branches apart. -/
def proj (x0 x1 : S1024x2048.Idx → EReal) (x2 : S1x4096x2048.Idx → EReal) (x3 : S32x32x2048.Idx → EReal) : S1024x2048.Idx → EReal :=
  fun i => x3 (ix3 (stream (i 0)) (place (i 0)) (i 1))
    + ((∑ k : Fin 2048, x0 (ix2 (i 0) k) * x2 (ix3 (0 : Fin 1) (⟨k.val, by omega⟩ : Fin 4096) (i 1)))
      + (∑ k : Fin 2048, x1 (ix2 (i 0) k) * x2 (ix3 (0 : Fin 1) (⟨2048 + k.val, by omega⟩ : Fin 4096) (i 1))))

/-- The same of the arguments as launched: what the result array is shown to hold. -/
abbrev G (c : Dev nD) : Buf (Elt Ideal) ((c : Thread nD τ).loc main_v3) :=
  proj (m ((c : Thread nD τ).loc main_arg0)) (m ((c : Thread nD τ).loc main_arg1)) (m ((c : Thread nD τ).loc main_arg2))
    (m ((c : Thread nD τ).loc main_arg3))

theorem hz : (![0, 0] : Fin 2 → Nat) = fun _ => 0 := funext fun a => by fin_cases a <;> rfl

/-- The block's payload at an element. -/
theorem pay_apply (v0 : Vec Ideal S1024x2048 .bf16) (v1 : Vec Ideal S2048x1024 .bf16) (v4 : Vec Ideal S1024x2048 .bf16)
    (v5 : Vec Ideal S2048x1024 .bf16) (v9 : Vec Ideal S1024x1024 .f32) (r c : Fin 1024) :
    k0_pay1 v0 v1 v4 v5 v9 (ix2 r c) = (v9 (ix2 r c) : EReal)
      + ((∑ k : Fin 2048, v0 (ix2 r k) * v1 (ix2 k c)) + ∑ k : Fin 2048, v4 (ix2 r k) * v5 (ix2 k c)) := by
  unfold k0_pay1
  simp only [shapeCast_self]
  have key (a : FVec Ideal S1024x2048 .bf16) (b : FVec Ideal S2048x1024 .bf16) :
      (matmul (F := Ideal) dot_S1024x2048_S2048x1024_S1024x1024_1_0_0_1_n_n none a b (constant S1024x1024 .f32 0x00000000#32) (ix2 r c) : EReal)
        = ∑ k : Fin 2048, a (ix2 r k) * b (ix2 k c) := by
    refine (Ideal.matmul_plain_apply none a b _ r c).trans ?_
    show Ideal.ofBits .f32 0x00000000#32 + _ = _
    rw [Ideal.ofBits_zero_f32, zero_add]
  show (v9 (ix2 r c) : EReal) + ((matmul (F := Ideal) dot_S1024x2048_S2048x1024_S1024x1024_1_0_0_1_n_n none v0 v1 (constant S1024x1024 .f32 0x00000000#32) (ix2 r c) : EReal) + (matmul (F := Ideal) dot_S1024x2048_S2048x1024_S1024x1024_1_0_0_1_n_n none v4 v5 (constant S1024x1024 .f32 0x00000000#32) (ix2 r c) : EReal)) = _
  rw [key, key]

/-- Each window's block index, of the point's number. -/
theorem idx_all : ∀ t : Fin grid0.N,
    (win0_0.index t 0 = t.val / 2 ∧ win0_0.index t 1 = 0) ∧ (win0_1.index t 0 = t.val / 2 ∧ win0_1.index t 1 = 0)
    ∧ (win0_2.index t 0 = 0 ∧ win0_2.index t 1 = t.val % 2) ∧ (win0_3.index t 0 = 1 ∧ win0_3.index t 1 = t.val % 2)
    ∧ (win0_4.index t 0 = t.val / 2 ∧ win0_4.index t 1 = t.val % 2)
    ∧ (win0_5.index t 0 = t.val / 2 ∧ win0_5.index t 1 = t.val % 2) := by decide +kernel

theorem t_lt (t : Fin cfg0.N) : t.val < 2 := lt_of_lt_of_eq t.isLt N_0

/-- The blocks of the inputs, element by element. -/
theorem blk0 (c : Dev nD) (t : Fin cfg0.N) (r : Fin 1024) (k : Fin 2048) :
    iblk (F := Ideal) m c 0 t (ix2 r k)
      = m ((c : Thread nD τ).loc main_arg0) (ix2 (⟨t.val / 2 * 1024 + r.val, by have := t_lt t; omega⟩ : Fin 1024) k) := by
  refine Eq.trans ?_ (congrFun (V_main_arg0 m c) _)
  unfold iblk
  refine congrArg (V (F := Ideal) m c main_arg0) (funext fun a => Fin.ext ?_)
  obtain ⟨h0, -⟩ := idx_all t
  match a with
  | ⟨0, _⟩ => show win0_0.index t 0 * 1024 + 1 * r.val = t.val / 2 * 1024 + r.val; rw [h0.1]; omega
  | ⟨1, _⟩ => show win0_0.index t 1 * 2048 + 1 * k.val = k.val; rw [h0.2]; omega

theorem blk1 (c : Dev nD) (t : Fin cfg0.N) (r : Fin 1024) (k : Fin 2048) :
    iblk (F := Ideal) m c 1 t (ix2 r k)
      = m ((c : Thread nD τ).loc main_arg1) (ix2 (⟨t.val / 2 * 1024 + r.val, by have := t_lt t; omega⟩ : Fin 1024) k) := by
  refine Eq.trans ?_ (congrFun (V_main_arg1 m c) _)
  unfold iblk
  refine congrArg (V (F := Ideal) m c main_arg1) (funext fun a => Fin.ext ?_)
  obtain ⟨-, h0, -⟩ := idx_all t
  match a with
  | ⟨0, _⟩ => show win0_1.index t 0 * 1024 + 1 * r.val = t.val / 2 * 1024 + r.val; rw [h0.1]; omega
  | ⟨1, _⟩ => show win0_1.index t 1 * 2048 + 1 * k.val = k.val; rw [h0.2]; omega

theorem blk2 (c : Dev nD) (t : Fin cfg0.N) (k : Fin 2048) (j : Fin 1024) :
    iblk (F := Ideal) m c 2 t (ix2 k j) = m ((c : Thread nD τ).loc main_arg2)
      (ix3 (0 : Fin 1) (⟨k.val, by omega⟩ : Fin 4096) (⟨t.val % 2 * 1024 + j.val, by omega⟩ : Fin 2048)) := by
  refine Eq.trans ?_ (weights_apply m c _ _)
  unfold iblk
  refine congrArg (V (F := Ideal) m c main_v1) (funext fun a => Fin.ext ?_)
  obtain ⟨-, -, h0, -⟩ := idx_all t
  match a with
  | ⟨0, _⟩ => show win0_2.index t 0 * 2048 + 1 * k.val = k.val; rw [h0.1]; omega
  | ⟨1, _⟩ => show win0_2.index t 1 * 1024 + 1 * j.val = t.val % 2 * 1024 + j.val; rw [h0.2]; omega

theorem blk3 (c : Dev nD) (t : Fin cfg0.N) (k : Fin 2048) (j : Fin 1024) :
    iblk (F := Ideal) m c 3 t (ix2 k j) = m ((c : Thread nD τ).loc main_arg2)
      (ix3 (0 : Fin 1) (⟨2048 + k.val, by omega⟩ : Fin 4096) (⟨t.val % 2 * 1024 + j.val, by omega⟩ : Fin 2048)) := by
  refine Eq.trans ?_ (weights_apply m c _ _)
  unfold iblk
  refine congrArg (V (F := Ideal) m c main_v1) (funext fun a => Fin.ext ?_)
  obtain ⟨-, -, -, h0, -⟩ := idx_all t
  match a with
  | ⟨0, _⟩ => show win0_3.index t 0 * 2048 + 1 * k.val = 2048 + k.val; rw [h0.1]; omega
  | ⟨1, _⟩ => show win0_3.index t 1 * 1024 + 1 * j.val = t.val % 2 * 1024 + j.val; rw [h0.2]; omega

theorem blk4 (c : Dev nD) (t : Fin cfg0.N) (r : Fin 1024) (j : Fin 1024) :
    iblk (F := Ideal) m c 4 t (ix2 r j) = m ((c : Thread nD τ).loc main_arg3)
      (ix3 (stream (⟨t.val / 2 * 1024 + r.val, by have := t_lt t; omega⟩ : Fin 1024))
        (place (⟨t.val / 2 * 1024 + r.val, by have := t_lt t; omega⟩ : Fin 1024)) (⟨t.val % 2 * 1024 + j.val, by omega⟩ : Fin 2048)) := by
  refine Eq.trans ?_ (residual_apply m c _ _)
  unfold iblk
  refine congrArg (V (F := Ideal) m c main_v2) (funext fun a => Fin.ext ?_)
  obtain ⟨-, -, -, -, h0, -⟩ := idx_all t
  match a with
  | ⟨0, _⟩ => show win0_4.index t 0 * 1024 + 1 * r.val = t.val / 2 * 1024 + r.val; rw [h0.1]; omega
  | ⟨1, _⟩ => show win0_4.index t 1 * 1024 + 1 * j.val = t.val % 2 * 1024 + j.val; rw [h0.2]; omega

/-- What point `t` writes back is block `t` of the projection. -/
theorem flushed_eq (c : Dev nD) (t : Fin cfg0.N) :
    (dats (F := Ideal) m 0 c).flushed 5 t = ((cfg0.win 5).blk t).view.read (Elt Ideal) (G m c) := by
  rw [Value.flushed5]
  unfold out0_5
  rw [View.canon_unit_zero hz, View.ld_unit_zero hz, View.ld_unit_zero hz, View.ld_unit_zero hz, View.ld_unit_zero hz,
    View.ld_unit_zero hz]
  funext y
  obtain ⟨r, j, rfl⟩ : ∃ (r : Fin 1024) (j : Fin 1024), y = ix2 r j := ⟨y 0, y 1, eq_ix2 y⟩
  refine (pay_apply _ _ _ _ _ r j).trans ?_
  simp only [blk0, blk1, blk2, blk3, blk4]
  have e : ((cfg0.win 5).blk t).view.read (Elt Ideal) (G m c) (ix2 r j)
      = G m c (ix2 (⟨t.val / 2 * 1024 + r.val, by have := t_lt t; omega⟩ : Fin 1024)
          (⟨t.val % 2 * 1024 + j.val, by omega⟩ : Fin 2048)) := by
    refine congrArg (G m c) (funext fun a => Fin.ext ?_)
    obtain ⟨-, -, -, -, -, h0⟩ := idx_all t
    match a with
    | ⟨0, _⟩ => show win0_5.index t 0 * 1024 + 1 * r.val = t.val / 2 * 1024 + r.val; rw [h0.1]; omega
    | ⟨1, _⟩ => show win0_5.index t 1 * 1024 + 1 * j.val = t.val % 2 * 1024 + j.val; rw [h0.2]; omega
  exact Eq.trans rfl e.symm

/-- The blocks fill the array. -/
theorem cover (i : S1024x2048.Idx) :
    ∃ t : Fin cfg0.N, (cfg0.win 5).flush t = true ∧ i ∈ ((cfg0.win 5).blk t).view.set := by
  have h0 : (i 0 : Nat) < 1024 := (i 0).isLt
  have h1 : (i 1 : Nat) < 2048 := (i 1).isLt
  have hN : cfg0.N = 2 := N_0
  have ht : (i 0 : Nat) / 1024 * 2 + (i 1 : Nat) / 1024 < cfg0.N := by omega
  refine ⟨⟨_, ht⟩, flush0_5 _, ?_⟩
  show i ∈ ((View.whole main_v3).slice (win0_5.rect ⟨(i 0 : Nat) / 1024 * 2 + (i 1 : Nat) / 1024, ht⟩)).set
  rw [View.set_slice_whole, Rect.mem_set_unit]
  obtain ⟨-, -, -, -, -, e0, e1⟩ := idx_all ⟨_, ht⟩
  dsimp only at e0 e1
  intro a
  match a with
  | ⟨0, _⟩ =>
    show win0_5.index ⟨_, ht⟩ 0 * 1024 ≤ (i 0 : Nat) ∧ (i 0 : Nat) < win0_5.index ⟨_, ht⟩ 0 * 1024 + 1024
    rw [e0]; omega
  | ⟨1, _⟩ =>
    show win0_5.index ⟨_, ht⟩ 1 * 1024 ≤ (i 1 : Nat) ∧ (i 1 : Nat) < win0_5.index ⟨_, ht⟩ 1 * 1024 + 1024
    rw [e1]; omega

/-- The kernel's run: the result array holds the projection, the arguments are as launched. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
      ((dats m 0 c).arrAt_eq_of_cover 5 (G m c) (fun t _ => flushed_eq m c t) cover), (h c).2⟩)
    (Value.run_blocks m ρ)

end Cert.OutSampleIdeal.Tiles

namespace Cert.OutSampleRefIdeal.Plain

open Cert.OutSampleRefIdeal Cert.OutSampleRefIdeal.Gen Cert.OutSampleRefIdeal.Read
open Cert.OutSampleIdeal.Tiles (stream place)

/-- The joined branches in the left half of the columns … -/
theorem joined_left (x0 x1 : (⟨S1024x2048, .bf16⟩ : BufTy).Contents (Elt Ideal)) (r : Fin 1024) (k : Fin 2048) :
    val_main_v2 (F := Ideal) x0 x1 (ix2 r (⟨k.val, by omega⟩ : Fin 4096)) = x0 (ix2 r k) := by
  unfold val_main_v2
  refine (concatenate_pair_apply_left (t := S1024x4096) (s₁ := S1024x2048) (s₂ := S1024x2048) 1 _ _ _ _ rfl (ix2 r k) (fun b => ?_)).trans rfl
  match b with
  | ⟨0, _⟩ => rfl
  | ⟨1, _⟩ => rfl

/-- … and in the right half. -/
theorem joined_right (x0 x1 : (⟨S1024x2048, .bf16⟩ : BufTy).Contents (Elt Ideal)) (r : Fin 1024) (k : Fin 2048) :
    val_main_v2 (F := Ideal) x0 x1 (ix2 r (⟨2048 + k.val, by omega⟩ : Fin 4096)) = x1 (ix2 r k) := by
  unfold val_main_v2
  refine (concatenate_pair_apply_right (t := S1024x4096) (s₁ := S1024x2048) (s₂ := S1024x2048) 1 _ _ _ _ rfl rfl (ix2 r k) (fun b hb => ?_) ?_).trans rfl
  · match b with
    | ⟨0, _⟩ => rfl
    | ⟨1, _⟩ => exact absurd rfl hb
  · show k.val + 2048 = 2048 + k.val
    omega

/-- A sum over 4096 by halves. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- The reference's result, element by element. -/
theorem result_apply (x0 x1 : (⟨S1024x2048, .bf16⟩ : BufTy).Contents (Elt Ideal))
    (x2 : (⟨S1x4096x2048, .f32⟩ : BufTy).Contents (Elt Ideal)) (x3 : (⟨S32x32x2048, .f32⟩ : BufTy).Contents (Elt Ideal))
    (r : Fin 1024) (j : Fin 2048) :
    val_main_v6 (F := Ideal) x0 x1 x2 x3 (ix2 r j) = (x3 (ix3 (stream r) (place r) j) : EReal)
      + ((∑ k : Fin 2048, x0 (ix2 r k) * x2 (ix3 (0 : Fin 1) (⟨k.val, by omega⟩ : Fin 4096) j))
        + ∑ k : Fin 2048, x1 (ix2 r k) * x2 (ix3 (0 : Fin 1) (⟨2048 + k.val, by omega⟩ : Fin 4096) j)) := by
  rw [val_main_v6_apply, val_main_v5_apply]
  have e3 : val_main_v3 (F := Ideal) x3 (ix2 r j) = x3 (ix3 (stream r) (place r) j) := shapeCast_apply x3 _ (ix2 r j) (ix3 (stream r) (place r) j) ((Shape.rowMajor_val_three _).trans (Eq.trans (by
    show (r.val / 32 * 32 + r.val % 32) * 2048 + j.val = r.val * 2048 + j.val
    omega) (Shape.rowMajor_val_two _).symm))
  have e4 (k : Fin 4096) : val_main_v4 (F := Ideal) x2 (ix2 k j) = x2 (ix3 (0 : Fin 1) k j) := shapeCast_1ab_ab_apply x2 _ k j
  rw [e3, sum_halves]
  refine congrArg (x3 (ix3 (stream r) (place r) j) + ·) (congrArg₂ (· + ·) ?_ ?_)
  · refine Finset.sum_congr rfl fun k _ => ?_
    exact congrArg₂ (· * ·) ((congrArg _ (eq_ix2 _)).trans (joined_left x0 x1 r k)) ((congrArg _ (eq_ix2 _)).trans (e4 _))
  · refine Finset.sum_congr rfl fun k _ => ?_
    exact congrArg₂ (· * ·) ((congrArg _ (eq_ix2 _)).trans (joined_right x0 x1 r k)) ((congrArg _ (eq_ix2 _)).trans (e4 _))

end Cert.OutSampleRefIdeal.Plain

namespace Cert.Proof.OutSampleClaims

theorem frame_kernel : Cert.quiescent_OutSample := fun m ρ _ => Cert.OutSample.Gen.frame m ρ
theorem frame_ideal : Cert.quiescent_OutSampleIdeal := fun m ρ _ => Cert.OutSampleIdeal.Gen.frame m ρ
theorem frame_ref : Cert.quiescent_OutSampleRefIdeal := fun m ρ _ =>
  (θ_run Cert.OutSampleRefIdeal.defs _ _).mono (fun r h => ⟨fun c => (h c).2,
      Idealize.ShloMosaic.sem_eq_zero_of_no_sems (by decide) r.2⟩)
    (Cert.OutSampleRefIdeal.Value.run (F := Ideal) m ρ)
theorem preserves : Cert.preserves_OutSample_OutSampleIdeal := trivial

/-- The tiled kernel computes the plain projection. -/
theorem algebraic : Cert.algebraic_OutSampleIdeal_OutSampleRefIdeal := by
  intro m ρ m' ρ' _ hagree
  refine ⟨fun c => Cert.OutSampleIdeal.Tiles.G m c, Cert.OutSampleIdeal.Tiles.run m ρ, ?_⟩
  refine (θ_run Cert.OutSampleRefIdeal.defs _ _).mono (fun _ h c => ⟨(h c).1.trans ?_, (h c).2⟩)
    (Cert.OutSampleRefIdeal.Value.run (F := Ideal) m' ρ')
  obtain ⟨h0, h1, h2, h3⟩ := hagree c
  rw [h0, h1, h2, h3]
  refine (Cert.OutSampleRefIdeal.Read.val_main_v6_eq (F := Ideal) _ _ _ _).trans (funext fun i => ?_)
  obtain ⟨r, j, rfl⟩ : ∃ (r : Fin 1024) (j : Fin 2048), i = ix2 r j := ⟨i 0, i 1, eq_ix2 i⟩
  exact Cert.OutSampleRefIdeal.Plain.result_apply _ _ _ _ r j

end Cert.Proof.OutSampleClaims

end
-- ==== Proof.EveryOther.lean ====
/- Heads kept one row in sixteen: a buffer of 512 rows of 16 heads whose heads are stored one at a time, every
   sixteenth row of it. -/
module

public import Idealize.ShloMosaic.Lib.Pipeline.Value
public import Idealize.ShloMosaic.Lib.ValueIdx

@[expose] public section

noncomputable section

open Idealize.ShloMosaic
open Idealize.ShloMosaic.ValueIdx

namespace Cert.EveryOther

variable {α : Type}

/-- The buffer `x` with its heads `b` to `b + 7` replaced, head `b + r` by `f r`. -/
def putHeads (b : ℕ) (f : Fin 8 → (⟨2, ![512, 128]⟩ : Shape).Idx → α) (x : (⟨2, ![8192, 128]⟩ : Shape).Idx → α) :
    (⟨2, ![8192, 128]⟩ : Shape).Idx → α := fun y =>
  if h : b ≤ (y 0).val % 16 ∧ (y 0).val % 16 < b + 8 then
    f ⟨(y 0).val % 16 - b, by omega⟩ (ix2 ⟨(y 0).val / 16, by have : (y 0).val < 8192 := (y 0).isLt; omega⟩ (y 1))
  else x y

theorem putHeads_hit (b : ℕ) (f : Fin 8 → (⟨2, ![512, 128]⟩ : Shape).Idx → α) (x : (⟨2, ![8192, 128]⟩ : Shape).Idx → α)
    (y : (⟨2, ![8192, 128]⟩ : Shape).Idx) (r : Fin 8) (h : (y 0).val % 16 = b + r.val) :
    putHeads b f x y = f r (ix2 ⟨(y 0).val / 16, by have : (y 0).val < 8192 := (y 0).isLt; omega⟩ (y 1)) := by
  have hr := r.isLt
  unfold putHeads
  rw [dif_pos ⟨by omega, by omega⟩]
  exact congrArg (fun q : Fin 8 => f q (ix2 _ _)) (Fin.ext (by show (y 0).val % 16 - b = r.val; omega))

theorem putHeads_miss (b : ℕ) (f : Fin 8 → (⟨2, ![512, 128]⟩ : Shape).Idx → α) (x : (⟨2, ![8192, 128]⟩ : Shape).Idx → α)
    (y : (⟨2, ![8192, 128]⟩ : Shape).Idx) (h : ¬ (b ≤ (y 0).val % 16 ∧ (y 0).val % 16 < b + 8)) : putHeads b f x y = x y :=
  dif_neg h

/-- Sixteen heads in one buffer: the first eight from `f`, the others from `g`. -/
def bothHalves (f g : Fin 8 → (⟨2, ![512, 128]⟩ : Shape).Idx → α) : (⟨2, ![8192, 128]⟩ : Shape).Idx → α := fun y =>
  (if (y 0).val % 16 < 8 then f else g) ⟨(y 0).val % 8, Nat.mod_lt _ (by decide)⟩
    (ix2 ⟨(y 0).val / 16, by have : (y 0).val < 8192 := (y 0).isLt; omega⟩ (y 1))

/-- Storing the first eight heads and then the others leaves nothing of what was there. -/
theorem put_both (f g : Fin 8 → (⟨2, ![512, 128]⟩ : Shape).Idx → α) (x : (⟨2, ![8192, 128]⟩ : Shape).Idx → α) :
    putHeads 8 g (putHeads 0 f x) = bothHalves f g := by
  funext y
  unfold bothHalves
  by_cases h : (y 0).val % 16 < 8
  · rw [putHeads_miss 8 g _ y (by omega), putHeads_hit 0 f x y ⟨(y 0).val % 8, Nat.mod_lt _ (by decide)⟩
      (by show (y 0).val % 16 = 0 + (y 0).val % 8; omega), if_pos h]
  · rw [putHeads_hit 8 g _ y ⟨(y 0).val % 8, Nat.mod_lt _ (by decide)⟩ (by show (y 0).val % 16 = 8 + (y 0).val % 8; omega), if_neg h]

variable {sig : RefSig} {κ : Kind} {sp : Space} {e : EltTy} {Val : EltTy → Type}

/-- Every sixteenth row from row `o 0` on. -/
abbrev row16 (o : Fin 2 → ℕ)
    (inb : ∀ a, (⟨2, ![512, 128]⟩ : Shape).size a = 0 ∨ o a + (![16, 1] : Fin 2 → ℕ) a * ((⟨2, ![512, 128]⟩ : Shape).size a - 1) < (⟨2, ![8192, 128]⟩ : Shape).size a)
    (sp16 : ∀ a, 0 < (![16, 1] : Fin 2 → ℕ) a) : Rect ⟨2, ![8192, 128]⟩ :=
  ⟨(⟨o, (⟨2, ![512, 128]⟩ : Shape).size, ![16, 1], inb⟩ : LoadRect ⟨2, ![8192, 128]⟩), sp16⟩

/-- One such store, read back. -/
theorem read_row16 (v : View sig κ sp ⟨2, ![8192, 128]⟩ e) (g : v.ty.Contents Val) (o : Fin 2 → ℕ) (inb) (sp16) (k : ℕ) (ho : o = ![k, 0])
    (hk : k < 16) (p : (⟨2, ![512, 128]⟩ : Shape).Idx → Val e) (L : List (View.Piece Val ⟨2, ![8192, 128]⟩ e)) (y : (⟨2, ![8192, 128]⟩ : Shape).Idx) :
    v.read Val (v.writes Val g (⟨row16 o inb sp16, p⟩ :: L)) y
      = if (y 0).val % 16 = k then p (ix2 ⟨(y 0).val / 16, by have : (y 0).val < 8192 := (y 0).isLt; omega⟩ (y 1))
        else v.read Val (v.writes Val g L) y := by
  subst ho
  split
  · next h =>
    refine View.read_writes_cons_hit_of_coords v g (row16 ![k, 0] inb sp16) p L _ y fun a => ?_
    match a with
    | ⟨0, _⟩ => show (y 0).val = k + 16 * ((y 0).val / 16); omega
    | ⟨1, _⟩ => show (y 1).val = 0 + 1 * (y 1).val; omega
  · next h =>
    refine View.read_writes_cons_miss v g _ L y fun hm => h ?_
    obtain ⟨j, -, hj⟩ := (LoadRect.mem_set _).mp hm 0
    have hj' : (y 0).val = k + 16 * j := hj
    omega

/-- Eight such stores, of eight consecutive heads, read back. -/
theorem read_eight (v : View sig κ sp ⟨2, ![8192, 128]⟩ e) (g : v.ty.Contents Val) (b : ℕ) (hb : b ≤ 8) (o : Fin 8 → Fin 2 → ℕ)
    (ho : ∀ r, o r = ![b + r.val, 0]) (inb : ∀ r : Fin 8, ∀ a, (⟨2, ![512, 128]⟩ : Shape).size a = 0 ∨ o r a + (![16, 1] : Fin 2 → ℕ) a * ((⟨2, ![512, 128]⟩ : Shape).size a - 1) < (⟨2, ![8192, 128]⟩ : Shape).size a) (sp16)
    (p0 p1 p2 p3 p4 p5 p6 p7 : (⟨2, ![512, 128]⟩ : Shape).Idx → Val e) :
    v.read Val (v.writes Val g [⟨row16 (o 7) (inb 7) sp16, p7⟩, ⟨row16 (o 6) (inb 6) sp16, p6⟩, ⟨row16 (o 5) (inb 5) sp16, p5⟩,
        ⟨row16 (o 4) (inb 4) sp16, p4⟩, ⟨row16 (o 3) (inb 3) sp16, p3⟩, ⟨row16 (o 2) (inb 2) sp16, p2⟩, ⟨row16 (o 1) (inb 1) sp16, p1⟩,
        ⟨row16 (o 0) (inb 0) sp16, p0⟩])
      = putHeads b ![p0, p1, p2, p3, p4, p5, p6, p7] (v.read Val g) := by
  funext y
  rw [read_row16 v g (o 7) (inb 7) sp16 (b + 7) (ho 7) (by omega), read_row16 v g (o 6) (inb 6) sp16 (b + 6) (ho 6) (by omega),
    read_row16 v g (o 5) (inb 5) sp16 (b + 5) (ho 5) (by omega), read_row16 v g (o 4) (inb 4) sp16 (b + 4) (ho 4) (by omega),
    read_row16 v g (o 3) (inb 3) sp16 (b + 3) (ho 3) (by omega), read_row16 v g (o 2) (inb 2) sp16 (b + 2) (ho 2) (by omega),
    read_row16 v g (o 1) (inb 1) sp16 (b + 1) (ho 1) (by omega), read_row16 v g (o 0) (inb 0) sp16 (b + 0) (ho 0) (by omega)]
  split
  · next h => exact (putHeads_hit b ![p0, p1, p2, p3, p4, p5, p6, p7] _ y 7 h).symm
  split
  · next h => exact (putHeads_hit b ![p0, p1, p2, p3, p4, p5, p6, p7] _ y 6 h).symm
  split
  · next h => exact (putHeads_hit b ![p0, p1, p2, p3, p4, p5, p6, p7] _ y 5 h).symm
  split
  · next h => exact (putHeads_hit b ![p0, p1, p2, p3, p4, p5, p6, p7] _ y 4 h).symm
  split
  · next h => exact (putHeads_hit b ![p0, p1, p2, p3, p4, p5, p6, p7] _ y 3 h).symm
  split
  · next h => exact (putHeads_hit b ![p0, p1, p2, p3, p4, p5, p6, p7] _ y 2 h).symm
  split
  · next h => exact (putHeads_hit b ![p0, p1, p2, p3, p4, p5, p6, p7] _ y 1 h).symm
  split
  · next h => exact (putHeads_hit b ![p0, p1, p2, p3, p4, p5, p6, p7] _ y 0 h).symm
  · exact (putHeads_miss b _ _ y (by omega)).symm

end Cert.EveryOther

end
-- ==== Proof.KvRowsRuns.lean ====
/- One grid point of the kernel that recomputes the last rows' keys and values: what each kind of point leaves in the
   buffers it stores to, named as a function of what it loaded. -/
module

public import proofs.«01_k».proof.Proof.Gen.KvRowsIdeal.Frame
public import proofs.«01_k».proof.Proof.Gen.KvRowsIdeal.Skeleton
public import proofs.«01_k».proof.Proof.EveryOther

@[expose] public section

set_option maxRecDepth 16384

noncomputable section

namespace Cert.KvRowsIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KvRowsIdeal Cert.KvRowsIdeal.Gen Cert.EveryOther

variable {F : FTy → Type} [FloatOps F]

local notation "𝕄" => MT nD τ sig Unit (Elt F) ℕ (UR sig nD τ) ℕ

/-- The condition the kernel computes in place: this is the first tile of the row block. -/
def cond1 (i : grid0.Coords) : BitVec 1 :=
  Scalar.cmpi .ne (Scalar.extui (Scalar.cmpi .eq (BitVec.ofNat 32 (i 1).val) 0#32) : BitVec 32) 0#32

/-- Eight heads' weights, head `a`'s 128 of them. -/
abbrev headW (qw : FVec F S1x1024 .f32) (a : Nat) (inb : ∀ b, (![0, a] : Fin 2 → Nat) b + S1x128.size b ≤ S1x1024.size b) : FVec F S1x128 .f32 :=
  View.ld (Val := Elt F) (e' := .f32) qw (Rect.unit (s := S1x1024) ![0, a] S1x128.size inb)

/-- Eight heads of keys: normalised rows by a tile of weights, each head normalised. -/
def keyHeads (h : FVec F S512x2048 .bf16) (w : FVec F S2048x1024 .bf16) (qw : FVec F S1x1024 .f32) : Fin 8 → FVec F S512x128 .f32 :=
  ![k0_pay5 h w (headW qw 0 inb_S1x1024_S1x128_0_0),
    k0_pay6 h w (headW qw 128 inb_S1x1024_S1x128_0_128),
    k0_pay7 (k0_pay4 h w) (headW qw 256 inb_S1x1024_S1x128_0_256),
    k0_pay8 (k0_pay4 h w) (headW qw 384 inb_S1x1024_S1x128_0_384),
    k0_pay11 (k0_pay9 (k0_pay4 h w)) (k0_pay10 (k0_pay4 h w)) (headW qw 512 inb_S1x1024_S1x128_0_512),
    k0_pay12 (k0_pay4 h w) (headW qw 640 inb_S1x1024_S1x128_0_640),
    k0_pay2 (k0_pay13 (k0_pay4 h w)) (headW qw 768 inb_S1x1024_S1x128_0_768),
    k0_pay3 (k0_pay4 h w) (headW qw 896 inb_S1x1024_S1x128_0_896)]

/-- Eight heads of values: normalised rows by a tile of weights. -/
def valueHeads (h : FVec F S512x2048 .bf16) (w : FVec F S2048x1024 .bf16) : Fin 8 → FVec F S512x128 .f32 :=
  ![k0_pay15 h w, k0_pay16 h w, k0_pay17 h w, k0_pay18 h w, k0_pay19 h w, k0_pay20 h w, k0_pay21 h w, k0_pay22 h w]

/-- The offsets of a load or store of a whole buffer are all zero. -/
theorem off2 : (![0, 0] : Fin 2 → Nat) = fun _ => 0 := by funext a; fin_cases a <;> rfl

/-- A buffer stored whole holds what was stored. -/
theorem read_whole2 {κ : Kind} {sp : Space} {S : Shape} {e : EltTy} (v : View sig κ sp S e) (g : v.ty.Contents (Elt F)) {off : Fin S.rank → Nat}
    (h : off = fun _ => 0) (inb : ∀ a, off a + S.size a ≤ S.size a) (p : S.Idx → Elt F e) :
    v.read (Elt F) (v.writes (Elt F) g [⟨Rect.unit off S.size inb, p⟩]) = p := by
  rw [View.read_writes_eq_canon _ _ _ (fun y => ⟨_, List.mem_singleton_self _, View.mem_set_unit_zero h inb y⟩), View.canon_unit_zero h]

theorem read_scr {κ : Kind} {sp : Space} (v : View sig κ sp S512x2048 .bf16) (g : v.ty.Contents (Elt F)) (inb) (p : S512x2048.Idx → Elt F .bf16) :
    v.read (Elt F) (v.writes (Elt F) g [⟨Rect.unit (s := S512x2048) ![0, 0] ![512, 2048] inb, p⟩]) = p := read_whole2 (S := S512x2048) v g off2 inb p

/-! Loads of a whole buffer read its contents. -/
theorem ld_S512x2048 {e : EltTy} (X : S512x2048.Idx → Elt F e) (inb) :
    View.ld (Val := Elt F) (e' := e) X (Rect.unit (s := S512x2048) ![0, 0] ![512, 2048] inb) = X := View.ld_unit_zero (S := S512x2048) off2 inb X
theorem ld_S1x2048 {e : EltTy} (X : S1x2048.Idx → Elt F e) (inb) :
    View.ld (Val := Elt F) (e' := e) X (Rect.unit (s := S1x2048) ![0, 0] ![1, 2048] inb) = X := View.ld_unit_zero (S := S1x2048) off2 inb X
theorem ld_S2048x1024 {e : EltTy} (X : S2048x1024.Idx → Elt F e) (inb) :
    View.ld (Val := Elt F) (e' := e) X (Rect.unit (s := S2048x1024) ![0, 0] ![2048, 1024] inb) = X := View.ld_unit_zero (S := S2048x1024) off2 inb X
/-- A load of the whole of what one store of the whole left. -/
theorem readCov_rows {κ : Kind} {sp : Space} (v : View sig κ sp S512x2048 .bf16) (inb) (inb') (w : S512x2048.Idx → Elt F .bf16) :
    v.readCov (Val := Elt F) [(⟨Rect.unit (s := S512x2048) ![0, 0] ![512, 2048] inb, w⟩ : View.Piece (Elt F) S512x2048 .bf16)]
      (Rect.unit (s := S512x2048) ![0, 0] ![512, 2048] inb').toLoadRect = w :=
  View.readCov_unit_zero (S := S512x2048) v off2 inb w

set_option maxHeartbeats 1000000 in
/-- The first point: the rows are normalised and kept, and eight heads of keys stored. -/
theorem runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x2048 .bf16) (harg8 : arg8.IsWhole)
    (hc0 : cond1 i = 1#1) (hc1 : k0_cond2 i = 1#1) (hc2 : ¬ k0_cond3 i = 1#1) (b : ℕ) (hb : b ≤ 8) (ho : ∀ r : Fin 8, k0_off1 i (BitVec.ofNat 32 r.val) = ![b + r.val, 0])
    (x2 : Vec F S512x2048 .f32) (x3 : Vec F S1x2048 .f32) (x4 : Vec F S2048x1024 .bf16) (x5 : Vec F S1x1024 .f32) (x6 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg8 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg8 fullShare (k0_pay1 x2 x3) ∗ owns (c : Thread nD τ) arg6 fullShare (putHeads b (keyHeads (k0_pay1 x2 x3) x4 x5) x6)) -∗ K ⟨⟩))
    ⊢ wp frame (wpE (defs₀ (F := F)) Variants.none c none) E (cc0_kv_rows i arg2 harg2 arg3 harg3 arg4 harg4 arg5 harg5 arg6 harg6 arg7 harg7 arg8 harg8) K := by
  simp only [cc0_kv_rows_eq_skeleton]; unfold cc0_kv_rows_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, Hk⟩
  obtain rfl := harg2.eq_unread hf2; obtain rfl := harg3.eq_unread hf3; obtain rfl := harg4.eq_unread hf4; obtain rfl := harg5.eq_unread hf5; obtain rfl := harg6.eq_unread hf6
  unfold cond1 at hc0
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; swap; · iexact H8
    ipureintro
    refine (read_whole2 _ _ off2 _ _).trans ?_
    simp only [View.readAt_eq_ld, harg2.read_unread, harg3.read_unread, harg4.read_unread, harg5.read_unread, harg6.read_unread, readCov_rows, ld_S512x2048, ld_S1x2048, ld_S2048x1024]
  iexists _; isplitr; swap; · iexact H6
  ipureintro
  refine (read_eight _ _ b hb (fun r => k0_off1 i (BitVec.ofNat 32 r.val)) ho (k0_off1_inb i hc1) spos_16_1 _ _ _ _ _ _ _ _).trans ?_
  sl_unfold_words
  simp only [View.readAt_eq_ld, harg2.read_unread, harg3.read_unread, harg4.read_unread, harg5.read_unread, harg6.read_unread, readCov_rows, ld_S512x2048, ld_S1x2048, ld_S2048x1024]
  rfl

set_option maxHeartbeats 1000000 in
/-- The point that stores eight more heads of keys. -/
theorem runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x2048 .bf16) (harg8 : arg8.IsWhole)
    (hc0 : ¬ cond1 i = 1#1) (hc1 : k0_cond2 i = 1#1) (hc2 : ¬ k0_cond3 i = 1#1) (b : ℕ) (hb : b ≤ 8) (ho : ∀ r : Fin 8, k0_off1 i (BitVec.ofNat 32 r.val) = ![b + r.val, 0])
    (x4 : Vec F S2048x1024 .bf16) (x5 : Vec F S1x1024 .f32) (x8 : Vec F S512x2048 .bf16) (x6 : Vec F S8192x128 .f32) (E : Set ℕ) (K : PUnit → sProp 𝕄) :
    iprop(owns (c : Thread nD τ) arg4 fullShare x4 ∗ owns (c : Thread nD τ) arg5 fullShare x5 ∗ owns (c : Thread nD τ) arg8 fullShare x8 ∗ owns (c : Thread nD τ) arg6 fullShare x6
      ∗ (iprop(owns (c : Thread nD τ) arg4 fullShare x4 ∗ owns (c : Thread nD τ) arg5 fullShare x5 ∗ owns (c : Thread nD τ) arg8 fullShare x8 ∗ owns (c : Thread nD τ) arg6 fullShare (putHeads b (keyHeads x8 x4 x5) x6)) -∗ K ⟨⟩))
    ⊢ wp frame (wpE (defs₀ (F := F)) Variants.none c none) E (cc0_kv_rows i arg2 harg2 arg3 harg3 arg4 harg4 arg5 harg5 arg6 harg6 arg7 harg7 arg8 harg8) K := by
  simp only [cc0_kv_rows_eq_skeleton]; unfold cc0_kv_rows_skel
  simp only [k0_part1_eq_skeleton, k0_part2_eq_skeleton, k0_part3_eq_skeleton]
  unfold owns
  iintro ⟨⟨%f4, %hf4, H4⟩, ⟨%f5, %hf5, H5⟩, ⟨%f8, %hf8, H8⟩, ⟨%f6, %hf6, H6⟩, Hk⟩
  obtain rfl := harg4.eq_unread hf4; obtain rfl := harg5.eq_unread hf5; obtain rfl := harg8.eq_unread hf8; obtain rfl := harg6.eq_unread hf6
  unfold cond1 at hc0
  sl_exec (disch := first | sl_exact hc0 | sl_exact hc1 | sl_exact hc2)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact harg8.read_unread _
    iexact H8
  iexists _; isplitr; swap; · iexact H6
  ipureintro
  refine (read_eight _ _ b hb (fun r => k0_off1 i (BitVec.ofNat 32 r.val)) ho (k0_off1_inb i hc1) spos_16_1 _ _ _ _ _ _ _ _).trans ?_
  sl_unfold_words
  simp only [View.readAt_eq_ld, harg4.read_unread, harg5.read_unread, harg8.read_unread, harg6.read_unread, readCov_rows, ld_S512x2048, ld_S1x2048, ld_S2048x1024]
  rfl

set_option maxHeartbeats 1000000 in
/-- The points that store eight heads of values. -/
theorem runC (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x2048 .bf16) (harg8 : arg8.IsWhole)
    (hc0 : ¬ cond1 i = 1#1) (hc1 : ¬ k0_cond2 i = 1#1) (hc2 : k0_cond3 i = 1#1) (b : ℕ) (hb : b ≤ 8) (ho : ∀ r : Fin 8, k0_off2 i (BitVec.ofNat 32 r.val) = ![b + r.val, 0])
    (x4 : Vec F S2048x1024 .bf16) (x8 : Vec F S512x2048 .bf16) (x7 : Vec F S8192x128 .f32) (E : Set ℕ) (K : PUnit → sProp 𝕄) :
    iprop(owns (c : Thread nD τ) arg4 fullShare x4 ∗ owns (c : Thread nD τ) arg8 fullShare x8 ∗ owns (c : Thread nD τ) arg7 fullShare x7
      ∗ (iprop(owns (c : Thread nD τ) arg4 fullShare x4 ∗ owns (c : Thread nD τ) arg8 fullShare x8 ∗ owns (c : Thread nD τ) arg7 fullShare (putHeads b (valueHeads x8 x4) x7)) -∗ K ⟨⟩))
    ⊢ wp frame (wpE (defs₀ (F := F)) Variants.none c none) E (cc0_kv_rows i arg2 harg2 arg3 harg3 arg4 harg4 arg5 harg5 arg6 harg6 arg7 harg7 arg8 harg8) K := by
  simp only [cc0_kv_rows_eq_skeleton]; unfold cc0_kv_rows_skel
  simp only [k0_part4_eq_skeleton]
  unfold owns
  iintro ⟨⟨%f4, %hf4, H4⟩, ⟨%f8, %hf8, H8⟩, ⟨%f7, %hf7, H7⟩, Hk⟩
  obtain rfl := harg4.eq_unread hf4; obtain rfl := harg8.eq_unread hf8; obtain rfl := harg7.eq_unread hf7
  unfold cond1 at hc0
  sl_exec (disch := first | sl_exact hc0 | sl_exact hc1 | sl_exact hc2)
  sl_step
  iapply Hk
  isplitl [H4]
  · iexists _; isplitr; · ipureintro; exact harg4.read_unread _
    iexact H4
  isplitl [H8]
  · iexists _; isplitr; · ipureintro; exact harg8.read_unread _
    iexact H8
  iexists _; isplitr; swap; · iexact H7
  ipureintro
  refine (read_eight _ _ b hb (fun r => k0_off2 i (BitVec.ofNat 32 r.val)) ho (k0_off2_inb i hc2) spos_16_1 _ _ _ _ _ _ _ _).trans ?_
  sl_unfold_words
  simp only [View.readAt_eq_ld, harg4.read_unread, harg8.read_unread, harg7.read_unread, readCov_rows, ld_S512x2048, ld_S1x2048, ld_S2048x1024]
  rfl

end Cert.KvRowsIdeal.Rows

end
-- ==== Proof.KvRowsFrame.lean ====
/- The kernel that recomputes the last rows' keys and values, over its whole grid. An output buffer is filled by two points,
   each storing half of the heads, so a point is described by how it changes what it finds there. -/
module

public import proofs.«01_k».proof.Proof.KvRowsRuns
public import Idealize.ShloMosaic.Lib.Pipeline.ArrRel
public import Idealize.ShloMosaic.Lib.Claim

@[expose] public section

set_option maxRecDepth 16384

noncomputable section

namespace Cert.KvRowsIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Idealize.ShloMosaic.ValueIdx
open Cert.KvRowsIdeal Cert.KvRowsIdeal.Gen Cert.EveryOther

/-! ## The grid, point by point -/

theorem cond1_iff : ∀ t : Fin grid0.N, cond1 (grid0.coords t) = 1#1 ↔ t.val = 0 := by decide +kernel
theorem cond2_iff : ∀ t : Fin grid0.N, k0_cond2 (grid0.coords t) = 1#1 ↔ t.val < 2 := by decide +kernel
theorem cond3_iff : ∀ t : Fin grid0.N, k0_cond3 (grid0.coords t) = 1#1 ↔ 2 ≤ t.val := by decide +kernel
theorem off1_eq : ∀ t : Fin grid0.N, ∀ r : Fin 8, k0_off1 (grid0.coords t) (BitVec.ofNat 32 r.val) = ![8 * (t.val % 2) + r.val, 0] := by decide +kernel
theorem off2_eq : ∀ t : Fin grid0.N, ∀ r : Fin 8, k0_off2 (grid0.coords t) (BitVec.ofNat 32 r.val) = ![8 * (t.val % 2) + r.val, 0] := by decide +kernel
theorem flush4_iff : ∀ t : Fin grid0.N, (cfg0.win 4).flush t = decide (t.val = 3) := by decide +kernel
theorem flush5_iff : ∀ t : Fin grid0.N, (cfg0.win 5).flush t = decide (t.val = 3) := by decide +kernel
theorem fetch_out : ∀ t : Fin grid0.N, (cfg0.win 4).fetch t = false ∧ (cfg0.win 5).fetch t = false := by decide +kernel

theorem val_lt (t : Fin cfg0.N) : t.val < 4 := lt_of_lt_of_eq t.isLt N_0

variable {F : FTy → Type} [FloatOps F]
local notation "𝕄" => MT nD τ sig Unit (Elt F) ℕ (UR sig nD τ) ℕ
variable (m : (ℓ : Loc nD τ sig) → Buf (Elt F) ℓ) (ρ : Dev nD → PrngReg)

abbrev st0 (t : Fin cfg0.N) : Memref sig .tc .vmem S512x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x1024 .bf16 := win0_2.stage (cfg0.slots t 2)
abbrev st3 (t : Fin cfg0.N) : Memref sig .tc .vmem S1x1024 .f32 := win0_3.stage (cfg0.slots t 3)
abbrev st4 (t : Fin cfg0.N) : Memref sig .tc .vmem S8192x128 .f32 := win0_4.stage (cfg0.slots t 4)
abbrev st5 (t : Fin cfg0.N) : Memref sig .tc .vmem S8192x128 .f32 := win0_5.stage (cfg0.slots t 5)

/-- The scratch buffer that carries the normalised rows from the first point to the last. -/
abbrev scr : Memref sig .tc .vmem S512x2048 .bf16 := Memref.whole cc0_scratch0

theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the points store -/

/-- The normalised rows. -/
def hRow (c : Dev nD) : FVec F S512x2048 .bf16 := k0_pay1 (iblk m c 0 t0_0) (iblk m c 1 t0_0)

/-- The eight heads of keys, and of values, that a point stores. -/
def ks (c : Dev nD) (t : Fin cfg0.N) : Fin 8 → FVec F S512x128 .f32 := keyHeads (hRow m c) (iblk m c 2 t) (iblk m c 3 t)
def vs (c : Dev nD) (t : Fin cfg0.N) : Fin 8 → FVec F S512x128 .f32 := valueHeads (hRow m c) (iblk m c 2 t)

/-- What a point makes of what it finds in the two output buffers. -/
def step4 (c : Dev nD) (t : Fin cfg0.N) (Y : FVec F S8192x128 .f32) : FVec F S8192x128 .f32 :=
  if t.val < 2 then putHeads (8 * (t.val % 2)) (ks m c t) Y else Y
def step5 (c : Dev nD) (t : Fin cfg0.N) (Y : FVec F S8192x128 .f32) : FVec F S8192x128 .f32 :=
  if t.val < 2 then Y else putHeads (8 * (t.val % 2)) (vs m c t) Y

/-- The buffers when all the heads are stored. -/
def out4 (c : Dev nD) : FVec F S8192x128 .f32 := bothHalves (ks m c t0_0) (ks m c t0_1)
def out5 (c : Dev nD) : FVec F S8192x128 .f32 := bothHalves (vs m c t0_2) (vs m c t0_3)

/-- What a run from the entry contents is to end with, contents by contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c
    | ⟨5, _⟩ => out5 m c
  Φ s := if s.val % 4 = 0 then Pipeline.ΦA spec0 c
    else iprop(owns (c : Thread nD τ) scr fullShare (hRow m c) ∗ (∃ r, prngReg c r))
  q _ := fullShare
  owed _ := 0

/-- The same run, point by point: an input buffer is left as found, an output buffer changed by its step. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = step4 m c t Y
    | ⟨5, _⟩ => X = step5 m c t Y
  Φ := (dats m 0 c).Φ
  q _ := fullShare
  owed _ := 0

theorem A_eq (c : Dev nD) (w : Fin cfg0.W) : (dats m 0 c).A w = V m c (Pipeline.arrRef spec0 w) := by
  dsimp only [dats]

theorem found0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk rdat; rfl
theorem found1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk rdat; rfl
theorem found2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk rdat; rfl
theorem found3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk rdat; rfl

theorem inv_first (c : Dev nD) (s : Fin (cfg0.N + 1)) (h : s.val % 4 = 0) : (rdat m c).Φ s = Pipeline.ΦA spec0 c := by
  dsimp only [rdat, dats]; exact if_pos h

theorem inv_in (c : Dev nD) (s : Fin (cfg0.N + 1)) (h : ¬ s.val % 4 = 0) : (rdat m c).Φ s
    = iprop(owns (c : Thread nD τ) scr fullShare (hRow m c) ∗ (∃ r, prngReg c r)) := by
  dsimp only [rdat, dats]; exact if_neg h

/-- After a point the scratch buffer still holds the normalised rows, or nothing more is said of it at the end. -/
theorem inv_keep (c : Dev nD) (t : Fin cfg0.N) :
    iprop(owns (c : Thread nD τ) scr fullShare (hRow m c) ∗ (∃ r, prngReg c r)) ⊢ (rdat m c).Φ t.succ := by
  by_cases h : (t.val + 1) % 4 = 0
  · rw [inv_first m c t.succ h, inv_eq]
    iintro ⟨H, Hg⟩
    isplitl [H]
    · iexists _; iexact H
    iexact Hg
  · rw [inv_in m c t.succ h]

/-! ## The body at a point -/

def given (c : Dev nD) (t : Fin cfg0.N) (Y4 Y5 : FVec F S8192x128 .f32) : sProp 𝕄 :=
  iprop((rdat m c).Φ t.castSucc ∗ (rdat m c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare Y4
    ∗ owns (c : Thread nD τ) (st5 t) fullShare Y5)

def returned (c : Dev nD) (t : Fin cfg0.N) (Y4 Y5 : FVec F S8192x128 .f32) : sProp 𝕄 :=
  iprop((rdat m c).Φ t.succ ∗ (rdat m c).owesAt () t.succ
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (step4 m c t Y4)
    ∗ owns (c : Thread nD τ) (st5 t) fullShare (step5 m c t Y5))

set_option maxHeartbeats 2000000 in
theorem bodyA (c : Dev nD) (t : Fin cfg0.N) (h : t.val = 0) (Y4 Y5 : FVec F S8192x128 .f32) :
    given m c t Y4 Y5 ⊢ wp frame (wpE (defs₀ (F := F)) Variants.none c none) Set.univ (bodyAt0 t) (fun _ => returned m c t Y4 Y5) := by
  have ht := val_lt t
  unfold given returned bodyAt0
  rw [show (rdat m c).owesAt () t.succ = (rdat m c).owesAt () t.castSucc from rfl]
  obtain rfl : t = t0_0 := Fin.ext h
  rw [inv_first m c _ (by rfl), inv_eq]
  rw [show step4 m c t0_0 Y4 = putHeads (8 * ((t0_0 : Fin cfg0.N).val % 2)) (ks m c t0_0) Y4 from if_pos (by decide)]
  rw [show step5 m c t0_0 Y5 = Y5 from if_pos (by decide)]
  iintro ⟨⟨HS, Hg⟩, Ho, H0, H1, H2, H3, H4, H5⟩
  iapply ((runA c (grid0.coords t0_0) _ _ _ _ _ _ _ _ _ _ _ _ _ _ ((cond1_iff t0_0).mpr (by decide)) ((cond2_iff t0_0).mpr (by decide)) (fun hh => absurd ((cond3_iff t0_0).mp hh) (by decide)) (8 * ((t0_0 : Fin cfg0.N).val % 2)) (by omega) (off1_eq t0_0) (iblk m c 0 t0_0) (iblk m c 1 t0_0) (iblk m c 2 t0_0) (iblk m c 3 t0_0) Y4) Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, HS, H4⟩
  isplitl [HS Hg]
  · iapply (inv_keep m c t0_0)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
theorem bodyB (c : Dev nD) (t : Fin cfg0.N) (h : t.val = 1) (Y4 Y5 : FVec F S8192x128 .f32) :
    given m c t Y4 Y5 ⊢ wp frame (wpE (defs₀ (F := F)) Variants.none c none) Set.univ (bodyAt0 t) (fun _ => returned m c t Y4 Y5) := by
  have ht := val_lt t
  unfold given returned bodyAt0
  rw [show (rdat m c).owesAt () t.succ = (rdat m c).owesAt () t.castSucc from rfl]
  rw [inv_in m c t.castSucc (show ¬ t.val % 4 = 0 by omega)]
  rw [show step4 m c t Y4 = putHeads (8 * ((t : Fin cfg0.N).val % 2)) (ks m c t) Y4 from if_pos (by omega)]
  rw [show step5 m c t Y5 = Y5 from if_pos (by omega)]
  iintro ⟨⟨HS, Hg⟩, Ho, H0, H1, H2, H3, H4, H5⟩
  iapply ((runB c (grid0.coords t) _ _ _ _ _ _ _ _ _ _ _ _ _ _ (fun hh => absurd ((cond1_iff t).mp hh) (by omega)) ((cond2_iff t).mpr (by omega)) (fun hh => absurd ((cond3_iff t).mp hh) (by omega)) (8 * ((t : Fin cfg0.N).val % 2)) (by omega) (off1_eq t) (iblk m c 2 t) (iblk m c 3 t) (hRow m c) Y4) Set.univ _)
  isplitl [H2]; · iexact H2
  isplitl [H3]; · iexact H3
  isplitl [HS]; · iexact HS
  isplitl [H4]; · iexact H4
  iintro ⟨H2, H3, HS, H4⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
theorem bodyC (c : Dev nD) (t : Fin cfg0.N) (h : 2 ≤ t.val) (Y4 Y5 : FVec F S8192x128 .f32) :
    given m c t Y4 Y5 ⊢ wp frame (wpE (defs₀ (F := F)) Variants.none c none) Set.univ (bodyAt0 t) (fun _ => returned m c t Y4 Y5) := by
  have ht := val_lt t
  unfold given returned bodyAt0
  rw [show (rdat m c).owesAt () t.succ = (rdat m c).owesAt () t.castSucc from rfl]
  rw [inv_in m c t.castSucc (show ¬ t.val % 4 = 0 by omega)]
  rw [show step4 m c t Y4 = Y4 from if_neg (by omega)]
  rw [show step5 m c t Y5 = putHeads (8 * ((t : Fin cfg0.N).val % 2)) (vs m c t) Y5 from if_neg (by omega)]
  iintro ⟨⟨HS, Hg⟩, Ho, H0, H1, H2, H3, H4, H5⟩
  iapply ((runC c (grid0.coords t) _ _ _ _ _ _ _ _ _ _ _ _ _ _ (fun hh => absurd ((cond1_iff t).mp hh) (by omega)) (fun hh => absurd ((cond2_iff t).mp hh) (by omega)) ((cond3_iff t).mpr (by omega)) (8 * ((t : Fin cfg0.N).val % 2)) (by omega) (off2_eq t) (iblk m c 2 t) (hRow m c) Y5) Set.univ _)
  isplitl [H2]; · iexact H2
  isplitl [HS]; · iexact HS
  isplitl [H5]; · iexact H5
  iintro ⟨H2, HS, H5⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_at (c : Dev nD) (t : Fin cfg0.N) (Y4 Y5 : FVec F S8192x128 .f32) :
    given m c t Y4 Y5 ⊢ wp frame (wpE (defs₀ (F := F)) Variants.none c none) Set.univ (bodyAt0 t) (fun _ => returned m c t Y4 Y5) := by
  by_cases h0 : t.val = 0
  · exact bodyA m c t h0 Y4 Y5
  by_cases h1 : t.val = 1
  · exact bodyB m c t h1 Y4 Y5
  · exact bodyC m c t (by omega) Y4 Y5

theorem row_eq (t : Fin cfg0.N) : defs₀ (F := F) .tc cfg0.body (cfg0.bodyArgs t (cfg0.slots t)) = bodyAt0 t := by
  unfold defs₀; rw [Defs.onTc_tc]

/-- A buffer at its step's contents is a buffer the point may leave. -/
theorem left_as {c : Dev nD} {S : Shape} {e : EltTy} (M : Memref sig .tc .vmem S e) (P : (S.Idx → Elt F e) → Prop) (X) (h : P X) :
    owns (c : Thread nD τ) M fullShare X ⊢ (iprop(∃ X, ⌜P X⌝ ∗ owns (c : Thread nD τ) M fullShare X) : sProp 𝕄) := by
  iintro H
  iexists X
  isplitr
  · ipureintro; exact h
  iexact H

theorem body_ok (c : Dev nD) : (rdat (F := F) m c).BodyObligation (defs₀ (F := F)) Variants.none () Set.univ := fun t Y hY => by
  rw [bigSep_W0, bigSep_W0, row_eq]
  have e0 := found0 m c t _ (hY 0)
  have e1 := found1 m c t _ (hY 1)
  have e2 := found2 m c t _ (hY 2)
  have e3 := found3 m c t _ (hY 3)
  refine triple_restated (body_at m c t (Y 4) (Y 5)) rfl ?_ fun _ => ?_
  · unfold given; rw [e0, e1, e2, e3]
  · unfold returned
    iintro ⟨HP, Ho, H0, H1, H2, H3, H4, H5⟩
    isplitl [HP]; · iexact HP
    isplitl [Ho]; · iexact Ho
    isplitl [H0]; · iapply (left_as (st0 t) ((rdat m c).after 0 t (Y 0)) (iblk m c 0 t) e0.symm); iexact H0
    isplitl [H1]; · iapply (left_as (st1 t) ((rdat m c).after 1 t (Y 1)) (iblk m c 1 t) e1.symm); iexact H1
    isplitl [H2]; · iapply (left_as (st2 t) ((rdat m c).after 2 t (Y 2)) (iblk m c 2 t) e2.symm); iexact H2
    isplitl [H3]; · iapply (left_as (st3 t) ((rdat m c).after 3 t (Y 3)) (iblk m c 3 t) e3.symm); iexact H3
    isplitl [H4]; · iapply (left_as (st4 t) ((rdat m c).after 4 t (Y 4)) _ rfl); iexact H4
    iapply (left_as (st5 t) ((rdat m c).after 5 t (Y 5)) _ rfl); iexact H5

/-! ## What is written back -/

theorem prev_left (c : Dev nD) (w : Fin cfg0.W) (t s : Fin cfg0.N) (hs : t.val = s.val + 1) (hft : (cfg0.win w).fetch t = false)
    (hfl : (cfg0.win w).flush s = false) (X) (h : (rdat m c).Finds w t X) : (rdat m c).Leaves w s X := by
  have e : (⟨t.val - 1, Nat.lt_of_le_of_lt (Nat.sub_le _ _) t.isLt⟩ : Fin cfg0.N) = s := Fin.ext (by show t.val - 1 = s.val; omega)
  have h' := ((rdat m c).finds_of_pos hft (by omega) X).mp h
  rw [e] at h'
  exact h'.resolve_left (by rw [hfl]; exact Bool.false_ne_true)

theorem last4 (c : Dev nD) (X) (h : (rdat m c).Leaves 4 t0_3 X) : X = out4 m c := by
  obtain ⟨Y3, h3, e3⟩ := h
  obtain ⟨Y2, h2, e2⟩ := prev_left m c 4 t0_3 t0_2 rfl (fetch_out _).1 ((flush4_iff _).trans (by decide)) _ h3
  obtain ⟨Y1, h1, e1⟩ := prev_left m c 4 t0_2 t0_1 rfl (fetch_out _).1 ((flush4_iff _).trans (by decide)) _ h2
  obtain ⟨Y0, h0, e0⟩ := prev_left m c 4 t0_1 t0_0 rfl (fetch_out _).1 ((flush4_iff _).trans (by decide)) _ h1
  have e3' : X = Y3 := e3.trans (if_neg (by decide))
  have e2' : Y3 = Y2 := e2.trans (if_neg (by decide))
  have e1' : Y2 = putHeads 8 (ks m c t0_1) Y1 := e1.trans (if_pos (by decide))
  have e0' : Y1 = putHeads 0 (ks m c t0_0) Y0 := e0.trans (if_pos (by decide))
  rw [e3', e2', e1', e0']
  exact put_both _ _ _

theorem last5 (c : Dev nD) (X) (h : (rdat m c).Leaves 5 t0_3 X) : X = out5 m c := by
  obtain ⟨Y3, h3, e3⟩ := h
  obtain ⟨Y2, h2, e2⟩ := prev_left m c 5 t0_3 t0_2 rfl (fetch_out _).2 ((flush5_iff _).trans (by decide)) _ h3
  have e3' : X = putHeads 8 (vs m c t0_3) Y3 := e3.trans (if_neg (by decide))
  have e2' : Y3 = putHeads 0 (vs m c t0_2) Y2 := e2.trans (if_neg (by decide))
  rw [e3', e2']
  exact put_both _ _ _

theorem left_exact (c : Dev nD) (w : Fin cfg0.W) (u : Fin cfg0.N) (hf : (cfg0.win w).flush u = true) (X) (h : (rdat m c).Leaves w u X) :
    (dats m 0 c).after w u = X := by
  match w, hf, X, h with
  | ⟨0, _⟩, hf, X, h => exact absurd (((cfg0.win 0).flush_in rfl u).symm.trans hf) Bool.false_ne_true
  | ⟨1, _⟩, hf, X, h => exact absurd (((cfg0.win 1).flush_in rfl u).symm.trans hf) Bool.false_ne_true
  | ⟨2, _⟩, hf, X, h => exact absurd (((cfg0.win 2).flush_in rfl u).symm.trans hf) Bool.false_ne_true
  | ⟨3, _⟩, hf, X, h => exact absurd (((cfg0.win 3).flush_in rfl u).symm.trans hf) Bool.false_ne_true
  | ⟨4, _⟩, hf, X, h =>
    obtain rfl : u = t0_3 := Fin.ext (of_decide_eq_true ((flush4_iff u).symm.trans hf))
    exact (last4 m c X h).symm
  | ⟨5, _⟩, hf, X, h =>
    obtain rfl : u = t0_3 := Fin.ext (of_decide_eq_true ((flush5_iff u).symm.trans hf))
    exact (last5 m c X h).symm

theorem post_exact (r : PUnit × MemSt nD τ sig (Elt F)) (h : Pipeline.RDat.FramePost cfg0 (rdat m) (V m) r) :
    Pipeline.FramePost cfgs (dats m) 0 (V m) r := fun c => ⟨fun w => by
  obtain ⟨X, hX, hA⟩ := Pipeline.RDat.ArrAt.exists_exact ((h c).1 w)
  exact hA (dats m 0 c).after fun u hu hf => left_exact m c w u hf _ (hX u hu hf), (h c).2⟩

/-! ## The launch -/

set_option backward.isDefEq.respectTransparency.types false in
theorem launch_ends : θ_run defs (onTc (τ := τ) (main (F := F))) ⟨m, fun _ => 0, ρ⟩
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body_ok m) (hshare := fun c w => by unfold RDat.share; exact ite_self _)
    (howed := fun _ _ => rfl) (V := V m) (hmain := hmain m Variants.none) (hA := fun _ _ => rfl)
    (hin := fun c => by rw [inv_first m c 0 (by rfl)])
    (hout := fun c => by rw [inv_first m c (Fin.last cfg0.N) (by show cfg0.N % 4 = 0; rw [show cfg0.N = 4 from N_0])])

theorem launch_post : θ_run defs (onTc (τ := τ) (main (F := F))) ⟨m, fun _ => 0, ρ⟩ (Pipeline.FramePost cfgs (dats m) 0 (V m)) :=
  (θ_run defs _ _).mono (fun _ h => post_exact m _ h.1) (launch_ends m ρ)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (launch_post m ρ)

/-- The launch ends with its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (args_kept m ρ) ((θ_run defs _ _).mono (fun _ h => h.2) (launch_ends m ρ))

end Cert.KvRowsIdeal.Rows

end
-- ==== Proof.KvRows.lean ====
/-
  The last rows' keys and values, recomputed: what the kernel leaves in its two result arrays, and that it is what the plain
  projections of those rows give on the extended reals.
-/
module

public import proofs.«01_k».proof.Defs
public import proofs.«01_k».proof.Proof.Gen.KvRows.Frame
public import proofs.«01_k».proof.Proof.Gen.KvRowsRefIdeal.Read
public import proofs.«01_k».proof.Proof.KvRowsFrame
public import proofs.«01_k».proof.Proof.InProjTiles
public import proofs.«01_k».proof.Proof.RowNorm

@[expose] public section

set_option maxRecDepth 16384

noncomputable section

open Idealize.ShloMosaic Idealize.ShloMosaic.TcCoe Idealize.SL.Sem
open Idealize.ShloMosaic.Pipeline (Dat)
open Idealize.ShloMosaic.ValueIdx
open Cert.RowNorm Cert.EveryOther
open Cert.InProjIdeal.Tiles (rowH rowP rowQ)
open scoped BigOperators

namespace Cert.KvRowsIdeal.Tiles

open Cert.KvRowsIdeal Cert.KvRowsIdeal.Gen Cert.KvRowsIdeal.Rows

/-! ## The tiles -/

theorem rows_apply (x : Vec Ideal S512x2048 .f32) (w : Vec Ideal S1x2048 .f32) (r : Fin 512) (k : Fin 2048) :
    (k0_pay1 (F := Ideal) x w (ix2 r k) : EReal)
      = unitRow 0x45000000#32 (fun k => (x (ix2 r k) : EReal)) (fun k => (w (ix2 (0 : Fin 1) k) : EReal)) k := by
  unfold k0_pay1
  simp only [shapeCast_self]
  exact normed_apply (a := 512) (b := 2048) _ x w _ _ _ _ (by decide) r k

theorem prod_apply (h : FVec Ideal S512x2048 .bf16) (w : FVec Ideal S2048x1024 .bf16) (r : Fin 512) (j : Fin 1024) :
    (matmul (F := Ideal) dot_S512x2048_S2048x1024_S512x1024_1_0_0_1_n_n none h w (constant S512x1024 .f32 0x00000000#32) (ix2 r j) : EReal)
      = ∑ k : Fin 2048, h (ix2 r k) * w (ix2 k j) := by
  refine (Ideal.matmul_plain_apply none h w _ r j).trans ?_
  show Ideal.ofBits .f32 0x00000000#32 + _ = _
  rw [Ideal.ofBits_zero_f32, zero_add]

/-- One head of a tile of products, normalised. -/
theorem head_apply (off : Nat) (p : FVec Ideal S512x1024 .f32) (w : FVec Ideal S1x128 .f32) (hs : S512x1024.Slices ![0, off] S512x128)
    (hr : S512x128.Reduces [1] S512) (hc : S512.ShapeCasts S512x1) (hb : S512x1.Broadcasts S512x128) (hw : S1x128.Broadcasts S512x128)
    (r : Fin 512) (d : Fin 128) (ho : off + 128 ≤ 1024) :
    (mulf (mulf (extractStridedSlice S512x128 ![0, off] p hs) (broadcastTo S512x128 (rsqrt (addf (divf
      (shapeCast S512x1 (multiReduction (F := Ideal) .add [1] S512 (mulf (extractStridedSlice S512x128 ![0, off] p hs) (extractStridedSlice S512x128 ![0, off] p hs)) 0x00000000#32 hr (.inl rfl) rfl) hc)
      (broadcast S512x1 (Scalar.ofBits (F := Ideal) .f32 0x43000000#32))) (broadcast S512x1 (Scalar.ofBits (F := Ideal) .f32 0x358637BD#32)))) hb))
      (broadcastTo S512x128 w hw) (ix2 r d) : EReal)
      = unitRow 0x43000000#32 (fun d : Fin 128 => p (ix2 r (⟨off + d.val, by omega⟩ : Fin 1024))) (fun d => w (ix2 (0 : Fin 1) d)) d := by
  refine (normed_apply (a := 512) (b := 128) _ (extractStridedSlice S512x128 ![0, off] p hs) w hr hc hb hw (by decide) r d).trans ?_
  unfold unitRow
  have e (d : Fin 128) : extractStridedSlice S512x128 ![0, off] p hs (ix2 r d) = p (ix2 r (⟨off + d.val, by omega⟩ : Fin 1024)) :=
    slice2_axis1_eq off p hs r d
  simp only [e]

/-- The weights of head `a` are the tile's entries from `a` on. -/
theorem headW_apply (qw : FVec Ideal S1x1024 .f32) (a : Nat) (inb) (d : Fin 128) (ho : a + 128 ≤ 1024) :
    headW qw a inb (ix2 (0 : Fin 1) d) = qw (ix2 (0 : Fin 1) (⟨a + d.val, by omega⟩ : Fin 1024)) := by
  refine congrArg qw (funext fun b => Fin.ext ?_)
  match b with
  | ⟨0, _⟩ => rfl
  | ⟨1, _⟩ => show a + 1 * d.val = a + d.val; omega

/-- Eight heads of keys. -/
theorem keyHeads_apply (h : FVec Ideal S512x2048 .bf16) (w : FVec Ideal S2048x1024 .bf16) (qw : FVec Ideal S1x1024 .f32) (a : Fin 8) (r : Fin 512) (d : Fin 128) :
    (keyHeads (F := Ideal) h w qw a (ix2 r d) : EReal)
      = unitRow 0x43000000#32 (fun d : Fin 128 => ∑ k : Fin 2048, h (ix2 r k) * w (ix2 k (⟨a.val * 128 + d.val, by omega⟩ : Fin 1024)))
          (fun d : Fin 128 => qw (ix2 (0 : Fin 1) (⟨a.val * 128 + d.val, by omega⟩ : Fin 1024))) d := by
  have fin (off : Nat) (inb) (ho : off + 128 ≤ 1024) (q : FVec Ideal S512x1024 .f32)
      (hq : q = matmul (F := Ideal) dot_S512x2048_S2048x1024_S512x1024_1_0_0_1_n_n none h w (constant S512x1024 .f32 0x00000000#32)) :
      unitRow 0x43000000#32 (fun d : Fin 128 => (q (ix2 r (⟨off + d.val, by omega⟩ : Fin 1024)) : EReal)) (fun d => (headW qw off inb (ix2 (0 : Fin 1) d) : EReal)) d
        = unitRow 0x43000000#32 (fun d : Fin 128 => ∑ k : Fin 2048, h (ix2 r k) * w (ix2 k (⟨off + d.val, by omega⟩ : Fin 1024)))
          (fun d : Fin 128 => qw (ix2 (0 : Fin 1) (⟨off + d.val, by omega⟩ : Fin 1024))) d := by
    subst hq
    exact congrArg₂ (fun f g => unitRow 0x43000000#32 f g d) (funext fun d => prod_apply h w r _) (funext fun d => headW_apply qw off inb d ho)
  unfold keyHeads
  fin_cases a
  · show (k0_pay5 (F := Ideal) h w (headW qw 0 inb_S1x1024_S1x128_0_0) (ix2 r d) : EReal) = _
    unfold k0_pay5 k0_pay4
    simp only [shapeCast_self]
    exact (head_apply 0 _ (headW qw 0 _) _ _ _ _ _ r d (by decide)).trans (fin 0 _ (by decide) _ rfl)
  · show (k0_pay6 (F := Ideal) h w (headW qw 128 inb_S1x1024_S1x128_0_128) (ix2 r d) : EReal) = _
    unfold k0_pay6 k0_pay4
    simp only [shapeCast_self]
    exact (head_apply 128 _ (headW qw 128 _) _ _ _ _ _ r d (by decide)).trans (fin 128 _ (by decide) _ rfl)
  · show (k0_pay7 (F := Ideal) (k0_pay4 h w) (headW qw 256 inb_S1x1024_S1x128_0_256) (ix2 r d) : EReal) = _
    unfold k0_pay7 k0_pay4
    simp only [shapeCast_self]
    exact (head_apply 256 _ (headW qw 256 _) _ _ _ _ _ r d (by decide)).trans (fin 256 _ (by decide) _ rfl)
  · show (k0_pay8 (F := Ideal) (k0_pay4 h w) (headW qw 384 inb_S1x1024_S1x128_0_384) (ix2 r d) : EReal) = _
    unfold k0_pay8 k0_pay4
    simp only [shapeCast_self]
    exact (head_apply 384 _ (headW qw 384 _) _ _ _ _ _ r d (by decide)).trans (fin 384 _ (by decide) _ rfl)
  · show (k0_pay11 (F := Ideal) (k0_pay9 (k0_pay4 h w)) (k0_pay10 (k0_pay4 h w)) (headW qw 512 inb_S1x1024_S1x128_0_512) (ix2 r d) : EReal) = _
    unfold k0_pay11 k0_pay10 k0_pay9 k0_pay4
    simp only [shapeCast_self]
    exact (head_apply 512 _ (headW qw 512 _) _ _ _ _ _ r d (by decide)).trans (fin 512 _ (by decide) _ rfl)
  · show (k0_pay12 (F := Ideal) (k0_pay4 h w) (headW qw 640 inb_S1x1024_S1x128_0_640) (ix2 r d) : EReal) = _
    unfold k0_pay12 k0_pay4
    simp only [shapeCast_self]
    exact (head_apply 640 _ (headW qw 640 _) _ _ _ _ _ r d (by decide)).trans (fin 640 _ (by decide) _ rfl)
  · show (k0_pay2 (F := Ideal) (k0_pay13 (k0_pay4 h w)) (headW qw 768 inb_S1x1024_S1x128_0_768) (ix2 r d) : EReal) = _
    unfold k0_pay2 k0_pay13 k0_pay4
    simp only [shapeCast_self]
    exact (head_apply 768 _ (headW qw 768 _) _ _ _ _ _ r d (by decide)).trans (fin 768 _ (by decide) _ rfl)
  · show (k0_pay3 (F := Ideal) (k0_pay4 h w) (headW qw 896 inb_S1x1024_S1x128_0_896) (ix2 r d) : EReal) = _
    unfold k0_pay3 k0_pay4
    simp only [shapeCast_self]
    exact (head_apply 896 _ (headW qw 896 _) _ _ _ _ _ r d (by decide)).trans (fin 896 _ (by decide) _ rfl)

/-- Eight heads of values. -/
theorem valueHeads_apply (h : FVec Ideal S512x2048 .bf16) (w : FVec Ideal S2048x1024 .bf16) (a : Fin 8) (r : Fin 512) (d : Fin 128) :
    (valueHeads (F := Ideal) h w a (ix2 r d) : EReal) = ∑ k : Fin 2048, h (ix2 r k) * w (ix2 k (⟨a.val * 128 + d.val, by omega⟩ : Fin 1024)) := by
  unfold valueHeads
  fin_cases a
  · show (k0_pay15 (F := Ideal) h w (ix2 r d) : EReal) = _
    unfold k0_pay15 k0_pay14
    exact (slice2_axis1_eq 0 _ _ r d).trans (prod_apply h w r _)
  · show (k0_pay16 (F := Ideal) h w (ix2 r d) : EReal) = _
    unfold k0_pay16 k0_pay14
    exact (slice2_axis1_eq 128 _ _ r d).trans (prod_apply h w r _)
  · show (k0_pay17 (F := Ideal) h w (ix2 r d) : EReal) = _
    unfold k0_pay17 k0_pay14
    exact (slice2_axis1_eq 256 _ _ r d).trans (prod_apply h w r _)
  · show (k0_pay18 (F := Ideal) h w (ix2 r d) : EReal) = _
    unfold k0_pay18 k0_pay14
    exact (slice2_axis1_eq 384 _ _ r d).trans (prod_apply h w r _)
  · show (k0_pay19 (F := Ideal) h w (ix2 r d) : EReal) = _
    unfold k0_pay19 k0_pay14
    exact (slice2_axis1_eq 512 _ _ r d).trans (prod_apply h w r _)
  · show (k0_pay20 (F := Ideal) h w (ix2 r d) : EReal) = _
    unfold k0_pay20 k0_pay14
    exact (slice2_axis1_eq 640 _ _ r d).trans (prod_apply h w r _)
  · show (k0_pay21 (F := Ideal) h w (ix2 r d) : EReal) = _
    unfold k0_pay21 k0_pay14
    exact (slice2_axis1_eq 768 _ _ r d).trans (prod_apply h w r _)
  · show (k0_pay22 (F := Ideal) h w (ix2 r d) : EReal) = _
    unfold k0_pay22 k0_pay14
    exact (slice2_axis1_eq 896 _ _ r d).trans (prod_apply h w r _)

/-! ## What the launch finds -/

variable (m : (ℓ : Loc nD τ sig) → Buf (Elt Ideal) ℓ) (ρ : Dev nD → PrngReg)

theorem found_x (c : Dev nD) : V (F := Ideal) m c main_v10
    = shapeCast S16384x2048 (m ((c : Thread nD τ).loc main_arg0)) shapeCasts_S1x16384x2048_S16384x2048 := by
  show StableHlo.after hostOps0 _ (Proc.devRef .tc main_v10) = _
  after_results
  rfl

theorem x_apply (c : Dev nD) (r : Fin 16384) (k : Fin 2048) :
    V (F := Ideal) m c main_v10 (ix2 r k) = m ((c : Thread nD τ).loc main_arg0) (ix3 (0 : Fin 1) r k) := by
  rw [found_x]; exact shapeCast_1ab_ab_apply _ _ r k

theorem found_w (c : Dev nD) : V (F := Ideal) m c main_v12
    = shapeCast S1x2048 (shapeCast S2048 (m ((c : Thread nD τ).loc main_arg1)) shapeCasts_S1x2048_S2048) shapeCasts_S2048_S1x2048 := by
  show StableHlo.after hostOps0 _ (Proc.devRef .tc main_v12) = _
  after_results
  rfl

theorem w_apply (c : Dev nD) (k : Fin 2048) :
    V (F := Ideal) m c main_v12 (ix2 (0 : Fin 1) k) = m ((c : Thread nD τ).loc main_arg1) (ix2 (0 : Fin 1) k) := by
  rw [found_w]; exact (shapeCast_a_1a_apply _ _ (0 : Fin 1) k).trans (shapeCast_1a_a_apply _ _ k)

/-- One head's weights sixteen times over. -/
abbrev spread (w : S1x128.Idx → EReal) : S2048.Idx → EReal :=
  shapeCast S2048 (broadcastInDim S16x128 ![0, 1] bcast_S1x128_S16x128_0_1 (shapeCast S1x128 (shapeCast S128 w shapeCasts_S1x128_S128) shapeCasts_S128_S1x128)) shapeCasts_S16x128_S2048

theorem spread_apply (w : S1x128.Idx → EReal) (h : Fin 16) (d : Fin 128) :
    spread w (ix1 (⟨h.val * 128 + d.val, by omega⟩ : Fin 2048)) = w (ix2 (0 : Fin 1) d) := by
  refine (shapeCast_apply _ _ _ (ix2 h d) ?_).trans ?_
  · rw [Shape.rowMajor_val_two, Shape.rowMajor_val_one]; rfl
  refine (broadcastInDim_apply _ _ _ _ (ix2 (0 : Fin 1) d) fun a => ?_).trans ?_
  · match a with
    | ⟨0, _⟩ => rfl
    | ⟨1, _⟩ => rfl
  exact (shapeCast_a_1a_apply _ _ (0 : Fin 1) d).trans (shapeCast_1a_a_apply _ _ d)

theorem found_qk (c : Dev nD) : V (F := Ideal) m c main_v9
    = shapeCast S1x4096 (concatenate S4096 0 [⟨S2048, spread (m ((c : Thread nD τ).loc main_arg3))⟩, ⟨S2048, spread (m ((c : Thread nD τ).loc main_arg4))⟩]
        concatenates_S2048_S2048_S4096_d0) shapeCasts_S4096_S1x4096 := by
  show StableHlo.after hostOps0 _ (Proc.devRef .tc main_v9) = _
  after_results
  rfl

theorem k_weight (c : Dev nD) (h : Fin 16) (d : Fin 128) :
    V (F := Ideal) m c main_v9 (ix2 (0 : Fin 1) (⟨2048 + (h.val * 128 + d.val), by omega⟩ : Fin 4096)) = m ((c : Thread nD τ).loc main_arg4) (ix2 (0 : Fin 1) d) := by
  rw [found_qk]
  refine (shapeCast_a_1a_apply _ _ (0 : Fin 1) _).trans ?_
  refine (concatenate_pair_apply_right (t := S4096) (s₁ := S2048) (s₂ := S2048) 0 _ _ _ _ rfl rfl (ix1 (⟨h.val * 128 + d.val, by omega⟩ : Fin 2048)) (fun b hb => ?_) ?_).trans (spread_apply _ h d)
  · match b with
    | ⟨0, _⟩ => exact absurd rfl hb
  · show h.val * 128 + d.val + 2048 = 2048 + (h.val * 128 + d.val)
    omega

/-! ## The blocks -/

theorem idx_in : ∀ t : Fin grid0.N,
    (win0_0.index t 0 = 31 ∧ win0_0.index t 1 = 0) ∧ (win0_1.index t 0 = 0 ∧ win0_1.index t 1 = 0)
    ∧ (win0_2.index t 0 = 0 ∧ win0_2.index t 1 = t.val + 2) ∧ (win0_3.index t 0 = 0 ∧ win0_3.index t 1 = min (t.val + 2) 3)
    ∧ (win0_4.index t 0 = 0 ∧ win0_4.index t 1 = 0) ∧ (win0_5.index t 0 = 0 ∧ win0_5.index t 1 = 0) := by decide +kernel

theorem blk0 (c : Dev nD) (t : Fin cfg0.N) (r : Fin 512) (k : Fin 2048) :
    iblk (F := Ideal) m c 0 t (ix2 r k) = m ((c : Thread nD τ).loc main_arg0) (ix3 (0 : Fin 1) (⟨15872 + r.val, by omega⟩ : Fin 16384) k) := by
  refine Eq.trans ?_ (x_apply m c _ k)
  unfold iblk
  refine congrArg (V (F := Ideal) m c main_v10) (funext fun a => Fin.ext ?_)
  have h0 := (idx_in t).1
  match a with
  | ⟨0, _⟩ => show win0_0.index t 0 * 512 + 1 * r.val = 15872 + r.val; rw [h0.1]; omega
  | ⟨1, _⟩ => show win0_0.index t 1 * 2048 + 1 * k.val = k.val; rw [h0.2]; omega

theorem blk1 (c : Dev nD) (t : Fin cfg0.N) (k : Fin 2048) :
    iblk (F := Ideal) m c 1 t (ix2 (0 : Fin 1) k) = m ((c : Thread nD τ).loc main_arg1) (ix2 (0 : Fin 1) k) := by
  refine Eq.trans ?_ (w_apply m c k)
  unfold iblk
  refine congrArg (V (F := Ideal) m c main_v12) (funext fun a => Fin.ext ?_)
  have h0 := (idx_in t).2.1
  match a with
  | ⟨0, _⟩ => show win0_1.index t 0 * 1 + 1 * 0 = 0; rw [h0.1]
  | ⟨1, _⟩ => show win0_1.index t 1 * 2048 + 1 * k.val = k.val; rw [h0.2]; omega

theorem blk2 (c : Dev nD) (t : Fin cfg0.N) (k : Fin 2048) (j : Fin 1024) :
    iblk (F := Ideal) m c 2 t (ix2 k j) = m ((c : Thread nD τ).loc main_arg2) (ix2 k (⟨(t.val + 2) * 1024 + j.val, by have := val_lt t; omega⟩ : Fin 8192)) := by
  refine Eq.trans ?_ (congrFun (V_main_arg2 m c) _)
  unfold iblk
  refine congrArg (V (F := Ideal) m c main_arg2) (funext fun a => Fin.ext ?_)
  have h0 := (idx_in t).2.2.1
  match a with
  | ⟨0, _⟩ => show win0_2.index t 0 * 2048 + 1 * k.val = k.val; rw [h0.1]; omega
  | ⟨1, _⟩ => show win0_2.index t 1 * 1024 + 1 * j.val = (t.val + 2) * 1024 + j.val; rw [h0.2]; omega

theorem blk3 (c : Dev nD) (t : Fin cfg0.N) (ht : t.val < 2) (h : Fin 16) (d : Fin 128) (j : Fin 1024)
    (hj : (t.val + 2) * 1024 + j.val = 2048 + (h.val * 128 + d.val)) :
    iblk (F := Ideal) m c 3 t (ix2 (0 : Fin 1) j) = m ((c : Thread nD τ).loc main_arg4) (ix2 (0 : Fin 1) d) := by
  refine Eq.trans ?_ (k_weight m c h d)
  unfold iblk
  refine congrArg (V (F := Ideal) m c main_v9) (funext fun a => Fin.ext ?_)
  have h0 := (idx_in t).2.2.2.1
  match a with
  | ⟨0, _⟩ => show win0_3.index t 0 * 1 + 1 * 0 = 0; rw [h0.1]
  | ⟨1, _⟩ => show win0_3.index t 1 * 1024 + 1 * j.val = 2048 + (h.val * 128 + d.val); rw [h0.2]; omega

/-! ## The result arrays -/

/-- Row `s` of the last 512. -/
abbrev late (s : Fin 512) : Fin 16384 := ⟨15872 + s.val, by omega⟩
/-- The row, and the head, that a row of the result belongs to. -/
abbrev rowOf (i : Fin 8192) : Fin 512 := ⟨i.val / 16, by omega⟩
abbrev headOf (i : Fin 8192) : Fin 16 := ⟨i.val % 16, by omega⟩

def keys (x0 : S1x16384x2048.Idx → EReal) (x1 : S1x2048.Idx → EReal) (x2 : S2048x8192.Idx → EReal) (x4 : S1x128.Idx → EReal) : S8192x128.Idx → EReal :=
  fun y => rowQ x0 x1 x2 x4 2048 (le_refl _) (late (rowOf (y 0))) (headOf (y 0)) (y 1)

def values (x0 : S1x16384x2048.Idx → EReal) (x1 : S1x2048.Idx → EReal) (x2 : S2048x8192.Idx → EReal) : S8192x128.Idx → EReal :=
  fun y => rowP x0 x1 x2 (late (rowOf (y 0))) (⟨4096 + ((headOf (y 0)).val * 128 + (y 1).val), by
    have h1 : (y 1).val < 128 := (y 1).isLt
    have h0 := (headOf (y 0)).isLt
    omega⟩ : Fin 8192)

theorem keys_at (x0 : S1x16384x2048.Idx → EReal) (x1 : S1x2048.Idx → EReal) (x2 : S2048x8192.Idx → EReal) (x4 : S1x128.Idx → EReal) (i : Fin 8192) (d : Fin 128) :
    keys x0 x1 x2 x4 (ix2 i d) = rowQ x0 x1 x2 x4 2048 (le_refl _) (late (rowOf i)) (headOf i) d := rfl

theorem values_at (x0 : S1x16384x2048.Idx → EReal) (x1 : S1x2048.Idx → EReal) (x2 : S2048x8192.Idx → EReal) (i : Fin 8192) (d : Fin 128) :
    values x0 x1 x2 (ix2 i d) = rowP x0 x1 x2 (late (rowOf i)) (⟨4096 + ((headOf i).val * 128 + d.val), by omega⟩ : Fin 8192) := rfl

abbrev G4 (c : Dev nD) : Buf (Elt Ideal) ((c : Thread nD τ).loc main_v13_0) := keys (m ((c : Thread nD τ).loc main_arg0)) (m ((c : Thread nD τ).loc main_arg1)) (m ((c : Thread nD τ).loc main_arg2)) (m ((c : Thread nD τ).loc main_arg4))
abbrev G5 (c : Dev nD) : Buf (Elt Ideal) ((c : Thread nD τ).loc main_v13_1) := values (m ((c : Thread nD τ).loc main_arg0)) (m ((c : Thread nD τ).loc main_arg1)) (m ((c : Thread nD τ).loc main_arg2))

theorem hRow_apply (c : Dev nD) (r : Fin 512) (k : Fin 2048) :
    (hRow (F := Ideal) m c (ix2 r k) : EReal) = rowH (m ((c : Thread nD τ).loc main_arg0)) (m ((c : Thread nD τ).loc main_arg1)) (late r) k := by
  unfold hRow rowH
  refine (rows_apply _ _ r k).trans ?_
  exact congrArg₂ (fun f g => unitRow 0x45000000#32 f g k) (funext fun k => blk0 m c _ r k) (funext fun k => blk1 m c _ k)

theorem prod_row (c : Dev nD) (t : Fin cfg0.N) (r : Fin 512) (j : Fin 1024) (n : Nat) (hn : n < 8192) (e : (t.val + 2) * 1024 + j.val = n) :
    (∑ k : Fin 2048, (hRow (F := Ideal) m c (ix2 r k) : EReal) * iblk (F := Ideal) m c 2 t (ix2 k j))
      = rowP (m ((c : Thread nD τ).loc main_arg0)) (m ((c : Thread nD τ).loc main_arg1)) (m ((c : Thread nD τ).loc main_arg2)) (late r) (⟨n, hn⟩ : Fin 8192) := by
  subst e
  unfold rowP
  exact Finset.sum_congr rfl fun k _ => congrArg₂ (· * ·) (hRow_apply m c r k) (blk2 m c t k j)

theorem ks_apply (c : Dev nD) (t : Fin cfg0.N) (ht : t.val < 2) (a : Fin 8) (r : Fin 512) (d : Fin 128) (h : Fin 16) (hh : h.val = t.val * 8 + a.val) :
    (ks (F := Ideal) m c t a (ix2 r d) : EReal) = rowQ (m ((c : Thread nD τ).loc main_arg0)) (m ((c : Thread nD τ).loc main_arg1)) (m ((c : Thread nD τ).loc main_arg2)) (m ((c : Thread nD τ).loc main_arg4)) 2048 (le_refl _) (late r) h d := by
  unfold ks rowQ
  refine (keyHeads_apply _ _ _ a r d).trans ?_
  refine congrArg₂ (fun f g => unitRow 0x43000000#32 f g d) (funext fun d => ?_) (funext fun d => ?_)
  · exact prod_row m c t r _ _ _ (by show (t.val + 2) * 1024 + (a.val * 128 + d.val) = 2048 + (h.val * 128 + d.val); omega)
  · exact blk3 m c t ht h d _ (by show (t.val + 2) * 1024 + (a.val * 128 + d.val) = 2048 + (h.val * 128 + d.val); omega)

theorem vs_apply (c : Dev nD) (t : Fin cfg0.N) (ht : 2 ≤ t.val) (a : Fin 8) (r : Fin 512) (d : Fin 128) (h : Fin 16) (hh : h.val = (t.val - 2) * 8 + a.val) :
    (vs (F := Ideal) m c t a (ix2 r d) : EReal) = rowP (m ((c : Thread nD τ).loc main_arg0)) (m ((c : Thread nD τ).loc main_arg1)) (m ((c : Thread nD τ).loc main_arg2)) (late r) (⟨4096 + (h.val * 128 + d.val), by omega⟩ : Fin 8192) := by
  unfold vs
  refine (valueHeads_apply _ _ a r d).trans ?_
  exact prod_row m c t r _ _ _ (by show (t.val + 2) * 1024 + (a.val * 128 + d.val) = 4096 + (h.val * 128 + d.val); omega)

/-- An entry of sixteen heads stored eight by eight. -/
theorem both_at {α : Type} (f g : Fin 8 → (⟨2, ![512, 128]⟩ : Shape).Idx → α) (i : Fin 8192) (d : Fin 128) :
    bothHalves f g (ix2 i d) = if i.val % 16 < 8 then f ⟨i.val % 8, Nat.mod_lt _ (by decide)⟩ (ix2 (rowOf i) d)
      else g ⟨i.val % 8, Nat.mod_lt _ (by decide)⟩ (ix2 (rowOf i) d) := by
  unfold bothHalves
  show (if i.val % 16 < 8 then f else g) ⟨i.val % 8, _⟩ (ix2 (rowOf i) d) = _
  split <;> rfl

theorem out4_eq (c : Dev nD) : out4 (F := Ideal) m c = G4 m c := by
  funext y
  obtain ⟨i, d, rfl⟩ : ∃ (i : Fin 8192) (d : Fin 128), y = ix2 i d := ⟨y 0, y 1, eq_ix2 y⟩
  refine Eq.trans ?_ (keys_at _ _ _ _ _ _).symm
  unfold out4
  refine (both_at _ _ i d).trans ?_
  by_cases h : i.val % 16 < 8
  · rw [if_pos h]; exact ks_apply m c t0_0 (by decide) _ _ d _ (by show i.val % 16 = 0 * 8 + i.val % 8; omega)
  · rw [if_neg h]; exact ks_apply m c t0_1 (by decide) _ _ d _ (by show i.val % 16 = 1 * 8 + i.val % 8; omega)

theorem out5_eq (c : Dev nD) : out5 (F := Ideal) m c = G5 m c := by
  funext y
  obtain ⟨i, d, rfl⟩ : ∃ (i : Fin 8192) (d : Fin 128), y = ix2 i d := ⟨y 0, y 1, eq_ix2 y⟩
  refine Eq.trans ?_ (values_at _ _ _ _ _).symm
  unfold out5
  refine (both_at _ _ i d).trans ?_
  by_cases h : i.val % 16 < 8
  · rw [if_pos h]; exact vs_apply m c t0_2 (by decide) _ _ d _ (by show i.val % 16 = (2 - 2) * 8 + i.val % 8; omega)
  · rw [if_neg h]; exact vs_apply m c t0_3 (by decide) _ _ d _ (by show i.val % 16 = (3 - 2) * 8 + i.val % 8; omega)

theorem at4 (t : Fin cfg0.N) (X : S8192x128.Idx → EReal) : ((cfg0.win 4).blk t).view.read (Elt Ideal) X = X := by
  funext y
  refine congrArg X (funext fun b => Fin.ext ?_)
  have h0 := (idx_in t).2.2.2.2.1
  match b with
  | ⟨0, _⟩ => show win0_4.index t 0 * 8192 + 1 * (y 0).val = (y 0).val; rw [h0.1]; omega
  | ⟨1, _⟩ => show win0_4.index t 1 * 128 + 1 * (y 1).val = (y 1).val; rw [h0.2]; omega

theorem flushed4 (c : Dev nD) (t : Fin cfg0.N) :
    (dats (F := Ideal) m 0 c).flushed 4 t = ((cfg0.win 4).blk t).view.read (Elt Ideal) (G4 m c) :=
  (show _ = out4 m c from rfl).trans ((out4_eq m c).trans (at4 t _).symm)

theorem cover4 (i : S8192x128.Idx) : ∃ t : Fin cfg0.N, (cfg0.win 4).flush t = true ∧ i ∈ ((cfg0.win 4).blk t).view.set := by
  have h0 : (i 0 : Nat) < 8192 := (i 0).isLt
  have h1 : (i 1 : Nat) < 128 := (i 1).isLt
  refine ⟨t0_3, (flush4_iff _).trans (by decide), ?_⟩
  show i ∈ ((View.whole main_v13_0).slice (win0_4.rect t0_3)).set
  rw [View.set_slice_whole, Rect.mem_set_unit]
  have e := (idx_in t0_3).2.2.2.2.1
  intro a
  match a with
  | ⟨0, _⟩ => show win0_4.index t0_3 0 * 8192 ≤ (i 0 : Nat) ∧ (i 0 : Nat) < win0_4.index t0_3 0 * 8192 + 8192; rw [e.1]; omega
  | ⟨1, _⟩ => show win0_4.index t0_3 1 * 128 ≤ (i 1 : Nat) ∧ (i 1 : Nat) < win0_4.index t0_3 1 * 128 + 128; rw [e.2]; omega

theorem at5 (t : Fin cfg0.N) (X : S8192x128.Idx → EReal) : ((cfg0.win 5).blk t).view.read (Elt Ideal) X = X := by
  funext y
  refine congrArg X (funext fun b => Fin.ext ?_)
  have h0 := (idx_in t).2.2.2.2.2
  match b with
  | ⟨0, _⟩ => show win0_5.index t 0 * 8192 + 1 * (y 0).val = (y 0).val; rw [h0.1]; omega
  | ⟨1, _⟩ => show win0_5.index t 1 * 128 + 1 * (y 1).val = (y 1).val; rw [h0.2]; omega

theorem flushed5 (c : Dev nD) (t : Fin cfg0.N) :
    (dats (F := Ideal) m 0 c).flushed 5 t = ((cfg0.win 5).blk t).view.read (Elt Ideal) (G5 m c) :=
  (show _ = out5 m c from rfl).trans ((out5_eq m c).trans (at5 t _).symm)

theorem cover5 (i : S8192x128.Idx) : ∃ t : Fin cfg0.N, (cfg0.win 5).flush t = true ∧ i ∈ ((cfg0.win 5).blk t).view.set := by
  have h0 : (i 0 : Nat) < 8192 := (i 0).isLt
  have h1 : (i 1 : Nat) < 128 := (i 1).isLt
  refine ⟨t0_3, (flush5_iff _).trans (by decide), ?_⟩
  show i ∈ ((View.whole main_v13_1).slice (win0_5.rect t0_3)).set
  rw [View.set_slice_whole, Rect.mem_set_unit]
  have e := (idx_in t0_3).2.2.2.2.2
  intro a
  match a with
  | ⟨0, _⟩ => show win0_5.index t0_3 0 * 8192 ≤ (i 0 : Nat) ∧ (i 0 : Nat) < win0_5.index t0_3 0 * 8192 + 8192; rw [e.1]; omega
  | ⟨1, _⟩ => show win0_5.index t0_3 1 * 128 ≤ (i 1 : Nat) ∧ (i 1 : Nat) < win0_5.index t0_3 1 * 128 + 128; rw [e.2]; omega

/-- The launch ends with the keys and the values in its result arrays. -/
theorem run : θ_run defs (onTc (τ := τ) (main (F := Ideal))) ⟨m, fun _ => 0, ρ⟩ fun r => ∀ c : Dev nD,
      r.2.mem ((c : Thread nD τ).loc main_v13_0) = G4 m c
      ∧ r.2.mem ((c : Thread nD τ).loc main_v13_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨
      ((h.1 c).1 4).trans ((dats m 0 c).arrAt_eq_of_cover 4 (G4 m c) (fun t _ => flushed4 m c t) cover4),
      ((h.1 c).1 5).trans ((dats m 0 c).arrAt_eq_of_cover 5 (G5 m c) (fun t _ => flushed5 m c t) cover5), h.2 c⟩)
    (θ_run_and (launch_post m ρ) (args_kept m ρ))

end Cert.KvRowsIdeal.Tiles

namespace Cert.KvRowsRefIdeal.Plain

open Cert.KvRowsRefIdeal Cert.KvRowsRefIdeal.Gen Cert.KvRowsRefIdeal.Read
open Cert.KvRowsIdeal.Tiles (late rowOf headOf keys values keys_at values_at)

/-- The rows taken. -/
theorem taken_apply (x0 : (⟨S1x16384x2048, .f32⟩ : BufTy).Contents (Elt Ideal)) (r : Fin 512) (k : Fin 2048) :
    (val_main_v1 (F := Ideal) x0 (ix2 r k) : EReal) = x0 (ix3 (0 : Fin 1) (late r) k) := by
  rw [val_main_v1_apply, val_main_v0_apply]
  refine congrArg x0 (funext fun a => Fin.ext ?_)
  have hr := r.isLt
  have hk := k.isLt
  match a with
  | ⟨0, _⟩ => rfl
  | ⟨1, _⟩ => show 15872 + (r.val * 2048 + k.val) / 2048 % 512 = 15872 + r.val; omega
  | ⟨2, _⟩ => show (r.val * 2048 + k.val) % 2048 = k.val; omega

/-- A row's factor. -/
theorem factor_apply (x0 : (⟨S1x16384x2048, .f32⟩ : BufTy).Contents (Elt Ideal)) (r : Fin 512) (z : Fin 1) :
    (val_main_v10 (F := Ideal) x0 (ix2 r z) : EReal)
      = Ideal.rsqrt (Ideal.div (∑ j : Fin 2048, (x0 (ix3 (0 : Fin 1) (late r) j) : EReal) * x0 (ix3 (0 : Fin 1) (late r) j)) (Ideal.ofBits .f32 0x45000000#32) + Ideal.ofBits .f32 0x358637BD#32) := by
  rw [val_main_v10_apply, val_main_v9_apply, val_main_v7_apply, val_main_v5_apply, val_main_v4_apply, val_main_v8_apply, val_main_v6_apply]
  refine congrArg (fun s : EReal => Ideal.rsqrt (Ideal.div s (Ideal.ofBits .f32 0x45000000#32) + Ideal.ofBits .f32 0x358637BD#32)) ?_
  refine (congrArg₂ (· + ·) (show _ = (0 : EReal) from Ideal.ofBits_zero_f32) (Finset.sum_congr rfl fun k _ => ?_)).trans (zero_add _)
  rw [val_main_v3_apply]
  have e := taken_apply x0 r k
  exact congrArg₂ (fun a b : EReal => a * b) ((congrArg _ (eq_ix2 _)).trans e) ((congrArg _ (eq_ix2 _)).trans e)

/-- The normalised rows. -/
theorem rows_apply (x0 : (⟨S1x16384x2048, .f32⟩ : BufTy).Contents (Elt Ideal)) (x1 : (⟨S1x2048, .f32⟩ : BufTy).Contents (Elt Ideal)) (r : Fin 512) (k : Fin 2048) :
    (val_main_v15 (F := Ideal) x0 x1 (ix2 r k) : EReal) = rowH x0 x1 (late r) k := by
  rw [val_main_v15_apply, val_main_v12_apply, val_main_v11_apply, val_main_v14_apply, val_main_v13_apply]
  refine congrArg₂ (fun a b : EReal => a * b) (congrArg₂ (fun a b : EReal => a * b) ?_ ?_) ?_
  · exact taken_apply x0 r k
  · exact (congrArg _ (eq_ix2 _)).trans (factor_apply x0 r 0)
  · exact (congrArg _ (eq_ix1 _)).trans (shapeCast_1a_a_apply x1 _ k)

theorem kv_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (r : Fin 512) (j : Fin 4096) :
    (val_main_v18 (F := Ideal) x0 x1 x2 (ix2 r j) : EReal) = rowP x0 x1 x2 (late r) (⟨2048 + j.val, by omega⟩ : Fin 8192) := by
  rw [val_main_v18_apply]
  unfold rowP
  refine Finset.sum_congr rfl fun k _ => congrArg₂ (fun a b : EReal => a * b) ((congrArg _ (eq_ix2 _)).trans (rows_apply x0 x1 r k)) ?_
  rw [val_main_v17_apply]
  refine Eq.trans (val_main_v16_apply (F := Ideal) x2 _) (congrArg x2 (funext fun a => Fin.ext ?_))
  match a with
  | ⟨0, _⟩ => rfl
  | ⟨1, _⟩ => rfl

theorem k_raw_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (r : Fin 512) (h : Fin 16) (d : Fin 128) :
    (val_main_v20 (F := Ideal) x0 x1 x2 (ix3 r h d) : EReal) = rowP x0 x1 x2 (late r) (⟨2048 + (h.val * 128 + d.val), by omega⟩ : Fin 8192) := by
  rw [val_main_v20_apply, val_main_v19_apply]
  refine Eq.trans (congrArg _ (funext fun a => Fin.ext ?_)) (kv_apply x0 x1 x2 r (⟨h.val * 128 + d.val, by omega⟩ : Fin 4096))
  have hr := r.isLt
  have hh := h.isLt
  have hd := d.isLt
  match a with
  | ⟨0, _⟩ => show ((r.val * 16 + h.val) * 128 + d.val) / 2048 = r.val; omega
  | ⟨1, _⟩ => show ((r.val * 16 + h.val) * 128 + d.val) % 2048 = h.val * 128 + d.val; omega

theorem k_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (x4 : (⟨S1x128, .f32⟩ : BufTy).Contents (Elt Ideal)) (r : Fin 512) (h : Fin 16) (d : Fin 128) :
    (val_main_v34 (F := Ideal) x0 x1 x2 x4 (ix3 r h d) : EReal) = rowQ x0 x1 x2 x4 2048 (le_refl _) (late r) h d := by
  rw [val_main_v34_apply, val_main_v31_apply, val_main_v30_apply, val_main_v29_apply, val_main_v28_apply, val_main_v26_apply, val_main_v24_apply,
    val_main_v23_apply, val_main_v25_apply, val_main_v27_apply, val_main_v33_apply, val_main_v32_apply]
  refine congrArg₂ (fun a b : EReal => a * b) (congrArg₂ (fun a b : EReal => a * b) (k_raw_apply x0 x1 x2 r h d) ?_) ?_
  · refine congrArg (fun s : EReal => Ideal.rsqrt (Ideal.div s (Ideal.ofBits .f32 0x43000000#32) + Ideal.ofBits .f32 0x358637BD#32)) ?_
    refine (congrArg₂ (· + ·) (show _ = (0 : EReal) from Ideal.ofBits_zero_f32) (Finset.sum_congr rfl fun k _ => ?_)).trans (zero_add _)
    rw [val_main_v22_apply]
    have e := k_raw_apply x0 x1 x2 r h k
    exact congrArg₂ (fun a b : EReal => a * b) ((congrArg _ (eq_ix3 _)).trans e) ((congrArg _ (eq_ix3 _)).trans e)
  · exact (congrArg _ (eq_ix1 _)).trans (shapeCast_1a_a_apply x4 _ d)

/-- The keys of the last rows, a row per head. -/
theorem keys_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (x4 : (⟨S1x128, .f32⟩ : BufTy).Contents (Elt Ideal)) (i : Fin 8192) (d : Fin 128) :
    (val_main_v36 (F := Ideal) x0 x1 x2 x4 (ix2 i d) : EReal) = keys x0 x1 x2 x4 (ix2 i d) := by
  rw [val_main_v36_apply]
  refine Eq.trans (congrArg _ (funext fun a => Fin.ext ?_)) ((k_apply x0 x1 x2 x4 (rowOf i) (headOf i) d).trans (keys_at _ _ _ _ _ _).symm)
  have hi := i.isLt
  have hd := d.isLt
  match a with
  | ⟨0, _⟩ => show (i.val * 128 + d.val) / 2048 = i.val / 16; omega
  | ⟨1, _⟩ => show (i.val * 128 + d.val) / 128 % 16 = i.val % 16; omega
  | ⟨2, _⟩ => show (i.val * 128 + d.val) % 128 = d.val; omega

/-- The values of the last rows, a row per head. -/
theorem values_apply (x0 : (⟨S1x16384x2048, .f32⟩ : BufTy).Contents (Elt Ideal)) (x1 : (⟨S1x2048, .f32⟩ : BufTy).Contents (Elt Ideal)) (x2 : (⟨S2048x8192, .bf16⟩ : BufTy).Contents (Elt Ideal)) (i : Fin 8192) (d : Fin 128) :
    (val_main_v37 (F := Ideal) x0 x1 x2 (ix2 i d) : EReal) = values x0 x1 x2 (ix2 i d) := by
  rw [val_main_v37_apply, val_main_v35_apply]
  have hi := i.isLt
  have hd := d.isLt
  refine Eq.trans (congrArg _ (funext fun a => Fin.ext ?_))
    ((kv_apply x0 x1 x2 (rowOf i) (⟨2048 + (i.val % 16 * 128 + d.val), by omega⟩ : Fin 4096)).trans
      (Eq.trans (congrArg _ (Fin.ext (by show 2048 + (2048 + (i.val % 16 * 128 + d.val)) = 4096 + (i.val % 16 * 128 + d.val); omega))) (values_at _ _ _ _ _).symm))
  match a with
  | ⟨0, _⟩ => show (i.val * 128 + d.val) / 2048 = i.val / 16; omega
  | ⟨1, _⟩ => show 2048 + (i.val * 128 + d.val) % 2048 = 2048 + (i.val % 16 * 128 + d.val); omega

end Cert.KvRowsRefIdeal.Plain

namespace Cert.Proof.KvRowsClaims

/-! The kernel as it is and as it is read on the extended reals are the same text, so one run serves both. -/

theorem bodies_same {F : FTy → Type} [FloatOps F] : Cert.KvRows.defs₀ (F := F) = Cert.KvRowsIdeal.defs₀ (F := F) := by
  unfold Cert.KvRows.defs₀ Cert.KvRowsIdeal.defs₀
  refine congrArg Defs.onTc (funext fun l => funext fun ts => ?_)
  match l, ts with
  | 0, (t, s) => rfl

theorem tables_same {F : FTy → Type} [FloatOps F] : Cert.KvRows.defs (F := F) = Cert.KvRowsIdeal.defs (F := F) :=
  congrArg (Pipeline.defs Cert.KvRowsIdeal.pcfgs) bodies_same

theorem frame_kernel : Cert.quiescent_KvRows := fun m ρ _ => by
  rw [tables_same]
  exact Cert.KvRowsIdeal.Rows.frame m ρ
theorem frame_ideal : Cert.quiescent_KvRowsIdeal := fun m ρ _ => Cert.KvRowsIdeal.Rows.frame m ρ
theorem frame_ref : Cert.quiescent_KvRowsRefIdeal := fun m ρ _ =>
  (θ_run Cert.KvRowsRefIdeal.defs _ _).mono (fun r h => ⟨fun c => (h c).2.2,
      Idealize.ShloMosaic.sem_eq_zero_of_no_sems (by decide) r.2⟩)
    (Cert.KvRowsRefIdeal.Value.run (F := Ideal) m ρ)
theorem preserves : Cert.preserves_KvRows_KvRowsIdeal := trivial

/-- The kernel computes the plain keys and values. -/
theorem algebraic : Cert.algebraic_KvRowsIdeal_KvRowsRefIdeal := by
  intro m ρ m' ρ' _ hagree
  refine ⟨fun c => Cert.KvRowsIdeal.Tiles.G4 m c, fun c => Cert.KvRowsIdeal.Tiles.G5 m c, Cert.KvRowsIdeal.Tiles.run m ρ, ?_⟩
  refine (θ_run Cert.KvRowsRefIdeal.defs _ _).mono (fun _ h c => ⟨(h c).1.trans ?_, (h c).2.1.trans ?_, (h c).2.2⟩)
    (Cert.KvRowsRefIdeal.Value.run (F := Ideal) m' ρ')
  · obtain ⟨h0, h1, h2, h3, h4⟩ := hagree c
    refine (Cert.KvRowsRefIdeal.Read.val_main_v36_eq (F := Ideal) _ _).trans ?_
    rw [h0, h1, h2, h4]
    funext i
    obtain ⟨r, j, rfl⟩ : ∃ (r : Fin 8192) (j : Fin 128), i = ix2 r j := ⟨i 0, i 1, eq_ix2 i⟩
    exact Cert.KvRowsRefIdeal.Plain.keys_apply _ _ _ _ r j
  · obtain ⟨h0, h1, h2, h3, h4⟩ := hagree c
    rw [h0, h1, h2]
    refine (Cert.KvRowsRefIdeal.Read.val_main_v37_eq (F := Ideal) _ _ _).trans (funext fun i => ?_)
    obtain ⟨r, j, rfl⟩ : ∃ (r : Fin 8192) (j : Fin 128), i = ix2 r j := ⟨i 0, i 1, eq_ix2 i⟩
    exact Cert.KvRowsRefIdeal.Plain.values_apply _ _ _ r j

end Cert.Proof.KvRowsClaims

end
-- ==== Proof.InSampleRuns.lean ====
/- One grid point of the running streams' input projection, by the five kinds of point: what each leaves in the buffers it
   stores to, the two cache buffers by the rows it changes in them. -/
module

public import proofs.«01_k».proof.Proof.Gen.InSampleIdeal.Frame
public import proofs.«01_k».proof.Proof.Gen.InSampleIdeal.Skeleton
public import Idealize.ShloMosaic.Lib.Pipeline.Value
public import Idealize.ShloMosaic.Lib.ValueIdx
public import proofs.«01_k».proof.Proof.EveryOther

@[expose] public section

set_option maxRecDepth 16384

noncomputable section

namespace Cert.InSampleIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.InSampleIdeal Cert.InSampleIdeal.Gen Cert.EveryOther

variable {F : FTy → Type} [FloatOps F]

local notation "𝕄" => MT nD τ sig Unit (Elt F) ℕ (UR sig nD τ) ℕ

/-! ## A tile of eight heads -/

/-- Eight heads' rows side by side in one block, the second axis the head. -/
def heads8 (f : Fin 8 → FVec F S1x1x512x128 .bf16) : FVec F S1x8x512x128 .bf16 :=
  fun y => f (y 1) (ix4 0 0 (y 2) (y 3))

/-- Head `a`'s part of the block. -/
theorem heads8_part (f : Fin 8 → FVec F S1x1x512x128 .bf16) (a : Fin 8) (inb : ∀ b, (![0, a.val, 0, 0] : Fin 4 → Nat) b + S1x1x512x128.size b ≤ S1x8x512x128.size b)
    (x : S1x1x512x128.Idx) : f a x = heads8 f ((Rect.unit (s := S1x8x512x128) ![0, a.val, 0, 0] S1x1x512x128.size inb).emb x) := by
  obtain ⟨i0, i1, i2, i3, rfl⟩ : ∃ (i0 : Fin 1) (i1 : Fin 1) (i2 : Fin 512) (i3 : Fin 128), x = ix4 i0 i1 i2 i3 := ⟨x 0, x 1, x 2, x 3, eq_ix4 x⟩
  have h0 : i0 = 0 := Subsingleton.elim _ _
  have h1 : i1 = 0 := Subsingleton.elim _ _
  subst h0 h1
  unfold heads8
  have e1 : ((Rect.unit (s := S1x8x512x128) ![0, a.val, 0, 0] S1x1x512x128.size inb).emb (ix4 0 0 i2 i3)) 1 = a :=
    Fin.ext (show a.val + 1 * 0 = a.val by omega)
  have e2 : ((Rect.unit (s := S1x8x512x128) ![0, a.val, 0, 0] S1x1x512x128.size inb).emb (ix4 0 0 i2 i3)) 2 = i2 :=
    Fin.ext (show 0 + 1 * i2.val = i2.val by omega)
  have e3 : ((Rect.unit (s := S1x8x512x128) ![0, a.val, 0, 0] S1x1x512x128.size inb).emb (ix4 0 0 i2 i3)) 3 = i3 :=
    Fin.ext (show 0 + 1 * i3.val = i3.val by omega)
  rw [e1, e2, e3]

/-- Eight stores, one head each, leave the eight heads' block, whatever was there before. -/
theorem read_heads {κ : Kind} {sp : Space} (v : View sig κ sp S1x8x512x128 .bf16) (g : v.ty.Contents (Elt F))
    (p0 p1 p2 p3 p4 p5 p6 p7 : FVec F S1x1x512x128 .bf16) :
    v.read (Elt F) (v.writes (Elt F) g
      [⟨Rect.unit (s := S1x8x512x128) ![0, 7, 0, 0] S1x1x512x128.size inb_S1x8x512x128_S1x1x512x128_0_7_0_0, p7⟩,
       ⟨Rect.unit (s := S1x8x512x128) ![0, 6, 0, 0] S1x1x512x128.size inb_S1x8x512x128_S1x1x512x128_0_6_0_0, p6⟩,
       ⟨Rect.unit (s := S1x8x512x128) ![0, 5, 0, 0] S1x1x512x128.size inb_S1x8x512x128_S1x1x512x128_0_5_0_0, p5⟩,
       ⟨Rect.unit (s := S1x8x512x128) ![0, 4, 0, 0] S1x1x512x128.size inb_S1x8x512x128_S1x1x512x128_0_4_0_0, p4⟩,
       ⟨Rect.unit (s := S1x8x512x128) ![0, 3, 0, 0] S1x1x512x128.size inb_S1x8x512x128_S1x1x512x128_0_3_0_0, p3⟩,
       ⟨Rect.unit (s := S1x8x512x128) ![0, 2, 0, 0] S1x1x512x128.size inb_S1x8x512x128_S1x1x512x128_0_2_0_0, p2⟩,
       ⟨Rect.unit (s := S1x8x512x128) ![0, 1, 0, 0] S1x1x512x128.size inb_S1x8x512x128_S1x1x512x128_0_1_0_0, p1⟩,
       ⟨Rect.unit (s := S1x8x512x128) ![0, 0, 0, 0] S1x1x512x128.size inb_S1x8x512x128_S1x1x512x128_0_0_0_0, p0⟩])
      = heads8 ![p0, p1, p2, p3, p4, p5, p6, p7] := by
  have hc := View.cover_of_tiledL (Val := Elt F) (e := .bf16)
      [⟨Rect.unit (s := S1x8x512x128) ![0, 7, 0, 0] S1x1x512x128.size inb_S1x8x512x128_S1x1x512x128_0_7_0_0, p7⟩,
       ⟨Rect.unit (s := S1x8x512x128) ![0, 6, 0, 0] S1x1x512x128.size inb_S1x8x512x128_S1x1x512x128_0_6_0_0, p6⟩,
       ⟨Rect.unit (s := S1x8x512x128) ![0, 5, 0, 0] S1x1x512x128.size inb_S1x8x512x128_S1x1x512x128_0_5_0_0, p5⟩,
       ⟨Rect.unit (s := S1x8x512x128) ![0, 4, 0, 0] S1x1x512x128.size inb_S1x8x512x128_S1x1x512x128_0_4_0_0, p4⟩,
       ⟨Rect.unit (s := S1x8x512x128) ![0, 3, 0, 0] S1x1x512x128.size inb_S1x8x512x128_S1x1x512x128_0_3_0_0, p3⟩,
       ⟨Rect.unit (s := S1x8x512x128) ![0, 2, 0, 0] S1x1x512x128.size inb_S1x8x512x128_S1x1x512x128_0_2_0_0, p2⟩,
       ⟨Rect.unit (s := S1x8x512x128) ![0, 1, 0, 0] S1x1x512x128.size inb_S1x8x512x128_S1x1x512x128_0_1_0_0, p1⟩,
       ⟨Rect.unit (s := S1x8x512x128) ![0, 0, 0, 0] S1x1x512x128.size inb_S1x8x512x128_S1x1x512x128_0_0_0_0, p0⟩]
      S1x1x512x128.size (by sl_kernel_rfl)
  rw [View.read_writes_eq_canon _ _ _ hc]
  funext y
  refine View.canon_apply_of_pieces _ _ (fun p hp x => ?_) y (hc y)
  simp only [List.mem_cons, List.not_mem_nil, or_false] at hp
  rcases hp with rfl | rfl | rfl | rfl | rfl | rfl | rfl | rfl
  · exact heads8_part ![p0, p1, p2, p3, p4, p5, p6, p7] 7 inb_S1x8x512x128_S1x1x512x128_0_7_0_0 x
  · exact heads8_part ![p0, p1, p2, p3, p4, p5, p6, p7] 6 inb_S1x8x512x128_S1x1x512x128_0_6_0_0 x
  · exact heads8_part ![p0, p1, p2, p3, p4, p5, p6, p7] 5 inb_S1x8x512x128_S1x1x512x128_0_5_0_0 x
  · exact heads8_part ![p0, p1, p2, p3, p4, p5, p6, p7] 4 inb_S1x8x512x128_S1x1x512x128_0_4_0_0 x
  · exact heads8_part ![p0, p1, p2, p3, p4, p5, p6, p7] 3 inb_S1x8x512x128_S1x1x512x128_0_3_0_0 x
  · exact heads8_part ![p0, p1, p2, p3, p4, p5, p6, p7] 2 inb_S1x8x512x128_S1x1x512x128_0_2_0_0 x
  · exact heads8_part ![p0, p1, p2, p3, p4, p5, p6, p7] 1 inb_S1x8x512x128_S1x1x512x128_0_1_0_0 x
  · exact heads8_part ![p0, p1, p2, p3, p4, p5, p6, p7] 0 inb_S1x8x512x128_S1x1x512x128_0_0_0_0 x

/-- Eight heads' weights, head `a`'s 128 of them. -/
abbrev headW (qw : FVec F S1x1024 .f32) (a : Nat) (inb : ∀ b, (![0, a] : Fin 2 → Nat) b + S1x128.size b ≤ S1x1024.size b) : FVec F S1x128 .f32 :=
  View.ld (Val := Elt F) (e' := .f32) qw (Rect.unit (s := S1x1024) ![0, a] S1x128.size inb)

/-- A tile of queries or keys: normalised rows by a tile of weights, each head normalised; in the block's format, and as
the cache rows take them. -/
def qkTile (h : FVec F S512x2048 .bf16) (w : FVec F S2048x1024 .bf16) (qw : FVec F S1x1024 .f32) : FVec F S1x8x512x128 .bf16 :=
  heads8 ![k0_pay13 h w (headW qw 0 inb_S1x1024_S1x128_0_0),
    k0_pay16 (k0_pay14 h w) (headW qw 128 inb_S1x1024_S1x128_0_128),
    k0_pay18 (k0_pay11 h w) (headW qw 256 inb_S1x1024_S1x128_0_256),
    k0_pay23 (k0_pay19 (k0_pay11 h w)) (k0_pay20 (k0_pay11 h w)) k0_pay21 (headW qw 384 inb_S1x1024_S1x128_0_384),
    k0_pay25 (k0_pay11 h w) (headW qw 512 inb_S1x1024_S1x128_0_512),
    k0_pay27 (k0_pay11 h w) (headW qw 640 inb_S1x1024_S1x128_0_640),
    k0_pay4 (k0_pay29 (k0_pay11 h w) (headW qw 768 inb_S1x1024_S1x128_0_768)),
    k0_pay6 (k0_pay11 h w) (headW qw 896 inb_S1x1024_S1x128_0_896)]
def keyHeads (h : FVec F S512x2048 .bf16) (w : FVec F S2048x1024 .bf16) (qw : FVec F S1x1024 .f32) : Fin 8 → FVec F S512x128 .f32 :=
  ![k0_pay12 h w (headW qw 0 inb_S1x1024_S1x128_0_0),
    k0_pay15 (k0_pay14 h w) (headW qw 128 inb_S1x1024_S1x128_0_128),
    k0_pay17 (k0_pay11 h w) (headW qw 256 inb_S1x1024_S1x128_0_256),
    k0_pay22 (k0_pay19 (k0_pay11 h w)) (k0_pay20 (k0_pay11 h w)) k0_pay21 (headW qw 384 inb_S1x1024_S1x128_0_384),
    k0_pay24 (k0_pay11 h w) (headW qw 512 inb_S1x1024_S1x128_0_512),
    k0_pay26 (k0_pay11 h w) (headW qw 640 inb_S1x1024_S1x128_0_640),
    k0_pay28 (k0_pay11 h w) (headW qw 768 inb_S1x1024_S1x128_0_768),
    k0_pay5 (k0_pay11 h w) (headW qw 896 inb_S1x1024_S1x128_0_896)]

/-- A tile of values: normalised rows by a tile of weights; in the block's format, and as the cache rows take them. -/
def vTile (h : FVec F S512x2048 .bf16) (w : FVec F S2048x1024 .bf16) : FVec F S1x8x512x128 .bf16 :=
  heads8 ![k0_pay32 h w, k0_pay34 h w, k0_pay36 h w, k0_pay39 (k0_pay38 h w), k0_pay41 (k0_pay30 h w), k0_pay43 (k0_pay30 h w), k0_pay45 (k0_pay30 h w), k0_pay8 (k0_pay30 h w)]
def valueHeads (h : FVec F S512x2048 .bf16) (w : FVec F S2048x1024 .bf16) : Fin 8 → FVec F S512x128 .f32 :=
  ![k0_pay31 h w, k0_pay33 h w, k0_pay35 h w, k0_pay37 h w, k0_pay40 (k0_pay30 h w), k0_pay42 (k0_pay30 h w), k0_pay44 (k0_pay30 h w), k0_pay7 (k0_pay30 h w)]

/-- The offsets of a load or store of a whole buffer are all zero. -/
theorem off2 : (![0, 0] : Fin 2 → Nat) = fun _ => 0 := by funext a; fin_cases a <;> rfl

/-- A buffer stored whole holds what was stored. -/
theorem read_whole2 {κ : Kind} {sp : Space} {S : Shape} {e : EltTy} (v : View sig κ sp S e) (g : v.ty.Contents (Elt F)) {off : Fin S.rank → Nat}
    (h : off = fun _ => 0) (inb : ∀ a, off a + S.size a ≤ S.size a) (p : S.Idx → Elt F e) :
    v.read (Elt F) (v.writes (Elt F) g [⟨Rect.unit off S.size inb, p⟩]) = p := by
  rw [View.read_writes_eq_canon _ _ _ (fun y => ⟨_, List.mem_singleton_self _, View.mem_set_unit_zero h inb y⟩), View.canon_unit_zero h]

/-! Loads of a whole buffer read its contents. -/
theorem ld_S512x2048 {e : EltTy} (X : S512x2048.Idx → Elt F e) (inb) :
    View.ld (Val := Elt F) (e' := e) X (Rect.unit (s := S512x2048) ![0, 0] ![512, 2048] inb) = X := View.ld_unit_zero (S := S512x2048) off2 inb X
theorem ld_S1x2048 {e : EltTy} (X : S1x2048.Idx → Elt F e) (inb) :
    View.ld (Val := Elt F) (e' := e) X (Rect.unit (s := S1x2048) ![0, 0] ![1, 2048] inb) = X := View.ld_unit_zero (S := S1x2048) off2 inb X
theorem ld_S2048x1024 {e : EltTy} (X : S2048x1024.Idx → Elt F e) (inb) :
    View.ld (Val := Elt F) (e' := e) X (Rect.unit (s := S2048x1024) ![0, 0] ![2048, 1024] inb) = X := View.ld_unit_zero (S := S2048x1024) off2 inb X
theorem ld_S2048x128 {e : EltTy} (X : S2048x128.Idx → Elt F e) (inb) :
    View.ld (Val := Elt F) (e' := e) X (Rect.unit (s := S2048x128) ![0, 0] ![2048, 128] inb) = X := View.ld_unit_zero (S := S2048x128) off2 inb X
/-- A load of the whole of what one store of the whole left. -/
theorem readCov_rows {κ : Kind} {sp : Space} (v : View sig κ sp S512x2048 .bf16) (inb) (inb') (w : S512x2048.Idx → Elt F .bf16) :
    v.readCov (Val := Elt F) [(⟨Rect.unit (s := S512x2048) ![0, 0] ![512, 2048] inb, w⟩ : View.Piece (Elt F) S512x2048 .bf16)]
      (Rect.unit (s := S512x2048) ![0, 0] ![512, 2048] inb').toLoadRect = w :=
  View.readCov_unit_zero (S := S512x2048) v off2 inb w

/-! ## The five kinds of point -/

set_option maxHeartbeats 1600000 in
/-- The first point of a row block: the rows are normalised and kept, the time steps and a tile of queries or keys computed. -/
theorem runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x512x128 .bf16) (harg8 : arg8.IsWhole) (arg9 : Memref sig .tc .vmem S512x1024 .f32) (harg9 : arg9.IsWhole) (arg10 : Memref sig .tc .vmem S512x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x2048 .bf16) (harg13 : arg13.IsWhole)
    (hc0 : k0_cond1 i = 1#1) (hc1 : k0_cond2 i = 1#1) (hc2 : ¬ k0_cond3 i = 1#1) (hc3 : ¬ k0_cond4 i = 1#1) (hc4 : ¬ k0_cond5 i = 1#1) (b : ℕ) (hb : b ≤ 8) (ho : ∀ r : Fin 8, k0_off1 i (BitVec.ofNat 32 r.val) = ![b + r.val, 0])
    (x2 : Vec F S512x2048 .f32) (x3 : Vec F S1x2048 .f32) (x4 : Vec F S2048x1024 .bf16) (x6 : Vec F S2048x128 .bf16) (x7 : Vec F S1x1024 .f32) (x11 : Vec F S8192x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ (∃ d, owns (c : Thread nD τ) arg8 fullShare d) ∗ (∃ d, owns (c : Thread nD τ) arg10 fullShare d) ∗ (∃ d, owns (c : Thread nD τ) arg13 fullShare d) ∗ owns (c : Thread nD τ) arg11 fullShare x11
      ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare (qkTile (k0_pay2 x2 x3) x4 x7) ∗ owns (c : Thread nD τ) arg10 fullShare (k0_pay3 x2 x3 x6) ∗ owns (c : Thread nD τ) arg13 fullShare (k0_pay2 x2 x3) ∗ owns (c : Thread nD τ) arg11 fullShare (putHeads b (keyHeads (k0_pay2 x2 x3) x4 x7) x11)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f6, %hf6, H6⟩, ⟨%f7, %hf7, H7⟩, ⟨%d8, %f8, -, H8⟩, ⟨%d10, %f10, -, H10⟩, ⟨%d13, %f13, -, H13⟩, ⟨%f11, %hf11, H11⟩, Hk⟩
  obtain rfl := harg2.eq_unread hf2; obtain rfl := harg3.eq_unread hf3; obtain rfl := harg4.eq_unread hf4; obtain rfl := harg6.eq_unread hf6; obtain rfl := harg7.eq_unread hf7; obtain rfl := harg11.eq_unread hf11
  sl_exec (disch := first | sl_exact hc0 | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (read_heads _ _ _ _ _ _ _ _ _ _).trans ?_
    sl_unfold_words
    simp only [View.readAt_eq_ld, harg2.read_unread, harg3.read_unread, harg4.read_unread, harg6.read_unread, harg7.read_unread, harg11.read_unread, readCov_rows, ld_S512x2048, ld_S1x2048, ld_S2048x1024, ld_S2048x128]
    rfl
  isplitl [H10]
  · iexists _; isplitr; swap; · iexact H10
    ipureintro
    refine (read_whole2 _ _ off2 _ _).trans ?_
    simp only [View.readAt_eq_ld, harg2.read_unread, harg3.read_unread, harg4.read_unread, harg6.read_unread, harg7.read_unread, harg11.read_unread, readCov_rows, ld_S512x2048, ld_S1x2048, ld_S2048x1024, ld_S2048x128]
  isplitl [H13]
  · iexists _; isplitr; swap; · iexact H13
    ipureintro
    refine (read_whole2 _ _ off2 _ _).trans ?_
    simp only [View.readAt_eq_ld, harg2.read_unread, harg3.read_unread, harg4.read_unread, harg6.read_unread, harg7.read_unread, harg11.read_unread, readCov_rows, ld_S512x2048, ld_S1x2048, ld_S2048x1024, ld_S2048x128]
  iexists _; isplitr; swap; · iexact H11
  ipureintro
  refine (read_eight _ _ b hb (fun r => k0_off1 i (BitVec.ofNat 32 r.val)) ho (k0_off1_inb i hc1) spos_16_1 _ _ _ _ _ _ _ _).trans ?_
  sl_unfold_words
  simp only [View.readAt_eq_ld, harg2.read_unread, harg3.read_unread, harg4.read_unread, harg6.read_unread, harg7.read_unread, harg11.read_unread, readCov_rows, ld_S512x2048, ld_S1x2048, ld_S2048x1024, ld_S2048x128]
  rfl

set_option maxHeartbeats 1600000 in
/-- The point that computes a tile of queries or keys. -/
theorem runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x512x128 .bf16) (harg8 : arg8.IsWhole) (arg9 : Memref sig .tc .vmem S512x1024 .f32) (harg9 : arg9.IsWhole) (arg10 : Memref sig .tc .vmem S512x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x2048 .bf16) (harg13 : arg13.IsWhole)
    (hc0 : ¬ k0_cond1 i = 1#1) (hc1 : k0_cond2 i = 1#1) (hc2 : ¬ k0_cond3 i = 1#1) (hc3 : ¬ k0_cond4 i = 1#1) (hc4 : ¬ k0_cond5 i = 1#1) (b : ℕ) (hb : b ≤ 8) (ho : ∀ r : Fin 8, k0_off1 i (BitVec.ofNat 32 r.val) = ![b + r.val, 0])
    (x4 : Vec F S2048x1024 .bf16) (x7 : Vec F S1x1024 .f32) (x13 : Vec F S512x2048 .bf16) (x11 : Vec F S8192x128 .f32) (E : Set ℕ) (K : PUnit → sProp 𝕄) :
    iprop(owns (c : Thread nD τ) arg4 fullShare x4 ∗ owns (c : Thread nD τ) arg7 fullShare x7 ∗ owns (c : Thread nD τ) arg13 fullShare x13 ∗ (∃ d, owns (c : Thread nD τ) arg8 fullShare d) ∗ owns (c : Thread nD τ) arg11 fullShare x11
      ∗ (iprop(owns (c : Thread nD τ) arg4 fullShare x4 ∗ owns (c : Thread nD τ) arg7 fullShare x7 ∗ owns (c : Thread nD τ) arg13 fullShare x13 ∗ owns (c : Thread nD τ) arg8 fullShare (qkTile x13 x4 x7) ∗ owns (c : Thread nD τ) arg11 fullShare (putHeads b (keyHeads x13 x4 x7) x11)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part1_eq_skeleton, k0_part2_eq_skeleton, k0_part3_eq_skeleton, k0_part4_eq_skeleton]
  unfold owns
  iintro ⟨⟨%f4, %hf4, H4⟩, ⟨%f7, %hf7, H7⟩, ⟨%f13, %hf13, H13⟩, ⟨%d8, %f8, -, H8⟩, ⟨%f11, %hf11, H11⟩, Hk⟩
  obtain rfl := harg4.eq_unread hf4; obtain rfl := harg7.eq_unread hf7; obtain rfl := harg13.eq_unread hf13; obtain rfl := harg11.eq_unread hf11
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H7]
  · iexists _; isplitr; · ipureintro; exact harg7.read_unread _
    iexact H7
  isplitl [H13]
  · iexists _; isplitr; · ipureintro; exact harg13.read_unread _
    iexact H13
  isplitl [H8]
  · iexists _; isplitr; swap; · iexact H8
    ipureintro
    refine (read_heads _ _ _ _ _ _ _ _ _ _).trans ?_
    sl_unfold_words
    simp only [View.readAt_eq_ld, harg4.read_unread, harg7.read_unread, harg13.read_unread, harg11.read_unread, readCov_rows, ld_S512x2048, ld_S1x2048, ld_S2048x1024, ld_S2048x128]
    rfl
  iexists _; isplitr; swap; · iexact H11
  ipureintro
  refine (read_eight _ _ b hb (fun r => k0_off1 i (BitVec.ofNat 32 r.val)) ho (k0_off1_inb i hc1) spos_16_1 _ _ _ _ _ _ _ _).trans ?_
  sl_unfold_words
  simp only [View.readAt_eq_ld, harg4.read_unread, harg7.read_unread, harg13.read_unread, harg11.read_unread, readCov_rows, ld_S512x2048, ld_S1x2048, ld_S2048x1024, ld_S2048x128]
  rfl

set_option maxHeartbeats 1600000 in
/-- The point that computes a tile of values. -/
theorem runC (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x512x128 .bf16) (harg8 : arg8.IsWhole) (arg9 : Memref sig .tc .vmem S512x1024 .f32) (harg9 : arg9.IsWhole) (arg10 : Memref sig .tc .vmem S512x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x2048 .bf16) (harg13 : arg13.IsWhole)
    (hc0 : ¬ k0_cond1 i = 1#1) (hc1 : ¬ k0_cond2 i = 1#1) (hc2 : k0_cond3 i = 1#1) (hc3 : ¬ k0_cond4 i = 1#1) (hc4 : ¬ k0_cond5 i = 1#1) (b : ℕ) (hb : b ≤ 8) (ho : ∀ r : Fin 8, k0_off2 i (BitVec.ofNat 32 r.val) = ![b + r.val, 0])
    (x4 : Vec F S2048x1024 .bf16) (x13 : Vec F S512x2048 .bf16) (x12 : Vec F S8192x128 .f32) (E : Set ℕ) (K : PUnit → sProp 𝕄) :
    iprop(owns (c : Thread nD τ) arg4 fullShare x4 ∗ owns (c : Thread nD τ) arg13 fullShare x13 ∗ (∃ d, owns (c : Thread nD τ) arg8 fullShare d) ∗ owns (c : Thread nD τ) arg12 fullShare x12
      ∗ (iprop(owns (c : Thread nD τ) arg4 fullShare x4 ∗ owns (c : Thread nD τ) arg13 fullShare x13 ∗ owns (c : Thread nD τ) arg8 fullShare (vTile x13 x4) ∗ owns (c : Thread nD τ) arg12 fullShare (putHeads b (valueHeads x13 x4) x12)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  simp only [k0_part5_eq_skeleton, k0_part6_eq_skeleton]
  unfold owns
  iintro ⟨⟨%f4, %hf4, H4⟩, ⟨%f13, %hf13, H13⟩, ⟨%d8, %f8, -, H8⟩, ⟨%f12, %hf12, H12⟩, Hk⟩
  obtain rfl := harg4.eq_unread hf4; obtain rfl := harg13.eq_unread hf13; obtain rfl := harg12.eq_unread hf12
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H13]
  · iexists _; isplitr; · ipureintro; exact harg13.read_unread _
    iexact H13
  isplitl [H8]
  · iexists _; isplitr; swap; · iexact H8
    ipureintro
    refine (read_heads _ _ _ _ _ _ _ _ _ _).trans ?_
    sl_unfold_words
    simp only [View.readAt_eq_ld, harg4.read_unread, harg13.read_unread, harg12.read_unread, readCov_rows, ld_S512x2048, ld_S1x2048, ld_S2048x1024, ld_S2048x128]
    rfl
  iexists _; isplitr; swap; · iexact H12
  ipureintro
  refine (read_eight _ _ b hb (fun r => k0_off2 i (BitVec.ofNat 32 r.val)) ho (k0_off2_inb i hc2) spos_16_1 _ _ _ _ _ _ _ _).trans ?_
  sl_unfold_words
  simp only [View.readAt_eq_ld, harg4.read_unread, harg13.read_unread, harg12.read_unread, readCov_rows, ld_S512x2048, ld_S1x2048, ld_S2048x1024, ld_S2048x128]
  rfl

set_option maxHeartbeats 1600000 in
/-- The point that computes a tile of gates. -/
theorem runD (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x512x128 .bf16) (harg8 : arg8.IsWhole) (arg9 : Memref sig .tc .vmem S512x1024 .f32) (harg9 : arg9.IsWhole) (arg10 : Memref sig .tc .vmem S512x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x2048 .bf16) (harg13 : arg13.IsWhole)
    (hc0 : ¬ k0_cond1 i = 1#1) (hc1 : ¬ k0_cond2 i = 1#1) (hc2 : ¬ k0_cond3 i = 1#1) (hc3 : k0_cond4 i = 1#1) (hc4 : ¬ k0_cond5 i = 1#1)
    (x4 : Vec F S2048x1024 .bf16) (x13 : Vec F S512x2048 .bf16) (E : Set ℕ) (K : PUnit → sProp 𝕄) :
    iprop(owns (c : Thread nD τ) arg4 fullShare x4 ∗ owns (c : Thread nD τ) arg13 fullShare x13 ∗ (∃ d, owns (c : Thread nD τ) arg9 fullShare d)
      ∗ (iprop(owns (c : Thread nD τ) arg4 fullShare x4 ∗ owns (c : Thread nD τ) arg13 fullShare x13 ∗ owns (c : Thread nD τ) arg9 fullShare (k0_pay9 x13 x4)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  unfold owns
  iintro ⟨⟨%f4, %hf4, H4⟩, ⟨%f13, %hf13, H13⟩, ⟨%d9, %f9, -, H9⟩, Hk⟩
  obtain rfl := harg4.eq_unread hf4; obtain rfl := harg13.eq_unread hf13
  sl_exec (disch := first | sl_exact hc0 | sl_exact hc1 | sl_exact hc2 | sl_exact hc3 | sl_exact hc4)
  sl_step
  iapply Hk
  isplitl [H4]
  · iexists _; isplitr; · ipureintro; exact harg4.read_unread _
    iexact H4
  isplitl [H13]
  · iexists _; isplitr; · ipureintro; exact harg13.read_unread _
    iexact H13
  iexists _; isplitr; swap; · iexact H9
  ipureintro
  refine (read_whole2 _ _ off2 _ _).trans ?_
  simp only [View.readAt_eq_ld, harg4.read_unread, harg13.read_unread, readCov_rows, ld_S512x2048, ld_S1x2048, ld_S2048x1024, ld_S2048x128]

set_option maxHeartbeats 1600000 in
/-- The point that computes a tile of the other columns. -/
theorem runE (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S1x1024 .f32) (harg7 : arg7.IsWhole) (arg8 : Memref sig .tc .vmem S1x8x512x128 .bf16) (harg8 : arg8.IsWhole) (arg9 : Memref sig .tc .vmem S512x1024 .f32) (harg9 : arg9.IsWhole) (arg10 : Memref sig .tc .vmem S512x128 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S512x2048 .bf16) (harg13 : arg13.IsWhole)
    (hc0 : ¬ k0_cond1 i = 1#1) (hc1 : ¬ k0_cond2 i = 1#1) (hc2 : ¬ k0_cond3 i = 1#1) (hc3 : ¬ k0_cond4 i = 1#1) (hc4 : k0_cond5 i = 1#1)
    (x5 : Vec F S2048x1024 .bf16) (x13 : Vec F S512x2048 .bf16) (E : Set ℕ) (K : PUnit → sProp 𝕄) :
    iprop(owns (c : Thread nD τ) arg5 fullShare x5 ∗ owns (c : Thread nD τ) arg13 fullShare x13 ∗ (∃ d, owns (c : Thread nD τ) arg9 fullShare d)
      ∗ (iprop(owns (c : Thread nD τ) arg5 fullShare x5 ∗ owns (c : Thread nD τ) arg13 fullShare x13 ∗ owns (c : Thread nD τ) arg9 fullShare (k0_pay10 x13 x5)) -∗ K ⟨⟩))
    ⊢ wp frame (wpE (defs₀ (F := F)) Variants.none c none) E (cc0_in_projection i arg2 harg2 arg3 harg3 arg4 harg4 arg5 harg5 arg6 harg6 arg7 harg7 arg8 harg8 arg9 harg9 arg10 harg10 arg11 harg11 arg12 harg12 arg13 harg13) K := by
  simp only [cc0_in_projection_eq_skeleton]; unfold cc0_in_projection_skel
  unfold owns
  iintro ⟨⟨%f5, %hf5, H5⟩, ⟨%f13, %hf13, H13⟩, ⟨%d9, %f9, -, H9⟩, Hk⟩
  obtain rfl := harg5.eq_unread hf5; obtain rfl := harg13.eq_unread hf13
  sl_exec (disch := first | sl_exact hc0 | sl_exact hc1 | sl_exact hc2 | sl_exact hc3 | sl_exact hc4)
  sl_step
  iapply Hk
  isplitl [H5]
  · iexists _; isplitr; · ipureintro; exact harg5.read_unread _
    iexact H5
  isplitl [H13]
  · iexists _; isplitr; · ipureintro; exact harg13.read_unread _
    iexact H13
  iexists _; isplitr; swap; · iexact H9
  ipureintro
  refine (read_whole2 _ _ off2 _ _).trans ?_
  simp only [View.readAt_eq_ld, harg5.read_unread, harg13.read_unread, readCov_rows, ld_S512x2048, ld_S1x2048, ld_S2048x1024, ld_S2048x128]

end Cert.InSampleIdeal.Rows

end
-- ==== Proof.PinnedRun.lean ====
/- A launch whose blocks are known only by what each step changes, followed by lines of the host program. When every array's
   contents after the last write-back are nevertheless determined, so is what the lines compute from them: the run ends with the arrays at
   those contents and every other buffer at what the lines make of it. -/
module

public import Idealize.ShloMosaic.Lib.Pipeline.FrameSuffix

@[expose] public section

noncomputable section

namespace Cert.PinnedRun

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

/-- Arrays at contents they may hold are arrays at the contents they must hold, and those they may hold. -/
theorem arrays_pinned {cfg₁ : Cfg sig Λ₀} {c : Dev nD} (rd : RDat τ Val Unit ℕ (UR sig nD τ) ℕ cfg₁ c) (n : ℕ)
    (A : (w : Fin cfg₁.W) → Buf Val ((cfg₁.win w).arr.view.loc (c.tc : Thread nD τ)))
    (hpin : ∀ w G, rd.ArrAt w n G → G = A w) :
    (rd.arraysAt n : sProp 𝕄) ⊢ iprop(⌜∀ w, rd.ArrAt w n (A w)⌝ ∗ rd.arrays A) := by
  unfold RDat.arraysAt RDat.arrays
  have hone : ∀ w ∈ (Finset.univ : Finset (Fin cfg₁.W)),
      iprop(∃ G, ⌜rd.ArrAt w n G⌝ ∗ (cfg₁.win w).arr.view.loc (c.tc : Thread nD τ) ↦[(cfg₁.win w).arr.view.set]{rd.share w} G)
        ⊢ (iprop(⌜rd.ArrAt w n (A w)⌝ ∗ (cfg₁.win w).arr.view.loc (c.tc : Thread nD τ) ↦[(cfg₁.win w).arr.view.set]{rd.share w} A w) : sProp 𝕄) := by
    intro w _
    iintro ⟨%G, %hG, H⟩
    obtain rfl := hpin w G hG
    isplitr
    · ipureintro; exact hG
    iexact H
  refine (BI.bigSep_mono hone).trans ?_
  show (bigSep Finset.univ (fun w => iprop(⌜rd.ArrAt w n (A w)⌝ ∗ ((cfg₁.win w).arr.view.loc (c.tc : Thread nD τ) ↦[(cfg₁.win w).arr.view.set]{rd.share w} A w))) : sProp 𝕄)
    ⊢ iprop(⌜∀ w, rd.ArrAt w n (A w)⌝ ∗ bigSep Finset.univ (fun w => ((cfg₁.win w).arr.view.loc (c.tc : Thread nD τ) ↦[(cfg₁.win w).arr.view.set]{rd.share w} A w)))
  iintro H
  ihave H2 := (BI.bigSep_pure_sep Finset.univ (fun w => rd.ArrAt w n (A w))
      (fun w => ((cfg₁.win w).arr.view.loc (c.tc : Thread nD τ) ↦[(cfg₁.win w).arr.view.set]{rd.share w} A w : sProp 𝕄))) $$ H
  icases H2 with ⟨%h, H⟩
  isplitr
  · ipureintro; exact fun w => h w (Finset.mem_univ w)
  iexact H

/-- Contents the arrays may hold, put back under "some contents". -/
theorem arrays_some {cfg₁ : Cfg sig Λ₀} {c : Dev nD} (rd : RDat τ Val Unit ℕ (UR sig nD τ) ℕ cfg₁ c) (n : ℕ)
    (A : (w : Fin cfg₁.W) → Buf Val ((cfg₁.win w).arr.view.loc (c.tc : Thread nD τ))) (h : ∀ w, rd.ArrAt w n (A w)) :
    rd.arrays A ⊢ (rd.arraysAt n : sProp 𝕄) := by
  unfold RDat.arraysAt RDat.arrays
  refine BI.bigSep_mono fun w _ => ?_
  show (((cfg₁.win w).arr.view.loc (c.tc : Thread nD τ) ↦[(cfg₁.win w).arr.view.set]{rd.share w} A w) : sProp 𝕄) ⊢ iprop(∃ G, ⌜rd.ArrAt w n G⌝ ∗ ((cfg₁.win w).arr.view.loc (c.tc : Thread nD τ) ↦[(cfg₁.win w).arr.view.set]{rd.share w} G))
  iintro H
  iexists (A w)
  isplitr
  · ipureintro; exact h w
  iexact H

section

variable (pcs : P → PCfg sig Λ₀ Val) (a : (p : P) → (pcs p).Adm) (p : P) (kit : PLaunchFacts₀ (nD := nD) (τ := τ) pcs p)
  (defs₀ : Defs nD τ sig Val Λ₀) (𝒱₀ : Variants)

include kit in
/-- The run, with the contents `A` every array is bound to end with. -/
theorem run_lines (rdat : (c : Dev nD) → RDat τ Val Unit ℕ (UR sig nD τ) ℕ (pin pcs a p) c)
    (A : (c : Dev nD) → (w : Fin (pin pcs a p).W) → Buf Val (((pin pcs a p).win w).arr.view.loc (c.tc : Thread nD τ)))
    (hpin : ∀ c w G, (rdat c).ArrAt w (pin pcs a p).N G → G = A c w)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hpf' : ∀ c k, StableHlo.after opss.flatten (withArrays (pin pcs a p).spec c (V₀ c) (A c)) (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g) (fun r =>
      (∀ c : Dev nD, (∀ w, r.2.mem (((pin pcs a p).spec w).arr.view.loc (c.tc : Thread nD τ)) = A c w)
        ∧ ∀ b ∈ restRefs sig (pin pcs a p).spec, r.2.mem ((c.tc : Thread nD τ).loc b)
          = StableHlo.after opss.flatten (withArrays (pin pcs a p).spec c (V₀ c) (A c)) (Proc.devRef .tc b))
      ∧ r.2.sem = fun _ => 0) := by
  classical
  refine RDat.θ_run_region_pf_tail_quiescent pcs a (RDat.familyOf pcs a p rdat) () (kit.cellOf_inj a) p kit.win
    (OwnSemFacts.none (pin pcs a p).spec) kit.pre emb₁ defs₀ 𝒱₀ m g main
    (fun _ => chain (opss.map StableHlo.seq)) (fun c => by rw [RDat.familyOf_self]; exact hbody c)
    kit.block_pos kit.arr_whole kit.stage_whole (fun c t => by rw [RDat.familyOf_self]; exact howed c t)
    (G := fun _ => iprop(emp)) (u₀ := initOf (cells (pin pcs a) (kit.cellOf_inj a)) (launchToks (pin pcs a) (kit.cellOf_inj a)))
    (V := fun c b => V₀ c (Proc.devRef .tc b)) (hmain := hmain) (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c
      (fun b => V₀ c (Proc.devRef .tc b)))
    (Z' := fun c => unscopedRestP (Ix := Unit) (Name := ℕ) (U := UR sig nD τ) (Lvl := ℕ) (pcs p).pre (pin pcs a p).spec c
      (fun b => StableHlo.after opss.flatten (withArrays (pin pcs a p).spec c (V₀ c) (A c)) (Proc.devRef .tc b)))
    (QY := fun c s => ∀ b ∈ restRefsP sig (pcs p).pre (pin pcs a p).spec, s.mem ((c.tc : Thread nD τ).loc b)
      = StableHlo.after opss.flatten (withArrays (pin pcs a p).spec c (V₀ c) (A c)) (Proc.devRef .tc b))
    (hu₀ := ?launch) (hsplit := ?split) (hX := ?enter) (hin := ?first) (hout := ?last) (htail := ?lines) (hY := ?read) (hQ := ?post)
  case launch =>
    iintro Hu; imodintro
    isplitl [Hu]
    · iapply (show (ownU _ : sProp 𝕄) ⊢ BI.own (emb₁ (initOf (cells (pin pcs a) (kit.cellOf_inj a)) (launchToks (pin pcs a) (kit.cellOf_inj a)))) from .rfl)
      iexact Hu
    iapply (show (BI.emp : sProp 𝕄) ⊢ bigSep Finset.univ (fun _ : Dev nD => (BI.emp : sProp 𝕄)) from by rw [BI.bigSep_emp_const])
    iempintro
  case split =>
    intro c
    rw [RDat.familyOf_self]
    exact (rdat c).arrays_split_shared kit.sharedIn kit.arr_whole (hq c) _ _ (hA c)
  case enter =>
    intro c
    iintro ⟨HU, -, -, Hp, -⟩; imodintro
    isplitl [Hp]; · iexists _; iexact Hp
    iexact HU
  case first =>
    intro c
    rw [RDat.familyOf_self]
    refine Entails.trans ?_ (hin c)
    unfold ΦA ΦT
    iintro ⟨Hp, Ht, Hr⟩
    isplitr [Ht]
    · isplitl [Hr] <;> iassumption
    · iexact Ht
  case last =>
    intro c
    rw [RDat.familyOf_self]
    refine (hout c).trans ?_
    rw [ownSems0_none]
    unfold ΦA
    iintro ⟨Hr, Hp⟩
    isplitl [Hp]; · iexact Hp
    isplitr; · iempintro
    iexact Hr
  case lines =>
    intro c Q'
    rw [RDat.familyOf_self]
    iintro ⟨Hk, Hb, Ha, HZ⟩
    ihave Ha' := (arrays_pinned (rdat c) (pin pcs a p).N (A c) (hpin c)) $$ Ha
    icases Ha' with ⟨%hat, Ha⟩
    have hB : (rdat c).arrays (A c) = arrBufs (pin pcs a p).spec c (fun b => withArrays (pin pcs a p).spec c (V₀ c) (A c) (Proc.devRef .tc b)) :=
      ((rdat c).arrBufs_eq_arrays kit.sharedIn kit.arr_whole (hq c) _ (A c) fun w =>
        (withArrays_arr_shared (pin pcs a p).spec c (V₀ c) (A c) ((rdat c).ArrAt_sharedIn kit.sharedIn (V₀ c) (hA c) (pin pcs a p).N (A c) hat) w).symm).symm
    iapply (tail_seqs_bufs_b pcs defs₀ 𝒱₀ (pcs p).pre (pin pcs a p).spec c (V₀ c) (A c) opss hsub hfresh hkeep Q')
    isplitl [Hk]
    · iintro ⟨Hb2, Ha2, Hu⟩
      iapply Hk
      isplitl [Hb2]; · iexact Hb2
      isplitl [Ha2]
      · iapply (arrays_some (rdat c) (pin pcs a p).N (A c) hat)
        iapply (Entails.of_eq hB.symm); iexact Ha2
      iexact Hu
    isplitl [Hb]; · iexact Hb
    isplitl [Ha]; · iapply (Entails.of_eq hB); iexact Ha
    iexact HZ
  case read =>
    intro c s'
    iintro ⟨-, HU, HSI⟩
    unfold unscopedRestP
    imodintro
    iapply (pointsTo_read_all (restRefsP sig (pcs p).pre (pin pcs a p).spec) (fun b => (c.tc : Thread nD τ).loc b) _ s')
    isplitl [HU] <;> iassumption
  case post =>
    intro s h hz
    exact ⟨fun c => ⟨fun w => hpin c w _ (by simpa only [RDat.familyOf_self] using (h c).1 w),
      rest_of_restP (pcs p).pre (pin pcs a p).spec (a p).1 c
        (fun b => StableHlo.after opss.flatten (withArrays (pin pcs a p).spec c (V₀ c) (A c)) (Proc.devRef .tc b)) s (hpf' c) (h c).2.1 (h c).2.2⟩, hz⟩

end

section

variable (cfgs : P → Cfg sig Λ₀) (dats : (p : P) → (c : Dev nD) → Dat τ Val Unit ℕ (UR sig nD τ) ℕ (cfgs p) c) (p : P)
  (kit : LaunchFacts (nD := nD) (τ := τ) cfgs p) (defs₀ : Defs nD τ sig Val Λ₀) (𝒱₀ : Variants)

include kit in
/-- The same for a launch without tables, ending as exact data says. -/
theorem run_lines₀ (rdat : (c : Dev nD) → RDat τ Val Unit ℕ (UR sig nD τ) ℕ (cfgs p) c)
    (hpin : ∀ c w G, (rdat c).ArrAt w (cfgs p).N G → G = (dats p c).arrAt w (cfgs p).N)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hin : ∀ c, ΦA (cfgs p).spec c ⊢ (rdat c).Φ 0) (hout : ∀ c, (rdat c).Φ (Fin.last (cfgs p).N) ⊢ ΦA (cfgs p).spec c) :
    θ_run (Pipeline.defs (fun q => Cfg.toPCfg (Val := Val) (cfgs q)) defs₀) (onTc main) (s₀ m g)
      (fun r => FramePost cfgs dats p (afterTail₀ cfgs dats p V₀ opss) r ∧ r.2.sem = fun _ => 0) :=
  run_lines (fun q => (cfgs q).toPCfg (Val := Val)) (fun q => (cfgs q).toPCfg_adm) p kit.toP.to₀ defs₀ 𝒱₀ rdat
    (fun c w => (dats p c).arrAt w (cfgs p).N) hpin m g main hbody
    (fun c w hw => (rdat c).q_eq_shareOf_of_share_full kit.win.arr_inj (hshare c) w hw) howed V₀ opss hsub hfresh hkeep hmain hA
    (fun _ k => k.elim0) (fun _ k => k.elim0)
    (fun c => (show _ ⊢ ΦA (cfgs p).spec c from by iintro ⟨H, -⟩; iexact H).trans (hin c)) hout

end

end Cert.PinnedRun

end
-- ==== Proof.InSampleFrame.lean ====
/- The running streams' input projection over its whole grid. Two of its result blocks are filled a few rows at a time over contents
   nothing is known of, so the run is stated point by point, by what each point changes; what is written back is then
   determined. -/
module

public import proofs.«01_k».proof.Proof.InSampleRuns
public import proofs.«01_k».proof.Proof.PinnedRun
public import Idealize.ShloMosaic.Lib.Claim
public import Idealize.ShloMosaic.Lib.Pipeline.ArrRel

@[expose] public section

set_option maxRecDepth 16384

noncomputable section

namespace Cert.InSampleIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx
open Cert.InSampleIdeal Cert.InSampleIdeal.Gen Cert.EveryOther

/-! ## The grid, point by point -/

theorem cond1_iff : ∀ t : Fin grid0.N, k0_cond1 (grid0.coords t) = 1#1 ↔ t.val % 13 = 0 := by decide +kernel
theorem cond2_iff : ∀ t : Fin grid0.N, k0_cond2 (grid0.coords t) = 1#1 ↔ t.val % 13 ≤ 3 := by decide +kernel
theorem cond3_iff : ∀ t : Fin grid0.N, k0_cond3 (grid0.coords t) = 1#1 ↔ (4 ≤ t.val % 13 ∧ t.val % 13 ≤ 5) := by decide +kernel
theorem cond4_iff : ∀ t : Fin grid0.N, k0_cond4 (grid0.coords t) = 1#1 ↔ (6 ≤ t.val % 13 ∧ t.val % 13 ≤ 7) := by decide +kernel
theorem cond5_iff : ∀ t : Fin grid0.N, k0_cond5 (grid0.coords t) = 1#1 ↔ 8 ≤ t.val % 13 := by decide +kernel
theorem off1_eq : ∀ t : Fin grid0.N, ∀ r : Fin 8, k0_off1 (grid0.coords t) (BitVec.ofNat 32 r.val) = ![8 * (t.val % 13 % 2) + r.val, 0] := by decide +kernel
theorem off2_eq : ∀ t : Fin grid0.N, ∀ r : Fin 8, k0_off2 (grid0.coords t) (BitVec.ofNat 32 r.val) = ![8 * (t.val % 13 % 2) + r.val, 0] := by decide +kernel
theorem flush6_iff : ∀ t : Fin grid0.N, (cfg0.win 6).flush t = decide (t.val % 13 ≤ 4 ∨ t.val % 13 = 12) := by decide +kernel
theorem flush7_iff : ∀ t : Fin grid0.N, (cfg0.win 7).flush t = decide (6 ≤ t.val % 13) := by decide +kernel
theorem flush8_iff : ∀ t : Fin grid0.N, (cfg0.win 8).flush t = decide (t.val % 13 = 12) := by decide +kernel
theorem flush9_iff : ∀ t : Fin grid0.N, (cfg0.win 9).flush t = decide (t.val % 13 = 12) := by decide +kernel
theorem flush10_iff : ∀ t : Fin grid0.N, (cfg0.win 10).flush t = decide (t.val % 13 = 12) := by decide +kernel
theorem fetch_out : ∀ t : Fin grid0.N, (cfg0.win 6).fetch t = false ∧ (cfg0.win 7).fetch t = false ∧ (cfg0.win 8).fetch t = false
    ∧ (cfg0.win 9).fetch t = false ∧ (cfg0.win 10).fetch t = false := by decide +kernel

theorem val_lt (t : Fin cfg0.N) : t.val < 26 := lt_of_lt_of_eq t.isLt N_0

/-- The point `j` of the row that point number `n` lies in. -/
def inRow (n j : ℕ) : Fin cfg0.N := ⟨13 * (n / 13 % 2) + j % 13, lt_of_lt_of_eq (by omega) N_0.symm⟩

theorem inRow_val (n j : ℕ) : (inRow n j).val = 13 * (n / 13 % 2) + j % 13 := rfl

theorem inRow_self (t : Fin cfg0.N) (j : ℕ) (h : t.val % 13 = j) : inRow t.val j = t := by
  have := val_lt t
  exact Fin.ext (by rw [inRow_val]; omega)

theorem inRow_same (n n' j : ℕ) (h : n / 13 = n' / 13) : inRow n j = inRow n' j :=
  Fin.ext (by rw [inRow_val, inRow_val, h])

variable {F : FTy → Type} [FloatOps F]
local notation "𝕄" => MT nD τ sig Unit (Elt F) ℕ (UR sig nD τ) ℕ
variable (m : (ℓ : Loc nD τ sig) → Buf (Elt F) ℓ) (ρ : Dev nD → PrngReg)

abbrev st0 (t : Fin cfg0.N) : Memref sig .tc .vmem S512x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x1024 .bf16 := win0_2.stage (cfg0.slots t 2)
abbrev st3 (t : Fin cfg0.N) : Memref sig .tc .vmem S2048x1024 .bf16 := win0_3.stage (cfg0.slots t 3)
abbrev st4 (t : Fin cfg0.N) : Memref sig .tc .vmem S2048x128 .bf16 := win0_4.stage (cfg0.slots t 4)
abbrev st5 (t : Fin cfg0.N) : Memref sig .tc .vmem S1x1024 .f32 := win0_5.stage (cfg0.slots t 5)
abbrev st6 (t : Fin cfg0.N) : Memref sig .tc .vmem S1x8x512x128 .bf16 := win0_6.stage (cfg0.slots t 6)
abbrev st7 (t : Fin cfg0.N) : Memref sig .tc .vmem S512x1024 .f32 := win0_7.stage (cfg0.slots t 7)
abbrev st8 (t : Fin cfg0.N) : Memref sig .tc .vmem S512x128 .f32 := win0_8.stage (cfg0.slots t 8)
abbrev st9 (t : Fin cfg0.N) : Memref sig .tc .vmem S8192x128 .f32 := win0_9.stage (cfg0.slots t 9)
abbrev st10 (t : Fin cfg0.N) : Memref sig .tc .vmem S8192x128 .f32 := win0_10.stage (cfg0.slots t 10)

/-- The scratch buffer that carries a row's normalised tile from its first point to its last. -/
abbrev scr : Memref sig .tc .vmem S512x2048 .bf16 := Memref.whole cc0_scratch0

theorem inv_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-! ## What the points store -/

/-- The normalised rows of the row of the grid that point number `n` lies in. -/
def hRow (c : Dev nD) (n : ℕ) : FVec F S512x2048 .bf16 := k0_pay2 (iblk m c 0 (inRow n 0)) (iblk m c 1 (inRow n 0))

theorem hRow_same (c : Dev nD) (n n' : ℕ) (h : n / 13 = n' / 13) : hRow m c n = hRow m c n' := by
  unfold hRow; rw [inRow_same n n' 0 h]

/-- The eight heads of queries or keys, and of values, that a point stores in the cache buffers. -/
def ks (c : Dev nD) (t : Fin cfg0.N) : Fin 8 → FVec F S512x128 .f32 := keyHeads (hRow m c t.val) (iblk m c 2 t) (iblk m c 5 t)
def vs (c : Dev nD) (t : Fin cfg0.N) : Fin 8 → FVec F S512x128 .f32 := valueHeads (hRow m c t.val) (iblk m c 2 t)

/-- What a point makes of what it finds in the five output buffers. -/
def step6 (c : Dev nD) (t : Fin cfg0.N) (Y : FVec F S1x8x512x128 .bf16) : FVec F S1x8x512x128 .bf16 :=
  if t.val % 13 ≤ 3 then qkTile (hRow m c t.val) (iblk m c 2 t) (iblk m c 5 t)
  else if t.val % 13 ≤ 5 then vTile (hRow m c t.val) (iblk m c 2 t) else Y
def step7 (c : Dev nD) (t : Fin cfg0.N) (Y : FVec F S512x1024 .f32) : FVec F S512x1024 .f32 :=
  if t.val % 13 ≤ 5 then Y
  else if t.val % 13 ≤ 7 then k0_pay9 (hRow m c t.val) (iblk m c 2 t) else k0_pay10 (hRow m c t.val) (iblk m c 3 t)
def step8 (c : Dev nD) (t : Fin cfg0.N) (Y : FVec F S512x128 .f32) : FVec F S512x128 .f32 :=
  if t.val % 13 = 0 then k0_pay3 (iblk m c 0 t) (iblk m c 1 t) (iblk m c 4 t) else Y
def step9 (c : Dev nD) (t : Fin cfg0.N) (Y : FVec F S8192x128 .f32) : FVec F S8192x128 .f32 :=
  if t.val % 13 ≤ 3 then putHeads (8 * (t.val % 13 % 2)) (ks m c t) Y else Y
def step10 (c : Dev nD) (t : Fin cfg0.N) (Y : FVec F S8192x128 .f32) : FVec F S8192x128 .f32 :=
  if 4 ≤ t.val % 13 ∧ t.val % 13 ≤ 5 then putHeads (8 * (t.val % 13 % 2)) (vs m c t) Y else Y

/-! The buffers when they are written back. -/
def out6 (c : Dev nD) (t : Fin cfg0.N) : FVec F S1x8x512x128 .bf16 :=
  if t.val % 13 ≤ 3 then qkTile (hRow m c t.val) (iblk m c 2 t) (iblk m c 5 t)
  else if t.val % 13 ≤ 5 then vTile (hRow m c t.val) (iblk m c 2 t)
  else vTile (hRow m c t.val) (iblk m c 2 (inRow t.val 5))
def out7 (c : Dev nD) (t : Fin cfg0.N) : FVec F S512x1024 .f32 :=
  if t.val % 13 ≤ 7 then k0_pay9 (hRow m c t.val) (iblk m c 2 t) else k0_pay10 (hRow m c t.val) (iblk m c 3 t)
def out8 (c : Dev nD) (t : Fin cfg0.N) : FVec F S512x128 .f32 :=
  k0_pay3 (iblk m c 0 (inRow t.val 0)) (iblk m c 1 (inRow t.val 0)) (iblk m c 4 (inRow t.val 0))
def out9 (c : Dev nD) (t : Fin cfg0.N) : FVec F S8192x128 .f32 := bothHalves (ks m c (inRow t.val 2)) (ks m c (inRow t.val 3))
def out10 (c : Dev nD) (t : Fin cfg0.N) : FVec F S8192x128 .f32 := bothHalves (vs m c (inRow t.val 4)) (vs m c (inRow t.val 5))

/-- What a run from the entry contents is to end with, contents by contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
    | ⟨10, _⟩ => out10 m c t
  Φ s := if s.val % 13 = 0 then Pipeline.ΦA spec0 c
    else iprop(owns (c : Thread nD τ) scr fullShare (hRow m c s.val) ∗ (∃ r, prngReg c r))
  q _ := fullShare
  owed _ := 0

/-- The same run, point by point: an input buffer is left as found, an output buffer changed by its step. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = step6 m c t Y
    | ⟨7, _⟩ => X = step7 m c t Y
    | ⟨8, _⟩ => X = step8 m c t Y
    | ⟨9, _⟩ => X = step9 m c t Y
    | ⟨10, _⟩ => X = step10 m c t Y
  Φ := (dats m 0 c).Φ
  q _ := fullShare
  owed _ := 0

theorem A_eq (c : Dev nD) (w : Fin cfg0.W) : (dats m 0 c).A w = V m c (Pipeline.arrRef spec0 w) := by
  dsimp only [dats]

theorem after6 (c : Dev nD) (t : Fin cfg0.N) : (dats m 0 c).after 6 t = out6 m c t := by dsimp only [dats]
theorem after7 (c : Dev nD) (t : Fin cfg0.N) : (dats m 0 c).after 7 t = out7 m c t := by dsimp only [dats]
theorem after8 (c : Dev nD) (t : Fin cfg0.N) : (dats m 0 c).after 8 t = out8 m c t := by dsimp only [dats]
theorem after9 (c : Dev nD) (t : Fin cfg0.N) : (dats m 0 c).after 9 t = out9 m c t := by dsimp only [dats]
theorem after10 (c : Dev nD) (t : Fin cfg0.N) : (dats m 0 c).after 10 t = out10 m c t := by dsimp only [dats]
theorem found0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk rdat; rfl
theorem found1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk rdat; rfl
theorem found2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk rdat; rfl
theorem found3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk rdat; rfl
theorem found4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk rdat; rfl
theorem found5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk rdat; rfl

theorem inv_first (c : Dev nD) (s : Fin (cfg0.N + 1)) (h : s.val % 13 = 0) : (rdat m c).Φ s = Pipeline.ΦA spec0 c := by
  dsimp only [rdat, dats]; exact if_pos h

theorem inv_in (c : Dev nD) (s : Fin (cfg0.N + 1)) (h : ¬ s.val % 13 = 0) : (rdat m c).Φ s
    = iprop(owns (c : Thread nD τ) scr fullShare (hRow m c s.val) ∗ (∃ r, prngReg c r)) := by
  dsimp only [rdat, dats]; exact if_neg h

/-- After a point the scratch buffer still holds its row's tile, or nothing more is said of it when the row is done. -/
theorem inv_keep (c : Dev nD) (t : Fin cfg0.N) :
    iprop(owns (c : Thread nD τ) scr fullShare (hRow m c t.val) ∗ (∃ r, prngReg c r)) ⊢ (rdat m c).Φ t.succ := by
  by_cases h : (t.val + 1) % 13 = 0
  · rw [inv_first m c t.succ h, inv_eq]
    iintro ⟨H, Hg⟩
    isplitl [H]
    · iexists _; iexact H
    iexact Hg
  · rw [inv_in m c t.succ h]
    rw [show hRow m c t.succ.val = hRow m c t.val from hRow_same m c _ _ (by show (t.val + 1) / 13 = t.val / 13; omega)]

/-! ## The body at a point -/

def given (c : Dev nD) (t : Fin cfg0.N) (Y6 : FVec F S1x8x512x128 .bf16) (Y7 : FVec F S512x1024 .f32) (Y8 : FVec F S512x128 .f32) (Y9 : FVec F S8192x128 .f32) (Y10 : FVec F S8192x128 .f32) : sProp 𝕄 :=
  iprop((rdat m c).Φ t.castSucc ∗ (rdat m c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare Y6
    ∗ owns (c : Thread nD τ) (st7 t) fullShare Y7
    ∗ owns (c : Thread nD τ) (st8 t) fullShare Y8
    ∗ owns (c : Thread nD τ) (st9 t) fullShare Y9
    ∗ owns (c : Thread nD τ) (st10 t) fullShare Y10)

def returned (c : Dev nD) (t : Fin cfg0.N) (Y6 : FVec F S1x8x512x128 .bf16) (Y7 : FVec F S512x1024 .f32) (Y8 : FVec F S512x128 .f32) (Y9 : FVec F S8192x128 .f32) (Y10 : FVec F S8192x128 .f32) : sProp 𝕄 :=
  iprop((rdat m c).Φ t.succ ∗ (rdat m c).owesAt () t.succ
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare (step6 m c t Y6)
    ∗ owns (c : Thread nD τ) (st7 t) fullShare (step7 m c t Y7)
    ∗ owns (c : Thread nD τ) (st8 t) fullShare (step8 m c t Y8)
    ∗ owns (c : Thread nD τ) (st9 t) fullShare (step9 m c t Y9)
    ∗ owns (c : Thread nD τ) (st10 t) fullShare (step10 m c t Y10))

set_option maxHeartbeats 2000000 in
theorem bodyA (c : Dev nD) (t : Fin cfg0.N) (h : t.val % 13 = 0) (Y6 : FVec F S1x8x512x128 .bf16) (Y7 : FVec F S512x1024 .f32) (Y8 : FVec F S512x128 .f32) (Y9 : FVec F S8192x128 .f32) (Y10 : FVec F S8192x128 .f32) :
    given m c t Y6 Y7 Y8 Y9 Y10 ⊢ wp frame (wpE (defs₀ (F := F)) Variants.none c none) Set.univ (bodyAt0 t) (fun _ => returned m c t Y6 Y7 Y8 Y9 Y10) := by
  unfold given returned bodyAt0
  rw [show (rdat m c).owesAt () t.succ = (rdat m c).owesAt () t.castSucc from rfl]
  rw [inv_first m c t.castSucc h, inv_eq]
  have hh : hRow m c t.val = k0_pay2 (iblk m c 0 t) (iblk m c 1 t) := by unfold hRow; rw [inRow_self t 0 h]
  rw [show step6 m c t Y6 = qkTile (hRow m c t.val) (iblk m c 2 t) (iblk m c 5 t) from if_pos (by omega)]
  rw [show step7 m c t Y7 = Y7 from if_pos (by omega)]
  rw [show step8 m c t Y8 = k0_pay3 (iblk m c 0 t) (iblk m c 1 t) (iblk m c 4 t) from if_pos h]
  rw [show step9 m c t Y9 = putHeads (8 * (t.val % 13 % 2)) (ks m c t) Y9 from if_pos (by omega)]
  rw [show step10 m c t Y10 = Y10 from if_neg (by omega)]
  unfold ks
  rw [hh]
  iintro ⟨⟨HS, Hg⟩, Ho, H0, H1, H2, H3, H4, H5, H6, H7, H8, H9, H10⟩
  iapply ((runA c (grid0.coords t) _ _ _ _ _ _ _ _ _ _ _ _ _ _ _ _ _ _ _ _ _ _ _ _ ((cond1_iff t).mpr (by omega)) ((cond2_iff t).mpr (by omega)) (fun hh => absurd ((cond3_iff t).mp hh) (by omega)) (fun hh => absurd ((cond4_iff t).mp hh) (by omega)) (fun hh => absurd ((cond5_iff t).mp hh) (by omega)) (8 * (t.val % 13 % 2)) (by omega) (off1_eq t) (iblk m c 0 t) (iblk m c 1 t) (iblk m c 2 t) (iblk m c 4 t) (iblk m c 5 t) Y9) Set.univ _)
  isplitl [H0]; · iexact H0
  isplitl [H1]; · iexact H1
  isplitl [H2]; · iexact H2
  isplitl [H4]; · iexact H4
  isplitl [H5]; · iexact H5
  isplitl [H6]; · iexists _; iexact H6
  isplitl [H8]; · iexists _; iexact H8
  isplitl [HS]; · iexact HS
  isplitl [H9]; · iexact H9
  iintro ⟨H0, H1, H2, H4, H5, H6, H8, HS, H9⟩
  isplitl [HS Hg]
  · iapply (inv_keep m c t)
    rw [hh]
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem bodyB (c : Dev nD) (t : Fin cfg0.N) (h : 1 ≤ t.val % 13 ∧ t.val % 13 ≤ 3) (Y6 : FVec F S1x8x512x128 .bf16) (Y7 : FVec F S512x1024 .f32) (Y8 : FVec F S512x128 .f32) (Y9 : FVec F S8192x128 .f32) (Y10 : FVec F S8192x128 .f32) :
    given m c t Y6 Y7 Y8 Y9 Y10 ⊢ wp frame (wpE (defs₀ (F := F)) Variants.none c none) Set.univ (bodyAt0 t) (fun _ => returned m c t Y6 Y7 Y8 Y9 Y10) := by
  unfold given returned bodyAt0
  rw [show (rdat m c).owesAt () t.succ = (rdat m c).owesAt () t.castSucc from rfl]
  rw [inv_in m c t.castSucc (show ¬ t.val % 13 = 0 by omega)]
  rw [show hRow m c t.castSucc.val = hRow m c t.val from rfl]
  rw [show step6 m c t Y6 = qkTile (hRow m c t.val) (iblk m c 2 t) (iblk m c 5 t) from if_pos (by omega)]
  rw [show step7 m c t Y7 = Y7 from if_pos (by omega)]
  rw [show step8 m c t Y8 = Y8 from if_neg (by omega)]
  rw [show step9 m c t Y9 = putHeads (8 * (t.val % 13 % 2)) (ks m c t) Y9 from if_pos (by omega)]
  rw [show step10 m c t Y10 = Y10 from if_neg (by omega)]
  unfold ks
  iintro ⟨⟨HS, Hg⟩, Ho, H0, H1, H2, H3, H4, H5, H6, H7, H8, H9, H10⟩
  iapply ((runB c (grid0.coords t) _ _ _ _ _ _ _ _ _ _ _ _ _ _ _ _ _ _ _ _ _ _ _ _ (fun hh => absurd ((cond1_iff t).mp hh) (by omega)) ((cond2_iff t).mpr (by omega)) (fun hh => absurd ((cond3_iff t).mp hh) (by omega)) (fun hh => absurd ((cond4_iff t).mp hh) (by omega)) (fun hh => absurd ((cond5_iff t).mp hh) (by omega)) (8 * (t.val % 13 % 2)) (by omega) (off1_eq t) (iblk m c 2 t) (iblk m c 5 t) (hRow m c t.val) Y9) Set.univ _)
  isplitl [H2]; · iexact H2
  isplitl [H5]; · iexact H5
  isplitl [HS]; · iexact HS
  isplitl [H6]; · iexists _; iexact H6
  isplitl [H9]; · iexact H9
  iintro ⟨H2, H5, HS, H6, H9⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem bodyC (c : Dev nD) (t : Fin cfg0.N) (h : 4 ≤ t.val % 13 ∧ t.val % 13 ≤ 5) (Y6 : FVec F S1x8x512x128 .bf16) (Y7 : FVec F S512x1024 .f32) (Y8 : FVec F S512x128 .f32) (Y9 : FVec F S8192x128 .f32) (Y10 : FVec F S8192x128 .f32) :
    given m c t Y6 Y7 Y8 Y9 Y10 ⊢ wp frame (wpE (defs₀ (F := F)) Variants.none c none) Set.univ (bodyAt0 t) (fun _ => returned m c t Y6 Y7 Y8 Y9 Y10) := by
  unfold given returned bodyAt0
  rw [show (rdat m c).owesAt () t.succ = (rdat m c).owesAt () t.castSucc from rfl]
  rw [inv_in m c t.castSucc (show ¬ t.val % 13 = 0 by omega)]
  rw [show hRow m c t.castSucc.val = hRow m c t.val from rfl]
  rw [show step6 m c t Y6 = vTile (hRow m c t.val) (iblk m c 2 t) from (if_neg (by omega)).trans (if_pos (by omega))]
  rw [show step7 m c t Y7 = Y7 from if_pos (by omega)]
  rw [show step8 m c t Y8 = Y8 from if_neg (by omega)]
  rw [show step9 m c t Y9 = Y9 from if_neg (by omega)]
  rw [show step10 m c t Y10 = putHeads (8 * (t.val % 13 % 2)) (vs m c t) Y10 from if_pos h]
  unfold vs
  iintro ⟨⟨HS, Hg⟩, Ho, H0, H1, H2, H3, H4, H5, H6, H7, H8, H9, H10⟩
  iapply ((runC c (grid0.coords t) _ _ _ _ _ _ _ _ _ _ _ _ _ _ _ _ _ _ _ _ _ _ _ _ (fun hh => absurd ((cond1_iff t).mp hh) (by omega)) (fun hh => absurd ((cond2_iff t).mp hh) (by omega)) ((cond3_iff t).mpr (by omega)) (fun hh => absurd ((cond4_iff t).mp hh) (by omega)) (fun hh => absurd ((cond5_iff t).mp hh) (by omega)) (8 * (t.val % 13 % 2)) (by omega) (off2_eq t) (iblk m c 2 t) (hRow m c t.val) Y10) Set.univ _)
  isplitl [H2]; · iexact H2
  isplitl [HS]; · iexact HS
  isplitl [H6]; · iexists _; iexact H6
  isplitl [H10]; · iexact H10
  iintro ⟨H2, HS, H6, H10⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem bodyD (c : Dev nD) (t : Fin cfg0.N) (h : 6 ≤ t.val % 13 ∧ t.val % 13 ≤ 7) (Y6 : FVec F S1x8x512x128 .bf16) (Y7 : FVec F S512x1024 .f32) (Y8 : FVec F S512x128 .f32) (Y9 : FVec F S8192x128 .f32) (Y10 : FVec F S8192x128 .f32) :
    given m c t Y6 Y7 Y8 Y9 Y10 ⊢ wp frame (wpE (defs₀ (F := F)) Variants.none c none) Set.univ (bodyAt0 t) (fun _ => returned m c t Y6 Y7 Y8 Y9 Y10) := by
  unfold given returned bodyAt0
  rw [show (rdat m c).owesAt () t.succ = (rdat m c).owesAt () t.castSucc from rfl]
  rw [inv_in m c t.castSucc (show ¬ t.val % 13 = 0 by omega)]
  rw [show hRow m c t.castSucc.val = hRow m c t.val from rfl]
  rw [show step6 m c t Y6 = Y6 from (if_neg (by omega)).trans (if_neg (by omega))]
  rw [show step7 m c t Y7 = k0_pay9 (hRow m c t.val) (iblk m c 2 t) from (if_neg (by omega)).trans (if_pos (by omega))]
  rw [show step8 m c t Y8 = Y8 from if_neg (by omega)]
  rw [show step9 m c t Y9 = Y9 from if_neg (by omega)]
  rw [show step10 m c t Y10 = Y10 from if_neg (by omega)]
  iintro ⟨⟨HS, Hg⟩, Ho, H0, H1, H2, H3, H4, H5, H6, H7, H8, H9, H10⟩
  iapply ((runD c (grid0.coords t) _ _ _ _ _ _ _ _ _ _ _ _ _ _ _ _ _ _ _ _ _ _ _ _ (fun hh => absurd ((cond1_iff t).mp hh) (by omega)) (fun hh => absurd ((cond2_iff t).mp hh) (by omega)) (fun hh => absurd ((cond3_iff t).mp hh) (by omega)) ((cond4_iff t).mpr (by omega)) (fun hh => absurd ((cond5_iff t).mp hh) (by omega)) (iblk m c 2 t) (hRow m c t.val)) Set.univ _)
  isplitl [H2]; · iexact H2
  isplitl [HS]; · iexact HS
  isplitl [H7]; · iexists _; iexact H7
  iintro ⟨H2, HS, H7⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 2000000 in
theorem bodyE (c : Dev nD) (t : Fin cfg0.N) (h : 8 ≤ t.val % 13) (Y6 : FVec F S1x8x512x128 .bf16) (Y7 : FVec F S512x1024 .f32) (Y8 : FVec F S512x128 .f32) (Y9 : FVec F S8192x128 .f32) (Y10 : FVec F S8192x128 .f32) :
    given m c t Y6 Y7 Y8 Y9 Y10 ⊢ wp frame (wpE (defs₀ (F := F)) Variants.none c none) Set.univ (bodyAt0 t) (fun _ => returned m c t Y6 Y7 Y8 Y9 Y10) := by
  unfold given returned bodyAt0
  rw [show (rdat m c).owesAt () t.succ = (rdat m c).owesAt () t.castSucc from rfl]
  rw [inv_in m c t.castSucc (show ¬ t.val % 13 = 0 by omega)]
  rw [show hRow m c t.castSucc.val = hRow m c t.val from rfl]
  rw [show step6 m c t Y6 = Y6 from (if_neg (by omega)).trans (if_neg (by omega))]
  rw [show step7 m c t Y7 = k0_pay10 (hRow m c t.val) (iblk m c 3 t) from (if_neg (by omega)).trans (if_neg (by omega))]
  rw [show step8 m c t Y8 = Y8 from if_neg (by omega)]
  rw [show step9 m c t Y9 = Y9 from if_neg (by omega)]
  rw [show step10 m c t Y10 = Y10 from if_neg (by omega)]
  iintro ⟨⟨HS, Hg⟩, Ho, H0, H1, H2, H3, H4, H5, H6, H7, H8, H9, H10⟩
  iapply ((runE c (grid0.coords t) _ _ _ _ _ _ _ _ _ _ _ _ _ _ _ _ _ _ _ _ _ _ _ _ (fun hh => absurd ((cond1_iff t).mp hh) (by omega)) (fun hh => absurd ((cond2_iff t).mp hh) (by omega)) (fun hh => absurd ((cond3_iff t).mp hh) (by omega)) (fun hh => absurd ((cond4_iff t).mp hh) (by omega)) ((cond5_iff t).mpr (by omega)) (iblk m c 3 t) (hRow m c t.val)) Set.univ _)
  isplitl [H3]; · iexact H3
  isplitl [HS]; · iexact HS
  isplitl [H7]; · iexists _; iexact H7
  iintro ⟨H3, HS, H7⟩
  isplitl [HS Hg]
  · iapply (inv_keep m c t)
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_at (c : Dev nD) (t : Fin cfg0.N) (Y6 : FVec F S1x8x512x128 .bf16) (Y7 : FVec F S512x1024 .f32) (Y8 : FVec F S512x128 .f32) (Y9 : FVec F S8192x128 .f32) (Y10 : FVec F S8192x128 .f32) :
    given m c t Y6 Y7 Y8 Y9 Y10 ⊢ wp frame (wpE (defs₀ (F := F)) Variants.none c none) Set.univ (bodyAt0 t) (fun _ => returned m c t Y6 Y7 Y8 Y9 Y10) := by
  by_cases h0 : t.val % 13 = 0
  · exact bodyA m c t h0 Y6 Y7 Y8 Y9 Y10
  by_cases h1 : t.val % 13 ≤ 3
  · exact bodyB m c t ⟨by omega, h1⟩ Y6 Y7 Y8 Y9 Y10
  by_cases h2 : t.val % 13 ≤ 5
  · exact bodyC m c t ⟨by omega, h2⟩ Y6 Y7 Y8 Y9 Y10
  by_cases h3 : t.val % 13 ≤ 7
  · exact bodyD m c t ⟨by omega, h3⟩ Y6 Y7 Y8 Y9 Y10
  · exact bodyE m c t (by omega) Y6 Y7 Y8 Y9 Y10

theorem row_eq (t : Fin cfg0.N) : defs₀ (F := F) .tc cfg0.body (cfg0.bodyArgs t (cfg0.slots t)) = bodyAt0 t := by
  unfold defs₀; rw [Defs.onTc_tc]

/-- A buffer at its step's contents is a buffer the point may leave. -/
theorem left_as {c : Dev nD} {S : Shape} {e : EltTy} (M : Memref sig .tc .vmem S e) (P : (S.Idx → Elt F e) → Prop) (X) (h : P X) :
    owns (c : Thread nD τ) M fullShare X ⊢ (iprop(∃ X, ⌜P X⌝ ∗ owns (c : Thread nD τ) M fullShare X) : sProp 𝕄) := by
  iintro H
  iexists X
  isplitr
  · ipureintro; exact h
  iexact H

theorem body_ok (c : Dev nD) : (rdat (F := F) m c).BodyObligation (defs₀ (F := F)) Variants.none () Set.univ := fun t Y hY => by
  rw [bigSep_W0, bigSep_W0, row_eq]
  have e0 := found0 m c t _ (hY 0)
  have e1 := found1 m c t _ (hY 1)
  have e2 := found2 m c t _ (hY 2)
  have e3 := found3 m c t _ (hY 3)
  have e4 := found4 m c t _ (hY 4)
  have e5 := found5 m c t _ (hY 5)
  refine triple_restated (body_at m c t (Y 6) (Y 7) (Y 8) (Y 9) (Y 10)) rfl ?_ fun _ => ?_
  · unfold given; rw [e0, e1, e2, e3, e4, e5]
  · unfold returned
    iintro ⟨HP, Ho, H0, H1, H2, H3, H4, H5, H6, H7, H8, H9, H10⟩
    isplitl [HP]; · iexact HP
    isplitl [Ho]; · iexact Ho
    isplitl [H0]; · iapply (left_as (st0 t) ((rdat m c).after 0 t (Y 0)) (iblk m c 0 t) e0.symm); iexact H0
    isplitl [H1]; · iapply (left_as (st1 t) ((rdat m c).after 1 t (Y 1)) (iblk m c 1 t) e1.symm); iexact H1
    isplitl [H2]; · iapply (left_as (st2 t) ((rdat m c).after 2 t (Y 2)) (iblk m c 2 t) e2.symm); iexact H2
    isplitl [H3]; · iapply (left_as (st3 t) ((rdat m c).after 3 t (Y 3)) (iblk m c 3 t) e3.symm); iexact H3
    isplitl [H4]; · iapply (left_as (st4 t) ((rdat m c).after 4 t (Y 4)) (iblk m c 4 t) e4.symm); iexact H4
    isplitl [H5]; · iapply (left_as (st5 t) ((rdat m c).after 5 t (Y 5)) (iblk m c 5 t) e5.symm); iexact H5
    isplitl [H6]; · iapply (left_as (st6 t) ((rdat m c).after 6 t (Y 6)) _ rfl); iexact H6
    isplitl [H7]; · iapply (left_as (st7 t) ((rdat m c).after 7 t (Y 7)) _ rfl); iexact H7
    isplitl [H8]; · iapply (left_as (st8 t) ((rdat m c).after 8 t (Y 8)) _ rfl); iexact H8
    isplitl [H9]; · iapply (left_as (st9 t) ((rdat m c).after 9 t (Y 9)) _ rfl); iexact H9
    iapply (left_as (st10 t) ((rdat m c).after 10 t (Y 10)) _ rfl); iexact H10

/-! ## What is written back -/

theorem prev_left (c : Dev nD) (w : Fin cfg0.W) (t s : Fin cfg0.N) (hs : t.val = s.val + 1) (hft : (cfg0.win w).fetch t = false)
    (hfl : (cfg0.win w).flush s = false) (X) (h : (rdat m c).Finds w t X) : (rdat m c).Leaves w s X := by
  have e : (⟨t.val - 1, Nat.lt_of_le_of_lt (Nat.sub_le _ _) t.isLt⟩ : Fin cfg0.N) = s := Fin.ext (by show t.val - 1 = s.val; omega)
  have h' := ((rdat m c).finds_of_pos hft (by omega) X).mp h
  rw [e] at h'
  exact h'.resolve_left (by rw [hfl]; exact Bool.false_ne_true)

/-- A buffer no point of a row touches after point `lo` holds, when it is written back at the row's end, what that point left. -/
theorem back (c : Dev nD) (w : Fin cfg0.W) (lo : ℕ) (hlo : lo < 13) (hft : ∀ t : Fin cfg0.N, (cfg0.win w).fetch t = false)
    (hid : ∀ (t : Fin cfg0.N) Y X, lo < t.val % 13 → (rdat m c).after w t Y X → X = Y)
    (hfl : ∀ t : Fin cfg0.N, lo ≤ t.val % 13 → t.val % 13 < 12 → (cfg0.win w).flush t = false) (n : ℕ) :
    ∀ (t : Fin cfg0.N) (X), t.val % 13 = lo + n → (rdat m c).Leaves w t X → (rdat m c).Leaves w (inRow t.val lo) X := by
  induction n with
  | zero => intro t X ht h; rw [inRow_self t lo ht]; exact h
  | succ n ih =>
    intro t X ht h
    obtain ⟨Y, hY, e⟩ := h
    have ht' := val_lt t
    have es : t.val = (⟨t.val - 1, by omega⟩ : Fin cfg0.N).val + 1 := by show t.val = t.val - 1 + 1; omega
    have h' := prev_left m c w t ⟨t.val - 1, by omega⟩ es (hft t)
      (hfl _ (by show lo ≤ (t.val - 1) % 13; omega) (by show (t.val - 1) % 13 < 12; omega)) Y hY
    have := ih ⟨t.val - 1, by omega⟩ Y (by show (t.val - 1) % 13 = lo + n; omega) h'
    rw [hid t Y X (by omega) e]
    rw [show inRow t.val lo = inRow (t.val - 1) lo from inRow_same _ _ _ (by omega)]
    exact this

theorem last6 (c : Dev nD) (t : Fin cfg0.N) (hf : (cfg0.win 6).flush t = true) (X) (h : (rdat m c).Leaves 6 t X) : X = out6 m c t := by
  rcases of_decide_eq_true ((flush6_iff t).symm.trans hf) with h4 | h12
  · obtain ⟨Y, hY, e⟩ := h
    have e' : X = step6 m c t Y := e
    rw [e']
    unfold step6 out6
    by_cases h3 : t.val % 13 ≤ 3
    · rw [if_pos h3, if_pos h3]
    · rw [if_neg h3, if_neg h3, if_pos (by omega), if_pos (by omega)]
  · obtain ⟨Y, hY, e⟩ := back m c 6 5 (by omega) (fun t => (fetch_out t).1)
      (fun t Y X ht e => (show X = step6 m c t Y from e).trans ((if_neg (by omega)).trans (if_neg (by omega))))
      (fun t h1 h2 => (flush6_iff t).trans (decide_eq_false (by omega))) 7 t X h12 h
    have e' : X = step6 m c (inRow t.val 5) Y := e
    have hv := inRow_val t.val 5
    have ht := val_lt t
    rw [e']
    unfold step6 out6
    rw [if_neg (by omega), if_pos (by omega), if_neg (by omega), if_neg (by omega), hRow_same m c (inRow t.val 5).val t.val (by omega)]

theorem last7 (c : Dev nD) (t : Fin cfg0.N) (hf : (cfg0.win 7).flush t = true) (X) (h : (rdat m c).Leaves 7 t X) : X = out7 m c t := by
  have h6 := of_decide_eq_true ((flush7_iff t).symm.trans hf)
  obtain ⟨Y, hY, e⟩ := h
  exact (show X = step7 m c t Y from e).trans (if_neg (by omega))

theorem last8 (c : Dev nD) (t : Fin cfg0.N) (hf : (cfg0.win 8).flush t = true) (X) (h : (rdat m c).Leaves 8 t X) : X = out8 m c t := by
  have h12 := of_decide_eq_true ((flush8_iff t).symm.trans hf)
  obtain ⟨Y, hY, e⟩ := back m c 8 0 (by omega) (fun t => (fetch_out t).2.2.1)
    (fun t Y X ht e => (show X = step8 m c t Y from e).trans (if_neg (by omega)))
    (fun t h1 h2 => (flush8_iff t).trans (decide_eq_false (by omega))) 12 t X (by omega) h
  have hv := inRow_val t.val 0
  exact (show X = step8 m c (inRow t.val 0) Y from e).trans (if_pos (by omega))

theorem last9 (c : Dev nD) (t : Fin cfg0.N) (hf : (cfg0.win 9).flush t = true) (X) (h : (rdat m c).Leaves 9 t X) : X = out9 m c t := by
  have h12 := of_decide_eq_true ((flush9_iff t).symm.trans hf)
  obtain ⟨Y, hY, e⟩ := back m c 9 3 (by omega) (fun t => (fetch_out t).2.2.2.1)
    (fun t Y X ht e => (show X = step9 m c t Y from e).trans (if_neg (by omega)))
    (fun t h1 h2 => (flush9_iff t).trans (decide_eq_false (by omega))) 9 t X (by omega) h
  have hv := inRow_val t.val 3
  have hv' := inRow_val t.val 2
  obtain ⟨Y', hY', e'⟩ := prev_left m c 9 (inRow t.val 3) (inRow t.val 2) (by omega) (fetch_out _).2.2.2.1
    ((flush9_iff _).trans (decide_eq_false (by omega))) Y hY
  have e1 : X = putHeads (8 * ((inRow t.val 3).val % 13 % 2)) (ks m c (inRow t.val 3)) Y := (show X = step9 m c (inRow t.val 3) Y from e).trans (if_pos (by omega))
  have e0 : Y = putHeads (8 * ((inRow t.val 2).val % 13 % 2)) (ks m c (inRow t.val 2)) Y' := (show Y = step9 m c (inRow t.val 2) Y' from e').trans (if_pos (by omega))
  rw [show 8 * ((inRow t.val 3).val % 13 % 2) = 8 by omega] at e1
  rw [show 8 * ((inRow t.val 2).val % 13 % 2) = 0 by omega] at e0
  rw [e1, e0]
  exact put_both _ _ _

theorem last10 (c : Dev nD) (t : Fin cfg0.N) (hf : (cfg0.win 10).flush t = true) (X) (h : (rdat m c).Leaves 10 t X) : X = out10 m c t := by
  have h12 := of_decide_eq_true ((flush10_iff t).symm.trans hf)
  obtain ⟨Y, hY, e⟩ := back m c 10 5 (by omega) (fun t => (fetch_out t).2.2.2.2)
    (fun t Y X ht e => (show X = step10 m c t Y from e).trans (if_neg (by omega)))
    (fun t h1 h2 => (flush10_iff t).trans (decide_eq_false (by omega))) 7 t X (by omega) h
  have hv := inRow_val t.val 5
  have hv' := inRow_val t.val 4
  obtain ⟨Y', hY', e'⟩ := prev_left m c 10 (inRow t.val 5) (inRow t.val 4) (by omega) (fetch_out _).2.2.2.2
    ((flush10_iff _).trans (decide_eq_false (by omega))) Y hY
  have e1 : X = putHeads (8 * ((inRow t.val 5).val % 13 % 2)) (vs m c (inRow t.val 5)) Y := (show X = step10 m c (inRow t.val 5) Y from e).trans (if_pos (by omega))
  have e0 : Y = putHeads (8 * ((inRow t.val 4).val % 13 % 2)) (vs m c (inRow t.val 4)) Y' := (show Y = step10 m c (inRow t.val 4) Y' from e').trans (if_pos (by omega))
  rw [show 8 * ((inRow t.val 5).val % 13 % 2) = 8 by omega] at e1
  rw [show 8 * ((inRow t.val 4).val % 13 % 2) = 0 by omega] at e0
  rw [e1, e0]
  exact put_both _ _ _

theorem left_exact (c : Dev nD) (w : Fin cfg0.W) (u : Fin cfg0.N) (hf : (cfg0.win w).flush u = true) (X) (h : (rdat m c).Leaves w u X) :
    (dats m 0 c).after w u = X := by
  match w, hf, X, h with
  | ⟨0, _⟩, hf, X, h => exact absurd (((cfg0.win 0).flush_in rfl u).symm.trans hf) Bool.false_ne_true
  | ⟨1, _⟩, hf, X, h => exact absurd (((cfg0.win 1).flush_in rfl u).symm.trans hf) Bool.false_ne_true
  | ⟨2, _⟩, hf, X, h => exact absurd (((cfg0.win 2).flush_in rfl u).symm.trans hf) Bool.false_ne_true
  | ⟨3, _⟩, hf, X, h => exact absurd (((cfg0.win 3).flush_in rfl u).symm.trans hf) Bool.false_ne_true
  | ⟨4, _⟩, hf, X, h => exact absurd (((cfg0.win 4).flush_in rfl u).symm.trans hf) Bool.false_ne_true
  | ⟨5, _⟩, hf, X, h => exact absurd (((cfg0.win 5).flush_in rfl u).symm.trans hf) Bool.false_ne_true
  | ⟨6, _⟩, hf, X, h => exact (last6 m c u hf X h).symm
  | ⟨7, _⟩, hf, X, h => exact (last7 m c u hf X h).symm
  | ⟨8, _⟩, hf, X, h => exact (last8 m c u hf X h).symm
  | ⟨9, _⟩, hf, X, h => exact (last9 m c u hf X h).symm
  | ⟨10, _⟩, hf, X, h => exact (last10 m c u hf X h).symm

/-- Every array's contents after the last write-back are determined. -/
theorem pinned (c : Dev nD) (w : Fin cfg0.W) (G) (h : (rdat m c).ArrAt w cfg0.N G) : G = (dats m 0 c).arrAt w cfg0.N := by
  obtain ⟨X, hX, hA⟩ := Pipeline.RDat.ArrAt.exists_exact h
  exact hA (dats m 0 c).after fun u hu hf => left_exact m c w u hf _ (hX u hu hf)

/-! ## The launch -/

set_option backward.isDefEq.respectTransparency.types false in
theorem launch_ends : θ_run defs (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Cert.PinnedRun.run_lines₀ cfgs (dats m) (0 : Fin 1) launch0 defs₀ Variants.none (rdat m) (pinned m) m ρ main
    (hbody := body_ok m) (hshare := fun c w => by unfold RDat.share; exact ite_self _)
    (howed := fun _ _ => rfl) (V₀ := V0 m) (opss := [hostOps1]) (hsub := sfx_sub) (hfresh := sfx_fresh)
    (hkeep := sfx_keeps) (hmain := hmain m Variants.none) (hA := fun _ _ => rfl)
    (hin := fun c => by rw [inv_first m c 0 (by rfl)])
    (hout := fun c => by rw [inv_first m c (Fin.last cfg0.N) (by show cfg0.N % 13 = 0; rw [show cfg0.N = 26 from N_0])])

theorem launch_post : θ_run defs (onTc (τ := τ) (main (F := F))) ⟨m, fun _ => 0, ρ⟩ (Pipeline.FramePost cfgs (dats m) 0 (Pipeline.afterTail₀ cfgs (dats m) 0 (V0 m) [hostOps1])) :=
  (θ_run defs _ _).mono (fun _ h => h.1) (launch_ends m ρ)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (launch_post m ρ)

/-- The launch ends with its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  θ_run_and (args_kept m ρ) ((θ_run defs _ _).mono (fun _ h => h.2) (launch_ends m ρ))

end Cert.InSampleIdeal.Rows

end
-- ==== Proof.InSampleTiles.lean ====
/-
  The running streams' input projection, tile by tile: what the blocks written back hold, in terms of the arguments.
-/
module

public import proofs.«01_k».proof.Proof.InSampleFrame
public import proofs.«01_k».proof.Proof.KvRows
public import proofs.«01_k».proof.Proof.RowNorm

@[expose] public section

set_option maxRecDepth 16384

noncomputable section

namespace Cert.InSampleIdeal.Tiles

open Idealize.ShloMosaic Idealize.ShloMosaic.TcCoe Idealize.SL.Sem
open Idealize.ShloMosaic.Pipeline (Dat)
open Idealize.ShloMosaic.ValueIdx
open Cert.RowNorm Cert.EveryOther
open Cert.KvRowsIdeal.Tiles (both_at)
open scoped BigOperators
open Cert.InSampleIdeal Cert.InSampleIdeal.Gen Cert.InSampleIdeal.Rows

/-! ## The tiles -/

/-- A tile of normalised rows. -/
theorem rows_apply (x : Vec Ideal S512x2048 .f32) (w : Vec Ideal S1x2048 .f32) (r : Fin 512) (k : Fin 2048) :
    (k0_pay2 (F := Ideal) x w (ix2 r k) : EReal)
      = unitRow 0x45000000#32 (fun k => (x (ix2 r k) : EReal)) (fun k => (w (ix2 (0 : Fin 1) k) : EReal)) k := by
  unfold k0_pay2 k0_pay1
  simp only [shapeCast_self]
  exact normed_apply (a := 512) (b := 2048) _ x w _ _ _ _ (by decide) r k

theorem rows_same (x : Vec Ideal S512x2048 .f32) (w : Vec Ideal S1x2048 .f32) : k0_pay1 (F := Ideal) x w = k0_pay2 (F := Ideal) x w := by
  unfold k0_pay2
  simp only [shapeCast_self]

/-- A product of a tile of rows and a tile of columns, from zero. -/
theorem prod_apply (h : FVec Ideal S512x2048 .bf16) (w : FVec Ideal S2048x1024 .bf16) (r : Fin 512) (j : Fin 1024) :
    (matmul (F := Ideal) dot_S512x2048_S2048x1024_S512x1024_1_0_0_1_n_n none h w (constant S512x1024 .f32 0x00000000#32) (ix2 r j) : EReal)
      = ∑ k : Fin 2048, h (ix2 r k) * w (ix2 k j) := by
  refine (Ideal.matmul_plain_apply none h w _ r j).trans ?_
  show Ideal.ofBits .f32 0x00000000#32 + _ = _
  rw [Ideal.ofBits_zero_f32, zero_add]

theorem steps_apply (x : Vec Ideal S512x2048 .f32) (w : Vec Ideal S1x2048 .f32) (u : Vec Ideal S2048x128 .bf16) (r : Fin 512) (j : Fin 128) :
    (k0_pay3 (F := Ideal) x w u (ix2 r j) : EReal) = ∑ k : Fin 2048, (k0_pay2 (F := Ideal) x w (ix2 r k) : EReal) * u (ix2 k j) := by
  unfold k0_pay3
  rw [rows_same]
  refine (Ideal.matmul_plain_apply none (k0_pay2 (F := Ideal) x w : FVec Ideal S512x2048 .bf16) (u : FVec Ideal S2048x128 .bf16) _ r j).trans ?_
  show Ideal.ofBits .f32 0x00000000#32 + _ = _
  rw [Ideal.ofBits_zero_f32, zero_add]

theorem head_apply (off : Nat) (p : FVec Ideal S512x1024 .f32) (w : FVec Ideal S1x128 .f32) (hs : S512x1024.Slices ![0, off] S512x128)
    (hr : S512x128.Reduces [1] S512) (hc : S512.ShapeCasts S512x1) (hb : S512x1.Broadcasts S512x128) (hw : S1x128.Broadcasts S512x128)
    (r : Fin 512) (d : Fin 128) (ho : off + 128 ≤ 1024) :
    (mulf (mulf (extractStridedSlice S512x128 ![0, off] p hs) (broadcastTo S512x128 (rsqrt (addf (divf
      (shapeCast S512x1 (multiReduction (F := Ideal) .add [1] S512 (mulf (extractStridedSlice S512x128 ![0, off] p hs) (extractStridedSlice S512x128 ![0, off] p hs)) 0x00000000#32 hr (.inl rfl) rfl) hc)
      (broadcast S512x1 (Scalar.ofBits (F := Ideal) .f32 0x43000000#32))) (broadcast S512x1 (Scalar.ofBits (F := Ideal) .f32 0x358637BD#32)))) hb))
      (broadcastTo S512x128 w hw) (ix2 r d) : EReal)
      = unitRow 0x43000000#32 (fun d : Fin 128 => p (ix2 r (⟨off + d.val, by omega⟩ : Fin 1024))) (fun d => w (ix2 (0 : Fin 1) d)) d := by
  refine (normed_apply (a := 512) (b := 128) _ (extractStridedSlice S512x128 ![0, off] p hs) w hr hc hb hw (by decide) r d).trans ?_
  unfold unitRow
  have e (d : Fin 128) : extractStridedSlice S512x128 ![0, off] p hs (ix2 r d) = p (ix2 r (⟨off + d.val, by omega⟩ : Fin 1024)) :=
    slice2_axis1_eq off p hs r d
  simp only [e]

/-- The weights of head `a` are the tile's entries from `a` on. -/
theorem headW_apply (qw : FVec Ideal S1x1024 .f32) (a : Nat) (inb) (d : Fin 128) (ho : a + 128 ≤ 1024) :
    headW qw a inb (ix2 (0 : Fin 1) d) = qw (ix2 (0 : Fin 1) (⟨a + d.val, by omega⟩ : Fin 1024)) := by
  refine congrArg qw (funext fun b => Fin.ext ?_)
  match b with
  | ⟨0, _⟩ => rfl
  | ⟨1, _⟩ => show a + 1 * d.val = a + d.val; omega

/-- Eight heads of keys. -/
theorem keyHeads_apply (h : FVec Ideal S512x2048 .bf16) (w : FVec Ideal S2048x1024 .bf16) (qw : FVec Ideal S1x1024 .f32) (a : Fin 8) (r : Fin 512) (d : Fin 128) :
    (keyHeads (F := Ideal) h w qw a (ix2 r d) : EReal)
      = unitRow 0x43000000#32 (fun d : Fin 128 => ∑ k : Fin 2048, h (ix2 r k) * w (ix2 k (⟨a.val * 128 + d.val, by omega⟩ : Fin 1024)))
          (fun d : Fin 128 => qw (ix2 (0 : Fin 1) (⟨a.val * 128 + d.val, by omega⟩ : Fin 1024))) d := by
  have fin (off : Nat) (inb) (ho : off + 128 ≤ 1024) (q : FVec Ideal S512x1024 .f32)
      (hq : q = matmul (F := Ideal) dot_S512x2048_S2048x1024_S512x1024_1_0_0_1_n_n none h w (constant S512x1024 .f32 0x00000000#32)) :
      unitRow 0x43000000#32 (fun d : Fin 128 => (q (ix2 r (⟨off + d.val, by omega⟩ : Fin 1024)) : EReal)) (fun d => (headW qw off inb (ix2 (0 : Fin 1) d) : EReal)) d
        = unitRow 0x43000000#32 (fun d : Fin 128 => ∑ k : Fin 2048, h (ix2 r k) * w (ix2 k (⟨off + d.val, by omega⟩ : Fin 1024)))
          (fun d : Fin 128 => qw (ix2 (0 : Fin 1) (⟨off + d.val, by omega⟩ : Fin 1024))) d := by
    subst hq
    exact congrArg₂ (fun f g => unitRow 0x43000000#32 f g d) (funext fun d => prod_apply h w r _) (funext fun d => headW_apply qw off inb d ho)
  unfold keyHeads
  fin_cases a
  · show (k0_pay12 (F := Ideal) h w (headW qw 0 inb_S1x1024_S1x128_0_0) (ix2 r d) : EReal) = _
    unfold k0_pay12 k0_pay11
    simp only [shapeCast_self]
    exact (head_apply 0 _ (headW qw 0 _) _ _ _ _ _ r d (by decide)).trans (fin 0 _ (by decide) _ rfl)
  · show (k0_pay15 (F := Ideal) (k0_pay14 h w) (headW qw 128 inb_S1x1024_S1x128_0_128) (ix2 r d) : EReal) = _
    unfold k0_pay15 k0_pay14 k0_pay11
    simp only [shapeCast_self]
    exact (head_apply 128 _ (headW qw 128 _) _ _ _ _ _ r d (by decide)).trans (fin 128 _ (by decide) _ rfl)
  · show (k0_pay17 (F := Ideal) (k0_pay11 h w) (headW qw 256 inb_S1x1024_S1x128_0_256) (ix2 r d) : EReal) = _
    unfold k0_pay17 k0_pay11
    simp only [shapeCast_self]
    exact (head_apply 256 _ (headW qw 256 _) _ _ _ _ _ r d (by decide)).trans (fin 256 _ (by decide) _ rfl)
  · show (k0_pay22 (F := Ideal) (k0_pay19 (k0_pay11 h w)) (k0_pay20 (k0_pay11 h w)) k0_pay21 (headW qw 384 inb_S1x1024_S1x128_0_384) (ix2 r d) : EReal) = _
    unfold k0_pay22 k0_pay21 k0_pay20 k0_pay19 k0_pay11
    simp only [shapeCast_self]
    exact (head_apply 384 _ (headW qw 384 _) _ _ _ _ _ r d (by decide)).trans (fin 384 _ (by decide) _ rfl)
  · show (k0_pay24 (F := Ideal) (k0_pay11 h w) (headW qw 512 inb_S1x1024_S1x128_0_512) (ix2 r d) : EReal) = _
    unfold k0_pay24 k0_pay11
    simp only [shapeCast_self]
    exact (head_apply 512 _ (headW qw 512 _) _ _ _ _ _ r d (by decide)).trans (fin 512 _ (by decide) _ rfl)
  · show (k0_pay26 (F := Ideal) (k0_pay11 h w) (headW qw 640 inb_S1x1024_S1x128_0_640) (ix2 r d) : EReal) = _
    unfold k0_pay26 k0_pay11
    simp only [shapeCast_self]
    exact (head_apply 640 _ (headW qw 640 _) _ _ _ _ _ r d (by decide)).trans (fin 640 _ (by decide) _ rfl)
  · show (k0_pay28 (F := Ideal) (k0_pay11 h w) (headW qw 768 inb_S1x1024_S1x128_0_768) (ix2 r d) : EReal) = _
    unfold k0_pay28 k0_pay11
    simp only [shapeCast_self]
    exact (head_apply 768 _ (headW qw 768 _) _ _ _ _ _ r d (by decide)).trans (fin 768 _ (by decide) _ rfl)
  · show (k0_pay5 (F := Ideal) (k0_pay11 h w) (headW qw 896 inb_S1x1024_S1x128_0_896) (ix2 r d) : EReal) = _
    unfold k0_pay5 k0_pay11
    simp only [shapeCast_self]
    exact (head_apply 896 _ (headW qw 896 _) _ _ _ _ _ r d (by decide)).trans (fin 896 _ (by decide) _ rfl)

/-- Eight heads of values. -/
theorem valueHeads_apply (h : FVec Ideal S512x2048 .bf16) (w : FVec Ideal S2048x1024 .bf16) (a : Fin 8) (r : Fin 512) (d : Fin 128) :
    (valueHeads (F := Ideal) h w a (ix2 r d) : EReal) = ∑ k : Fin 2048, h (ix2 r k) * w (ix2 k (⟨a.val * 128 + d.val, by omega⟩ : Fin 1024)) := by
  unfold valueHeads
  fin_cases a
  · show (k0_pay31 (F := Ideal) h w (ix2 r d) : EReal) = _
    unfold k0_pay31 k0_pay30
    exact (slice2_axis1_eq 0 _ _ r d).trans (prod_apply h w r _)
  · show (k0_pay33 (F := Ideal) h w (ix2 r d) : EReal) = _
    unfold k0_pay33 k0_pay30
    exact (slice2_axis1_eq 128 _ _ r d).trans (prod_apply h w r _)
  · show (k0_pay35 (F := Ideal) h w (ix2 r d) : EReal) = _
    unfold k0_pay35 k0_pay30
    exact (slice2_axis1_eq 256 _ _ r d).trans (prod_apply h w r _)
  · show (k0_pay37 (F := Ideal) h w (ix2 r d) : EReal) = _
    unfold k0_pay37 k0_pay30
    exact (slice2_axis1_eq 384 _ _ r d).trans (prod_apply h w r _)
  · show (k0_pay40 (F := Ideal) (k0_pay30 h w) (ix2 r d) : EReal) = _
    unfold k0_pay40 k0_pay30
    exact (slice2_axis1_eq 512 _ _ r d).trans (prod_apply h w r _)
  · show (k0_pay42 (F := Ideal) (k0_pay30 h w) (ix2 r d) : EReal) = _
    unfold k0_pay42 k0_pay30
    exact (slice2_axis1_eq 640 _ _ r d).trans (prod_apply h w r _)
  · show (k0_pay44 (F := Ideal) (k0_pay30 h w) (ix2 r d) : EReal) = _
    unfold k0_pay44 k0_pay30
    exact (slice2_axis1_eq 768 _ _ r d).trans (prod_apply h w r _)
  · show (k0_pay7 (F := Ideal) (k0_pay30 h w) (ix2 r d) : EReal) = _
    unfold k0_pay7 k0_pay30
    exact (slice2_axis1_eq 896 _ _ r d).trans (prod_apply h w r _)

/-- The block's heads are the cache rows' heads, laid out differently. -/
theorem qk_heads (h : FVec Ideal S512x2048 .bf16) (w : FVec Ideal S2048x1024 .bf16) (qw : FVec Ideal S1x1024 .f32) (a : Fin 8) (r : Fin 512) (d : Fin 128) :
    (qkTile (F := Ideal) h w qw (ix4 (0 : Fin 1) a r d) : EReal) = keyHeads (F := Ideal) h w qw a (ix2 r d) := by
  unfold qkTile heads8 keyHeads
  fin_cases a
  · show (k0_pay13 (F := Ideal) h w (headW qw 0 inb_S1x1024_S1x128_0_0) (ix4 (0 : Fin 1) (0 : Fin 1) r d) : EReal) = k0_pay12 (F := Ideal) h w (headW qw 0 inb_S1x1024_S1x128_0_0) (ix2 r d)
    unfold k0_pay13
    exact under_units (a := 512) (b := 128) _ _ r d
  · show (k0_pay16 (F := Ideal) (k0_pay14 h w) (headW qw 128 inb_S1x1024_S1x128_0_128) (ix4 (0 : Fin 1) (0 : Fin 1) r d) : EReal) = k0_pay15 (F := Ideal) (k0_pay14 h w) (headW qw 128 inb_S1x1024_S1x128_0_128) (ix2 r d)
    unfold k0_pay16
    exact under_units (a := 512) (b := 128) _ _ r d
  · show (k0_pay18 (F := Ideal) (k0_pay11 h w) (headW qw 256 inb_S1x1024_S1x128_0_256) (ix4 (0 : Fin 1) (0 : Fin 1) r d) : EReal) = k0_pay17 (F := Ideal) (k0_pay11 h w) (headW qw 256 inb_S1x1024_S1x128_0_256) (ix2 r d)
    unfold k0_pay18
    exact under_units (a := 512) (b := 128) _ _ r d
  · show (k0_pay23 (F := Ideal) (k0_pay19 (k0_pay11 h w)) (k0_pay20 (k0_pay11 h w)) k0_pay21 (headW qw 384 inb_S1x1024_S1x128_0_384) (ix4 (0 : Fin 1) (0 : Fin 1) r d) : EReal) = k0_pay22 (F := Ideal) (k0_pay19 (k0_pay11 h w)) (k0_pay20 (k0_pay11 h w)) k0_pay21 (headW qw 384 inb_S1x1024_S1x128_0_384) (ix2 r d)
    unfold k0_pay23
    exact under_units (a := 512) (b := 128) _ _ r d
  · show (k0_pay25 (F := Ideal) (k0_pay11 h w) (headW qw 512 inb_S1x1024_S1x128_0_512) (ix4 (0 : Fin 1) (0 : Fin 1) r d) : EReal) = k0_pay24 (F := Ideal) (k0_pay11 h w) (headW qw 512 inb_S1x1024_S1x128_0_512) (ix2 r d)
    unfold k0_pay25
    exact under_units (a := 512) (b := 128) _ _ r d
  · show (k0_pay27 (F := Ideal) (k0_pay11 h w) (headW qw 640 inb_S1x1024_S1x128_0_640) (ix4 (0 : Fin 1) (0 : Fin 1) r d) : EReal) = k0_pay26 (F := Ideal) (k0_pay11 h w) (headW qw 640 inb_S1x1024_S1x128_0_640) (ix2 r d)
    unfold k0_pay27
    exact under_units (a := 512) (b := 128) _ _ r d
  · show (k0_pay4 (F := Ideal) (k0_pay29 (k0_pay11 h w) (headW qw 768 inb_S1x1024_S1x128_0_768)) (ix4 (0 : Fin 1) (0 : Fin 1) r d) : EReal) = k0_pay28 (F := Ideal) (k0_pay11 h w) (headW qw 768 inb_S1x1024_S1x128_0_768) (ix2 r d)
    unfold k0_pay4 k0_pay29
    exact under_units (a := 512) (b := 128) _ _ r d
  · show (k0_pay6 (F := Ideal) (k0_pay11 h w) (headW qw 896 inb_S1x1024_S1x128_0_896) (ix4 (0 : Fin 1) (0 : Fin 1) r d) : EReal) = k0_pay5 (F := Ideal) (k0_pay11 h w) (headW qw 896 inb_S1x1024_S1x128_0_896) (ix2 r d)
    unfold k0_pay6
    exact under_units (a := 512) (b := 128) _ _ r d

theorem v_heads (h : FVec Ideal S512x2048 .bf16) (w : FVec Ideal S2048x1024 .bf16) (a : Fin 8) (r : Fin 512) (d : Fin 128) :
    (vTile (F := Ideal) h w (ix4 (0 : Fin 1) a r d) : EReal) = valueHeads (F := Ideal) h w a (ix2 r d) := by
  unfold vTile heads8 valueHeads
  fin_cases a
  · show (k0_pay32 (F := Ideal) h w (ix4 (0 : Fin 1) (0 : Fin 1) r d) : EReal) = k0_pay31 (F := Ideal) h w (ix2 r d)
    unfold k0_pay32
    exact under_units (a := 512) (b := 128) _ _ r d
  · show (k0_pay34 (F := Ideal) h w (ix4 (0 : Fin 1) (0 : Fin 1) r d) : EReal) = k0_pay33 (F := Ideal) h w (ix2 r d)
    unfold k0_pay34
    exact under_units (a := 512) (b := 128) _ _ r d
  · show (k0_pay36 (F := Ideal) h w (ix4 (0 : Fin 1) (0 : Fin 1) r d) : EReal) = k0_pay35 (F := Ideal) h w (ix2 r d)
    unfold k0_pay36
    exact under_units (a := 512) (b := 128) _ _ r d
  · show (k0_pay39 (F := Ideal) (k0_pay38 h w) (ix4 (0 : Fin 1) (0 : Fin 1) r d) : EReal) = k0_pay37 (F := Ideal) h w (ix2 r d)
    unfold k0_pay39 k0_pay38
    exact under_units (a := 512) (b := 128) _ _ r d
  · show (k0_pay41 (F := Ideal) (k0_pay30 h w) (ix4 (0 : Fin 1) (0 : Fin 1) r d) : EReal) = k0_pay40 (F := Ideal) (k0_pay30 h w) (ix2 r d)
    unfold k0_pay41
    exact under_units (a := 512) (b := 128) _ _ r d
  · show (k0_pay43 (F := Ideal) (k0_pay30 h w) (ix4 (0 : Fin 1) (0 : Fin 1) r d) : EReal) = k0_pay42 (F := Ideal) (k0_pay30 h w) (ix2 r d)
    unfold k0_pay43
    exact under_units (a := 512) (b := 128) _ _ r d
  · show (k0_pay45 (F := Ideal) (k0_pay30 h w) (ix4 (0 : Fin 1) (0 : Fin 1) r d) : EReal) = k0_pay44 (F := Ideal) (k0_pay30 h w) (ix2 r d)
    unfold k0_pay45
    exact under_units (a := 512) (b := 128) _ _ r d
  · show (k0_pay8 (F := Ideal) (k0_pay30 h w) (ix4 (0 : Fin 1) (0 : Fin 1) r d) : EReal) = k0_pay7 (F := Ideal) (k0_pay30 h w) (ix2 r d)
    unfold k0_pay8
    exact under_units (a := 512) (b := 128) _ _ r d

theorem gate_apply (h : FVec Ideal S512x2048 .bf16) (w : FVec Ideal S2048x1024 .bf16) (r : Fin 512) (j : Fin 1024) :
    (k0_pay9 (F := Ideal) h w (ix2 r j) : EReal) = ∑ k : Fin 2048, h (ix2 r k) * w (ix2 k j) := by
  unfold k0_pay9; exact prod_apply h w r j

theorem rest_apply (h : FVec Ideal S512x2048 .bf16) (w : FVec Ideal S2048x1024 .bf16) (r : Fin 512) (j : Fin 1024) :
    (k0_pay10 (F := Ideal) h w (ix2 r j) : EReal) = ∑ k : Fin 2048, h (ix2 r k) * w (ix2 k j) := by
  unfold k0_pay10; exact prod_apply h w r j

/-! ## What the launch finds -/

variable (m : (ℓ : Loc nD τ sig) → Buf (Elt Ideal) ℓ) (ρ : Dev nD → PrngReg)

/-- The stream, and its step, that a row belongs to. -/
abbrev streamOf (r : Fin 1024) : Fin 32 := ⟨r.val / 32, by omega⟩
abbrev stepOf (r : Fin 1024) : Fin 32 := ⟨r.val % 32, by omega⟩

theorem found_x (c : Dev nD) : V (F := Ideal) m c main_v10
    = shapeCast S1024x2048 (m ((c : Thread nD τ).loc main_arg0)) shapeCasts_S32x32x2048_S1024x2048 := by
  show StableHlo.after hostOps0 _ (Proc.devRef .tc main_v10) = _
  after_results
  rfl

theorem x_apply (c : Dev nD) (r : Fin 1024) (k : Fin 2048) :
    V (F := Ideal) m c main_v10 (ix2 r k) = m ((c : Thread nD τ).loc main_arg0) (ix3 (streamOf r) (stepOf r) k) := by
  rw [found_x]
  refine shapeCast_apply _ _ _ _ ?_
  show (S32x32x2048.rowMajor (ix3 (streamOf r) (stepOf r) k) : Nat) = (S1024x2048.rowMajor (ix2 r k) : Nat)
  rw [Shape.rowMajor_val_three, Shape.rowMajor_val_two]
  show (r.val / 32 * 32 + r.val % 32) * 2048 + k.val = r.val * 2048 + k.val
  omega

theorem found_w (c : Dev nD) : V (F := Ideal) m c main_v12
    = shapeCast S1x2048 (shapeCast S2048 (m ((c : Thread nD τ).loc main_arg1)) shapeCasts_S1x2048_S2048) shapeCasts_S2048_S1x2048 := by
  show StableHlo.after hostOps0 _ (Proc.devRef .tc main_v12) = _
  after_results
  rfl

theorem w_apply (c : Dev nD) (k : Fin 2048) :
    V (F := Ideal) m c main_v12 (ix2 (0 : Fin 1) k) = m ((c : Thread nD τ).loc main_arg1) (ix2 (0 : Fin 1) k) := by
  rw [found_w]; exact (shapeCast_a_1a_apply _ _ (0 : Fin 1) k).trans (shapeCast_1a_a_apply _ _ k)

/-- One head's weights sixteen times over. -/
abbrev spread (w : S1x128.Idx → EReal) : S2048.Idx → EReal :=
  shapeCast S2048 (broadcastInDim S16x128 ![0, 1] bcast_S1x128_S16x128_0_1 (shapeCast S1x128 (shapeCast S128 w shapeCasts_S1x128_S128) shapeCasts_S128_S1x128)) shapeCasts_S16x128_S2048

theorem spread_apply (w : S1x128.Idx → EReal) (h : Fin 16) (d : Fin 128) :
    spread w (ix1 (⟨h.val * 128 + d.val, by omega⟩ : Fin 2048)) = w (ix2 (0 : Fin 1) d) := by
  refine (shapeCast_apply _ _ _ (ix2 h d) ?_).trans ?_
  · rw [Shape.rowMajor_val_two, Shape.rowMajor_val_one]; rfl
  refine (broadcastInDim_apply _ _ _ _ (ix2 (0 : Fin 1) d) fun a => ?_).trans ?_
  · match a with
    | ⟨0, _⟩ => rfl
    | ⟨1, _⟩ => rfl
  exact (shapeCast_a_1a_apply _ _ (0 : Fin 1) d).trans (shapeCast_1a_a_apply _ _ d)

theorem found_qk (c : Dev nD) : V (F := Ideal) m c main_v9
    = shapeCast S1x4096 (concatenate S4096 0 [⟨S2048, spread (m ((c : Thread nD τ).loc main_arg5))⟩, ⟨S2048, spread (m ((c : Thread nD τ).loc main_arg6))⟩]
        concatenates_S2048_S2048_S4096_d0) shapeCasts_S4096_S1x4096 := by
  show StableHlo.after hostOps0 _ (Proc.devRef .tc main_v9) = _
  after_results
  rfl

theorem q_weight (c : Dev nD) (h : Fin 16) (d : Fin 128) :
    V (F := Ideal) m c main_v9 (ix2 (0 : Fin 1) (⟨h.val * 128 + d.val, by omega⟩ : Fin 4096)) = m ((c : Thread nD τ).loc main_arg5) (ix2 (0 : Fin 1) d) := by
  rw [found_qk]
  refine (shapeCast_a_1a_apply _ _ (0 : Fin 1) _).trans ?_
  refine (concatenate_pair_apply_left (t := S4096) (s₁ := S2048) (s₂ := S2048) 0 _ _ _ _ rfl (ix1 (⟨h.val * 128 + d.val, by omega⟩ : Fin 2048)) fun b => ?_).trans (spread_apply _ h d)
  match b with
  | ⟨0, _⟩ => rfl

theorem k_weight (c : Dev nD) (h : Fin 16) (d : Fin 128) :
    V (F := Ideal) m c main_v9 (ix2 (0 : Fin 1) (⟨2048 + (h.val * 128 + d.val), by omega⟩ : Fin 4096)) = m ((c : Thread nD τ).loc main_arg6) (ix2 (0 : Fin 1) d) := by
  rw [found_qk]
  refine (shapeCast_a_1a_apply _ _ (0 : Fin 1) _).trans ?_
  refine (concatenate_pair_apply_right (t := S4096) (s₁ := S2048) (s₂ := S2048) 0 _ _ _ _ rfl rfl (ix1 (⟨h.val * 128 + d.val, by omega⟩ : Fin 2048)) (fun b hb => ?_) ?_).trans (spread_apply _ h d)
  · match b with
    | ⟨0, _⟩ => exact absurd rfl hb
  · show h.val * 128 + d.val + 2048 = 2048 + (h.val * 128 + d.val)
    omega

/-! ## The blocks -/

theorem idx_in : ∀ t : Fin grid0.N,
    (win0_0.index t 0 = t.val / 13 ∧ win0_0.index t 1 = 0) ∧ (win0_1.index t 0 = 0 ∧ win0_1.index t 1 = 0)
    ∧ (win0_2.index t 0 = 0 ∧ win0_2.index t 1 = min (t.val % 13) 7) ∧ (win0_3.index t 0 = 0 ∧ win0_3.index t 1 = t.val % 13 - 8)
    ∧ (win0_4.index t 0 = 0 ∧ win0_4.index t 1 = 0) ∧ (win0_5.index t 0 = 0 ∧ win0_5.index t 1 = min (t.val % 13) 3) := by decide +kernel

theorem idx_out : ∀ t : Fin grid0.N,
    (win0_6.index t 0 = (if t.val % 13 ≤ 1 then 2 else if t.val % 13 ≤ 3 then 0 else 1) ∧ win0_6.index t 1 = min (t.val % 13) 5 % 2
      ∧ win0_6.index t 2 = t.val / 13 ∧ win0_6.index t 3 = 0)
    ∧ (win0_7.index t 0 = t.val / 13 ∧ win0_7.index t 1 = t.val % 13 - 6)
    ∧ (win0_8.index t 0 = t.val / 13 ∧ win0_8.index t 1 = 0)
    ∧ (win0_9.index t 0 = t.val / 13 ∧ win0_9.index t 1 = 0)
    ∧ (win0_10.index t 0 = t.val / 13 ∧ win0_10.index t 1 = 0) := by decide +kernel

theorem blk0 (c : Dev nD) (t : Fin cfg0.N) (r : Fin 512) (k : Fin 2048) :
    iblk (F := Ideal) m c 0 t (ix2 r k) = m ((c : Thread nD τ).loc main_arg0) (ix3 (streamOf (⟨t.val / 13 * 512 + r.val, by have := val_lt t; omega⟩ : Fin 1024)) (stepOf (⟨t.val / 13 * 512 + r.val, by have := val_lt t; omega⟩ : Fin 1024)) k) := by
  refine Eq.trans ?_ (x_apply m c _ k)
  unfold iblk
  refine congrArg (V (F := Ideal) m c main_v10) (funext fun a => Fin.ext ?_)
  have h0 := (idx_in t).1
  match a with
  | ⟨0, _⟩ => show win0_0.index t 0 * 512 + 1 * r.val = t.val / 13 * 512 + r.val; rw [h0.1]; omega
  | ⟨1, _⟩ => show win0_0.index t 1 * 2048 + 1 * k.val = k.val; rw [h0.2]; omega

theorem blk1 (c : Dev nD) (t : Fin cfg0.N) (k : Fin 2048) :
    iblk (F := Ideal) m c 1 t (ix2 (0 : Fin 1) k) = m ((c : Thread nD τ).loc main_arg1) (ix2 (0 : Fin 1) k) := by
  refine Eq.trans ?_ (w_apply m c k)
  unfold iblk
  refine congrArg (V (F := Ideal) m c main_v12) (funext fun a => Fin.ext ?_)
  have h0 := (idx_in t).2.1
  match a with
  | ⟨0, _⟩ => show win0_1.index t 0 * 1 + 1 * 0 = 0; rw [h0.1]
  | ⟨1, _⟩ => show win0_1.index t 1 * 2048 + 1 * k.val = k.val; rw [h0.2]; omega

theorem blk2 (c : Dev nD) (t : Fin cfg0.N) (k : Fin 2048) (j : Fin 1024) :
    iblk (F := Ideal) m c 2 t (ix2 k j) = m ((c : Thread nD τ).loc main_arg2) (ix2 k (⟨min (t.val % 13) 7 * 1024 + j.val, by omega⟩ : Fin 8192)) := by
  refine Eq.trans ?_ (congrFun (V_main_arg2 m c) _)
  unfold iblk
  refine congrArg (V (F := Ideal) m c main_arg2) (funext fun a => Fin.ext ?_)
  have h0 := (idx_in t).2.2.1
  match a with
  | ⟨0, _⟩ => show win0_2.index t 0 * 2048 + 1 * k.val = k.val; rw [h0.1]; omega
  | ⟨1, _⟩ => show win0_2.index t 1 * 1024 + 1 * j.val = min (t.val % 13) 7 * 1024 + j.val; rw [h0.2]; omega

theorem blk3 (c : Dev nD) (t : Fin cfg0.N) (k : Fin 2048) (j : Fin 1024) :
    iblk (F := Ideal) m c 3 t (ix2 k j) = m ((c : Thread nD τ).loc main_arg3) (ix2 k (⟨(t.val % 13 - 8) * 1024 + j.val, by omega⟩ : Fin 5120)) := by
  refine Eq.trans ?_ (congrFun (V_main_arg3 m c) _)
  unfold iblk
  refine congrArg (V (F := Ideal) m c main_arg3) (funext fun a => Fin.ext ?_)
  have h0 := (idx_in t).2.2.2.1
  match a with
  | ⟨0, _⟩ => show win0_3.index t 0 * 2048 + 1 * k.val = k.val; rw [h0.1]; omega
  | ⟨1, _⟩ => show win0_3.index t 1 * 1024 + 1 * j.val = (t.val % 13 - 8) * 1024 + j.val; rw [h0.2]; omega

theorem blk4 (c : Dev nD) (t : Fin cfg0.N) (k : Fin 2048) (j : Fin 128) :
    iblk (F := Ideal) m c 4 t (ix2 k j) = m ((c : Thread nD τ).loc main_arg4) (ix2 k j) := by
  refine Eq.trans ?_ (congrFun (V_main_arg4 m c) _)
  unfold iblk
  refine congrArg (V (F := Ideal) m c main_arg4) (funext fun a => Fin.ext ?_)
  have h0 := (idx_in t).2.2.2.2.1
  match a with
  | ⟨0, _⟩ => show win0_4.index t 0 * 2048 + 1 * k.val = k.val; rw [h0.1]; omega
  | ⟨1, _⟩ => show win0_4.index t 1 * 128 + 1 * j.val = j.val; rw [h0.2]; omega

theorem blk5 (c : Dev nD) (t : Fin cfg0.N) (j : Fin 1024) :
    iblk (F := Ideal) m c 5 t (ix2 (0 : Fin 1) j) = V (F := Ideal) m c main_v9 (ix2 (0 : Fin 1) (⟨min (t.val % 13) 3 * 1024 + j.val, by omega⟩ : Fin 4096)) := by
  refine Eq.trans ?_ (Eq.refl _)
  unfold iblk
  refine congrArg (V (F := Ideal) m c main_v9) (funext fun a => Fin.ext ?_)
  have h0 := (idx_in t).2.2.2.2.2
  match a with
  | ⟨0, _⟩ => show win0_5.index t 0 * 1 + 1 * 0 = 0; rw [h0.1]
  | ⟨1, _⟩ => show win0_5.index t 1 * 1024 + 1 * j.val = min (t.val % 13) 3 * 1024 + j.val; rw [h0.2]; omega

/-! ## The result arrays -/

/-- Normalised rows of the input. -/
def rowH (x0 : S32x32x2048.Idx → EReal) (x1 : S1x2048.Idx → EReal) (r : Fin 1024) : Fin 2048 → EReal :=
  unitRow 0x45000000#32 (fun k => x0 (ix3 (streamOf r) (stepOf r) k)) (fun k => x1 (ix2 (0 : Fin 1) k))

/-- Normalised rows times column `j` of a weight matrix. -/
def rowP {n : Nat} (x0 : S32x32x2048.Idx → EReal) (x1 : S1x2048.Idx → EReal) (u : (⟨2, ![2048, n]⟩ : Shape).Idx → EReal) (r : Fin 1024) (j : Fin n) : EReal :=
  ∑ k : Fin 2048, rowH x0 x1 r k * u (ix2 k j)

/-- A normalised head of queries (`off` 0) or keys (`off` 2048). -/
def rowQ (x0 : S32x32x2048.Idx → EReal) (x1 : S1x2048.Idx → EReal) (x2 : S2048x8192.Idx → EReal) (w : S1x128.Idx → EReal)
    (off : Nat) (ho : off ≤ 2048) (r : Fin 1024) (h : Fin 16) : Fin 128 → EReal :=
  unitRow 0x43000000#32 (fun d => rowP x0 x1 x2 r (⟨off + (h.val * 128 + d.val), by omega⟩ : Fin 8192)) (fun d => w (ix2 (0 : Fin 1) d))

/-- The row, and the head, that a row of the cache arrays belongs to. -/
abbrev rowOf (i : Fin 16384) : Fin 1024 := ⟨i.val / 16, by omega⟩
abbrev headOf (i : Fin 16384) : Fin 16 := ⟨i.val % 16, by omega⟩

/-- The keys and the values, a row per head. -/
def keys (x0 : S32x32x2048.Idx → EReal) (x1 : S1x2048.Idx → EReal) (x2 : S2048x8192.Idx → EReal) (x6 : S1x128.Idx → EReal) : S16384x128.Idx → EReal :=
  fun y => rowQ x0 x1 x2 x6 2048 (le_refl _) (rowOf (y 0)) (headOf (y 0)) (y 1)

def values (x0 : S32x32x2048.Idx → EReal) (x1 : S1x2048.Idx → EReal) (x2 : S2048x8192.Idx → EReal) : S16384x128.Idx → EReal :=
  fun y => rowP x0 x1 x2 (rowOf (y 0)) (⟨4096 + ((headOf (y 0)).val * 128 + (y 1).val), by
    have h1 : (y 1).val < 128 := (y 1).isLt
    have h0 := (headOf (y 0)).isLt
    omega⟩ : Fin 8192)

theorem keys_at (x0 : S32x32x2048.Idx → EReal) (x1 : S1x2048.Idx → EReal) (x2 : S2048x8192.Idx → EReal) (x6 : S1x128.Idx → EReal) (i : Fin 16384) (d : Fin 128) :
    keys x0 x1 x2 x6 (ix2 i d) = rowQ x0 x1 x2 x6 2048 (le_refl _) (rowOf i) (headOf i) d := rfl

theorem values_at (x0 : S32x32x2048.Idx → EReal) (x1 : S1x2048.Idx → EReal) (x2 : S2048x8192.Idx → EReal) (i : Fin 16384) (d : Fin 128) :
    values x0 x1 x2 (ix2 i d) = rowP x0 x1 x2 (rowOf i) (⟨4096 + ((headOf i).val * 128 + d.val), by omega⟩ : Fin 8192) := rfl

theorem rowQ_same (x0 : S32x32x2048.Idx → EReal) (x1 : S1x2048.Idx → EReal) (x2 : S2048x8192.Idx → EReal) (w : S1x128.Idx → EReal) (r r' : Fin 1024) (h h' : Fin 16)
    (d : Fin 128) (er : r.val = r'.val) (eh : h.val = h'.val) : rowQ x0 x1 x2 w 2048 (le_refl _) r h d = rowQ x0 x1 x2 w 2048 (le_refl _) r' h' d := by
  rw [Fin.ext er, Fin.ext eh]

theorem rowP_same (x0 : S32x32x2048.Idx → EReal) (x1 : S1x2048.Idx → EReal) (x2 : S2048x8192.Idx → EReal) (r r' : Fin 1024) (j j' : Fin 8192)
    (er : r.val = r'.val) (ej : j.val = j'.val) : rowP x0 x1 x2 r j = rowP x0 x1 x2 r' j' := by
  rw [Fin.ext er, Fin.ext ej]

/-- Keys, values and queries, by head. -/
def heads (x0 : S32x32x2048.Idx → EReal) (x1 : S1x2048.Idx → EReal) (x2 : S2048x8192.Idx → EReal) (x5 x6 : S1x128.Idx → EReal) : S3x16x1024x128.Idx → EReal :=
  fun i => if (i 0).val = 0 then rowQ x0 x1 x2 x6 2048 (le_refl _) (i 2) (i 1) (i 3)
    else if (i 0).val = 1 then rowP x0 x1 x2 (i 2) (⟨4096 + ((i 1).val * 128 + (i 3).val), by
      have h1 : (i 1).val < 16 := (i 1).isLt
      have h3 : (i 3).val < 128 := (i 3).isLt
      omega⟩ : Fin 8192)
    else rowQ x0 x1 x2 x5 0 (Nat.zero_le _) (i 2) (i 1) (i 3)

/-- The gate's columns, then the recurrence's. -/
def rest (x0 : S32x32x2048.Idx → EReal) (x1 : S1x2048.Idx → EReal) (x2 : S2048x8192.Idx → EReal) (x3 : S2048x5120.Idx → EReal) : S1024x7168.Idx → EReal :=
  fun i => if h : (i 1).val < 2048 then rowP x0 x1 x2 (i 0) (⟨6144 + (i 1).val, by omega⟩ : Fin 8192)
    else rowP x0 x1 x3 (i 0) (⟨(i 1).val - 2048, by have h1 : (i 1).val < 7168 := (i 1).isLt; omega⟩ : Fin 5120)

/-- The time steps. -/
def steps (x0 : S32x32x2048.Idx → EReal) (x1 : S1x2048.Idx → EReal) (x4 : S2048x128.Idx → EReal) : S1024x128.Idx → EReal :=
  fun i => rowP x0 x1 x4 (i 0) (i 1)

theorem heads_at (x0 : S32x32x2048.Idx → EReal) (x1 : S1x2048.Idx → EReal) (x2 : S2048x8192.Idx → EReal) (x5 x6 : S1x128.Idx → EReal)
    (p : Fin 3) (g : Fin 16) (r : Fin 1024) (d : Fin 128) :
    heads x0 x1 x2 x5 x6 (ix4 p g r d) = if p.val = 0 then rowQ x0 x1 x2 x6 2048 (le_refl _) r g d
      else if p.val = 1 then rowP x0 x1 x2 r (⟨4096 + (g.val * 128 + d.val), by omega⟩ : Fin 8192)
      else rowQ x0 x1 x2 x5 0 (Nat.zero_le _) r g d := rfl

theorem rest_at (x0 : S32x32x2048.Idx → EReal) (x1 : S1x2048.Idx → EReal) (x2 : S2048x8192.Idx → EReal) (x3 : S2048x5120.Idx → EReal)
    (r : Fin 1024) (j : Fin 7168) :
    rest x0 x1 x2 x3 (ix2 r j) = if h : j.val < 2048 then rowP x0 x1 x2 r (⟨6144 + j.val, by omega⟩ : Fin 8192)
      else rowP x0 x1 x3 r (⟨j.val - 2048, by omega⟩ : Fin 5120) := rfl

abbrev G6 (c : Dev nD) : Buf (Elt Ideal) ((c : Thread nD τ).loc main_v13_0) :=
  heads (m ((c : Thread nD τ).loc main_arg0)) (m ((c : Thread nD τ).loc main_arg1)) (m ((c : Thread nD τ).loc main_arg2)) (m ((c : Thread nD τ).loc main_arg5)) (m ((c : Thread nD τ).loc main_arg6))
abbrev G7 (c : Dev nD) : Buf (Elt Ideal) ((c : Thread nD τ).loc main_v13_1) :=
  rest (m ((c : Thread nD τ).loc main_arg0)) (m ((c : Thread nD τ).loc main_arg1)) (m ((c : Thread nD τ).loc main_arg2)) (m ((c : Thread nD τ).loc main_arg3))
abbrev G8 (c : Dev nD) : Buf (Elt Ideal) ((c : Thread nD τ).loc main_v13_2) :=
  steps (m ((c : Thread nD τ).loc main_arg0)) (m ((c : Thread nD τ).loc main_arg1)) (m ((c : Thread nD τ).loc main_arg4))

abbrev G9 (c : Dev nD) : Buf (Elt Ideal) ((c : Thread nD τ).loc main_v13_3) := keys (m ((c : Thread nD τ).loc main_arg0)) (m ((c : Thread nD τ).loc main_arg1)) (m ((c : Thread nD τ).loc main_arg2)) (m ((c : Thread nD τ).loc main_arg6))
abbrev G10 (c : Dev nD) : Buf (Elt Ideal) ((c : Thread nD τ).loc main_v13_4) := values (m ((c : Thread nD τ).loc main_arg0)) (m ((c : Thread nD τ).loc main_arg1)) (m ((c : Thread nD τ).loc main_arg2))

/-- What the scratch buffer holds in a row of the grid. -/
theorem hRow_apply (c : Dev nD) (t : Fin cfg0.N) (r : Fin 512) (k : Fin 2048) :
    (hRow (F := Ideal) m c t.val (ix2 r k) : EReal)
      = rowH (m ((c : Thread nD τ).loc main_arg0)) (m ((c : Thread nD τ).loc main_arg1)) (⟨t.val / 13 * 512 + r.val, by have := val_lt t; omega⟩ : Fin 1024) k := by
  unfold hRow rowH
  refine (rows_apply _ _ r k).trans ?_
  refine congrArg₂ (fun f g => unitRow 0x45000000#32 f g k) (funext fun k => ?_) (funext fun k => blk1 m c _ k)
  refine (blk0 m c _ r k).trans ?_
  have hv := val_lt t
  have e : (inRow t.val 0).val / 13 = t.val / 13 := by show (13 * (t.val / 13 % 2) + 0 % 13) / 13 = _; omega
  simp only [e]

theorem prodRow (c : Dev nD) (t s : Fin cfg0.N) (r : Fin 512) (j : Fin 1024) :
    (∑ k : Fin 2048, (hRow (F := Ideal) m c t.val (ix2 r k) : EReal) * iblk (F := Ideal) m c 2 s (ix2 k j))
      = rowP (m ((c : Thread nD τ).loc main_arg0)) (m ((c : Thread nD τ).loc main_arg1)) (m ((c : Thread nD τ).loc main_arg2))
          (⟨t.val / 13 * 512 + r.val, by have := val_lt t; omega⟩ : Fin 1024) (⟨min (s.val % 13) 7 * 1024 + j.val, by omega⟩ : Fin 8192) := by
  unfold rowP
  exact Finset.sum_congr rfl fun k _ => congrArg₂ (· * ·) (hRow_apply m c t r k) (blk2 m c s k j)

theorem prodRest (c : Dev nD) (t : Fin cfg0.N) (r : Fin 512) (j : Fin 1024) :
    (∑ k : Fin 2048, (hRow (F := Ideal) m c t.val (ix2 r k) : EReal) * iblk (F := Ideal) m c 3 t (ix2 k j))
      = rowP (m ((c : Thread nD τ).loc main_arg0)) (m ((c : Thread nD τ).loc main_arg1)) (m ((c : Thread nD τ).loc main_arg3))
          (⟨t.val / 13 * 512 + r.val, by have := val_lt t; omega⟩ : Fin 1024) (⟨(t.val % 13 - 8) * 1024 + j.val, by omega⟩ : Fin 5120) := by
  unfold rowP
  exact Finset.sum_congr rfl fun k _ => congrArg₂ (· * ·) (hRow_apply m c t r k) (blk3 m c t k j)

/-- Where an element of an output block lies in its array. -/
theorem at6 (c : Dev nD) (t : Fin cfg0.N) (X : S3x16x1024x128.Idx → EReal) (z : Fin 1) (a : Fin 8) (r : Fin 512) (d : Fin 128) :
    ((cfg0.win 6).blk t).view.read (Elt Ideal) X (ix4 z a r d)
      = X (ix4 (⟨(if t.val % 13 ≤ 1 then 2 else if t.val % 13 ≤ 3 then 0 else 1), by split <;> [omega; split <;> omega]⟩ : Fin 3)
          (⟨min (t.val % 13) 5 % 2 * 8 + a.val, by omega⟩ : Fin 16) (⟨t.val / 13 * 512 + r.val, by have := val_lt t; omega⟩ : Fin 1024) d) := by
  refine congrArg X (funext fun b => Fin.ext ?_)
  obtain ⟨⟨h0, h1, h2, h3⟩, -⟩ := idx_out t
  match b with
  | ⟨0, _⟩ => show win0_6.index t 0 * 1 + 1 * z.val = (if t.val % 13 ≤ 1 then 2 else if t.val % 13 ≤ 3 then 0 else 1); rw [h0]; have := z.isLt; omega
  | ⟨1, _⟩ => show win0_6.index t 1 * 8 + 1 * a.val = min (t.val % 13) 5 % 2 * 8 + a.val; rw [h1]; omega
  | ⟨2, _⟩ => show win0_6.index t 2 * 512 + 1 * r.val = t.val / 13 * 512 + r.val; rw [h2]; omega
  | ⟨3, _⟩ => show win0_6.index t 3 * 128 + 1 * d.val = d.val; rw [h3]; omega

theorem at7 (c : Dev nD) (t : Fin cfg0.N) (X : S1024x7168.Idx → EReal) (r : Fin 512) (j : Fin 1024) :
    ((cfg0.win 7).blk t).view.read (Elt Ideal) X (ix2 r j)
      = X (ix2 (⟨t.val / 13 * 512 + r.val, by have := val_lt t; omega⟩ : Fin 1024) (⟨(t.val % 13 - 6) * 1024 + j.val, by omega⟩ : Fin 7168)) := by
  refine congrArg X (funext fun b => Fin.ext ?_)
  obtain ⟨-, ⟨h0, h1⟩, -⟩ := idx_out t
  match b with
  | ⟨0, _⟩ => show win0_7.index t 0 * 512 + 1 * r.val = t.val / 13 * 512 + r.val; rw [h0]; omega
  | ⟨1, _⟩ => show win0_7.index t 1 * 1024 + 1 * j.val = (t.val % 13 - 6) * 1024 + j.val; rw [h1]; omega

theorem at8 (c : Dev nD) (t : Fin cfg0.N) (X : S1024x128.Idx → EReal) (r : Fin 512) (j : Fin 128) :
    ((cfg0.win 8).blk t).view.read (Elt Ideal) X (ix2 r j)
      = X (ix2 (⟨t.val / 13 * 512 + r.val, by have := val_lt t; omega⟩ : Fin 1024) j) := by
  refine congrArg X (funext fun b => Fin.ext ?_)
  obtain ⟨-, -, ⟨h0, h1⟩, -⟩ := idx_out t
  match b with
  | ⟨0, _⟩ => show win0_8.index t 0 * 512 + 1 * r.val = t.val / 13 * 512 + r.val; rw [h0]; omega
  | ⟨1, _⟩ => show win0_8.index t 1 * 128 + 1 * j.val = j.val; rw [h1]; omega

theorem at9 (c : Dev nD) (t : Fin cfg0.N) (X : S16384x128.Idx → EReal) (i : Fin 8192) (d : Fin 128) :
    ((cfg0.win 9).blk t).view.read (Elt Ideal) X (ix2 i d)
      = X (ix2 (⟨t.val / 13 * 8192 + i.val, by have := val_lt t; omega⟩ : Fin 16384) d) := by
  refine congrArg X (funext fun b => Fin.ext ?_)
  obtain ⟨-, -, -, ⟨h0, h1⟩, -⟩ := idx_out t
  match b with
  | ⟨0, _⟩ => show win0_9.index t 0 * 8192 + 1 * i.val = t.val / 13 * 8192 + i.val; rw [h0]; omega
  | ⟨1, _⟩ => show win0_9.index t 1 * 128 + 1 * d.val = d.val; rw [h1]; omega

theorem at10 (c : Dev nD) (t : Fin cfg0.N) (X : S16384x128.Idx → EReal) (i : Fin 8192) (d : Fin 128) :
    ((cfg0.win 10).blk t).view.read (Elt Ideal) X (ix2 i d)
      = X (ix2 (⟨t.val / 13 * 8192 + i.val, by have := val_lt t; omega⟩ : Fin 16384) d) := by
  refine congrArg X (funext fun b => Fin.ext ?_)
  obtain ⟨-, -, -, -, ⟨h0, h1⟩⟩ := idx_out t
  match b with
  | ⟨0, _⟩ => show win0_10.index t 0 * 8192 + 1 * i.val = t.val / 13 * 8192 + i.val; rw [h0]; omega
  | ⟨1, _⟩ => show win0_10.index t 1 * 128 + 1 * d.val = d.val; rw [h1]; omega

/-- A query/key tile, in terms of the arrays. -/
theorem key_tile (c : Dev nD) (t : Fin cfg0.N) (h3 : t.val % 13 ≤ 3) (a : Fin 8) (r : Fin 512) (d : Fin 128)
    (w : S1x128.Idx → EReal) (off : Nat) (ho : off ≤ 2048) (g : Fin 16) (hg : off + (g.val * 128) = t.val % 13 * 1024 + a.val * 128)
    (hw : ∀ d : Fin 128, V (F := Ideal) m c main_v9 (ix2 (0 : Fin 1) (⟨off + (g.val * 128 + d.val), by omega⟩ : Fin 4096)) = w (ix2 (0 : Fin 1) d)) :
    (keyHeads (F := Ideal) (hRow m c t.val) (iblk m c 2 t) (iblk m c 5 t) a (ix2 r d) : EReal)
      = rowQ (m ((c : Thread nD τ).loc main_arg0)) (m ((c : Thread nD τ).loc main_arg1)) (m ((c : Thread nD τ).loc main_arg2)) w off ho
          (⟨t.val / 13 * 512 + r.val, by have := val_lt t; omega⟩ : Fin 1024) g d := by
  refine (keyHeads_apply _ _ _ a r d).trans ?_
  unfold rowQ
  refine congrArg₂ (fun f g => unitRow 0x43000000#32 f g d) (funext fun d => ?_) (funext fun d => ?_)
  · refine (prodRow m c t t r _).trans (congrArg _ (Fin.ext ?_))
    show min (t.val % 13) 7 * 1024 + (a.val * 128 + d.val) = off + (g.val * 128 + d.val)
    omega
  · refine (blk5 m c t _).trans (Eq.trans (congrArg _ (congrArg _ (Fin.ext ?_))) (hw d))
    show min (t.val % 13) 3 * 1024 + (a.val * 128 + d.val) = off + (g.val * 128 + d.val)
    omega

/-- A value tile, in terms of the arrays. -/
theorem value_tile (c : Dev nD) (t s : Fin cfg0.N) (hs : s.val % 13 ≤ 5) (h4 : 4 ≤ s.val % 13) (a : Fin 8) (r : Fin 512) (d : Fin 128) :
    (valueHeads (F := Ideal) (hRow m c t.val) (iblk m c 2 s) a (ix2 r d) : EReal)
      = rowP (m ((c : Thread nD τ).loc main_arg0)) (m ((c : Thread nD τ).loc main_arg1)) (m ((c : Thread nD τ).loc main_arg2))
          (⟨t.val / 13 * 512 + r.val, by have := val_lt t; omega⟩ : Fin 1024) (⟨4096 + ((s.val % 13 % 2 * 8 + a.val) * 128 + d.val), by omega⟩ : Fin 8192) := by
  refine (valueHeads_apply _ _ a r d).trans ((prodRow m c t s r _).trans (congrArg _ (Fin.ext ?_)))
  show min (s.val % 13) 7 * 1024 + (a.val * 128 + d.val) = 4096 + ((s.val % 13 % 2 * 8 + a.val) * 128 + d.val)
  omega

/-- Every tile of heads written back is its block of the array. -/
theorem out6_apply (c : Dev nD) (t : Fin cfg0.N) (a : Fin 8) (r : Fin 512) (d : Fin 128) :
    (out6 (F := Ideal) m c t (ix4 (0 : Fin 1) a r d) : EReal) = ((cfg0.win 6).blk t).view.read (Elt Ideal) (G6 m c) (ix4 (0 : Fin 1) a r d) := by
  rw [at6 c]
  refine Eq.trans ?_ (heads_at _ _ _ _ _ _ _ _ _).symm
  unfold out6
  by_cases h1 : t.val % 13 ≤ 1
  · simp only [if_pos (by omega : t.val % 13 ≤ 3), if_pos h1, Nat.reduceEqDiff, reduceIte]
    refine (qk_heads _ _ _ a r d).trans (key_tile m c t (by omega) a r d _ 0 (Nat.zero_le _) _ ?_ fun d => ?_)
    · show 0 + (min (t.val % 13) 5 % 2 * 8 + a.val) * 128 = _; omega
    · refine Eq.trans (congrArg _ (congrArg _ (Fin.ext ?_))) (q_weight m c (⟨min (t.val % 13) 5 % 2 * 8 + a.val, by omega⟩ : Fin 16) d)
      exact Nat.zero_add _
  by_cases h3 : t.val % 13 ≤ 3
  · simp only [if_pos h3, if_neg h1, reduceIte]
    refine (qk_heads _ _ _ a r d).trans (key_tile m c t h3 a r d _ 2048 (le_refl _) _ ?_ fun d => k_weight m c _ d)
    show 2048 + (min (t.val % 13) 5 % 2 * 8 + a.val) * 128 = _; omega
  · simp only [if_neg h3, if_neg h1, Nat.reduceEqDiff, reduceIte]
    by_cases h5 : t.val % 13 ≤ 5
    · rw [if_pos h5]
      refine (v_heads _ _ a r d).trans ((value_tile m c t t h5 (by omega) a r d).trans (congrArg _ (Fin.ext ?_)))
      show 4096 + ((t.val % 13 % 2 * 8 + a.val) * 128 + d.val) = 4096 + ((min (t.val % 13) 5 % 2 * 8 + a.val) * 128 + d.val)
      omega
    · rw [if_neg h5]
      have e : (inRow t.val 5).val % 13 = 5 := by show (13 * (t.val / 13 % 2) + 5 % 13) % 13 = 5; omega
      refine (v_heads _ _ a r d).trans ((value_tile m c t (inRow t.val 5) (by omega) (by omega) a r d).trans (congrArg _ (Fin.ext ?_)))
      show 4096 + (((inRow t.val 5).val % 13 % 2 * 8 + a.val) * 128 + d.val) = 4096 + ((min (t.val % 13) 5 % 2 * 8 + a.val) * 128 + d.val)
      rw [e]; omega

theorem out7_apply (c : Dev nD) (t : Fin cfg0.N) (h6 : 6 ≤ t.val % 13) (r : Fin 512) (j : Fin 1024) :
    (out7 (F := Ideal) m c t (ix2 r j) : EReal) = ((cfg0.win 7).blk t).view.read (Elt Ideal) (G7 m c) (ix2 r j) := by
  rw [at7 c]
  refine Eq.trans ?_ (rest_at _ _ _ _ _ _).symm
  unfold out7
  by_cases h7 : t.val % 13 ≤ 7
  · rw [if_pos h7, dif_pos (by show (t.val % 13 - 6) * 1024 + j.val < 2048; omega)]
    refine (gate_apply _ _ r j).trans ((prodRow m c t t r j).trans (congrArg _ (Fin.ext ?_)))
    show min (t.val % 13) 7 * 1024 + j.val = 6144 + ((t.val % 13 - 6) * 1024 + j.val)
    omega
  · rw [if_neg h7, dif_neg (by show ¬ (t.val % 13 - 6) * 1024 + j.val < 2048; omega)]
    refine (rest_apply _ _ r j).trans ((prodRest m c t r j).trans (congrArg _ (Fin.ext ?_)))
    show (t.val % 13 - 8) * 1024 + j.val = (t.val % 13 - 6) * 1024 + j.val - 2048
    omega

theorem out8_apply (c : Dev nD) (t : Fin cfg0.N) (r : Fin 512) (j : Fin 128) :
    (out8 (F := Ideal) m c t (ix2 r j) : EReal) = ((cfg0.win 8).blk t).view.read (Elt Ideal) (G8 m c) (ix2 r j) := by
  rw [at8 c]
  unfold out8
  refine (steps_apply _ _ _ r j).trans ?_
  show _ = rowP _ _ _ _ _
  unfold rowP
  refine Finset.sum_congr rfl fun k _ => congrArg₂ (· * ·) ?_ (blk4 m c _ k j)
  exact hRow_apply m c t r k

theorem out9_apply (c : Dev nD) (t : Fin cfg0.N) (i : Fin 8192) (d : Fin 128) :
    (out9 (F := Ideal) m c t (ix2 i d) : EReal) = ((cfg0.win 9).blk t).view.read (Elt Ideal) (G9 m c) (ix2 i d) := by
  have ht := val_lt t
  rw [at9 c]
  refine Eq.trans ?_ (keys_at _ _ _ _ _ _).symm
  unfold out9
  refine (both_at _ _ i d).trans ?_
  have e2 := inRow_val t.val 2
  have e3 := inRow_val t.val 3
  by_cases h : i.val % 16 < 8
  · rw [if_pos h]
    unfold ks
    refine (key_tile m c (inRow t.val 2) (by omega) _ _ d (m ((c : Thread nD τ).loc main_arg6)) 2048 (le_refl _) (⟨i.val % 16, by omega⟩ : Fin 16) (by show 2048 + i.val % 16 * 128 = (inRow t.val 2).val % 13 * 1024 + i.val % 8 * 128; omega)
      fun d => k_weight m c _ d).trans (rowQ_same _ _ _ _ _ _ _ _ d ?_ ?_)
    · show (inRow t.val 2).val / 13 * 512 + i.val / 16 = (t.val / 13 * 8192 + i.val) / 16; omega
    · show i.val % 16 = (t.val / 13 * 8192 + i.val) % 16; omega
  · rw [if_neg h]
    unfold ks
    refine (key_tile m c (inRow t.val 3) (by omega) _ _ d (m ((c : Thread nD τ).loc main_arg6)) 2048 (le_refl _) (⟨i.val % 16, by omega⟩ : Fin 16) (by show 2048 + i.val % 16 * 128 = (inRow t.val 3).val % 13 * 1024 + i.val % 8 * 128; omega)
      fun d => k_weight m c _ d).trans (rowQ_same _ _ _ _ _ _ _ _ d ?_ ?_)
    · show (inRow t.val 3).val / 13 * 512 + i.val / 16 = (t.val / 13 * 8192 + i.val) / 16; omega
    · show i.val % 16 = (t.val / 13 * 8192 + i.val) % 16; omega

theorem out10_apply (c : Dev nD) (t : Fin cfg0.N) (i : Fin 8192) (d : Fin 128) :
    (out10 (F := Ideal) m c t (ix2 i d) : EReal) = ((cfg0.win 10).blk t).view.read (Elt Ideal) (G10 m c) (ix2 i d) := by
  have ht := val_lt t
  rw [at10 c]
  refine Eq.trans ?_ (values_at _ _ _ _ _).symm
  unfold out10
  refine (both_at _ _ i d).trans ?_
  have e4 := inRow_val t.val 4
  have e5 := inRow_val t.val 5
  by_cases h : i.val % 16 < 8
  · rw [if_pos h]
    unfold vs
    refine (value_tile m c (inRow t.val 4) (inRow t.val 4) (by omega) (by omega) _ _ d).trans (rowP_same _ _ _ _ _ _ _ ?_ ?_)
    · show (inRow t.val 4).val / 13 * 512 + i.val / 16 = (t.val / 13 * 8192 + i.val) / 16; omega
    · show 4096 + (((inRow t.val 4).val % 13 % 2 * 8 + i.val % 8) * 128 + d.val) = 4096 + ((t.val / 13 * 8192 + i.val) % 16 * 128 + d.val); omega
  · rw [if_neg h]
    unfold vs
    refine (value_tile m c (inRow t.val 5) (inRow t.val 5) (by omega) (by omega) _ _ d).trans (rowP_same _ _ _ _ _ _ _ ?_ ?_)
    · show (inRow t.val 5).val / 13 * 512 + i.val / 16 = (t.val / 13 * 8192 + i.val) / 16; omega
    · show 4096 + (((inRow t.val 5).val % 13 % 2 * 8 + i.val % 8) * 128 + d.val) = 4096 + ((t.val / 13 * 8192 + i.val) % 16 * 128 + d.val); omega

/-- What a point writes back, window by window, is that point's block. -/
theorem flushed6 (c : Dev nD) (t : Fin cfg0.N) :
    (dats (F := Ideal) m 0 c).flushed 6 t = ((cfg0.win 6).blk t).view.read (Elt Ideal) (G6 m c) := by
  refine Eq.trans (show _ = out6 m c t from rfl) (funext fun y => ?_)
  obtain ⟨z, a, r, d, rfl⟩ : ∃ (z : Fin 1) (a : Fin 8) (r : Fin 512) (d : Fin 128), y = ix4 z a r d := ⟨y 0, y 1, y 2, y 3, eq_ix4 y⟩
  obtain rfl : z = 0 := Subsingleton.elim _ _
  exact out6_apply m c t a r d

theorem flushed7 (c : Dev nD) (t : Fin cfg0.N) (hf : (cfg0.win 7).flush t = true) :
    (dats (F := Ideal) m 0 c).flushed 7 t = ((cfg0.win 7).blk t).view.read (Elt Ideal) (G7 m c) := by
  refine Eq.trans (show _ = out7 m c t from rfl) (funext fun y => ?_)
  obtain ⟨r, j, rfl⟩ : ∃ (r : Fin 512) (j : Fin 1024), y = ix2 r j := ⟨y 0, y 1, eq_ix2 y⟩
  exact out7_apply m c t (of_decide_eq_true ((flush7_iff t).symm.trans hf)) r j

theorem flushed8 (c : Dev nD) (t : Fin cfg0.N) :
    (dats (F := Ideal) m 0 c).flushed 8 t = ((cfg0.win 8).blk t).view.read (Elt Ideal) (G8 m c) := by
  refine Eq.trans (show _ = out8 m c t from rfl) (funext fun y => ?_)
  obtain ⟨r, j, rfl⟩ : ∃ (r : Fin 512) (j : Fin 128), y = ix2 r j := ⟨y 0, y 1, eq_ix2 y⟩
  exact out8_apply m c t r j

theorem flushed9 (c : Dev nD) (t : Fin cfg0.N) :
    (dats (F := Ideal) m 0 c).flushed 9 t = ((cfg0.win 9).blk t).view.read (Elt Ideal) (G9 m c) := by
  refine Eq.trans (show _ = out9 m c t from rfl) (funext fun y => ?_)
  obtain ⟨r, j, rfl⟩ : ∃ (r : Fin 8192) (j : Fin 128), y = ix2 r j := ⟨y 0, y 1, eq_ix2 y⟩
  exact out9_apply m c t r j

theorem flushed10 (c : Dev nD) (t : Fin cfg0.N) :
    (dats (F := Ideal) m 0 c).flushed 10 t = ((cfg0.win 10).blk t).view.read (Elt Ideal) (G10 m c) := by
  refine Eq.trans (show _ = out10 m c t from rfl) (funext fun y => ?_)
  obtain ⟨r, j, rfl⟩ : ∃ (r : Fin 8192) (j : Fin 128), y = ix2 r j := ⟨y 0, y 1, eq_ix2 y⟩
  exact out10_apply m c t r j

/-- The blocks fill the arrays. -/
theorem cover6 (i : S3x16x1024x128.Idx) : ∃ t : Fin cfg0.N, (cfg0.win 6).flush t = true ∧ i ∈ ((cfg0.win 6).blk t).view.set := by
  have h0 : (i 0 : Nat) < 3 := (i 0).isLt
  have h1 : (i 1 : Nat) < 16 := (i 1).isLt
  have h2 : (i 2 : Nat) < 1024 := (i 2).isLt
  have h3 : (i 3 : Nat) < 128 := (i 3).isLt
  have hN : cfg0.N = 26 := N_0
  obtain ⟨j, hj, hjf, hjs, hjh⟩ : ∃ j : Nat, j < 13 ∧ (j ≤ 4 ∨ j = 12) ∧ (if j ≤ 1 then 2 else if j ≤ 3 then 0 else 1) = (i 0 : Nat) ∧ min j 5 % 2 = (i 1 : Nat) / 8 := by
    obtain hA | hA : (i 1 : Nat) / 8 = 0 ∨ (i 1 : Nat) / 8 = 1 := by omega
    all_goals obtain hB | hB | hB : (i 0 : Nat) = 0 ∨ (i 0 : Nat) = 1 ∨ (i 0 : Nat) = 2 := by omega
    all_goals rw [hA, hB]
    · exact ⟨2, by decide⟩
    · exact ⟨4, by decide⟩
    · exact ⟨0, by decide⟩
    · exact ⟨3, by decide⟩
    · exact ⟨12, by decide⟩
    · exact ⟨1, by decide⟩
  have ht : (i 2 : Nat) / 512 * 13 + j < cfg0.N := by omega
  have em : ((i 2 : Nat) / 512 * 13 + j) % 13 = j := by omega
  have ed : ((i 2 : Nat) / 512 * 13 + j) / 13 = (i 2 : Nat) / 512 := by omega
  refine ⟨⟨_, ht⟩, (flush6_iff _).trans (decide_eq_true (by show _ % 13 ≤ 4 ∨ _ % 13 = 12; rw [em]; exact hjf)), ?_⟩
  show i ∈ ((View.whole main_v13_0).slice (win0_6.rect ⟨(i 2 : Nat) / 512 * 13 + j, ht⟩)).set
  rw [View.set_slice_whole, Rect.mem_set_unit]
  obtain ⟨⟨e0, e1, e2, e3⟩, -⟩ := idx_out ⟨_, ht⟩
  dsimp only at e0 e1 e2 e3
  rw [em] at e0 e1
  rw [ed] at e2
  rw [hjs] at e0
  rw [hjh] at e1
  intro a
  match a with
  | ⟨0, _⟩ => show win0_6.index ⟨_, ht⟩ 0 * 1 ≤ (i 0 : Nat) ∧ (i 0 : Nat) < win0_6.index ⟨_, ht⟩ 0 * 1 + 1; rw [e0]; omega
  | ⟨1, _⟩ => show win0_6.index ⟨_, ht⟩ 1 * 8 ≤ (i 1 : Nat) ∧ (i 1 : Nat) < win0_6.index ⟨_, ht⟩ 1 * 8 + 8; rw [e1]; omega
  | ⟨2, _⟩ => show win0_6.index ⟨_, ht⟩ 2 * 512 ≤ (i 2 : Nat) ∧ (i 2 : Nat) < win0_6.index ⟨_, ht⟩ 2 * 512 + 512; rw [e2]; omega
  | ⟨3, _⟩ => show win0_6.index ⟨_, ht⟩ 3 * 128 ≤ (i 3 : Nat) ∧ (i 3 : Nat) < win0_6.index ⟨_, ht⟩ 3 * 128 + 128; rw [e3]; omega

theorem cover7 (i : S1024x7168.Idx) : ∃ t : Fin cfg0.N, (cfg0.win 7).flush t = true ∧ i ∈ ((cfg0.win 7).blk t).view.set := by
  have h0 : (i 0 : Nat) < 1024 := (i 0).isLt
  have h1 : (i 1 : Nat) < 7168 := (i 1).isLt
  have hN : cfg0.N = 26 := N_0
  have ht : (i 0 : Nat) / 512 * 13 + (6 + (i 1 : Nat) / 1024) < cfg0.N := by omega
  refine ⟨⟨_, ht⟩, (flush7_iff _).trans (decide_eq_true (by show 6 ≤ ((i 0 : Nat) / 512 * 13 + (6 + (i 1 : Nat) / 1024)) % 13; omega)), ?_⟩
  show i ∈ ((View.whole main_v13_1).slice (win0_7.rect ⟨(i 0 : Nat) / 512 * 13 + (6 + (i 1 : Nat) / 1024), ht⟩)).set
  rw [View.set_slice_whole, Rect.mem_set_unit]
  obtain ⟨-, ⟨e0, e1⟩, -⟩ := idx_out ⟨_, ht⟩
  dsimp only at e0 e1
  intro a
  match a with
  | ⟨0, _⟩ => show win0_7.index ⟨_, ht⟩ 0 * 512 ≤ (i 0 : Nat) ∧ (i 0 : Nat) < win0_7.index ⟨_, ht⟩ 0 * 512 + 512; rw [e0]; omega
  | ⟨1, _⟩ => show win0_7.index ⟨_, ht⟩ 1 * 1024 ≤ (i 1 : Nat) ∧ (i 1 : Nat) < win0_7.index ⟨_, ht⟩ 1 * 1024 + 1024; rw [e1]; omega

theorem cover8 (i : S1024x128.Idx) : ∃ t : Fin cfg0.N, (cfg0.win 8).flush t = true ∧ i ∈ ((cfg0.win 8).blk t).view.set := by
  have h0 : (i 0 : Nat) < 1024 := (i 0).isLt
  have h1 : (i 1 : Nat) < 128 := (i 1).isLt
  have hN : cfg0.N = 26 := N_0
  have ht : (i 0 : Nat) / 512 * 13 + 12 < cfg0.N := by omega
  refine ⟨⟨_, ht⟩, (flush8_iff _).trans (decide_eq_true (by show ((i 0 : Nat) / 512 * 13 + 12) % 13 = 12; omega)), ?_⟩
  show i ∈ ((View.whole main_v13_2).slice (win0_8.rect ⟨(i 0 : Nat) / 512 * 13 + 12, ht⟩)).set
  rw [View.set_slice_whole, Rect.mem_set_unit]
  obtain ⟨-, -, ⟨e0, e1⟩, -⟩ := idx_out ⟨_, ht⟩
  dsimp only at e0 e1
  intro a
  match a with
  | ⟨0, _⟩ => show win0_8.index ⟨_, ht⟩ 0 * 512 ≤ (i 0 : Nat) ∧ (i 0 : Nat) < win0_8.index ⟨_, ht⟩ 0 * 512 + 512; rw [e0]; omega
  | ⟨1, _⟩ => show win0_8.index ⟨_, ht⟩ 1 * 128 ≤ (i 1 : Nat) ∧ (i 1 : Nat) < win0_8.index ⟨_, ht⟩ 1 * 128 + 128; rw [e1]; omega

theorem cover9 (i : S16384x128.Idx) : ∃ t : Fin cfg0.N, (cfg0.win 9).flush t = true ∧ i ∈ ((cfg0.win 9).blk t).view.set := by
  have h0 : (i 0 : Nat) < 16384 := (i 0).isLt
  have h1 : (i 1 : Nat) < 128 := (i 1).isLt
  have hN : cfg0.N = 26 := N_0
  have ht : (i 0 : Nat) / 8192 * 13 + 12 < cfg0.N := by omega
  refine ⟨⟨_, ht⟩, (flush9_iff _).trans (decide_eq_true (by show ((i 0 : Nat) / 8192 * 13 + 12) % 13 = 12; omega)), ?_⟩
  show i ∈ ((View.whole main_v13_3).slice (win0_9.rect ⟨(i 0 : Nat) / 8192 * 13 + 12, ht⟩)).set
  rw [View.set_slice_whole, Rect.mem_set_unit]
  obtain ⟨-, -, -, ⟨e0, e1⟩, -⟩ := idx_out ⟨_, ht⟩
  dsimp only at e0 e1
  intro a
  match a with
  | ⟨0, _⟩ => show win0_9.index ⟨_, ht⟩ 0 * 8192 ≤ (i 0 : Nat) ∧ (i 0 : Nat) < win0_9.index ⟨_, ht⟩ 0 * 8192 + 8192; rw [e0]; omega
  | ⟨1, _⟩ => show win0_9.index ⟨_, ht⟩ 1 * 128 ≤ (i 1 : Nat) ∧ (i 1 : Nat) < win0_9.index ⟨_, ht⟩ 1 * 128 + 128; rw [e1]; omega

theorem cover10 (i : S16384x128.Idx) : ∃ t : Fin cfg0.N, (cfg0.win 10).flush t = true ∧ i ∈ ((cfg0.win 10).blk t).view.set := by
  have h0 : (i 0 : Nat) < 16384 := (i 0).isLt
  have h1 : (i 1 : Nat) < 128 := (i 1).isLt
  have hN : cfg0.N = 26 := N_0
  have ht : (i 0 : Nat) / 8192 * 13 + 12 < cfg0.N := by omega
  refine ⟨⟨_, ht⟩, (flush10_iff _).trans (decide_eq_true (by show ((i 0 : Nat) / 8192 * 13 + 12) % 13 = 12; omega)), ?_⟩
  show i ∈ ((View.whole main_v13_4).slice (win0_10.rect ⟨(i 0 : Nat) / 8192 * 13 + 12, ht⟩)).set
  rw [View.set_slice_whole, Rect.mem_set_unit]
  obtain ⟨-, -, -, -, ⟨e0, e1⟩⟩ := idx_out ⟨_, ht⟩
  dsimp only at e0 e1
  intro a
  match a with
  | ⟨0, _⟩ => show win0_10.index ⟨_, ht⟩ 0 * 8192 ≤ (i 0 : Nat) ∧ (i 0 : Nat) < win0_10.index ⟨_, ht⟩ 0 * 8192 + 8192; rw [e0]; omega
  | ⟨1, _⟩ => show win0_10.index ⟨_, ht⟩ 1 * 128 ≤ (i 1 : Nat) ∧ (i 1 : Nat) < win0_10.index ⟨_, ht⟩ 1 * 128 + 128; rw [e1]; omega

/-- The convolution's carried rows: each stream's last three rows of the columns the convolution reads. -/
abbrev tails (X : S1024x7168.Idx → EReal) : S32x3x3072.Idx → EReal :=
  extractStridedSlice S32x3x3072 ![0, 29, 4096] (shapeCast S32x32x7168 X shapeCasts_S1024x7168_S32x32x7168) slices_S32x32x7168_S32x3x3072_0_29_4096

abbrev G11 (c : Dev nD) : Buf (Elt Ideal) ((c : Thread nD τ).loc main_v15) := tails (G7 m c)

/-- The host lines after the launch cut them from the second result array. -/
theorem carried (c : Dev nD) : Pipeline.afterTail₀ cfgs (dats m) 0 (V0 m) [hostOps1] c main_v15 = G11 m c := by
  unfold Pipeline.afterTail₀
  show StableHlo.after hostOps1 _ (Proc.devRef .tc main_v15) = _
  after_results
  refine congrArg (fun X : FVec Ideal S1024x7168 .f32 => tails X) ?_
  exact (Pipeline.withArrays_arr spec0 (by decide) c (V0 m c) _ 7).trans
    ((dats m 0 c).arrAt_eq_of_cover 7 (G7 m c) (fun t hf => flushed7 m c t hf) cover7)

/-- The kernel's run: the six results and the arguments. -/
theorem run : θ_run defs (onTc (τ := τ) (main (F := Ideal))) ⟨m, fun _ => 0, ρ⟩ fun r => ∀ c : Dev nD,
      r.2.mem ((c : Thread nD τ).loc main_v13_0) = G6 m c
      ∧ r.2.mem ((c : Thread nD τ).loc main_v13_1) = G7 m c
      ∧ r.2.mem ((c : Thread nD τ).loc main_v13_2) = G8 m c
      ∧ r.2.mem ((c : Thread nD τ).loc main_v13_3) = G9 m c
      ∧ r.2.mem ((c : Thread nD τ).loc main_v13_4) = G10 m c
      ∧ r.2.mem ((c : Thread nD τ).loc main_v15) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨
      ((h.1 c).1 6).trans ((dats m 0 c).arrAt_eq_of_cover 6 (G6 m c) (fun t _ => flushed6 m c t) cover6),
      ((h.1 c).1 7).trans ((dats m 0 c).arrAt_eq_of_cover 7 (G7 m c) (fun t hf => flushed7 m c t hf) cover7),
      ((h.1 c).1 8).trans ((dats m 0 c).arrAt_eq_of_cover 8 (G8 m c) (fun t _ => flushed8 m c t) cover8),
      ((h.1 c).1 9).trans ((dats m 0 c).arrAt_eq_of_cover 9 (G9 m c) (fun t _ => flushed9 m c t) cover9),
      ((h.1 c).1 10).trans ((dats m 0 c).arrAt_eq_of_cover 10 (G10 m c) (fun t _ => flushed10 m c t) cover10),
      ((h.1 c).2 main_v15 (Pipeline.mem_restRefs_of main_v15 (by decide) (by decide))).trans (carried m c), h.2 c⟩)
    (θ_run_and (launch_post m ρ) (args_kept m ρ))

end Cert.InSampleIdeal.Tiles

end
-- ==== Proof.InSample.lean ====
/-
  The running streams' input projection against its plain statement.  The cache rows the kernel stores, eight heads at a time into
  every sixteenth row, are on the extended reals the reference's keys and values reshaped.
-/
module

public import proofs.«01_k».proof.Defs
public import proofs.«01_k».proof.Proof.Gen.InSample.Frame
public import proofs.«01_k».proof.Proof.Gen.InSampleRefIdeal.Read
public import proofs.«01_k».proof.Proof.InSampleTiles

@[expose] public section

set_option maxRecDepth 16384

noncomputable section

open Idealize.ShloMosaic Idealize.ShloMosaic.TcCoe Idealize.SL.Sem
open Idealize.ShloMosaic.ValueIdx
open Cert.RowNorm
open scoped BigOperators

namespace Cert.InSampleRefIdeal.Plain

open Cert.InSampleRefIdeal Cert.InSampleRefIdeal.Gen Cert.InSampleRefIdeal.Read
open Cert.InSampleIdeal.Tiles (rowH rowP rowQ heads rest steps heads_at rest_at keys values keys_at values_at rowOf headOf streamOf stepOf tails)

/-- The rows, flattened. -/
theorem taken_apply (x0 : (⟨S32x32x2048, .f32⟩ : BufTy).Contents (Elt Ideal)) (r : Fin 1024) (k : Fin 2048) :
    (val_main_v0 (F := Ideal) x0 (ix2 r k) : EReal) = x0 (ix3 (streamOf r) (stepOf r) k) := by
  rw [val_main_v0_apply]
  refine congrArg x0 (funext fun a => Fin.ext ?_)
  have hr := r.isLt
  have hk := k.isLt
  match a with
  | ⟨0, _⟩ => show (r.val * 2048 + k.val) / 65536 = r.val / 32; omega
  | ⟨1, _⟩ => show (r.val * 2048 + k.val) / 2048 % 32 = r.val % 32; omega
  | ⟨2, _⟩ => show (r.val * 2048 + k.val) % 2048 = k.val; omega

/-- A row's factor. -/
theorem factor_apply (x0 : (⟨S32x32x2048, .f32⟩ : BufTy).Contents (Elt Ideal)) (r : Fin 1024) (z : Fin 1) :
    (val_main_v9 (F := Ideal) x0 (ix2 r z) : EReal)
      = Ideal.rsqrt (Ideal.div (∑ j : Fin 2048, (x0 (ix3 (streamOf r) (stepOf r) j) : EReal) * x0 (ix3 (streamOf r) (stepOf r) j)) (Ideal.ofBits .f32 0x45000000#32) + Ideal.ofBits .f32 0x358637BD#32) := by
  rw [val_main_v9_apply, val_main_v8_apply, val_main_v6_apply, val_main_v4_apply, val_main_v3_apply, val_main_v7_apply, val_main_v5_apply]
  refine congrArg (fun s : EReal => Ideal.rsqrt (Ideal.div s (Ideal.ofBits .f32 0x45000000#32) + Ideal.ofBits .f32 0x358637BD#32)) ?_
  refine (congrArg₂ (· + ·) (show _ = (0 : EReal) from Ideal.ofBits_zero_f32) (Finset.sum_congr rfl fun k _ => ?_)).trans (zero_add _)
  rw [val_main_v2_apply]
  have e : val_main_v0 (F := Ideal) x0 (ix2 r k) = x0 (ix3 (streamOf r) (stepOf r) k) := taken_apply x0 r k
  exact congrArg₂ (fun a b : EReal => a * b) ((congrArg _ (eq_ix2 _)).trans e) ((congrArg _ (eq_ix2 _)).trans e)

/-- The normalised rows. -/
theorem rows_apply (x0 : (⟨S32x32x2048, .f32⟩ : BufTy).Contents (Elt Ideal)) (x1 : (⟨S1x2048, .f32⟩ : BufTy).Contents (Elt Ideal)) (r : Fin 1024) (k : Fin 2048) :
    (val_main_v14 (F := Ideal) x0 x1 (ix2 r k) : EReal) = rowH x0 x1 r k := by
  rw [val_main_v14_apply, val_main_v11_apply, val_main_v10_apply, val_main_v13_apply, val_main_v12_apply]
  refine congrArg₂ (fun a b : EReal => a * b) (congrArg₂ (fun a b : EReal => a * b) ?_ ?_) ?_
  · exact taken_apply x0 r k
  · exact (congrArg _ (eq_ix2 _)).trans (factor_apply x0 r 0)
  · exact (congrArg _ (eq_ix1 _)).trans (shapeCast_1a_a_apply x1 _ k)

theorem qkvg_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (r : Fin 1024) (j : Fin 8192) :
    (val_main_v16 (F := Ideal) x0 x1 x2 (ix2 r j) : EReal) = rowP x0 x1 x2 r j := by
  rw [val_main_v16_apply]
  unfold rowP
  refine Finset.sum_congr rfl fun k _ => congrArg₂ (fun a b : EReal => a * b) ((congrArg _ (eq_ix2 _)).trans (rows_apply x0 x1 r k)) ?_
  rw [val_main_v15_apply]
  exact congrArg x2 (eq_ix2 _)

theorem zxbc_apply (x0 : (⟨S32x32x2048, .f32⟩ : BufTy).Contents (Elt Ideal)) (x1 : (⟨S1x2048, .f32⟩ : BufTy).Contents (Elt Ideal)) (x3 : (⟨S2048x5120, .bf16⟩ : BufTy).Contents (Elt Ideal)) (r : Fin 1024) (j : Fin 5120) :
    (val_main_v18 (F := Ideal) x0 x1 x3 (ix2 r j) : EReal) = rowP x0 x1 x3 r j := by
  rw [val_main_v18_apply]
  unfold rowP
  refine Finset.sum_congr rfl fun k _ => congrArg₂ (fun a b : EReal => a * b) ((congrArg _ (eq_ix2 _)).trans (rows_apply x0 x1 r k)) ?_
  rw [val_main_v17_apply]
  exact congrArg x3 (eq_ix2 _)

theorem steps_apply (x0 : (⟨S32x32x2048, .f32⟩ : BufTy).Contents (Elt Ideal)) (x1 : (⟨S1x2048, .f32⟩ : BufTy).Contents (Elt Ideal)) (x4 : (⟨S2048x128, .bf16⟩ : BufTy).Contents (Elt Ideal)) (r : Fin 1024) (j : Fin 128) :
    (val_main_v20 (F := Ideal) x0 x1 x4 (ix2 r j) : EReal) = rowP x0 x1 x4 r j := by
  rw [val_main_v20_apply]
  unfold rowP
  refine Finset.sum_congr rfl fun k _ => congrArg₂ (fun a b : EReal => a * b) ((congrArg _ (eq_ix2 _)).trans (rows_apply x0 x1 r k)) ?_
  rw [val_main_v19_apply]
  exact congrArg x4 (eq_ix2 _)

theorem q_raw_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (r : Fin 1024) (h : Fin 16) (d : Fin 128) :
    (val_main_v22 (F := Ideal) x0 x1 x2 (ix3 r h d) : EReal) = rowP x0 x1 x2 r (⟨0 + (h.val * 128 + d.val), by omega⟩ : Fin 8192) := by
  rw [val_main_v22_apply, val_main_v21_apply]
  refine Eq.trans (congrArg _ (funext fun a => Fin.ext ?_)) (qkvg_apply x0 x1 x2 r _)
  have hr := r.isLt
  have hh := h.isLt
  have hd := d.isLt
  match a with
  | ⟨0, _⟩ => show ((r.val * 16 + h.val) * 128 + d.val) / 2048 = r.val; omega
  | ⟨1, _⟩ => show ((r.val * 16 + h.val) * 128 + d.val) % 2048 = 0 + (h.val * 128 + d.val); omega

theorem k_raw_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (r : Fin 1024) (h : Fin 16) (d : Fin 128) :
    (val_main_v38 (F := Ideal) x0 x1 x2 (ix3 r h d) : EReal) = rowP x0 x1 x2 r (⟨2048 + (h.val * 128 + d.val), by omega⟩ : Fin 8192) := by
  rw [val_main_v38_apply, val_main_v37_apply]
  refine Eq.trans (congrArg _ (funext fun a => Fin.ext ?_)) (qkvg_apply x0 x1 x2 r _)
  have hr := r.isLt
  have hh := h.isLt
  have hd := d.isLt
  match a with
  | ⟨0, _⟩ => show ((r.val * 16 + h.val) * 128 + d.val) / 2048 = r.val; omega
  | ⟨1, _⟩ => show 2048 + ((r.val * 16 + h.val) * 128 + d.val) % 2048 = 2048 + (h.val * 128 + d.val); omega

theorem v_raw_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (r : Fin 1024) (h : Fin 16) (d : Fin 128) :
    (val_main_v54 (F := Ideal) x0 x1 x2 (ix3 r h d) : EReal) = rowP x0 x1 x2 r (⟨4096 + (h.val * 128 + d.val), by omega⟩ : Fin 8192) := by
  rw [val_main_v54_apply, val_main_v53_apply]
  refine Eq.trans (congrArg _ (funext fun a => Fin.ext ?_)) (qkvg_apply x0 x1 x2 r _)
  have hr := r.isLt
  have hh := h.isLt
  have hd := d.isLt
  match a with
  | ⟨0, _⟩ => show ((r.val * 16 + h.val) * 128 + d.val) / 2048 = r.val; omega
  | ⟨1, _⟩ => show 4096 + ((r.val * 16 + h.val) * 128 + d.val) % 2048 = 4096 + (h.val * 128 + d.val); omega

theorem q_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (x5 : (⟨S1x128, .f32⟩ : BufTy).Contents (Elt Ideal)) (r : Fin 1024) (h : Fin 16) (d : Fin 128) :
    (val_main_v36 (F := Ideal) x0 x1 x2 x5 (ix3 r h d) : EReal) = rowQ x0 x1 x2 x5 0 (Nat.zero_le _) r h d := by
  rw [val_main_v36_apply, val_main_v33_apply, val_main_v32_apply, val_main_v31_apply, val_main_v30_apply, val_main_v28_apply, val_main_v26_apply, val_main_v25_apply, val_main_v27_apply, val_main_v29_apply, val_main_v35_apply, val_main_v34_apply]
  refine congrArg₂ (fun a b : EReal => a * b) (congrArg₂ (fun a b : EReal => a * b) (q_raw_apply x0 x1 x2 r h d) ?_) ?_
  · refine congrArg (fun s : EReal => Ideal.rsqrt (Ideal.div s (Ideal.ofBits .f32 0x43000000#32) + Ideal.ofBits .f32 0x358637BD#32)) ?_
    refine (congrArg₂ (· + ·) (show _ = (0 : EReal) from Ideal.ofBits_zero_f32) (Finset.sum_congr rfl fun k _ => ?_)).trans (zero_add _)
    rw [val_main_v24_apply]
    have e := q_raw_apply x0 x1 x2 r h k
    exact congrArg₂ (fun a b : EReal => a * b) ((congrArg _ (eq_ix3 _)).trans e) ((congrArg _ (eq_ix3 _)).trans e)
  · exact (congrArg _ (eq_ix1 _)).trans (shapeCast_1a_a_apply x5 _ d)

theorem k_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (x6 : (⟨S1x128, .f32⟩ : BufTy).Contents (Elt Ideal)) (r : Fin 1024) (h : Fin 16) (d : Fin 128) :
    (val_main_v52 (F := Ideal) x0 x1 x2 x6 (ix3 r h d) : EReal) = rowQ x0 x1 x2 x6 2048 (le_refl _) r h d := by
  rw [val_main_v52_apply, val_main_v49_apply, val_main_v48_apply, val_main_v47_apply, val_main_v46_apply, val_main_v44_apply, val_main_v42_apply, val_main_v41_apply, val_main_v43_apply, val_main_v45_apply, val_main_v51_apply, val_main_v50_apply]
  refine congrArg₂ (fun a b : EReal => a * b) (congrArg₂ (fun a b : EReal => a * b) (k_raw_apply x0 x1 x2 r h d) ?_) ?_
  · refine congrArg (fun s : EReal => Ideal.rsqrt (Ideal.div s (Ideal.ofBits .f32 0x43000000#32) + Ideal.ofBits .f32 0x358637BD#32)) ?_
    refine (congrArg₂ (· + ·) (show _ = (0 : EReal) from Ideal.ofBits_zero_f32) (Finset.sum_congr rfl fun k _ => ?_)).trans (zero_add _)
    rw [val_main_v40_apply]
    have e := k_raw_apply x0 x1 x2 r h k
    exact congrArg₂ (fun a b : EReal => a * b) ((congrArg _ (eq_ix3 _)).trans e) ((congrArg _ (eq_ix3 _)).trans e)
  · exact (congrArg _ (eq_ix1 _)).trans (shapeCast_1a_a_apply x6 _ d)

/-- Keys, values and queries, side by side. -/
theorem stack_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (x5 : (⟨S1x128, .f32⟩ : BufTy).Contents (Elt Ideal)) (x6 : (⟨S1x128, .f32⟩ : BufTy).Contents (Elt Ideal)) (p : Fin 3) (g : Fin 16) (r : Fin 1024) (d : Fin 128) :
    (val_main_v60 (F := Ideal) x0 x1 x2 x5 x6 (ix4 p g r d) : EReal) = heads x0 x1 x2 x5 x6 (ix4 p g r d) := by
  rw [val_main_v60_apply, val_main_v59_apply]
  refine Eq.trans ?_ (heads_at _ _ _ _ _ _ _ _ _).symm
  have e : idx_main_v59 (ix4 p g r d) = ix4 p r g d := eq_ix4 _
  rw [e]
  unfold val_main_v58
  fin_cases p
  · refine (concatenate_apply_piece (t := S3x1024x16x128) 0 _ _ _ 0 (by simp) S1x1024x16x128 (val_main_v55 (F := Ideal) x0 x1 x2 x6) rfl rfl 0 rfl (ix4 (0 : Fin 1) r g d) (fun b hb => ?_) ?_).trans ?_
    · match b with
      | ⟨0, _⟩ => exact absurd rfl hb
      | ⟨1, _⟩ => rfl
      | ⟨2, _⟩ => rfl
      | ⟨3, _⟩ => rfl
    · rfl
    · rw [val_main_v55_apply]; exact (congrArg _ (eq_ix3 _)).trans (k_apply x0 x1 x2 x6 r g d)
  · refine (concatenate_apply_piece (t := S3x1024x16x128) 0 _ _ _ 1 (by simp) S1x1024x16x128 (val_main_v56 (F := Ideal) x0 x1 x2) rfl rfl 1 rfl (ix4 (0 : Fin 1) r g d) (fun b hb => ?_) ?_).trans ?_
    · match b with
      | ⟨0, _⟩ => exact absurd rfl hb
      | ⟨1, _⟩ => rfl
      | ⟨2, _⟩ => rfl
      | ⟨3, _⟩ => rfl
    · rfl
    · rw [val_main_v56_apply]; exact (congrArg _ (eq_ix3 _)).trans (v_raw_apply x0 x1 x2 r g d)
  · refine (concatenate_apply_piece (t := S3x1024x16x128) 0 _ _ _ 2 (by simp) S1x1024x16x128 (val_main_v57 (F := Ideal) x0 x1 x2 x5) rfl rfl 2 rfl (ix4 (0 : Fin 1) r g d) (fun b hb => ?_) ?_).trans ?_
    · match b with
      | ⟨0, _⟩ => exact absurd rfl hb
      | ⟨1, _⟩ => rfl
      | ⟨2, _⟩ => rfl
      | ⟨3, _⟩ => rfl
    · rfl
    · rw [val_main_v57_apply]; exact (congrArg _ (eq_ix3 _)).trans (q_apply x0 x1 x2 x5 r g d)

theorem gate_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (r : Fin 1024) (j : Fin 2048) :
    (val_main_v61 (F := Ideal) x0 x1 x2 (ix2 r j) : EReal) = rowP x0 x1 x2 r (⟨6144 + j.val, by omega⟩ : Fin 8192) := by
  rw [val_main_v61_apply]
  exact (congrArg _ (eq_ix2 _)).trans (qkvg_apply x0 x1 x2 r _)

/-- The gate and the recurrence's inputs, side by side. -/
theorem rest_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (x3 : (⟨S2048x5120, .bf16⟩ : BufTy).Contents (Elt Ideal)) (r : Fin 1024) (j : Fin 7168) :
    (val_main_v62 (F := Ideal) x0 x1 x2 x3 (ix2 r j) : EReal) = rest x0 x1 x2 x3 (ix2 r j) := by
  refine Eq.trans ?_ (rest_at _ _ _ _ _ _).symm
  unfold val_main_v62
  by_cases h : j.val < 2048
  · rw [dif_pos h]
    refine (concatenate_pair_apply_left (t := S1024x7168) (s₁ := S1024x2048) (s₂ := S1024x5120) 1 _ _ _ _ rfl (ix2 r (⟨j.val, h⟩ : Fin 2048)) (fun b => ?_)).trans (gate_apply x0 x1 x2 r _)
    match b with
    | ⟨0, _⟩ => rfl
    | ⟨1, _⟩ => rfl
  · rw [dif_neg h]
    refine (concatenate_pair_apply_right (t := S1024x7168) (s₁ := S1024x2048) (s₂ := S1024x5120) 1 _ _ _ _ rfl rfl (ix2 r (⟨j.val - 2048, by omega⟩ : Fin 5120)) (fun b hb => ?_) ?_).trans (zxbc_apply x0 x1 x3 r _)
    · match b with
      | ⟨0, _⟩ => rfl
      | ⟨1, _⟩ => exact absurd rfl hb
    · show j.val - 2048 + 2048 = j.val
      omega

/-- The whole of it. -/
theorem rest_all (x0 : (⟨S32x32x2048, .f32⟩ : BufTy).Contents (Elt Ideal)) (x1 : (⟨S1x2048, .f32⟩ : BufTy).Contents (Elt Ideal))
    (x2 : (⟨S2048x8192, .bf16⟩ : BufTy).Contents (Elt Ideal)) (x3 : (⟨S2048x5120, .bf16⟩ : BufTy).Contents (Elt Ideal)) :
    val_main_v62 (F := Ideal) x0 x1 x2 x3 = rest x0 x1 x2 x3 := by
  funext i
  obtain ⟨r, j, rfl⟩ : ∃ (r : Fin 1024) (j : Fin 7168), i = ix2 r j := ⟨i 0, i 1, eq_ix2 i⟩
  exact rest_apply _ _ _ _ r j

/-- The keys, a row per head. -/
theorem keys_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (x6 : (⟨S1x128, .f32⟩ : BufTy).Contents (Elt Ideal)) (i : Fin 16384) (d : Fin 128) :
    (val_main_v65 (F := Ideal) x0 x1 x2 x6 (ix2 i d) : EReal) = keys x0 x1 x2 x6 (ix2 i d) := by
  rw [val_main_v65_apply]
  refine Eq.trans (congrArg _ (funext fun a => Fin.ext ?_)) ((k_apply x0 x1 x2 x6 (rowOf i) (headOf i) d).trans (keys_at _ _ _ _ _ _).symm)
  have hi := i.isLt
  have hd := d.isLt
  match a with
  | ⟨0, _⟩ => show (i.val * 128 + d.val) / 2048 = i.val / 16; omega
  | ⟨1, _⟩ => show (i.val * 128 + d.val) / 128 % 16 = i.val % 16; omega
  | ⟨2, _⟩ => show (i.val * 128 + d.val) % 128 = d.val; omega

/-- The values, a row per head. -/
theorem values_apply (x0 : (⟨S32x32x2048, .f32⟩ : BufTy).Contents (Elt Ideal)) (x1 : (⟨S1x2048, .f32⟩ : BufTy).Contents (Elt Ideal)) (x2 : (⟨S2048x8192, .bf16⟩ : BufTy).Contents (Elt Ideal)) (i : Fin 16384) (d : Fin 128) :
    (val_main_v66 (F := Ideal) x0 x1 x2 (ix2 i d) : EReal) = values x0 x1 x2 (ix2 i d) := by
  rw [val_main_v66_apply]
  refine Eq.trans (congrArg _ (funext fun a => Fin.ext ?_)) ((v_raw_apply x0 x1 x2 (rowOf i) (headOf i) d).trans (values_at _ _ _ _ _).symm)
  have hi := i.isLt
  have hd := d.isLt
  match a with
  | ⟨0, _⟩ => show (i.val * 128 + d.val) / 2048 = i.val / 16; omega
  | ⟨1, _⟩ => show (i.val * 128 + d.val) / 128 % 16 = i.val % 16; omega
  | ⟨2, _⟩ => show (i.val * 128 + d.val) % 128 = d.val; omega

end Cert.InSampleRefIdeal.Plain

namespace Cert.Proof.InSampleClaims

/-! The kernel as it is and as it is read on the extended reals are the same text, so one run serves both. -/

theorem bodies_same {F : FTy → Type} [FloatOps F] : Cert.InSample.defs₀ (F := F) = Cert.InSampleIdeal.defs₀ (F := F) := by
  unfold Cert.InSample.defs₀ Cert.InSampleIdeal.defs₀
  refine congrArg Defs.onTc (funext fun l => funext fun ts => ?_)
  match l, ts with
  | 0, (t, s) => rfl

theorem tables_same {F : FTy → Type} [FloatOps F] : Cert.InSample.defs (F := F) = Cert.InSampleIdeal.defs (F := F) :=
  congrArg (Pipeline.defs Cert.InSampleIdeal.pcfgs) bodies_same

theorem frame_kernel : Cert.quiescent_InSample := fun m ρ _ => by
  rw [tables_same]
  exact Cert.InSampleIdeal.Rows.frame m ρ
theorem frame_ideal : Cert.quiescent_InSampleIdeal := fun m ρ _ => Cert.InSampleIdeal.Rows.frame m ρ
theorem frame_ref : Cert.quiescent_InSampleRefIdeal := fun m ρ _ =>
  (θ_run Cert.InSampleRefIdeal.defs _ _).mono (fun r h => ⟨fun c => (h c).2.2.2.2.2.2,
      Idealize.ShloMosaic.sem_eq_zero_of_no_sems (by decide) r.2⟩)
    (Cert.InSampleRefIdeal.Value.run (F := Ideal) m ρ)
theorem preserves : Cert.preserves_InSample_InSampleIdeal := trivial

/-- The tiled kernel computes the plain projections. -/
theorem algebraic : Cert.algebraic_InSampleIdeal_InSampleRefIdeal := by
  intro m ρ m' ρ' _ hagree
  refine ⟨fun c => Cert.InSampleIdeal.Tiles.G6 m c, fun c => Cert.InSampleIdeal.Tiles.G7 m c, fun c => Cert.InSampleIdeal.Tiles.G8 m c,
    fun c => Cert.InSampleIdeal.Tiles.G9 m c, fun c => Cert.InSampleIdeal.Tiles.G10 m c, fun c => Cert.InSampleIdeal.Tiles.G11 m c,
    Cert.InSampleIdeal.Tiles.run m ρ, ?_⟩
  refine (θ_run Cert.InSampleRefIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩)
    (Cert.InSampleRefIdeal.Value.run (F := Ideal) m' ρ')
  · obtain ⟨h0, h1, h2, h3, h4, h5, h6⟩ := hagree c
    refine (Cert.InSampleRefIdeal.Read.val_main_v60_eq (F := Ideal) _ _).trans ?_
    rw [h0, h1, h2, h5, h6]
    funext i
    obtain ⟨p, g, r, d, rfl⟩ : ∃ (p : Fin 3) (g : Fin 16) (r : Fin 1024) (d : Fin 128), i = ix4 p g r d := ⟨i 0, i 1, i 2, i 3, eq_ix4 i⟩
    exact Cert.InSampleRefIdeal.Plain.stack_apply _ _ _ _ _ p g r d
  · obtain ⟨h0, h1, h2, h3, h4, h5, h6⟩ := hagree c
    rw [h0, h1, h2, h3]
    exact (Cert.InSampleRefIdeal.Read.val_main_v62_eq (F := Ideal) _ _ _ _).trans (Cert.InSampleRefIdeal.Plain.rest_all _ _ _ _)
  · obtain ⟨h0, h1, h2, h3, h4, h5, h6⟩ := hagree c
    rw [h0, h1, h4]
    refine (Cert.InSampleRefIdeal.Read.val_main_v20_eq (F := Ideal) _ _ _).trans (funext fun i => ?_)
    obtain ⟨r, j, rfl⟩ : ∃ (r : Fin 1024) (j : Fin 128), i = ix2 r j := ⟨i 0, i 1, eq_ix2 i⟩
    exact Cert.InSampleRefIdeal.Plain.steps_apply _ _ _ r j
  · obtain ⟨h0, h1, h2, h3, h4, h5, h6⟩ := hagree c
    refine (Cert.InSampleRefIdeal.Read.val_main_v65_eq (F := Ideal) _ _).trans ?_
    rw [h0, h1, h2, h6]
    funext i
    obtain ⟨r, j, rfl⟩ : ∃ (r : Fin 16384) (j : Fin 128), i = ix2 r j := ⟨i 0, i 1, eq_ix2 i⟩
    exact Cert.InSampleRefIdeal.Plain.keys_apply _ _ _ _ r j
  · obtain ⟨h0, h1, h2, h3, h4, h5, h6⟩ := hagree c
    rw [h0, h1, h2]
    refine (Cert.InSampleRefIdeal.Read.val_main_v66_eq (F := Ideal) _ _ _).trans (funext fun i => ?_)
    obtain ⟨r, j, rfl⟩ : ∃ (r : Fin 16384) (j : Fin 128), i = ix2 r j := ⟨i 0, i 1, eq_ix2 i⟩
    exact Cert.InSampleRefIdeal.Plain.values_apply _ _ _ r j
  · obtain ⟨h0, h1, h2, h3, h4, h5, h6⟩ := hagree c
    rw [h0, h1, h2, h3]
    refine (Cert.InSampleRefIdeal.Read.val_main_v64_eq (F := Ideal) _ _ _ _).trans ?_
    unfold Cert.InSampleRefIdeal.Read.val_main_v64 Cert.InSampleRefIdeal.Read.val_main_v63
    exact congrArg (fun X : FVec Ideal Cert.InSampleRefIdeal.S1024x7168 .f32 => Cert.InSampleIdeal.Tiles.tails X)
      (Cert.InSampleRefIdeal.Plain.rest_all _ _ _ _)

end Cert.Proof.InSampleClaims

end
-- ==== Proof.SsdMath.lean ====
/- What the state update needs of the extended reals: a value cut in three pieces sums to itself unless it is `⊤`, running
   sums of non-positive steps only fall, and the weights built from them are never `⊤`. -/
module

public import Idealize.ShloMosaic.PureOps.Ideal

@[expose] public section

noncomputable section

open Idealize.ShloMosaic

namespace Cert.SsdMath

/-- A power of two at an argument over `log 2` is the exponential. -/
theorem exp2_over_log (x : EReal) : Ideal.exp2 (x * ((-((Real.log 2)⁻¹) : ℝ) : EReal)) = Ideal.exp (-x) := by
  have hl : 0 < Real.log 2 := Real.log_pos (by norm_num)
  have hn : (-((Real.log 2)⁻¹) : ℝ) < 0 := neg_neg_of_pos (inv_pos.2 hl)
  induction x with
  | bot => rw [EReal.bot_mul_coe_of_neg hn]; simp
  | top => rw [EReal.top_mul_coe_of_neg hn]; simp
  | coe r =>
    rw [← EReal.coe_mul, Ideal.exp2_coe, ← EReal.coe_neg, Ideal.exp_coe]
    refine congrArg _ ((Real.rpow_def_of_pos (by norm_num : (0 : ℝ) < 2) _).trans (congrArg Real.exp ?_))
    field_simp

/-- A value, what is left of it after itself, and what is left after that: together the value, unless it is `⊤`. -/
theorem three_pieces (a : EReal) (h : a ≠ ⊤) : a + (a - a) + (a - a - (a - a)) = a := by
  induction a with
  | bot => rfl
  | top => exact absurd rfl h
  | coe r => norm_cast; simp

theorem sum_thirds (n : ℕ) (f : Fin (n + n + n) → EReal) :
    ∑ k, f k = ∑ k : Fin n, (f (Fin.castAdd n (Fin.castAdd n k)) + f (Fin.castAdd n (Fin.natAdd n k)) + f (Fin.natAdd (n + n) k)) := by
  rw [Fin.sum_univ_add, Fin.sum_univ_add, Finset.sum_add_distrib, Finset.sum_add_distrib]

/-- A sum of chosen values cut in three pieces, the choice repeated for every piece. -/
theorem sum_chosen (n : ℕ) (a : Fin n → EReal) (ha : ∀ j, a j ≠ ⊤) (c : Fin n → Prop) [DecidablePred c] (T P : Fin (n + n + n) → EReal)
    (hT0 : ∀ j, T (Fin.castAdd n (Fin.castAdd n j)) = if c j then 1 else 0) (hT1 : ∀ j, T (Fin.castAdd n (Fin.natAdd n j)) = if c j then 1 else 0)
    (hT2 : ∀ j, T (Fin.natAdd (n + n) j) = if c j then 1 else 0)
    (hP0 : ∀ j, P (Fin.castAdd n (Fin.castAdd n j)) = a j) (hP1 : ∀ j, P (Fin.castAdd n (Fin.natAdd n j)) = a j - a j)
    (hP2 : ∀ j, P (Fin.natAdd (n + n) j) = a j - a j - (a j - a j)) :
    ∑ k, T k * P k = ∑ j, if c j then a j else 0 := by
  rw [sum_thirds]
  refine Finset.sum_congr rfl fun j _ => ?_
  rw [hT0, hT1, hT2, hP0, hP1, hP2]
  split
  · rw [one_mul, one_mul, one_mul]; exact three_pieces _ (ha j)
  · simp

/-- One value picked out of `n`, all of them cut in three pieces. -/
theorem sum_picked (n : ℕ) (f : Fin n → EReal) (h : Fin n) (hf : f h ≠ ⊤) (T P : Fin (n + n + n) → EReal)
    (hT0 : ∀ j, T (Fin.castAdd n (Fin.castAdd n j)) = if j = h then 1 else 0) (hT1 : ∀ j, T (Fin.castAdd n (Fin.natAdd n j)) = if j = h then 1 else 0)
    (hT2 : ∀ j, T (Fin.natAdd (n + n) j) = if j = h then 1 else 0)
    (hP0 : ∀ j, P (Fin.castAdd n (Fin.castAdd n j)) = f j) (hP1 : ∀ j, P (Fin.castAdd n (Fin.natAdd n j)) = f j - f j)
    (hP2 : ∀ j, P (Fin.natAdd (n + n) j) = f j - f j - (f j - f j)) :
    ∑ k, P k * T k = f h := by
  rw [sum_thirds, Finset.sum_eq_single h]
  · rw [hT0, hT1, hT2, hP0, hP1, hP2, if_pos rfl, mul_one, mul_one, mul_one]; exact three_pieces _ hf
  · intro j _ hj
    rw [hT0, hT1, hT2, if_neg hj]; simp
  · exact fun hh => absurd (Finset.mem_univ h) hh

/-- The time step of a raw value. -/
def step (v : EReal) : EReal := max v 0 + Ideal.log1p (Ideal.exp (-(max v (-v))))

theorem exp_nonneg (x : EReal) : 0 ≤ Ideal.exp x := by
  induction x with
  | bot => exact le_refl _
  | top => exact le_top
  | coe r => exact EReal.coe_nonneg.2 (Real.exp_pos r).le

theorem exp_pos (x : EReal) (h : x ≠ ⊥) : 0 < Ideal.exp x := by
  induction x with
  | bot => exact absurd rfl h
  | top => exact EReal.zero_lt_top
  | coe r => exact EReal.coe_pos.2 (Real.exp_pos r)

theorem log1p_nonneg (x : EReal) (h : 0 ≤ x) : 0 ≤ Ideal.log1p x := by
  unfold Ideal.log1p
  induction x with
  | bot => exact absurd h (by simp)
  | top => rw [show (1 : EReal) + ⊤ = ⊤ from rfl]; exact le_top
  | coe r =>
    have hr : 0 ≤ r := EReal.coe_nonneg.1 h
    rw [show (1 : EReal) + (r : EReal) = ((1 + r : ℝ) : EReal) by push_cast; rfl, Ideal.log_coe, if_neg (by linarith)]
    exact EReal.coe_nonneg.2 (Real.log_nonneg (by linarith))

theorem step_nonneg (v : EReal) : 0 ≤ step v :=
  add_nonneg (le_max_right _ _) (log1p_nonneg _ (exp_nonneg _))

/-- How much a head's state decays in one step, as a logarithm. -/
theorem decay_nonpos (d al : EReal) (hd : 0 ≤ d) : d * -Ideal.exp al ≤ 0 := by
  rw [mul_neg, EReal.neg_le_zero]
  exact mul_nonneg hd (exp_nonneg al)

theorem decay_top (al : EReal) (h : al ≠ ⊥) : (⊤ : EReal) * -Ideal.exp al = ⊥ := by
  rw [mul_neg, EReal.top_mul_of_pos (exp_pos al h)]; rfl

section Running

variable (a : Fin 32 → EReal)

/-- The running sum. -/
def running (i : Fin 32) : EReal := ∑ j : Fin 32, if j.val ≤ i.val then a j else 0

variable {a} (ha : ∀ j, a j ≤ 0)

include ha

theorem running_nonpos (i : Fin 32) : running a i ≤ 0 :=
  Finset.sum_nonpos fun j _ => by split; exacts [ha j, le_refl _]

theorem running_le (i : Fin 32) : running a 31 ≤ running a i :=
  Finset.sum_le_sum fun j _ => by
    rw [if_pos (show j.val ≤ ((31 : Fin 32)).val from Nat.lt_succ_iff.1 j.isLt)]
    split; exacts [le_refl _, ha j]

theorem running_le_self (i : Fin 32) : running a i ≤ a i := by
  unfold running
  rw [← Finset.add_sum_erase _ _ (Finset.mem_univ i), if_pos (le_refl _)]
  calc a i + _ ≤ a i + 0 := add_le_add (le_refl _) (Finset.sum_nonpos fun j _ => by split; exacts [ha j, le_refl _])
    _ = a i := add_zero _

theorem running_ne_top (i : Fin 32) : running a i ≠ ⊤ := fun h => absurd (running_nonpos ha i) (by rw [h]; simp)

/-- The weight a row enters the new state with is never `⊤`. -/
theorem weight_ne_top (d : EReal) (hd : 0 ≤ d) (i : Fin 32) (hi : d = ⊤ → a i = ⊥) : Ideal.exp (running a 31 - running a i) * d ≠ ⊤ := by
  have h0 := running_nonpos ha i
  have hle := running_le ha i
  have hs := running_le_self ha i
  generalize running a 31 = l at *
  generalize running a i = s at *
  induction s with
  | top => exact absurd h0 (by simp)
  | bot =>
    obtain rfl : l = ⊥ := le_bot_iff.1 hle
    rw [show (⊥ : EReal) - ⊥ = ⊥ from rfl, Ideal.exp_bot, zero_mul]; exact EReal.zero_ne_top
  | coe s =>
    have hd' : d ≠ ⊤ := fun h => absurd (hi h ▸ hs) (by simp)
    induction l with
    | top => exact absurd hle (by simp)
    | bot => rw [EReal.bot_sub, Ideal.exp_bot, zero_mul]; exact EReal.zero_ne_top
    | coe l =>
      induction d with
      | top => exact absurd rfl hd'
      | bot => exact absurd hd (by simp)
      | coe d => rw [← EReal.coe_sub, Ideal.exp_coe, ← EReal.coe_mul]; exact EReal.coe_ne_top _

theorem exp_last_ne_top : Ideal.exp (running a 31) ≠ ⊤ := by
  have h := running_ne_top ha 31
  generalize running a 31 = l at *
  induction l with
  | top => exact absurd rfl h
  | bot => rw [Ideal.exp_bot]; exact EReal.zero_ne_top
  | coe l => rw [Ideal.exp_coe]; exact EReal.coe_ne_top _

end Running

end Cert.SsdMath

end
-- ==== Proof.SsdPieces.lean ====
/- The state update's building blocks, read element by element on the extended reals: one column block of the causal
   convolution and its gate, one group's update, and the block of decays spread over the head columns. -/
module

public import proofs.«01_k».proof.Proof.Gen.SsdStateIdeal.Skeleton
public import proofs.«01_k».proof.Proof.SsdMath
public import Idealize.ShloMosaic.Lib.Pipeline.Value
public import Idealize.ShloMosaic.Lib.MatmulPlain
public import Idealize.ShloMosaic.Lib.ValueIdx
public import Idealize.ShloMosaic.Lib.ValueLayout
public import Idealize.ShloMosaic.Lib.KernelVsHost
public import Idealize.ShloMosaic.Lib.IdealHost

@[expose] public section

set_option maxRecDepth 16384

noncomputable section

open Idealize.ShloMosaic Idealize.ShloMosaic.TcCoe
open Idealize.ShloMosaic.ValueIdx
open scoped BigOperators

namespace Cert.SsdStateIdeal.Body

open Cert.SsdStateIdeal Cert.SsdStateIdeal.Gen Cert.SsdMath

/-- A value times its logistic. -/
def gated (x : EReal) : EReal := x * Ideal.div 1 (1 + Ideal.exp (-x))

/-- One column block of the convolution, gated. -/
def conv1 (v : Vec Ideal S40x512 .f32) (b w3 w2 w1 w0 : Vec Ideal S1x512 .f32) : FVec Ideal S32x512 .f32 :=
  k0_pay21 v (k0_pay20 v b w3 w2) w1 w0

theorem rot_apply (k : ℕ) (hk : k ≤ 3) (sb : BitVec 32) (hsb : sb.toNat = k) (v : Vec Ideal S40x512 .f32) (r : Fin 32) (c : Fin 512) :
    extractStridedSlice S32x512 ![8, 0] (dynamicRotate 0 sb none v rotates_S40x512_d0) slices_S40x512_o8_0_S32x512 (ix2 r c)
      = v (ix2 (⟨r.val + (8 - k), by omega⟩ : Fin 40) c) := by
  rw [extractStridedSlice_apply (k := ix2 (⟨8 + r.val, by omega⟩ : Fin 40) c)]
  · refine dynamicRotate_apply 0 sb v _ _ _ fun b => ?_
    match b with
    | ⟨0, _⟩ =>
      show r.val + (8 - k) = ((8 + r.val) + 40 - sb.toNat % 40) % 40
      rw [hsb]; have := r.isLt; omega
    | ⟨1, _⟩ => rfl
  · intro b
    match b with
    | ⟨0, _⟩ => rfl
    | ⟨1, _⟩ => show c.val = 0 + c.val; omega

theorem slice_apply (v : Vec Ideal S40x512 .f32) (r : Fin 32) (c : Fin 512) :
    extractStridedSlice S32x512 ![8, 0] v slices_S40x512_o8_0_S32x512 (ix2 r c) = v (ix2 (⟨r.val + 8, by omega⟩ : Fin 40) c) := by
  rw [extractStridedSlice_apply (k := ix2 (⟨r.val + 8, by omega⟩ : Fin 40) c)]
  intro b
  match b with
  | ⟨0, _⟩ => show r.val + 8 = 8 + r.val; omega
  | ⟨1, _⟩ => show c.val = 0 + c.val; omega

theorem conv1_apply (v : Vec Ideal S40x512 .f32) (b w3 w2 w1 w0 : Vec Ideal S1x512 .f32) (r : Fin 32) (c : Fin 512) :
    conv1 v b w3 w2 w1 w0 (ix2 r c) = gated (b (ix2 (0 : Fin 1) c) + w3 (ix2 (0 : Fin 1) c) * v (ix2 (⟨r.val + 8, by omega⟩ : Fin 40) c)
      + w2 (ix2 (0 : Fin 1) c) * v (ix2 (⟨r.val + 7, by omega⟩ : Fin 40) c) + w1 (ix2 (0 : Fin 1) c) * v (ix2 (⟨r.val + 6, by omega⟩ : Fin 40) c)
      + w0 (ix2 (0 : Fin 1) c) * v (ix2 (⟨r.val + 5, by omega⟩ : Fin 40) c)) := by
  have hb (w : Vec Ideal S1x512 .f32) : broadcastTo S32x512 w broadcasts_S1x512_S32x512 (ix2 r c) = w (ix2 (0 : Fin 1) c) :=
    broadcastTo_1b_ab_apply w _ r c
  have h1 := rot_apply 1 (by omega) 1#32 rfl v r c
  have h2 := rot_apply 2 (by omega) 2#32 rfl v r c
  have h3 := rot_apply 3 (by omega) 3#32 rfl v r c
  have h0 := slice_apply v r c
  unfold conv1 k0_pay21 k0_pay20
  simp only [shapeCast_self]
  unfold gated
  rw [← exp2_over_log]
  simp only [mulf_apply, addf_apply, hb, h0, h1, h2, h3, divf, exp2, broadcast]
  show _ * Ideal.div (Ideal.ofBits .f32 0x3F800000#32) (Ideal.ofBits .f32 0x3F800000#32 + Ideal.exp2 (_ * _)) = _
  rw [Ideal.ofBits_one_f32]
  rfl

/-- One group's update. -/
def upd (x : Vec Ideal S32x512 .f32) (b : Vec Ideal S32x128 .f32) (st : Vec Ideal S1x128x512 .f32) (w : Vec Ideal S1x32x512 .f32)
    (l : Vec Ideal S1x1x512 .f32) : FVec Ideal S1x128x512 .f32 :=
  k0_pay61 x (k0_pay43 b) (k0_pay46 st) w l

theorem upd_apply (x : Vec Ideal S32x512 .f32) (b : Vec Ideal S32x128 .f32) (st : Vec Ideal S1x128x512 .f32) (w : Vec Ideal S1x32x512 .f32)
    (l : Vec Ideal S1x1x512 .f32) (n : Fin 128) (c : Fin 512) :
    upd x b st w l (ix3 (0 : Fin 1) n c) = st (ix3 (0 : Fin 1) n c) * l (ix3 (0 : Fin 1) (0 : Fin 1) c)
      + ∑ r : Fin 32, b (ix2 r n) * (x (ix2 r c) * w (ix3 (0 : Fin 1) r c)) := by
  unfold upd k0_pay61
  refine (shapeCast_ab_1ab_apply _ _ _ _ _).trans ?_
  have key (p : FVec Ideal S32x128 .bf16) (q : FVec Ideal S32x512 .bf16) :
      (matmul (F := Ideal) dot_S32x128_S32x512_S128x512_0_0_1_1_n_n none p q (constant S128x512 .f32 0x00000000#32) (ix2 n c) : EReal)
        = ∑ r : Fin 32, p (ix2 r n) * q (ix2 r c) := by
    have hr : dot_S32x128_S32x512_S128x512_0_0_1_1_n_n.contr.rank = 1 := rfl
    have hs : dot_S32x128_S32x512_S128x512_0_0_1_1_n_n.contr.size ⟨0, by rw [hr]; omega⟩ = 32 := rfl
    refine (Ideal.matmul_apply _ _ _ _ _ _).trans ?_
    rw [← Equiv.sum_comp (contrEquiv1 _ 32 hr hs).symm]
    show Ideal.ofBits .f32 0x00000000#32 + _ = _
    rw [Ideal.ofBits_zero_f32, zero_add]
    refine Finset.sum_congr rfl fun k _ => ?_
    have hk := contrEquiv1_symm_val _ 32 hr hs k
    refine congrArg₂ (· * ·) (congrArg p (funext fun a => Fin.ext ?_)) (congrArg q (funext fun a => Fin.ext ?_))
    · match a with
      | ⟨0, _⟩ => exact hk
      | ⟨1, _⟩ => rfl
    · match a with
      | ⟨0, _⟩ => exact hk
      | ⟨1, _⟩ => rfl
  rw [addf_apply, mulf_apply, key]
  refine congrArg₂ (· + ·) (congrArg₂ (· * ·) (shapeCast_1ab_ab_apply _ _ _ _) ?_) (Finset.sum_congr rfl fun r _ => ?_)
  · refine (broadcastTo_1b_ab_apply _ _ _ _).trans (shapeCast_1ab_ab_apply _ _ _ _)
  · exact congrArg (b (ix2 r n) * ·) (congrArg (x (ix2 r c) * ·) (shapeCast_1ab_ab_apply _ _ _ _))

/-- Which earlier rows a row's running sum takes, the choice repeated for the three pieces. -/
theorem choice_apply (r : Fin 32) (k : Fin 3) (j : Fin 32) :
    k0_pay33 (F := Ideal) (ix2 r (⟨32 * k.val + j.val, by omega⟩ : Fin 96)) = if j.val ≤ r.val then (1 : EReal) else 0 := by
  have one (x : FVec Ideal S32x32 .bf16) (h) : concatenate S32x96 1 [⟨S32x32, x⟩, ⟨S32x32, x⟩, ⟨S32x32, x⟩] h
      (ix2 r (⟨32 * k.val + j.val, by omega⟩ : Fin 96)) = x (ix2 r j) := by
    match k with
    | ⟨0, _⟩ =>
      exact concatenate_apply_piece (t := S32x96) 1 _ h _ 0 (by simp) S32x32 x rfl rfl 0 rfl (ix2 r j) (fun b hb => by
        match b with
        | ⟨0, _⟩ => rfl
        | ⟨1, _⟩ => exact absurd rfl hb) (by show 0 + j.val = 32 * 0 + j.val; omega)
    | ⟨1, _⟩ =>
      exact concatenate_apply_piece (t := S32x96) 1 _ h _ 1 (by simp) S32x32 x rfl rfl 32 rfl (ix2 r j) (fun b hb => by
        match b with
        | ⟨0, _⟩ => rfl
        | ⟨1, _⟩ => exact absurd rfl hb) (by show 32 + j.val = 32 * 1 + j.val; omega)
    | ⟨2, _⟩ =>
      exact concatenate_apply_piece (t := S32x96) 1 _ h _ 2 (by simp) S32x32 x rfl rfl 64 rfl (ix2 r j) (fun b hb => by
        match b with
        | ⟨0, _⟩ => rfl
        | ⟨1, _⟩ => exact absurd rfl hb) (by show 64 + j.val = 32 * 2 + j.val; omega)
  unfold k0_pay33
  refine (one _ _).trans ?_
  have key : ∀ r j : Fin 32, (BitVec.setWidth 32 (k0_pay32 (ix2 r j))).toInt = if j.val ≤ r.val then 1 else 0 := by
    decide +kernel
  show (((BitVec.setWidth 32 (k0_pay32 (ix2 r j))).toInt : ℝ) : EReal) = _
  rw [key]
  split <;> simp

/-- A step's time as the kernel takes it. -/
theorem step_apply (v : Vec Ideal S32x128 .f32) (b : Vec Ideal S1x128 .f32) (r : Fin 32) (h : Fin 128) :
    k0_pay34 v b (ix2 r h) = step (v (ix2 r h) + b (ix2 (0 : Fin 1) h)) := by
  unfold k0_pay34
  simp only [shapeCast_self]
  have hb : broadcastTo S32x128 b broadcasts_S1x128_S32x128 (ix2 r h) = b (ix2 (0 : Fin 1) h) := broadcastTo_1b_ab_apply b _ r h
  show max ((v (ix2 r h) : EReal) + broadcastTo S32x128 b broadcasts_S1x128_S32x128 (ix2 r h)) (Ideal.ofBits .f32 0x00000000#32)
    + Ideal.log1p (Ideal.exp (Ideal.ofBits .f32 0x00000000#32 - max (_ + broadcastTo S32x128 b broadcasts_S1x128_S32x128 (ix2 r h)) (-(_ + broadcastTo S32x128 b broadcasts_S1x128_S32x128 (ix2 r h))))) = _
  rw [Ideal.ofBits_zero_f32, hb, zero_sub]
  rfl

/-- One row's decay, as a logarithm. -/
def decay (v : Vec Ideal S32x128 .f32) (b al : Vec Ideal S1x128 .f32) (h : Fin 128) (r : Fin 32) : EReal :=
  step (v (ix2 r h) + b (ix2 (0 : Fin 1) h)) * -Ideal.exp (al (ix2 (0 : Fin 1) h))

theorem decay_le (v : Vec Ideal S32x128 .f32) (b al : Vec Ideal S1x128 .f32) (h : Fin 128) (r : Fin 32) : decay v b al h r ≤ 0 :=
  decay_nonpos _ _ (step_nonneg _)

/-- The running sums of the decays. -/
theorem running_apply (v : Vec Ideal S32x128 .f32) (b al : Vec Ideal S1x128 .f32) (r : Fin 32) (h : Fin 128) :
    k0_pay35 k0_pay33 v b al (ix2 r h) = running (decay v b al h) r := by
  unfold k0_pay35
  have hb (x : Vec Ideal S1x128 .f32) (j : Fin 32) : broadcastTo S32x128 x broadcasts_S1x128_S32x128 (ix2 j h) = x (ix2 (0 : Fin 1) h) := broadcastTo_1b_ab_apply x _ j h
  refine (Ideal.matmul_plain_apply (M := 32) (K := 96) (N := 128) none _ _ _ r h).trans ?_
  show Ideal.ofBits .f32 0x00000000#32 + _ = _
  rw [Ideal.ofBits_zero_f32, zero_add]
  have hd (j : Fin 32) : (mulf (F := Ideal) (φ := .f32) (k0_pay34 v b) (broadcastTo S32x128 (subf (F := Ideal) (φ := .f32) (broadcast S1x128 (Scalar.ofBits .f32 0x00000000#32)) (exp (F := Ideal) (φ := .f32) (shapeCast S1x128 al shapeCasts_S1x128_S1x128))) broadcasts_S1x128_S32x128)) (ix2 j h)
      = decay v b al h j := by
    rw [shapeCast_self, mulf_apply, hb, step_apply]
    show step _ * (Ideal.ofBits .f32 0x00000000#32 - Ideal.exp (al (ix2 (0 : Fin 1) h))) = _
    rw [Ideal.ofBits_zero_f32, zero_sub]; rfl
  have piece (x0 x1 x2 : FVec Ideal S32x128 .bf16) (hc) (j : Fin 32) :
      concatenate S96x128 0 [⟨S32x128, x0⟩, ⟨S32x128, x1⟩, ⟨S32x128, x2⟩] hc (ix2 (⟨j.val, by omega⟩ : Fin 96) h) = x0 (ix2 j h)
      ∧ concatenate S96x128 0 [⟨S32x128, x0⟩, ⟨S32x128, x1⟩, ⟨S32x128, x2⟩] hc (ix2 (⟨32 + j.val, by omega⟩ : Fin 96) h) = x1 (ix2 j h)
      ∧ concatenate S96x128 0 [⟨S32x128, x0⟩, ⟨S32x128, x1⟩, ⟨S32x128, x2⟩] hc (ix2 (⟨64 + j.val, by omega⟩ : Fin 96) h) = x2 (ix2 j h) := by
    refine ⟨concatenate_apply_piece (t := S96x128) 0 _ hc _ 0 (by simp) S32x128 x0 rfl rfl 0 rfl (ix2 j h) (fun b hb => ?_) (by show 0 + j.val = j.val; omega),
      concatenate_apply_piece (t := S96x128) 0 _ hc _ 1 (by simp) S32x128 x1 rfl rfl 32 rfl (ix2 j h) (fun b hb => ?_) rfl,
      concatenate_apply_piece (t := S96x128) 0 _ hc _ 2 (by simp) S32x128 x2 rfl rfl 64 rfl (ix2 j h) (fun b hb => ?_) rfl⟩ <;>
    · match b with
      | ⟨0, _⟩ => exact absurd rfl hb
      | ⟨1, _⟩ => rfl
  refine sum_chosen 32 (decay v b al h) (fun j hj => absurd (decay_le v b al h j) (by rw [hj]; simp)) (fun j => j.val ≤ r.val) _ _ ?_ ?_ ?_ ?_ ?_ ?_
  · intro j; exact (congrArg (fun z => k0_pay33 (F := Ideal) (ix2 r z)) (Fin.ext (by show j.val = 32 * 0 + j.val; omega))).trans (choice_apply r 0 j)
  · intro j; exact (congrArg (fun z => k0_pay33 (F := Ideal) (ix2 r z)) (Fin.ext (by show 32 + j.val = 32 * 1 + j.val; omega))).trans (choice_apply r 1 j)
  · intro j; exact (congrArg (fun z => k0_pay33 (F := Ideal) (ix2 r z)) (Fin.ext (by show 64 + j.val = 32 * 2 + j.val; omega))).trans (choice_apply r 2 j)
  · intro j; exact (piece _ _ _ _ j).1.trans (hd j)
  · intro j; refine (piece _ _ _ _ j).2.1.trans ?_
    rw [← hd j]; rfl
  · intro j; refine (piece _ _ _ _ j).2.2.trans ?_
    rw [← hd j]; rfl

/-- The weight a row enters the new state with, and the factor the old state is kept with. -/
theorem weight_apply (v : Vec Ideal S32x128 .f32) (b al : Vec Ideal S1x128 .f32) (r : Fin 32) (h : Fin 128) :
    k0_pay40 k0_pay33 v b al (ix2 r h)
      = Ideal.exp (running (decay v b al h) 31 - running (decay v b al h) r) * step (v (ix2 r h) + b (ix2 (0 : Fin 1) h)) := by
  unfold k0_pay40 k0_pay38
  have hb (x : Vec Ideal S1x128 .f32) (j : Fin 32) : broadcastTo S32x128 x broadcasts_S1x128_S32x128 (ix2 j h) = x (ix2 (0 : Fin 1) h) := broadcastTo_1b_ab_apply x _ j h
  rw [mulf_apply, step_apply, ← running_apply, ← running_apply]
  refine congrArg (· * _) ?_
  show Ideal.exp (broadcastTo S32x128 _ broadcasts_S1x128_S32x128 (ix2 r h) - _) = _
  rw [hb, extractStridedSlice_apply (k := ix2 (31 : Fin 32) h)]
  intro b
  match b with
  | ⟨0, _⟩ => rfl
  | ⟨1, _⟩ => show h.val = 0 + h.val; omega

theorem kept_apply (v : Vec Ideal S32x128 .f32) (b al : Vec Ideal S1x128 .f32) (h : Fin 128) :
    k0_pay41 k0_pay33 v b al (ix2 (0 : Fin 1) h) = Ideal.exp (running (decay v b al h) 31) := by
  unfold k0_pay41 k0_pay38
  simp only [shapeCast_self]
  rw [← running_apply]
  show Ideal.exp (extractStridedSlice _ _ _ _ _) = _
  rw [extractStridedSlice_apply (k := ix2 (31 : Fin 32) h)]
  intro b
  match b with
  | ⟨0, _⟩ => rfl
  | ⟨1, _⟩ => show h.val = 0 + h.val; omega

/-- The block of decays, spread: a row of it at a column is the row's value of the column's head. -/
theorem spread_apply (A W : FVec Ideal S32x128 .f32) (L : FVec Ideal S1x128 .f32) (X : Vec Ideal S384x2048 .bf16) (j : Fin 2048) (hd : Fin 128)
    (hX : ∀ (k : Fin 3) (h : Fin 128), X (ix2 (⟨128 * k.val + h.val, by omega⟩ : Fin 384) j) = if h = hd then (1 : EReal) else 0)
    (R : Fin 72) (E : EReal) (hE : E ≠ ⊤)
    (hR : concatenate S72x128 0 [⟨S32x128, A⟩, ⟨S32x128, W⟩, ⟨S8x128, broadcastTo S8x128 L broadcasts_S1x128_S8x128⟩] concatenates_S32x128_S32x128_S8x128_S72x128_d0 (ix2 R hd) = E) :
    k0_pay42 A W L X (ix3 (0 : Fin 1) R j) = E := by
  unfold k0_pay42
  simp only [shapeCast_self]
  refine (shapeCast_ab_1ab_apply _ _ _ _ _).trans ?_
  refine (Ideal.matmul_plain_apply (M := 72) (K := 384) (N := 2048) none _ _ _ R j).trans ?_
  show Ideal.ofBits .f32 0x00000000#32 + _ = _
  rw [Ideal.ofBits_zero_f32, zero_add]
  generalize hG : concatenate S72x128 0 [⟨S32x128, A⟩, ⟨S32x128, W⟩, ⟨S8x128, broadcastTo S8x128 L broadcasts_S1x128_S8x128⟩] concatenates_S32x128_S32x128_S8x128_S72x128_d0 = G at *
  have piece (x0 x1 x2 : FVec Ideal S72x128 .bf16) (hc) (h : Fin 128) :
      concatenate S72x384 1 [⟨S72x128, x0⟩, ⟨S72x128, x1⟩, ⟨S72x128, x2⟩] hc (ix2 R (⟨h.val, by omega⟩ : Fin 384)) = x0 (ix2 R h)
      ∧ concatenate S72x384 1 [⟨S72x128, x0⟩, ⟨S72x128, x1⟩, ⟨S72x128, x2⟩] hc (ix2 R (⟨128 + h.val, by omega⟩ : Fin 384)) = x1 (ix2 R h)
      ∧ concatenate S72x384 1 [⟨S72x128, x0⟩, ⟨S72x128, x1⟩, ⟨S72x128, x2⟩] hc (ix2 R (⟨256 + h.val, by omega⟩ : Fin 384)) = x2 (ix2 R h) := by
    refine ⟨concatenate_apply_piece (t := S72x384) 1 _ hc _ 0 (by simp) S72x128 x0 rfl rfl 0 rfl (ix2 R h) (fun b hb => ?_) (by show 0 + h.val = h.val; omega),
      concatenate_apply_piece (t := S72x384) 1 _ hc _ 1 (by simp) S72x128 x1 rfl rfl 128 rfl (ix2 R h) (fun b hb => ?_) rfl,
      concatenate_apply_piece (t := S72x384) 1 _ hc _ 2 (by simp) S72x128 x2 rfl rfl 256 rfl (ix2 R h) (fun b hb => ?_) rfl⟩ <;>
    · match b with
      | ⟨0, _⟩ => rfl
      | ⟨1, _⟩ => exact absurd rfl hb
  refine (sum_picked 128 (fun h => G (ix2 R h)) hd (by show G (ix2 R hd) ≠ ⊤; rw [hR]; exact hE) (fun k => X (ix2 k j)) _ ?_ ?_ ?_ ?_ ?_ ?_).trans hR
  · intro h; exact (congrArg (fun z => X (ix2 z j)) (Fin.ext (by show h.val = 128 * 0 + h.val; omega))).trans (hX 0 h)
  · intro h; exact (congrArg (fun z => X (ix2 z j)) (Fin.ext (by show 128 + h.val = 128 * 1 + h.val; omega))).trans (hX 1 h)
  · intro h; exact (congrArg (fun z => X (ix2 z j)) (Fin.ext (by show 256 + h.val = 128 * 2 + h.val; omega))).trans (hX 2 h)
  · intro h; exact (piece _ _ _ _ h).1
  · intro h; exact (piece _ _ _ _ h).2.1
  · intro h; exact (piece _ _ _ _ h).2.2

theorem spread_weight (A W : FVec Ideal S32x128 .f32) (L : FVec Ideal S1x128 .f32) (X : Vec Ideal S384x2048 .bf16) (j : Fin 2048) (hd : Fin 128)
    (hX : ∀ (k : Fin 3) (h : Fin 128), X (ix2 (⟨128 * k.val + h.val, by omega⟩ : Fin 384) j) = if h = hd then (1 : EReal) else 0)
    (r : Fin 32) (hE : W (ix2 r hd) ≠ (⊤ : EReal)) :
    k0_pay42 A W L X (ix3 (0 : Fin 1) (⟨32 + r.val, by omega⟩ : Fin 72) j) = W (ix2 r hd) := by
  refine spread_apply A W L X j hd hX _ _ hE ?_
  refine concatenate_apply_piece (t := S72x128) 0 _ _ _ 1 (by simp) S32x128 W rfl rfl 32 rfl (ix2 r hd) (fun b hb => ?_) rfl
  match b with
  | ⟨0, _⟩ => exact absurd rfl hb
  | ⟨1, _⟩ => rfl

theorem spread_kept (A W : FVec Ideal S32x128 .f32) (L : FVec Ideal S1x128 .f32) (X : Vec Ideal S384x2048 .bf16) (j : Fin 2048) (hd : Fin 128)
    (hX : ∀ (k : Fin 3) (h : Fin 128), X (ix2 (⟨128 * k.val + h.val, by omega⟩ : Fin 384) j) = if h = hd then (1 : EReal) else 0)
    (hE : L (ix2 (0 : Fin 1) hd) ≠ (⊤ : EReal)) :
    k0_pay42 A W L X (ix3 (0 : Fin 1) (64 : Fin 72) j) = L (ix2 (0 : Fin 1) hd) := by
  refine spread_apply A W L X j hd hX _ _ hE ?_
  refine (concatenate_apply_piece (t := S72x128) 0 _ _ _ 2 (by simp) S8x128 _ rfl rfl 64 rfl (ix2 (0 : Fin 8) hd) (fun b hb => ?_) rfl).trans
    (broadcastTo_1b_ab_apply L _ _ _)
  match b with
  | ⟨0, _⟩ => exact absurd rfl hb
  | ⟨1, _⟩ => rfl

end Cert.SsdStateIdeal.Body

end
-- ==== Proof.SsdBody.lean ====
/- One point's new state, element by element: what the run leaves in the state's block, out of the point's input blocks. -/
module

public import proofs.«01_k».proof.Proof.SsdPieces
public import proofs.«01_k».proof.Proof.Gen.SsdStateIdeal.Frame
public import Idealize.ShloMosaic.Lib.WholeRead

@[expose] public section

set_option maxRecDepth 16384

noncomputable section

open Idealize.ShloMosaic Idealize.ShloMosaic.TcCoe Idealize.SL.Sem
open Idealize.ShloMosaic.ValueIdx
open scoped BigOperators

namespace Cert.SsdStateIdeal.Body

open Cert.SsdStateIdeal Cert.SsdStateIdeal.Gen Cert.SsdMath

/-- Pieces that all hold the values of one function read back as that function wherever one of them lies. -/
theorem canon_of {S : Shape} {e : EltTy} (L : List (View.Piece (Elt Ideal) S e)) (G : S.Idx → Elt Ideal e)
    (h : ∀ p ∈ L, ∀ x, p.2 x = G (p.1.emb x)) (y : S.Idx) (hc : ∃ p ∈ L, y ∈ p.1.set) : View.canon L y = G y := by
  induction L with
  | nil => obtain ⟨p, hp, -⟩ := hc; exact absurd hp List.not_mem_nil
  | cons p L ih =>
    by_cases hy : y ∈ p.1.set
    · obtain ⟨r, w⟩ := p
      obtain ⟨x, rfl⟩ : ∃ x, r.emb x = y := r.exists_idx_of_mem hy
      rw [View.canon_cons_emb]
      exact h _ List.mem_cons_self x
    · rw [View.canon_cons_of_not_mem p L hy]
      refine ih (fun q hq => h q (List.mem_cons_of_mem _ hq)) ?_
      obtain ⟨q, hq, hm⟩ := hc
      rcases List.mem_cons.1 hq with rfl | hq
      · exact absurd hm hy
      · exact ⟨q, hq, hm⟩

/-- The rows the convolution runs over: the carried rows, then the point's own. -/
def padded (x0 : Vec Ideal S32x2048 .f32) (x1 : Vec Ideal S32x1024 .f32) (x4 : Vec Ideal S1x8x3072 .f32) : S40x3072.Idx → EReal := fun i =>
  if h : (i 0).val < 8 then x4 (ix3 (0 : Fin 1) (⟨(i 0).val, h⟩ : Fin 8) (i 1))
  else if h' : (i 1).val < 2048 then x0 (ix2 (⟨(i 0).val - 8, by have : (i 0).val < 40 := (i 0).isLt; omega⟩ : Fin 32) (⟨(i 1).val, h'⟩ : Fin 2048))
  else x1 (ix2 (⟨(i 0).val - 8, by have : (i 0).val < 40 := (i 0).isLt; omega⟩ : Fin 32) (⟨(i 1).val - 2048, by have : (i 1).val < 3072 := (i 1).isLt; omega⟩ : Fin 1024))

/-- The convolution, gated. -/
def act (x0 : Vec Ideal S32x2048 .f32) (x1 : Vec Ideal S32x1024 .f32) (x4 : Vec Ideal S1x8x3072 .f32) (x6 : Vec Ideal S8x3072 .f32) : S32x3072.Idx → EReal := fun i =>
  gated (x6 (ix2 (4 : Fin 8) (i 1)) + x6 (ix2 (3 : Fin 8) (i 1)) * padded x0 x1 x4 (ix2 (⟨(i 0).val + 8, by have : (i 0).val < 32 := (i 0).isLt; omega⟩ : Fin 40) (i 1))
    + x6 (ix2 (2 : Fin 8) (i 1)) * padded x0 x1 x4 (ix2 (⟨(i 0).val + 7, by have : (i 0).val < 32 := (i 0).isLt; omega⟩ : Fin 40) (i 1))
    + x6 (ix2 (1 : Fin 8) (i 1)) * padded x0 x1 x4 (ix2 (⟨(i 0).val + 6, by have : (i 0).val < 32 := (i 0).isLt; omega⟩ : Fin 40) (i 1))
    + x6 (ix2 (0 : Fin 8) (i 1)) * padded x0 x1 x4 (ix2 (⟨(i 0).val + 5, by have : (i 0).val < 32 := (i 0).isLt; omega⟩ : Fin 40) (i 1)))

/-- One of the two rows of head parameters. -/
def row7 (x7 : Vec Ideal S8x128 .f32) (k : Fin 8) : Vec Ideal S1x128 .f32 := fun i => x7 (ix2 k (i 1))

/-- The head a column belongs to. -/
def headOf (j : Fin 2048) : Fin 128 := ⟨j.val / 64, by omega⟩

/-- A row's weight and the old state's factor, by head. -/
def wt (x3 : Vec Ideal S32x128 .f32) (x7 : Vec Ideal S8x128 .f32) (r : Fin 32) (h : Fin 128) : EReal :=
  Ideal.exp (running (decay x3 (row7 x7 0) (row7 x7 1) h) 31 - running (decay x3 (row7 x7 0) (row7 x7 1) h) r) * step (x3 (ix2 r h) + x7 (ix2 (0 : Fin 8) h))
def kept (x3 : Vec Ideal S32x128 .f32) (x7 : Vec Ideal S8x128 .f32) (h : Fin 128) : EReal :=
  Ideal.exp (running (decay x3 (row7 x7 0) (row7 x7 1) h) 31)

/-- The block's new state. -/
def newState (x0 : Vec Ideal S32x2048 .f32) (x1 : Vec Ideal S32x1024 .f32) (x3 : Vec Ideal S32x128 .f32) (x4 : Vec Ideal S1x8x3072 .f32)
    (x5 : Vec Ideal S1x2048x128 .f32) (x6 : Vec Ideal S8x3072 .f32) (x7 : Vec Ideal S8x128 .f32) (j : Fin 2048) (n : Fin 128) : EReal :=
  x5 (ix3 (0 : Fin 1) j n) * kept x3 x7 (headOf j)
    + ∑ r : Fin 32, act x0 x1 x4 x6 (ix2 r (⟨2048 + 128 * (j.val / 512) + n.val, by omega⟩ : Fin 3072))
        * (act x0 x1 x4 x6 (ix2 r (⟨j.val, by omega⟩ : Fin 3072)) * wt x3 x7 r (headOf j))

section

variable {c : Dev nD} {i : grid0.Coords} {arg2 : Memref sig .tc .vmem S32x2048 .f32} {harg2 : arg2.IsWhole} {arg3 : Memref sig .tc .vmem S32x1024 .f32} {harg3 : arg3.IsWhole} {arg4 : Memref sig .tc .vmem S32x2048 .f32} {harg4 : arg4.IsWhole} {arg5 : Memref sig .tc .vmem S32x128 .f32} {harg5 : arg5.IsWhole} {arg6 : Memref sig .tc .vmem S1x8x3072 .f32} {harg6 : arg6.IsWhole} {arg7 : Memref sig .tc .vmem S1x2048x128 .f32} {harg7 : arg7.IsWhole} {arg8 : Memref sig .tc .vmem S8x3072 .f32} {harg8 : arg8.IsWhole} {arg9 : Memref sig .tc .vmem S8x128 .f32} {harg9 : arg9.IsWhole} {arg10 : Memref sig .tc .vmem S1x2048 .f32} {harg10 : arg10.IsWhole} {arg11 : Memref sig .tc .vmem S1x2048 .f32} {harg11 : arg11.IsWhole} {arg12 : Memref sig .tc .vmem S384x2048 .bf16} {harg12 : arg12.IsWhole} {arg13 : Memref sig .tc .vmem S32x2048 .bf16} {harg13 : arg13.IsWhole} {arg14 : Memref sig .tc .vmem S1x2048x128 .f32} {harg14 : arg14.IsWhole} {arg15 : Memref sig .tc .vmem S40x3072 .f32} {harg15 : arg15.IsWhole} {arg16 : Memref sig .tc .vmem S32x3072 .f32} {harg16 : arg16.IsWhole} {arg17 : Memref sig .tc .vmem S4x128x512 .f32} {harg17 : arg17.IsWhole} {arg18 : Memref sig .tc .vmem S1x32x2048 .f32} {harg18 : arg18.IsWhole} {arg19 : Memref sig .tc .vmem S1x72x2048 .f32} {harg19 : arg19.IsWhole} {hc0 : cond0_0 i} {hc1 : cond0_1 i} {x0 : Vec Ideal S32x2048 .f32} {x1 : Vec Ideal S32x1024 .f32} {x2 : Vec Ideal S32x2048 .f32} {x3 : Vec Ideal S32x128 .f32} {x4 : Vec Ideal S1x8x3072 .f32} {x5 : Vec Ideal S1x2048x128 .f32} {x6 : Vec Ideal S8x3072 .f32} {x7 : Vec Ideal S8x128 .f32} {x8 : Vec Ideal S1x2048 .f32} {x9 : Vec Ideal S1x2048 .f32} {x10 : Vec Ideal S384x2048 .bf16}

theorem unit2 {a b a' b' o o' : ℕ} (h) (x : (⟨2, ![a', b']⟩ : Shape).Idx) (hp : o + (x 0).val < a) (hq : o' + (x 1).val < b) :
    (Rect.unit (s := ⟨2, ![a, b]⟩) ![o, o'] ![a', b'] h).emb x = ix2 (⟨o + (x 0).val, hp⟩ : Fin a) (⟨o' + (x 1).val, hq⟩ : Fin b) := by
  funext z
  refine Fin.ext ?_
  match z with
  | ⟨0, _⟩ => show o + 1 * (x 0).val = o + (x 0).val; omega
  | ⟨1, _⟩ => show o' + 1 * (x 1).val = o' + (x 1).val; omega

theorem unit3 {a b d a' b' d' o o' o'' : ℕ} (h) (x : (⟨3, ![a', b', d']⟩ : Shape).Idx) (hp : o + (x 0).val < a) (hq : o' + (x 1).val < b) (hs : o'' + (x 2).val < d) :
    (Rect.unit (s := ⟨3, ![a, b, d]⟩) ![o, o', o''] ![a', b', d'] h).emb x = ix3 (⟨o + (x 0).val, hp⟩ : Fin a) (⟨o' + (x 1).val, hq⟩ : Fin b) (⟨o'' + (x 2).val, hs⟩ : Fin d) := by
  funext z
  refine Fin.ext ?_
  match z with
  | ⟨0, _⟩ => show o + 1 * (x 0).val = o + (x 0).val; omega
  | ⟨1, _⟩ => show o' + 1 * (x 1).val = o' + (x 1).val; omega
  | ⟨2, _⟩ => show o'' + 1 * (x 2).val = o'' + (x 2).val; omega

theorem mem2 {a b a' b' o o' : ℕ} (h) (y : (⟨2, ![a, b]⟩ : Shape).Idx) (h0 : o ≤ (y 0).val ∧ (y 0).val < o + a') (h1 : o' ≤ (y 1).val ∧ (y 1).val < o' + b') :
    y ∈ (Rect.unit (s := ⟨2, ![a, b]⟩) ![o, o'] ![a', b'] h).set := by
  rw [Rect.mem_set_unit]
  intro z
  match z with
  | ⟨0, _⟩ => exact h0
  | ⟨1, _⟩ => exact h1

theorem mem3 {a b d a' b' d' o o' o'' : ℕ} (h) (y : (⟨3, ![a, b, d]⟩ : Shape).Idx) (h0 : o ≤ (y 0).val ∧ (y 0).val < o + a') (h1 : o' ≤ (y 1).val ∧ (y 1).val < o' + b')
    (h2 : o'' ≤ (y 2).val ∧ (y 2).val < o'' + d') :
    y ∈ (Rect.unit (s := ⟨3, ![a, b, d]⟩) ![o, o', o''] ![a', b', d'] h).set := by
  rw [Rect.mem_set_unit]
  intro z
  match z with
  | ⟨0, _⟩ => exact h0
  | ⟨1, _⟩ => exact h1
  | ⟨2, _⟩ => exact h2

theorem padded_all (y : S40x3072.Idx) : View.canon (kernelRun0_A.sl.HS0_3 (F := Ideal) c arg2 harg2 arg3 harg3 arg6 harg6 x0 x1 x4) y = padded x0 x1 x4 y := by
  refine canon_of _ _ ?_ y ?_
  · unfold kernelRun0_A.sl.HS0_3
    refine List.forall_mem_cons.2 ⟨?_, List.forall_mem_cons.2 ⟨?_, List.forall_mem_cons.2 ⟨?_, fun p hp => absurd hp List.not_mem_nil⟩⟩⟩
    · intro x
      have h0 : (x 0).val < 32 := (x 0).isLt
      have h1 : (x 1).val < 1024 := (x 1).isLt
      dsimp only
      unfold k0_pay12
      rw [shapeCast_self, harg3.readAt_unread]
      refine Eq.trans ?_ (congrArg (padded x0 x1 x4) (unit2 (a := 40) (b := 3072) (a' := 32) (b' := 1024) inb_S40x3072_S32x1024_8_2048 x (by omega) (by omega)).symm)
      unfold padded
      rw [dif_neg (show ¬ 8 + (x 0).val < 8 by omega), dif_neg (show ¬ 2048 + (x 1).val < 2048 by omega)]
      refine congrArg x1 (funext fun z => Fin.ext ?_)
      match z with
      | ⟨0, _⟩ => show 0 + 1 * (x 0).val = 8 + (x 0).val - 8; omega
      | ⟨1, _⟩ => show 0 + 1 * (x 1).val = 2048 + (x 1).val - 2048; omega
    · intro x
      have h0 : (x 0).val < 32 := (x 0).isLt
      have h1 : (x 1).val < 2048 := (x 1).isLt
      dsimp only
      unfold k0_pay11
      rw [shapeCast_self, harg2.readAt_unread]
      refine Eq.trans ?_ (congrArg (padded x0 x1 x4) (unit2 (a := 40) (b := 3072) (a' := 32) (b' := 2048) inb_S40x3072_S32x2048_8_0 x (by omega) (by omega)).symm)
      unfold padded
      rw [dif_neg (show ¬ 8 + (x 0).val < 8 by omega), dif_pos (show 0 + (x 1).val < 2048 by omega)]
      refine congrArg x0 (funext fun z => Fin.ext ?_)
      match z with
      | ⟨0, _⟩ => show 0 + 1 * (x 0).val = 8 + (x 0).val - 8; omega
      | ⟨1, _⟩ => show 0 + 1 * (x 1).val = 0 + (x 1).val; omega
    · intro x
      have h0 : (x 0).val < 8 := (x 0).isLt
      have h1 : (x 1).val < 3072 := (x 1).isLt
      dsimp only
      unfold kernelRun0_A.sl.v1096 kernelRun0_A.sl.v1093
      rw [shapeCast_self]
      obtain ⟨r, cc, rfl⟩ : ∃ (r : Fin 8) (cc : Fin 3072), x = ix2 r cc := ⟨x 0, x 1, eq_ix2 x⟩
      refine (shapeCast_1ab_ab_apply _ _ r cc).trans ?_
      rw [harg6.readAt_unread]
      refine Eq.trans ?_ (congrArg (padded x0 x1 x4) (unit2 (a := 40) (b := 3072) (a' := 8) (b' := 3072) _ (ix2 r cc) (by show 0 + r.val < 40; omega) (by show 0 + cc.val < 3072; omega)).symm)
      unfold padded
      rw [dif_pos (show 0 + r.val < 8 by omega)]
      refine congrArg x4 (funext fun z => Fin.ext ?_)
      match z with
      | ⟨0, _⟩ => rfl
      | ⟨1, _⟩ => show 0 + 1 * r.val = 0 + r.val; omega
      | ⟨2, _⟩ => show 0 + 1 * cc.val = 0 + cc.val; omega
  · have h0 : (y 0).val < 40 := (y 0).isLt
    have h1 : (y 1).val < 3072 := (y 1).isLt
    unfold kernelRun0_A.sl.HS0_3
    by_cases hr : (y 0).val < 8
    · exact ⟨_, List.mem_cons_of_mem _ (List.mem_cons_of_mem _ List.mem_cons_self), mem2 inb_S40x3072_S8x3072_0_0 y ⟨by omega, by omega⟩ ⟨by omega, by omega⟩⟩
    · by_cases hc : (y 1).val < 2048
      · exact ⟨_, List.mem_cons_of_mem _ List.mem_cons_self, mem2 inb_S40x3072_S32x2048_8_0 y ⟨by omega, by omega⟩ ⟨by omega, by omega⟩⟩
      · exact ⟨_, List.mem_cons_self, mem2 inb_S40x3072_S32x1024_8_2048 y ⟨by omega, by omega⟩ ⟨by omega, by omega⟩⟩

/-- A column block of the padded rows, as read. -/
theorem block_read (k : ℕ) (hk : k + 512 ≤ 3072) (h) (r : Fin 40) (cc : Fin 512) :
    arg15.view.readCov (kernelRun0_A.sl.HS0_3 (F := Ideal) c arg2 harg2 arg3 harg3 arg6 harg6 x0 x1 x4) (Rect.unit (s := S40x3072) ![0, k] S40x512.size h).toLoadRect (ix2 r cc)
      = padded x0 x1 x4 (ix2 r (⟨k + cc.val, by omega⟩ : Fin 3072)) := by
  rw [View.readCov_eq_canon']
  refine (padded_all _).trans (congrArg _ (funext fun z => Fin.ext ?_))
  match z with
  | ⟨0, _⟩ => show 0 + 1 * r.val = r.val; omega
  | ⟨1, _⟩ => show k + 1 * cc.val = k + cc.val; omega

theorem tap_read (k : ℕ) (t : ℕ) (ht : t < 8) (hk : k + 512 ≤ 3072) (h) (cc : Fin 512) :
    View.readAt (Elt Ideal) arg8.view (Rect.unit (s := S8x3072) ![t, k] S1x512.size h).toLoadRect (harg8.unread x6) (ix2 (0 : Fin 1) cc)
      = x6 (ix2 (⟨t, ht⟩ : Fin 8) (⟨k + cc.val, by omega⟩ : Fin 3072)) := by
  rw [harg8.readAt_unread]
  refine congrArg x6 (funext fun z => Fin.ext ?_)
  match z with
  | ⟨0, _⟩ => rfl
  | ⟨1, _⟩ => show k + 1 * cc.val = k + cc.val; omega

/-- One column block of the gated convolution. -/
theorem act_block (k : ℕ) (hk : k + 512 ≤ 3072) (hv) (h4) (h3) (h2) (h1) (h0) (x : S32x512.Idx) (hx) :
    conv1 (arg15.view.readCov (kernelRun0_A.sl.HS0_3 (F := Ideal) c arg2 harg2 arg3 harg3 arg6 harg6 x0 x1 x4) (Rect.unit (s := S40x3072) ![0, k] S40x512.size hv).toLoadRect)
      (View.readAt (Elt Ideal) arg8.view (Rect.unit (s := S8x3072) ![4, k] S1x512.size h4).toLoadRect (harg8.unread x6))
      (View.readAt (Elt Ideal) arg8.view (Rect.unit (s := S8x3072) ![3, k] S1x512.size h3).toLoadRect (harg8.unread x6))
      (View.readAt (Elt Ideal) arg8.view (Rect.unit (s := S8x3072) ![2, k] S1x512.size h2).toLoadRect (harg8.unread x6))
      (View.readAt (Elt Ideal) arg8.view (Rect.unit (s := S8x3072) ![1, k] S1x512.size h1).toLoadRect (harg8.unread x6))
      (View.readAt (Elt Ideal) arg8.view (Rect.unit (s := S8x3072) ![0, k] S1x512.size h0).toLoadRect (harg8.unread x6)) x
      = act x0 x1 x4 x6 ((Rect.unit (s := S32x3072) ![0, k] S32x512.size hx).emb x) := by
  obtain ⟨r, cc, rfl⟩ : ∃ (r : Fin 32) (cc : Fin 512), x = ix2 r cc := ⟨x 0, x 1, eq_ix2 x⟩
  rw [conv1_apply]
  simp only [block_read k hk, tap_read k 4 (by omega) hk, tap_read k 3 (by omega) hk, tap_read k 2 (by omega) hk, tap_read k 1 (by omega) hk, tap_read k 0 (by omega) hk]
  refine Eq.trans ?_ (congrArg (act x0 x1 x4 x6) (show (ix2 r (⟨k + cc.val, by omega⟩ : Fin 3072) : S32x3072.Idx) = _ from funext fun z => Fin.ext (by
    match z with
    | ⟨0, _⟩ => show r.val = 0 + 1 * r.val; omega
    | ⟨1, _⟩ => show k + cc.val = k + 1 * cc.val; omega)))
  rfl

theorem act_all (y : S32x3072.Idx) : View.canon (kernelRun0_A.sl.HS1_6 (F := Ideal) c arg2 harg2 arg3 harg3 arg6 harg6 arg8 harg8 arg15 x0 x1 x4 x6) y = act x0 x1 x4 x6 y := by
  refine canon_of _ _ ?_ y ?_
  · unfold kernelRun0_A.sl.HS1_6
    refine List.forall_mem_cons.2 ⟨?_, List.forall_mem_cons.2 ⟨?_, List.forall_mem_cons.2 ⟨?_, List.forall_mem_cons.2 ⟨?_, List.forall_mem_cons.2 ⟨?_, List.forall_mem_cons.2 ⟨?_, fun p hp => absurd hp List.not_mem_nil⟩⟩⟩⟩⟩⟩
    · exact fun x => act_block 2560 (by omega) inb_S40x3072_S40x512_0_2560 inb_S8x3072_S1x512_4_2560 inb_S8x3072_S1x512_3_2560 inb_S8x3072_S1x512_2_2560 inb_S8x3072_S1x512_1_2560 inb_S8x3072_S1x512_0_2560 x inb_S32x3072_S32x512_0_2560
    · exact fun x => act_block 2048 (by omega) inb_S40x3072_S40x512_0_2048 inb_S8x3072_S1x512_4_2048 inb_S8x3072_S1x512_3_2048 inb_S8x3072_S1x512_2_2048 inb_S8x3072_S1x512_1_2048 inb_S8x3072_S1x512_0_2048 x inb_S32x3072_S32x512_0_2048
    · exact fun x => act_block 1536 (by omega) inb_S40x3072_S40x512_0_1536 inb_S8x3072_S1x512_4_1536 inb_S8x3072_S1x512_3_1536 inb_S8x3072_S1x512_2_1536 inb_S8x3072_S1x512_1_1536 inb_S8x3072_S1x512_0_1536 x inb_S32x3072_S32x512_0_1536
    · exact fun x => act_block 1024 (by omega) inb_S40x3072_S40x512_0_1024 inb_S8x3072_S1x512_4_1024 inb_S8x3072_S1x512_3_1024 inb_S8x3072_S1x512_2_1024 inb_S8x3072_S1x512_1_1024 inb_S8x3072_S1x512_0_1024 x inb_S32x3072_S32x512_0_1024
    · exact fun x => act_block 512 (by omega) inb_S40x3072_S40x512_0_512 inb_S8x3072_S1x512_4_512 inb_S8x3072_S1x512_3_512 inb_S8x3072_S1x512_2_512 inb_S8x3072_S1x512_1_512 inb_S8x3072_S1x512_0_512 x inb_S32x3072_S32x512_0_512
    · exact fun x => act_block 0 (by omega) inb_S40x3072_S40x512_0_0 inb_S8x3072_S1x512_4_0 inb_S8x3072_S1x512_3_0 inb_S8x3072_S1x512_2_0 inb_S8x3072_S1x512_1_0 inb_S8x3072_S1x512_0_0 x inb_S32x3072_S32x512_0_0
  · have h0 : (y 0).val < 32 := (y 0).isLt
    have h1 : (y 1).val < 3072 := (y 1).isLt
    unfold kernelRun0_A.sl.HS1_6
    by_cases c5 : 2560 ≤ (y 1).val
    · exact ⟨_, List.mem_cons_self, mem2 inb_S32x3072_S32x512_0_2560 y ⟨by omega, by omega⟩ ⟨by omega, by omega⟩⟩
    by_cases c4 : 2048 ≤ (y 1).val
    · exact ⟨_, List.mem_cons_of_mem _ List.mem_cons_self, mem2 inb_S32x3072_S32x512_0_2048 y ⟨by omega, by omega⟩ ⟨by omega, by omega⟩⟩
    by_cases c3 : 1536 ≤ (y 1).val
    · exact ⟨_, List.mem_cons_of_mem _ (List.mem_cons_of_mem _ List.mem_cons_self), mem2 inb_S32x3072_S32x512_0_1536 y ⟨by omega, by omega⟩ ⟨by omega, by omega⟩⟩
    by_cases c2 : 1024 ≤ (y 1).val
    · exact ⟨_, List.mem_cons_of_mem _ (List.mem_cons_of_mem _ (List.mem_cons_of_mem _ List.mem_cons_self)), mem2 inb_S32x3072_S32x512_0_1024 y ⟨by omega, by omega⟩ ⟨by omega, by omega⟩⟩
    by_cases c1 : 512 ≤ (y 1).val
    · exact ⟨_, List.mem_cons_of_mem _ (List.mem_cons_of_mem _ (List.mem_cons_of_mem _ (List.mem_cons_of_mem _ List.mem_cons_self))), mem2 inb_S32x3072_S32x512_0_512 y ⟨by omega, by omega⟩ ⟨by omega, by omega⟩⟩
    · exact ⟨_, List.mem_cons_of_mem _ (List.mem_cons_of_mem _ (List.mem_cons_of_mem _ (List.mem_cons_of_mem _ (List.mem_cons_of_mem _ List.mem_cons_self)))), mem2 inb_S32x3072_S32x512_0_0 y ⟨by omega, by omega⟩ ⟨by omega, by omega⟩⟩

theorem act_read (k w : ℕ) (hk : k + w ≤ 3072) (h) (r : Fin 32) (cc : Fin w) :
    arg16.view.readCov (kernelRun0_A.sl.HS1_6 (F := Ideal) c arg2 harg2 arg3 harg3 arg6 harg6 arg8 harg8 arg15 x0 x1 x4 x6) (Rect.unit (s := S32x3072) ![0, k] ![32, w] h).toLoadRect (ix2 r cc)
      = act x0 x1 x4 x6 (ix2 r (⟨k + cc.val, by omega⟩ : Fin 3072)) := by
  rw [View.readCov_eq_canon']
  refine (act_all _).trans (congrArg _ (funext fun z => Fin.ext ?_))
  match z with
  | ⟨0, _⟩ => show 0 + 1 * r.val = r.val; omega
  | ⟨1, _⟩ => show k + 1 * cc.val = k + cc.val; omega

theorem row_read (k : ℕ) (hk : k < 8) (h) :
    View.readAt (Elt Ideal) arg9.view (Rect.unit (s := S8x128) ![k, 0] S1x128.size h).toLoadRect (harg9.unread x7) = row7 x7 ⟨k, hk⟩ := by
  funext x
  rw [harg9.readAt_unread]
  refine congrArg x7 (funext fun z => Fin.ext ?_)
  match z with
  | ⟨0, _⟩ => show k + 1 * (x 0).val = k; have : (x 0).val < 1 := (x 0).isLt; omega
  | ⟨1, _⟩ => show 0 + 1 * (x 1).val = (x 1).val; omega

theorem whole5 (h) : View.readAt (Elt Ideal) arg5.view (Rect.unit (s := S32x128) ![0, 0] S32x128.size h).toLoadRect (harg5.unread x3) = x3 := by
  funext x
  rw [harg5.readAt_unread]
  refine congrArg x3 (funext fun z => Fin.ext ?_)
  match z with
  | ⟨0, _⟩ => show 0 + 1 * (x 0).val = (x 0).val; omega
  | ⟨1, _⟩ => show 0 + 1 * (x 1).val = (x 1).val; omega

theorem whole12 (h) : View.readAt (Elt Ideal) arg12.view (Rect.unit (s := S384x2048) ![0, 0] S384x2048.size h).toLoadRect (harg12.unread x10) = x10 := by
  funext x
  rw [harg12.readAt_unread]
  refine congrArg x10 (funext fun z => Fin.ext ?_)
  match z with
  | ⟨0, _⟩ => show 0 + 1 * (x 0).val = (x 0).val; omega
  | ⟨1, _⟩ => show 0 + 1 * (x 1).val = (x 1).val; omega

theorem r16_apply (r : Fin 32) (h : Fin 128) : kernelRun0_A.sl.r_16 (F := Ideal) c arg5 harg5 arg9 harg9 x3 x7 (ix2 r h) = wt x3 x7 r h := by
  unfold kernelRun0_A.sl.r_16
  rw [whole5, row_read 0 (by omega), row_read 1 (by omega), weight_apply]
  rfl

theorem r17_apply (h : Fin 128) : kernelRun0_A.sl.r_17 (F := Ideal) c arg5 harg5 arg9 harg9 x3 x7 (ix2 (0 : Fin 1) h) = kept x3 x7 h := by
  unfold kernelRun0_A.sl.r_17
  rw [whole5, row_read 0 (by omega), row_read 1 (by omega), kept_apply]
  rfl

theorem wt_ne_top (x3 : Vec Ideal S32x128 .f32) (x7 : Vec Ideal S8x128 .f32) (r : Fin 32) (h : Fin 128) (hal : x7 (ix2 (1 : Fin 8) h) ≠ (⊥ : EReal)) : wt x3 x7 r h ≠ ⊤ := by
  refine weight_ne_top (decay_le x3 _ _ h) _ (step_nonneg _) r fun hd => ?_
  show step (x3 (ix2 r h) + x7 (ix2 (0 : Fin 8) h)) * -Ideal.exp (x7 (ix2 (1 : Fin 8) h)) = ⊥
  rw [hd]
  exact decay_top _ hal

theorem kept_ne_top (x3 : Vec Ideal S32x128 .f32) (x7 : Vec Ideal S8x128 .f32) (h : Fin 128) : kept x3 x7 h ≠ ⊤ :=
  exp_last_ne_top (decay_le x3 _ _ h)

theorem spread_all (y : S1x72x2048.Idx) : View.canon (kernelRun0_A.sl.HS4_1 (F := Ideal) c arg5 harg5 arg9 harg9 arg12 harg12 x3 x7 x10) y
    = k0_pay42 (kernelRun0_A.sl.r_15 (F := Ideal) c arg5 harg5 arg9 harg9 x3 x7) (kernelRun0_A.sl.r_16 (F := Ideal) c arg5 harg5 arg9 harg9 x3 x7) (kernelRun0_A.sl.r_17 (F := Ideal) c arg5 harg5 arg9 harg9 x3 x7) x10 y := by
  refine canon_of _ _ ?_ y ?_
  · unfold kernelRun0_A.sl.HS4_1
    refine List.forall_mem_cons.2 ⟨?_, fun p hp => absurd hp List.not_mem_nil⟩
    intro x
    dsimp only
    rw [whole12]
    refine congrArg _ (funext fun z => Fin.ext ?_)
    match z with
    | ⟨0, _⟩ => show (x 0).val = 0 + 1 * (x 0).val; omega
    | ⟨1, _⟩ => show (x 1).val = 0 + 1 * (x 1).val; omega
    | ⟨2, _⟩ => show (x 2).val = 0 + 1 * (x 2).val; omega
  · have h0 : (y 0).val < 1 := (y 0).isLt
    have h1 : (y 1).val < 72 := (y 1).isLt
    have h2 : (y 2).val < 2048 := (y 2).isLt
    unfold kernelRun0_A.sl.HS4_1
    exact ⟨_, List.mem_cons_self, mem3 inb_S1x72x2048_S1x72x2048_0_0_0 y ⟨by omega, by omega⟩ ⟨by omega, by omega⟩ ⟨by omega, by omega⟩⟩

/-- What the spreading matrix holds: a one where the row's head is the column's. -/
def Spreads (x10 : Vec Ideal S384x2048 .bf16) : Prop :=
  ∀ (j : Fin 2048) (k : Fin 3) (h : Fin 128), x10 (ix2 (⟨128 * k.val + h.val, by omega⟩ : Fin 384) j) = if h = headOf j then (1 : EReal) else 0

theorem wt_read (hX : Spreads x10) (k : ℕ) (hk : k + 512 ≤ 2048) (h) (r : Fin 32) (cc : Fin 512) (hal : ∀ h : Fin 128, h.val < 32 → x7 (ix2 (1 : Fin 8) h) ≠ (⊥ : EReal)) :
    arg19.view.readCov (kernelRun0_A.sl.HS4_1 (F := Ideal) c arg5 harg5 arg9 harg9 arg12 harg12 x3 x7 x10) (Rect.unit (s := S1x72x2048) ![0, 32, k] S1x32x512.size h).toLoadRect (ix3 (0 : Fin 1) r cc)
      = wt x3 x7 r (headOf ⟨k + cc.val, by omega⟩) := by
  rw [View.readCov_eq_canon']
  refine (spread_all _).trans ((congrArg _ (show _ = (ix3 (0 : Fin 1) (⟨32 + r.val, by omega⟩ : Fin 72) (⟨k + cc.val, by omega⟩ : Fin 2048) : S1x72x2048.Idx) from funext fun z => Fin.ext ?_)).trans
    ((spread_weight _ _ _ x10 _ (headOf ⟨k + cc.val, by omega⟩) (hX _) r ?_).trans (r16_apply _ _)))
  · match z with
    | ⟨0, _⟩ => rfl
    | ⟨1, _⟩ => show 32 + 1 * r.val = 32 + r.val; omega
    | ⟨2, _⟩ => show k + 1 * cc.val = k + cc.val; omega
  · rw [r16_apply]; exact wt_ne_top _ _ _ _ (hal _ (by show (k + cc.val) / 64 < 32; omega))

theorem kept_read (hX : Spreads x10) (k : ℕ) (hk : k + 512 ≤ 2048) (h) (cc : Fin 512) :
    arg19.view.readCov (kernelRun0_A.sl.HS4_1 (F := Ideal) c arg5 harg5 arg9 harg9 arg12 harg12 x3 x7 x10) (Rect.unit (s := S1x72x2048) ![0, 64, k] S1x1x512.size h).toLoadRect (ix3 (0 : Fin 1) (0 : Fin 1) cc)
      = kept x3 x7 (headOf ⟨k + cc.val, by omega⟩) := by
  rw [View.readCov_eq_canon']
  refine (spread_all _).trans ((congrArg _ (show _ = (ix3 (0 : Fin 1) (64 : Fin 72) (⟨k + cc.val, by omega⟩ : Fin 2048) : S1x72x2048.Idx) from funext fun z => Fin.ext ?_)).trans
    ((spread_kept _ _ _ x10 _ (headOf ⟨k + cc.val, by omega⟩) (hX _) ?_).trans (r17_apply _)))
  · match z with
    | ⟨0, _⟩ => rfl
    | ⟨1, _⟩ => rfl
    | ⟨2, _⟩ => show k + 1 * cc.val = k + cc.val; omega
  · rw [r17_apply]; exact kept_ne_top _ _ _

/-- A group's slot, hit and passed over. -/
theorem slot_hit (k : ℕ) (hk : k < 4) (h) (w) (L : List (View.Piece (Elt Ideal) S4x128x512 .f32)) (n : Fin 128) (cc : Fin 512) :
    View.canon ((⟨Rect.unit (s := S4x128x512) ![k, 0, 0] S1x128x512.size h, w⟩ : View.Piece (Elt Ideal) S4x128x512 .f32) :: L) (ix3 (⟨k, hk⟩ : Fin 4) n cc) = w (ix3 (0 : Fin 1) n cc) := by
  refine (congrArg _ (show (ix3 (⟨k, hk⟩ : Fin 4) n cc : S4x128x512.Idx) = (Rect.unit (s := S4x128x512) ![k, 0, 0] S1x128x512.size h).emb (ix3 (0 : Fin 1) n cc) from funext fun z => Fin.ext ?_)).trans
    (View.canon_cons_emb _ w L _)
  match z with
  | ⟨0, _⟩ => rfl
  | ⟨1, _⟩ => show n.val = 0 + 1 * n.val; omega
  | ⟨2, _⟩ => show cc.val = 0 + 1 * cc.val; omega

theorem slot_pass (k g : ℕ) (hg : g < 4) (hne : g ≠ k) (h) (w) (L : List (View.Piece (Elt Ideal) S4x128x512 .f32)) (n : Fin 128) (cc : Fin 512) :
    View.canon ((⟨Rect.unit (s := S4x128x512) ![k, 0, 0] S1x128x512.size h, w⟩ : View.Piece (Elt Ideal) S4x128x512 .f32) :: L) (ix3 (⟨g, hg⟩ : Fin 4) n cc) = View.canon L (ix3 (⟨g, hg⟩ : Fin 4) n cc) := by
  refine View.canon_cons_of_not_mem _ L fun hm => ?_
  have h1 : (ix3 (⟨g, hg⟩ : Fin 4) n cc : S4x128x512.Idx) ∈ (Rect.unit (s := S4x128x512) ![k, 0, 0] S1x128x512.size h).set := hm
  rw [Rect.mem_set_unit] at h1
  have h0 : k ≤ g ∧ g < k + 1 := h1 (0 : Fin 3)
  omega

theorem slot_read (L : List (View.Piece (Elt Ideal) S4x128x512 .f32)) (k : ℕ) (hk : k < 4) (h) (n : Fin 128) (cc : Fin 512) :
    arg17.view.readCov L (Rect.unit (s := S4x128x512) ![k, 0, 0] ![1, 128, 512] h).toLoadRect (ix3 (0 : Fin 1) n cc) = View.canon L (ix3 (⟨k, hk⟩ : Fin 4) n cc) := by
  rw [View.readCov_eq_canon']
  refine congrArg _ (funext fun z => Fin.ext ?_)
  match z with
  | ⟨0, _⟩ => rfl
  | ⟨1, _⟩ => show 0 + 1 * n.val = n.val; omega
  | ⟨2, _⟩ => show 0 + 1 * cc.val = cc.val; omega

theorem state_block (k : ℕ) (hk : k + 512 ≤ 2048) (h) (h') (n : Fin 128) (cc : Fin 512) :
    transpose S128x512 [1, 0] (shapeCast S512x128 (View.readAt (Elt Ideal) arg7.view (Rect.unit (s := S1x2048x128) ![0, k, 0] S1x512x128.size h).toLoadRect (harg7.unread x5)) shapeCasts_S1x512x128_S512x128) h' (ix2 n cc)
      = x5 (ix3 (0 : Fin 1) (⟨k + cc.val, by omega⟩ : Fin 2048) n) := by
  refine (transpose_ix2_apply _ _ n cc).trans ((shapeCast_1ab_ab_apply _ _ cc n).trans ?_)
  rw [harg7.readAt_unread]
  refine congrArg x5 (funext fun z => Fin.ext ?_)
  match z with
  | ⟨0, _⟩ => rfl
  | ⟨1, _⟩ => show k + 1 * cc.val = k + cc.val; omega
  | ⟨2, _⟩ => show 0 + 1 * n.val = n.val; omega

theorem old_apply (g : ℕ) (hg : g < 4) (n : Fin 128) (cc : Fin 512) :
    View.canon (kernelRun0_A.sl.HS2_4 (F := Ideal) c arg7 harg7 x5) (ix3 (⟨g, hg⟩ : Fin 4) n cc) = x5 (ix3 (0 : Fin 1) (⟨512 * g + cc.val, by omega⟩ : Fin 2048) n) := by
  unfold kernelRun0_A.sl.HS2_4
  rcases (by omega : g = 0 ∨ g = 1 ∨ g = 2 ∨ g = 3) with rfl | rfl | rfl | rfl
  · refine (slot_pass 3 0 _ (by omega) _ _ _ n cc).trans ((slot_pass 2 0 _ (by omega) _ _ _ n cc).trans ((slot_pass 1 0 _ (by omega) _ _ _ n cc).trans ((slot_hit 0 _ _ _ _ n cc).trans ?_)))
    unfold kernelRun0_A.sl.v1102 kernelRun0_A.sl.v1099 kernelRun0_A.sl.v1098
    exact (shapeCast_ab_1ab_apply _ _ _ _ _).trans (state_block 0 (by omega) _ _ n cc)
  · refine (slot_pass 3 1 _ (by omega) _ _ _ n cc).trans ((slot_pass 2 1 _ (by omega) _ _ _ n cc).trans ((slot_hit 1 _ _ _ _ n cc).trans ?_))
    unfold kernelRun0_A.sl.v1108 kernelRun0_A.sl.v1105 kernelRun0_A.sl.v1104
    exact (shapeCast_ab_1ab_apply _ _ _ _ _).trans (state_block 512 (by omega) _ _ n cc)
  · refine (slot_pass 3 2 _ (by omega) _ _ _ n cc).trans ((slot_hit 2 _ _ _ _ n cc).trans ?_)
    unfold kernelRun0_A.sl.v1114 kernelRun0_A.sl.v1111 kernelRun0_A.sl.v1110
    exact (shapeCast_ab_1ab_apply _ _ _ _ _).trans (state_block 1024 (by omega) _ _ n cc)
  · refine (slot_hit 3 _ _ _ _ n cc).trans ?_
    unfold k0_pay10 kernelRun0_A.sl.v1117 kernelRun0_A.sl.v1116
    exact (shapeCast_ab_1ab_apply _ _ _ _ _).trans (state_block 1536 (by omega) _ _ n cc)

/-- One group's update over its blocks, as the block's new state. -/
theorem group_apply (hX : Spreads x10) (hal : ∀ h : Fin 128, h.val < 32 → x7 (ix2 (1 : Fin 8) h) ≠ (⊥ : EReal)) (g : ℕ) (hg : g < 4) (kx kb : ℕ) (hkx : kx = 512 * g) (hkb : kb = 2048 + 128 * g)
    (hx : ∀ a, (![0, kx] : Fin 2 → Nat) a + S32x512.size a ≤ S32x3072.size a) (hb : ∀ a, (![0, kb] : Fin 2 → Nat) a + S32x128.size a ≤ S32x3072.size a)
    (hw : ∀ a, (![0, 32, kx] : Fin 3 → Nat) a + S1x32x512.size a ≤ S1x72x2048.size a) (hl : ∀ a, (![0, 64, kx] : Fin 3 → Nat) a + S1x1x512.size a ≤ S1x72x2048.size a)
    (st : Vec Ideal S1x128x512 .f32) (n : Fin 128) (cc : Fin 512) (hst : st (ix3 (0 : Fin 1) n cc) = x5 (ix3 (0 : Fin 1) (⟨512 * g + cc.val, by omega⟩ : Fin 2048) n)) :
    upd (arg16.view.readCov (kernelRun0_A.sl.HS1_6 (F := Ideal) c arg2 harg2 arg3 harg3 arg6 harg6 arg8 harg8 arg15 x0 x1 x4 x6) (Rect.unit (s := S32x3072) ![0, kx] S32x512.size hx).toLoadRect)
      (arg16.view.readCov (kernelRun0_A.sl.HS1_6 (F := Ideal) c arg2 harg2 arg3 harg3 arg6 harg6 arg8 harg8 arg15 x0 x1 x4 x6) (Rect.unit (s := S32x3072) ![0, kb] S32x128.size hb).toLoadRect) st
      (arg19.view.readCov (kernelRun0_A.sl.HS4_1 (F := Ideal) c arg5 harg5 arg9 harg9 arg12 harg12 x3 x7 x10) (Rect.unit (s := S1x72x2048) ![0, 32, kx] S1x32x512.size hw).toLoadRect)
      (arg19.view.readCov (kernelRun0_A.sl.HS4_1 (F := Ideal) c arg5 harg5 arg9 harg9 arg12 harg12 x3 x7 x10) (Rect.unit (s := S1x72x2048) ![0, 64, kx] S1x1x512.size hl).toLoadRect) (ix3 (0 : Fin 1) n cc)
      = newState x0 x1 x3 x4 x5 x6 x7 (⟨512 * g + cc.val, by omega⟩ : Fin 2048) n := by
  subst hkx hkb
  rw [upd_apply, hst, kept_read hX (512 * g) (by omega)]
  unfold newState
  refine congrArg (_ + ·) (Finset.sum_congr rfl fun r _ => ?_)
  rw [wt_read hX (512 * g) (by omega) _ r cc hal]
  refine congrArg₂ (· * ·) ((act_read (2048 + 128 * g) 128 (by omega) _ r n).trans (congrArg (fun z => act x0 x1 x4 x6 (ix2 r z)) (Fin.ext ?_)))
    (congrArg (· * _) (act_read (512 * g) 512 (by omega) _ r cc))
  show 2048 + 128 * g + n.val = 2048 + 128 * ((512 * g + cc.val) / 512) + n.val
  omega

theorem slot0 (hX : Spreads x10) (hal : ∀ h : Fin 128, h.val < 32 → x7 (ix2 (1 : Fin 8) h) ≠ (⊥ : EReal)) (n : Fin 128) (cc : Fin 512) :
    View.canon (kernelRun0_A.sl.HS2_5 (F := Ideal) c arg2 harg2 arg3 harg3 arg5 harg5 arg6 harg6 arg7 harg7 arg8 harg8 arg9 harg9 arg12 harg12 arg15 arg16 arg17 arg19 x0 x1 x3 x4 x5 x6 x7 x10) (ix3 (⟨0, by omega⟩ : Fin 4) n cc) = newState x0 x1 x3 x4 x5 x6 x7 (⟨512 * 0 + cc.val, by omega⟩ : Fin 2048) n := by
  unfold kernelRun0_A.sl.HS2_5
  refine (slot_hit 0 _ _ _ _ n cc).trans ?_
  refine group_apply hX hal 0 (by omega) 0 2048 (by omega) (by omega) inb_S32x3072_S32x512_0_0 inb_S32x3072_S32x128_0_2048 inb_S1x72x2048_S1x32x512_0_32_0 inb_S1x72x2048_S1x1x512_0_64_0
    (arg17.view.readCov (kernelRun0_A.sl.HS2_4 (F := Ideal) c arg7 harg7 x5) (Rect.unit (s := S4x128x512) ![0, 0, 0] S1x128x512.size inb_S4x128x512_S1x128x512_0_0_0).toLoadRect) n cc ?_
  refine (slot_read _ 0 (by omega) _ n cc).trans ?_
  exact old_apply 0 _ n cc

theorem slot1 (hX : Spreads x10) (hal : ∀ h : Fin 128, h.val < 32 → x7 (ix2 (1 : Fin 8) h) ≠ (⊥ : EReal)) (n : Fin 128) (cc : Fin 512) :
    View.canon (kernelRun0_A.sl.HS2_6 (F := Ideal) c arg2 harg2 arg3 harg3 arg5 harg5 arg6 harg6 arg7 harg7 arg8 harg8 arg9 harg9 arg12 harg12 arg15 arg16 arg17 arg19 x0 x1 x3 x4 x5 x6 x7 x10) (ix3 (⟨1, by omega⟩ : Fin 4) n cc) = newState x0 x1 x3 x4 x5 x6 x7 (⟨512 * 1 + cc.val, by omega⟩ : Fin 2048) n := by
  unfold kernelRun0_A.sl.HS2_6
  refine (slot_hit 1 _ _ _ _ n cc).trans ?_
  refine group_apply hX hal 1 (by omega) 512 2176 (by omega) (by omega) inb_S32x3072_S32x512_0_512 inb_S32x3072_S32x128_0_2176 inb_S1x72x2048_S1x32x512_0_32_512 inb_S1x72x2048_S1x1x512_0_64_512
    (arg17.view.readCov (kernelRun0_A.sl.HS2_5 (F := Ideal) c arg2 harg2 arg3 harg3 arg5 harg5 arg6 harg6 arg7 harg7 arg8 harg8 arg9 harg9 arg12 harg12 arg15 arg16 arg17 arg19 x0 x1 x3 x4 x5 x6 x7 x10) (Rect.unit (s := S4x128x512) ![1, 0, 0] S1x128x512.size inb_S4x128x512_S1x128x512_1_0_0).toLoadRect) n cc ?_
  refine (slot_read _ 1 (by omega) _ n cc).trans ?_
  unfold kernelRun0_A.sl.HS2_5
  refine (slot_pass 0 1 _ (by omega) _ _ _ n cc).trans ?_
  exact old_apply 1 _ n cc

theorem slot2 (hX : Spreads x10) (hal : ∀ h : Fin 128, h.val < 32 → x7 (ix2 (1 : Fin 8) h) ≠ (⊥ : EReal)) (n : Fin 128) (cc : Fin 512) :
    View.canon (kernelRun0_A.sl.HS2_7 (F := Ideal) c arg2 harg2 arg3 harg3 arg5 harg5 arg6 harg6 arg7 harg7 arg8 harg8 arg9 harg9 arg12 harg12 arg15 arg16 arg17 arg19 x0 x1 x3 x4 x5 x6 x7 x10) (ix3 (⟨2, by omega⟩ : Fin 4) n cc) = newState x0 x1 x3 x4 x5 x6 x7 (⟨512 * 2 + cc.val, by omega⟩ : Fin 2048) n := by
  unfold kernelRun0_A.sl.HS2_7
  refine (slot_hit 2 _ _ _ _ n cc).trans ?_
  refine group_apply hX hal 2 (by omega) 1024 2304 (by omega) (by omega) inb_S32x3072_S32x512_0_1024 inb_S32x3072_S32x128_0_2304 inb_S1x72x2048_S1x32x512_0_32_1024 inb_S1x72x2048_S1x1x512_0_64_1024
    (arg17.view.readCov (kernelRun0_A.sl.HS2_6 (F := Ideal) c arg2 harg2 arg3 harg3 arg5 harg5 arg6 harg6 arg7 harg7 arg8 harg8 arg9 harg9 arg12 harg12 arg15 arg16 arg17 arg19 x0 x1 x3 x4 x5 x6 x7 x10) (Rect.unit (s := S4x128x512) ![2, 0, 0] S1x128x512.size inb_S4x128x512_S1x128x512_2_0_0).toLoadRect) n cc ?_
  refine (slot_read _ 2 (by omega) _ n cc).trans ?_
  unfold kernelRun0_A.sl.HS2_6
  refine (slot_pass 1 2 _ (by omega) _ _ _ n cc).trans ?_
  unfold kernelRun0_A.sl.HS2_5
  refine (slot_pass 0 2 _ (by omega) _ _ _ n cc).trans ?_
  exact old_apply 2 _ n cc

theorem slot3 (hX : Spreads x10) (hal : ∀ h : Fin 128, h.val < 32 → x7 (ix2 (1 : Fin 8) h) ≠ (⊥ : EReal)) (n : Fin 128) (cc : Fin 512) :
    View.canon (kernelRun0_A.sl.HS2_8 (F := Ideal) c arg2 harg2 arg3 harg3 arg5 harg5 arg6 harg6 arg7 harg7 arg8 harg8 arg9 harg9 arg12 harg12 arg15 arg16 arg17 arg19 x0 x1 x3 x4 x5 x6 x7 x10) (ix3 (⟨3, by omega⟩ : Fin 4) n cc) = newState x0 x1 x3 x4 x5 x6 x7 (⟨512 * 3 + cc.val, by omega⟩ : Fin 2048) n := by
  unfold kernelRun0_A.sl.HS2_8
  refine (slot_hit 3 _ _ _ _ n cc).trans ?_
  refine group_apply hX hal 3 (by omega) 1536 2432 (by omega) (by omega) inb_S32x3072_S32x512_0_1536 inb_S32x3072_S32x128_0_2432 inb_S1x72x2048_S1x32x512_0_32_1536 inb_S1x72x2048_S1x1x512_0_64_1536
    (arg17.view.readCov (kernelRun0_A.sl.HS2_7 (F := Ideal) c arg2 harg2 arg3 harg3 arg5 harg5 arg6 harg6 arg7 harg7 arg8 harg8 arg9 harg9 arg12 harg12 arg15 arg16 arg17 arg19 x0 x1 x3 x4 x5 x6 x7 x10) (Rect.unit (s := S4x128x512) ![3, 0, 0] S1x128x512.size inb_S4x128x512_S1x128x512_3_0_0).toLoadRect) n cc ?_
  refine (slot_read _ 3 (by omega) _ n cc).trans ?_
  unfold kernelRun0_A.sl.HS2_7
  refine (slot_pass 2 3 _ (by omega) _ _ _ n cc).trans ?_
  unfold kernelRun0_A.sl.HS2_6
  refine (slot_pass 1 3 _ (by omega) _ _ _ n cc).trans ?_
  unfold kernelRun0_A.sl.HS2_5
  refine (slot_pass 0 3 _ (by omega) _ _ _ n cc).trans ?_
  exact old_apply 3 _ n cc

theorem slots (hX : Spreads x10) (hal : ∀ h : Fin 128, h.val < 32 → x7 (ix2 (1 : Fin 8) h) ≠ (⊥ : EReal)) (g : ℕ) (hg : g < 4) (n : Fin 128) (cc : Fin 512) :
    View.canon (kernelRun0_A.sl.HS2_8 (F := Ideal) c arg2 harg2 arg3 harg3 arg5 harg5 arg6 harg6 arg7 harg7 arg8 harg8 arg9 harg9 arg12 harg12 arg15 arg16 arg17 arg19 x0 x1 x3 x4 x5 x6 x7 x10) (ix3 (⟨g, hg⟩ : Fin 4) n cc) = newState x0 x1 x3 x4 x5 x6 x7 (⟨512 * g + cc.val, by omega⟩ : Fin 2048) n := by
  rcases (by omega : g = 0 ∨ g = 1 ∨ g = 2 ∨ g = 3) with rfl | rfl | rfl | rfl
  · unfold kernelRun0_A.sl.HS2_8
    refine (slot_pass 3 0 _ (by omega) _ _ _ n cc).trans ?_
    unfold kernelRun0_A.sl.HS2_7
    refine (slot_pass 2 0 _ (by omega) _ _ _ n cc).trans ?_
    unfold kernelRun0_A.sl.HS2_6
    refine (slot_pass 1 0 _ (by omega) _ _ _ n cc).trans ?_
    exact slot0 hX hal n cc
  · unfold kernelRun0_A.sl.HS2_8
    refine (slot_pass 3 1 _ (by omega) _ _ _ n cc).trans ?_
    unfold kernelRun0_A.sl.HS2_7
    refine (slot_pass 2 1 _ (by omega) _ _ _ n cc).trans ?_
    exact slot1 hX hal n cc
  · unfold kernelRun0_A.sl.HS2_8
    refine (slot_pass 3 2 _ (by omega) _ _ _ n cc).trans ?_
    exact slot2 hX hal n cc
  · exact slot3 hX hal n cc

theorem out_block (hX : Spreads x10) (hal : ∀ h : Fin 128, h.val < 32 → x7 (ix2 (1 : Fin 8) h) ≠ (⊥ : EReal)) (g : ℕ) (hg : g < 4) (h) (x : S1x512x128.Idx) (k : ℕ) (hk : k = 512 * g) (h') :
    k0_pay1 (arg17.view.readCov (kernelRun0_A.sl.HS2_8 (F := Ideal) c arg2 harg2 arg3 harg3 arg5 harg5 arg6 harg6 arg7 harg7 arg8 harg8 arg9 harg9 arg12 harg12 arg15 arg16 arg17 arg19 x0 x1 x3 x4 x5 x6 x7 x10) (Rect.unit (s := S4x128x512) ![g, 0, 0] ![1, 128, 512] h).toLoadRect) x
      = (fun i : S1x2048x128.Idx => newState x0 x1 x3 x4 x5 x6 x7 (i 1) (i 2)) ((Rect.unit (s := S1x2048x128) ![0, k, 0] ![1, 512, 128] h').emb x) := by
  subst hk
  obtain ⟨u, cc, n, rfl⟩ : ∃ (u : Fin 1) (cc : Fin 512) (n : Fin 128), x = ix3 u cc n := ⟨x 0, x 1, x 2, eq_ix3 x⟩
  unfold k0_pay1
  refine (shapeCast_ab_1ab_apply _ _ u cc n).trans ((transpose_ix2_apply _ _ cc n).trans ((shapeCast_1ab_ab_apply _ _ n cc).trans ((slot_read _ g hg _ n cc).trans ((slots hX hal g hg n cc).trans ?_))))
  refine congrArg₂ (newState x0 x1 x3 x4 x5 x6 x7) (Fin.ext ?_) (Fin.ext ?_)
  · show 512 * g + cc.val = 512 * g + 1 * cc.val; omega
  · show n.val = 0 + 1 * n.val; omega

theorem out_apply (hX : Spreads x10) (hal : ∀ h : Fin 128, h.val < 32 → x7 (ix2 (1 : Fin 8) h) ≠ (⊥ : EReal)) (y : S1x2048x128.Idx) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 y = newState x0 x1 x3 x4 x5 x6 x7 (y 1) (y 2) := by
  unfold out0_A_12
  rw [View.read_writes_junk_eq_canon]
  refine canon_of (S := S1x2048x128) (e := .f32) _ (fun i : S1x2048x128.Idx => newState x0 x1 x3 x4 x5 x6 x7 (i 1) (i 2)) ?_ y ?_
  · dsimp only [kernelRun0_A]
    refine List.forall_mem_cons.2 ⟨?_, List.forall_mem_cons.2 ⟨?_, List.forall_mem_cons.2 ⟨?_, List.forall_mem_cons.2 ⟨?_, fun p hp => absurd hp List.not_mem_nil⟩⟩⟩⟩
    · exact fun x => out_block hX hal 3 (by omega) inb_S4x128x512_S1x128x512_3_0_0 x 1536 (by omega) inb_S1x2048x128_S1x512x128_0_1536_0
    · exact fun x => out_block hX hal 2 (by omega) inb_S4x128x512_S1x128x512_2_0_0 x 1024 (by omega) inb_S1x2048x128_S1x512x128_0_1024_0
    · exact fun x => out_block hX hal 1 (by omega) inb_S4x128x512_S1x128x512_1_0_0 x 512 (by omega) inb_S1x2048x128_S1x512x128_0_512_0
    · exact fun x => out_block hX hal 0 (by omega) inb_S4x128x512_S1x128x512_0_0_0 x 0 (by omega) inb_S1x2048x128_S1x512x128_0_0_0
  · exact cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 y

end

end Cert.SsdStateIdeal.Body

end
-- ==== Proof.SsdHost.lean ====
/- What the kernel finds in the arrays its host code prepares, in terms of the arguments. -/
module

public import proofs.«01_k».proof.Proof.SsdBody
public import proofs.«01_k».proof.Proof.Gen.SsdStateIdeal.Value
public import Idealize.ShloMosaic.Lib.Pipeline.Value
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.SsdStateIdeal.Host

open Cert.SsdStateIdeal Cert.SsdStateIdeal.Gen

variable (m : (ℓ : Loc nD τ sig) → Buf (Elt Ideal) ℓ) (ρ : Dev nD → PrngReg)

theorem found_state (c : Dev nD) : V (F := Ideal) m c main_v3
    = shapeCast S32x2048x128 (shapeCast S32x32x64x128 (m ((c : Thread nD τ).loc main_arg3)) shapeCasts_S1x32x32x64x128_S32x32x64x128) shapeCasts_S32x32x64x128_S32x2048x128 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem found_hist (c : Dev nD) : V (F := Ideal) m c main_v1
    = pad S32x8x3072 ![0, 5, 0] ![0, 0, 0] ![0, 0, 0] (shapeCast S32x3x3072 (m ((c : Thread nD τ).loc main_arg2)) shapeCasts_S1x32x3x3072_S32x3x3072 : S32x3x3072.Idx → EReal)
        (sitofp (F := Ideal) .f32 (constantI S_ 32 0#32)) pads_S32x3x3072_S32x8x3072_000_500_000 h_S_ := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem found_taps (c : Dev nD) : V (F := Ideal) m c main_v8
    = pad S8x3072 ![0, 0] ![3, 0] ![0, 0] (concatenate S5x3072 0 [⟨S4x3072, (shapeCast S4x3072 (m ((c : Thread nD τ).loc main_arg4)) shapeCasts_S1x4x3072_S4x3072 : S4x3072.Idx → EReal)⟩,
          ⟨S1x3072, (broadcastInDim S1x3072 ![1] bcast_S3072_S1x3072_1 (shapeCast S3072 (m ((c : Thread nD τ).loc main_arg5)) shapeCasts_S1x3072_S3072) : S1x3072.Idx → EReal)⟩] concatenates_S4x3072_S1x3072_S5x3072_d0)
        (sitofp (F := Ideal) .f32 (constantI S_ 32 0#32)) pads_S5x3072_S8x3072_030_000 h_S_ := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem found_heads (c : Dev nD) : V (F := Ideal) m c main_v15
    = pad S8x128 ![0, 0] ![6, 0] ![0, 0] (pad S2x128 ![0, 0] ![0, 96] ![0, 0] (concatenate S2x32 0
          [⟨S1x32, (broadcastInDim S1x32 ![1] bcast_S32_S1x32_1 (shapeCast S32 (m ((c : Thread nD τ).loc main_arg6)) shapeCasts_S1x32_S32) : S1x32.Idx → EReal)⟩,
           ⟨S1x32, (broadcastInDim S1x32 ![1] bcast_S32_S1x32_1 (shapeCast S32 (m ((c : Thread nD τ).loc main_arg7)) shapeCasts_S1x32_S32) : S1x32.Idx → EReal)⟩] concatenates_S1x32_S1x32_S2x32_d0)
          (sitofp (F := Ideal) .f32 (constantI S_ 32 0#32)) pads_S2x32_S2x128_000_0960 h_S_)
        (sitofp (F := Ideal) .f32 (constantI S_ 32 0#32)) pads_S2x128_S8x128_060_000 h_S_ := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- A one where the row is the column's head. -/
def oneHot : S128x2048.Idx → EReal :=
  uitofp (F := Ideal) .bf16 (cmpi .eq (iotaInDim S128x2048 32 0) (shapeCast S128x2048 (iotaInDim S128x32x64 32 1) shapeCasts_S128x32x64_S128x2048))

theorem found_spread (c : Dev nD) : V (F := Ideal) m c main_v25
    = concatenate S384x2048 0 [⟨S128x2048, oneHot⟩, ⟨S128x2048, oneHot⟩, ⟨S128x2048, oneHot⟩] concatenates_S128x2048_S128x2048_S128x2048_S384x2048_d0 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.SsdStateIdeal.Host

end
-- ==== Proof.SsdPlain.lean ====
/-
  The plain statement of the running streams' new states, element by element: the gated convolution over the carried and
  the new rows, each row's weight, and the sum over rows that the old state's share is added to.
-/
module

public import proofs.«01_k».proof.Proof.SsdMath
public import proofs.«01_k».proof.Proof.Gen.SsdStateRefIdeal.Read
public import Idealize.ShloMosaic.Lib.Pipeline.Value
public import Idealize.ShloMosaic.Lib.ValueIdx
public import Idealize.ShloMosaic.Lib.ValueLayout
public import Idealize.ShloMosaic.Lib.IdealHost

@[expose] public section

set_option maxRecDepth 16384

noncomputable section

open Idealize.ShloMosaic Idealize.ShloMosaic.TcCoe Idealize.SL.Sem
open Idealize.ShloMosaic.ValueIdx
open scoped BigOperators

namespace Cert.SsdStateRefIdeal.Plain

open Cert.SsdStateRefIdeal Cert.SsdStateRefIdeal.Gen Cert.SsdStateRefIdeal.Read Cert.SsdMath

def i4 (b : Fin 32) (q : Fin 3) (c : Fin 3072) : S1x32x3x3072.Idx := fun a => match a with
  | ⟨0, _⟩ => (0 : Fin 1)
  | ⟨1, _⟩ => b
  | ⟨2, _⟩ => q
  | ⟨3, _⟩ => c

def i5 (b : Fin 32) (j : Fin 2048) (n : Fin 128) : S1x32x32x64x128.Idx := fun a => match a with
  | ⟨0, _⟩ => (0 : Fin 1)
  | ⟨1, _⟩ => b
  | ⟨2, _⟩ => (⟨j.val / 64, by omega⟩ : Fin 32)
  | ⟨3, _⟩ => (⟨j.val % 64, by omega⟩ : Fin 64)
  | ⟨4, _⟩ => n

/-- A column's head. -/
def head (j : Fin 2048) : Fin 32 := ⟨j.val / 64, by omega⟩

/-- The carried rows, then the stream's own. -/
def pad (x0 : S1024x7168.Idx → EReal) (x2 : S1x32x3x3072.Idx → EReal) (b : Fin 32) (q : Fin 35) (c : Fin 3072) : EReal :=
  if h : q.val < 3 then x2 (i4 b ⟨q.val, h⟩ c) else x0 (ix2 (⟨b.val * 32 + (q.val - 3), by omega⟩ : Fin 1024) (⟨4096 + c.val, by omega⟩ : Fin 7168))

def pre (x0 : S1024x7168.Idx → EReal) (x2 : S1x32x3x3072.Idx → EReal) (x4 : S1x4x3072.Idx → EReal) (x5 : S1x3072.Idx → EReal) (b r : Fin 32) (c : Fin 3072) : EReal :=
  x5 (ix2 (0 : Fin 1) c) + x4 (ix3 (0 : Fin 1) (0 : Fin 4) c) * pad x0 x2 b ⟨r.val, by omega⟩ c
    + x4 (ix3 (0 : Fin 1) (1 : Fin 4) c) * pad x0 x2 b ⟨1 + r.val, by omega⟩ c
    + x4 (ix3 (0 : Fin 1) (2 : Fin 4) c) * pad x0 x2 b ⟨2 + r.val, by omega⟩ c
    + x4 (ix3 (0 : Fin 1) (3 : Fin 4) c) * pad x0 x2 b ⟨3 + r.val, by omega⟩ c

def act (x0 : S1024x7168.Idx → EReal) (x2 : S1x32x3x3072.Idx → EReal) (x4 : S1x4x3072.Idx → EReal) (x5 : S1x3072.Idx → EReal) (b r : Fin 32) (c : Fin 3072) : EReal :=
  pre x0 x2 x4 x5 b r c * Ideal.div 1 (1 + Ideal.exp (-(pre x0 x2 x4 x5 b r c)))

def dt (x1 : S1024x128.Idx → EReal) (x6 : S1x32.Idx → EReal) (b r h : Fin 32) : EReal :=
  step (x1 (ix2 (⟨b.val * 32 + r.val, by omega⟩ : Fin 1024) (⟨h.val, by omega⟩ : Fin 128)) + x6 (ix2 (0 : Fin 1) h))

def dec (x1 : S1024x128.Idx → EReal) (x6 x7 : S1x32.Idx → EReal) (b h : Fin 32) (r : Fin 32) : EReal :=
  dt x1 x6 b r h * -Ideal.exp (x7 (ix2 (0 : Fin 1) h))

def weight (x1 : S1024x128.Idx → EReal) (x6 x7 : S1x32.Idx → EReal) (b r h : Fin 32) : EReal :=
  Ideal.exp (running (dec x1 x6 x7 b h) 31 - running (dec x1 x6 x7 b h) r) * dt x1 x6 b r h

def state (x0 : S1024x7168.Idx → EReal) (x1 : S1024x128.Idx → EReal) (x2 : S1x32x3x3072.Idx → EReal) (x3 : S1x32x32x64x128.Idx → EReal)
    (x4 : S1x4x3072.Idx → EReal) (x5 : S1x3072.Idx → EReal) (x6 x7 : S1x32.Idx → EReal) (b : Fin 32) (j : Fin 2048) (n : Fin 128) : EReal :=
  x3 (i5 b j n) * Ideal.exp (running (dec x1 x6 x7 b (head j)) 31)
    + ∑ r : Fin 32, act x0 x2 x4 x5 b r ⟨2048 + 128 * (j.val / 512) + n.val, by omega⟩
        * (act x0 x2 x4 x5 b r ⟨j.val, by omega⟩ * weight x1 x6 x7 b r (head j))

section

variable (x0 : (⟨S1024x7168, .f32⟩ : BufTy).Contents (Elt Ideal)) (x1 : (⟨S1024x128, .f32⟩ : BufTy).Contents (Elt Ideal))
  (x2 : (⟨S1x32x3x3072, .f32⟩ : BufTy).Contents (Elt Ideal)) (x3 : (⟨S1x32x32x64x128, .f32⟩ : BufTy).Contents (Elt Ideal))
  (x4 : (⟨S1x4x3072, .f32⟩ : BufTy).Contents (Elt Ideal)) (x5 : (⟨S1x3072, .f32⟩ : BufTy).Contents (Elt Ideal))
  (x6 x7 : (⟨S1x32, .f32⟩ : BufTy).Contents (Elt Ideal))

theorem pad_apply (b : Fin 32) (q : Fin 35) (c : Fin 3072) : val_main_v3 (F := Ideal) x0 x2 (ix3 b q c) = pad x0 x2 b q c := by
  unfold pad
  by_cases h : q.val < 3
  · rw [dif_pos h]
    unfold val_main_v3
    refine (concatenate_pair_apply_left (t := S32x35x3072) (s₁ := S32x3x3072) (s₂ := S32x32x3072) 1 _ _ _ _ rfl (ix3 b (⟨q.val, h⟩ : Fin 3) c) (fun a => ?_)).trans ?_
    · match a with
      | ⟨0, _⟩ => rfl
      | ⟨1, _⟩ => rfl
      | ⟨2, _⟩ => rfl
    · rw [val_main_v2_apply]
      refine congrArg x2 (funext fun a => Fin.ext ?_)
      match a with
      | ⟨0, _⟩ => rfl
      | ⟨1, _⟩ => show ((b.val * 3 + q.val) * 3072 + c.val) / 9216 % 32 = b.val; omega
      | ⟨2, _⟩ => show ((b.val * 3 + q.val) * 3072 + c.val) / 3072 % 3 = q.val; omega
      | ⟨3, _⟩ => show ((b.val * 3 + q.val) * 3072 + c.val) % 3072 = c.val; omega
  · rw [dif_neg h]
    unfold val_main_v3
    refine (concatenate_pair_apply_right (t := S32x35x3072) (s₁ := S32x3x3072) (s₂ := S32x32x3072) 1 _ _ _ _ rfl rfl (ix3 b (⟨q.val - 3, by omega⟩ : Fin 32) c) (fun a ha => ?_) ?_).trans ?_
    · match a with
      | ⟨0, _⟩ => rfl
      | ⟨1, _⟩ => exact absurd rfl ha
      | ⟨2, _⟩ => rfl
    · show q.val - 3 + 3 = q.val
      omega
    · rw [val_main_v1_apply, val_main_v0_apply]
      refine congrArg x0 (funext fun a => Fin.ext ?_)
      match a with
      | ⟨0, _⟩ => show ((b.val * 32 + (q.val - 3)) * 7168 + (4096 + c.val)) / 7168 = b.val * 32 + (q.val - 3); omega
      | ⟨1, _⟩ => show ((b.val * 32 + (q.val - 3)) * 7168 + (4096 + c.val)) % 7168 = 4096 + c.val; omega

theorem bias_apply (b r : Fin 32) (c : Fin 3072) : val_main_v12 (F := Ideal) x5 (ix3 b r c) = x5 (ix2 (0 : Fin 1) c) := by
  rw [val_main_v12_apply, val_main_v11_apply, val_main_v4_apply]
  refine congrArg x5 (funext fun a => Fin.ext ?_)
  match a with
  | ⟨0, _⟩ => rfl
  | ⟨1, _⟩ => exact Nat.mod_eq_of_lt c.isLt

theorem tap0 (b r : Fin 32) (c : Fin 3072) : val_main_v9 (F := Ideal) x4 (ix3 b r c) = x4 (ix3 (0 : Fin 1) (0 : Fin 4) c) := by
  rw [val_main_v9_apply, val_main_v8_apply, val_main_v6_apply, val_main_v5_apply]
  refine congrArg x4 (funext fun a => Fin.ext ?_)
  match a with
  | ⟨0, _⟩ => rfl
  | ⟨1, _⟩ => rfl
  | ⟨2, _⟩ => exact Nat.mod_eq_of_lt c.isLt

theorem tap1 (b r : Fin 32) (c : Fin 3072) : val_main_v18 (F := Ideal) x4 (ix3 b r c) = x4 (ix3 (0 : Fin 1) (1 : Fin 4) c) := by
  rw [val_main_v18_apply, val_main_v17_apply, val_main_v15_apply, val_main_v14_apply]
  refine congrArg x4 (funext fun a => Fin.ext ?_)
  match a with
  | ⟨0, _⟩ => rfl
  | ⟨1, _⟩ => rfl
  | ⟨2, _⟩ => exact Nat.mod_eq_of_lt c.isLt

theorem tap2 (b r : Fin 32) (c : Fin 3072) : val_main_v25 (F := Ideal) x4 (ix3 b r c) = x4 (ix3 (0 : Fin 1) (2 : Fin 4) c) := by
  rw [val_main_v25_apply, val_main_v24_apply, val_main_v22_apply, val_main_v21_apply]
  refine congrArg x4 (funext fun a => Fin.ext ?_)
  match a with
  | ⟨0, _⟩ => rfl
  | ⟨1, _⟩ => rfl
  | ⟨2, _⟩ => exact Nat.mod_eq_of_lt c.isLt

theorem tap3 (b r : Fin 32) (c : Fin 3072) : val_main_v32 (F := Ideal) x4 (ix3 b r c) = x4 (ix3 (0 : Fin 1) (3 : Fin 4) c) := by
  rw [val_main_v32_apply, val_main_v31_apply, val_main_v29_apply, val_main_v28_apply]
  refine congrArg x4 (funext fun a => Fin.ext ?_)
  match a with
  | ⟨0, _⟩ => rfl
  | ⟨1, _⟩ => rfl
  | ⟨2, _⟩ => exact Nat.mod_eq_of_lt c.isLt

theorem pre_apply (b r : Fin 32) (c : Fin 3072) : val_main_v34 (F := Ideal) x0 x2 x4 x5 (ix3 b r c) = pre x0 x2 x4 x5 b r c := by
  rw [val_main_v34_apply, val_main_v27_apply, val_main_v20_apply, val_main_v13_apply, val_main_v10_apply, val_main_v19_apply, val_main_v26_apply, val_main_v33_apply,
    bias_apply, tap0, tap1, tap2, tap3, val_main_v7_apply, val_main_v16_apply, val_main_v23_apply, val_main_v30_apply]
  have e0 : val_main_v3 (F := Ideal) x0 x2 (idx_main_v7 (ix3 b r c)) = pad x0 x2 b ⟨r.val, by omega⟩ c :=
    (congrArg _ (eq_ix3 _)).trans (pad_apply x0 x2 b ⟨r.val, by omega⟩ c)
  have e1 : val_main_v3 (F := Ideal) x0 x2 (idx_main_v16 (ix3 b r c)) = pad x0 x2 b ⟨1 + r.val, by omega⟩ c :=
    (congrArg _ (eq_ix3 _)).trans (pad_apply x0 x2 b ⟨1 + r.val, by omega⟩ c)
  have e2 : val_main_v3 (F := Ideal) x0 x2 (idx_main_v23 (ix3 b r c)) = pad x0 x2 b ⟨2 + r.val, by omega⟩ c :=
    (congrArg _ (eq_ix3 _)).trans (pad_apply x0 x2 b ⟨2 + r.val, by omega⟩ c)
  have e3 : val_main_v3 (F := Ideal) x0 x2 (idx_main_v30 (ix3 b r c)) = pad x0 x2 b ⟨3 + r.val, by omega⟩ c :=
    (congrArg _ (eq_ix3 _)).trans (pad_apply x0 x2 b ⟨3 + r.val, by omega⟩ c)
  rw [e0, e1, e2, e3]
  rfl

theorem act_apply (b r : Fin 32) (c : Fin 3072) : val_main_v41 (F := Ideal) x0 x2 x4 x5 (ix3 b r c) = act x0 x2 x4 x5 b r c := by
  rw [val_main_v41_apply, val_main_v40_apply, val_main_v38_apply, val_main_v36_apply, val_main_v35_apply, pre_apply, val_main_v39_apply, val_main_v37_apply,
    val_main_cst_apply, val_main_cst_0_apply]
  show pre x0 x2 x4 x5 b r c * Ideal.div (Ideal.ofBits .f32 0x3F800000#32) (Ideal.ofBits .f32 0x3F800000#32 + Ideal.exp (-(pre x0 x2 x4 x5 b r c))) = _
  rw [Ideal.ofBits_one_f32]
  rfl

theorem dt_apply (b r h : Fin 32) : val_main_v58 (F := Ideal) x1 x6 (ix3 b r h) = dt x1 x6 b r h := by
  have e : val_main_v51 (F := Ideal) x1 x6 (ix3 b r h) = (x1 (ix2 (⟨b.val * 32 + r.val, by omega⟩ : Fin 1024) (⟨h.val, by omega⟩ : Fin 128)) + x6 (ix2 (0 : Fin 1) h) : EReal) := by
    rw [val_main_v51_apply, val_main_v47_apply, val_main_v46_apply, val_main_v50_apply, val_main_v49_apply, val_main_v48_apply]
    refine congrArg₂ (fun a c : EReal => a + c) (congrArg x1 (funext fun a => Fin.ext ?_)) (congrArg x6 (funext fun a => Fin.ext ?_))
    · match a with
      | ⟨0, _⟩ => show ((b.val * 32 + r.val) * 128 + h.val) / 128 = b.val * 32 + r.val; omega
      | ⟨1, _⟩ => show ((b.val * 32 + r.val) * 128 + h.val) % 128 = h.val; omega
    · match a with
      | ⟨0, _⟩ => rfl
      | ⟨1, _⟩ => exact Nat.mod_eq_of_lt h.isLt
  rw [val_main_v58_apply, val_main_v53_apply, val_main_v57_apply, val_main_v56_apply, val_main_v55_apply, val_main_v54_apply, val_main_v52_apply, val_main_cst_1_apply, e]
  show max _ (Ideal.ofBits .f32 0x00000000#32) + _ = _
  rw [Ideal.ofBits_zero_f32]
  rfl

theorem dec_apply (b r h : Fin 32) : val_main_v64 (F := Ideal) x1 x6 x7 (ix3 b r h) = dec x1 x6 x7 b h r := by
  rw [val_main_v64_apply, dt_apply, val_main_v63_apply, val_main_v62_apply, val_main_v61_apply, val_main_v60_apply, val_main_v59_apply]
  refine congrArg (fun y : EReal => dt x1 x6 b r h * -Ideal.exp y) (congrArg x7 (funext fun a => Fin.ext ?_))
  match a with
  | ⟨0, _⟩ => rfl
  | ⟨1, _⟩ => exact Nat.mod_eq_of_lt h.isLt

theorem past : ∀ i j : Fin 32, IntOp.cmpi .sge (BitVec.ofNat 32 i.val) (BitVec.ofNat 32 j.val) = if j.val ≤ i.val then 1#1 else 0#1 := by decide +kernel

theorem running_apply (b i h : Fin 32) : val_main_v75 (F := Ideal) x1 x6 x7 (ix3 b i h) = running (dec x1 x6 x7 b h) i := by
  rw [val_main_v75_apply, val_main_cst_3_apply]
  show Ideal.ofBits .f32 0x00000000#32 + _ = _
  rw [Ideal.ofBits_zero_f32, zero_add]
  unfold running
  refine Finset.sum_congr rfl fun k _ => ?_
  rw [val_main_v74_apply, val_main_call0_v1_apply, val_main_v72_apply, val_main_v71_apply, val_main_v69_apply, val_main_v66_apply, val_main_v65_apply,
    val_main_v70_apply, val_main_v68_apply, val_main_v67_apply, val_main_call0_v2_apply, val_main_v73_apply, val_main_call0_v3_apply, val_main_call0_v0_apply, val_main_cst_2_apply]
  have e : val_main_v64 (F := Ideal) x1 x6 x7 (idx_main_v73 (idx_main_call0_v2 (idx_main_v75 (ix3 b i h) k))) = dec x1 x6 x7 b h k :=
    (congrArg _ (eq_ix3 _)).trans (dec_apply x1 x6 x7 b k h)
  rw [e]
  show Scalar.select (IntOp.cmpi .sge (BitVec.ofNat 32 i.val) (BitVec.ofNat 32 k.val)) (dec x1 x6 x7 b h k) (Ideal.ofBits .f32 0x00000000#32) = _
  rw [past, Ideal.ofBits_zero_f32]
  split
  · rfl
  · rfl

theorem weight_apply (b r h : Fin 32) : val_main_v80 (F := Ideal) x1 x6 x7 (ix3 b r h) = weight x1 x6 x7 b r h := by
  rw [val_main_v80_apply, val_main_v79_apply, val_main_v78_apply, val_main_v77_apply, val_main_v76_apply, dt_apply, running_apply]
  have e : val_main_v75 (F := Ideal) x1 x6 x7 (idx_main_v76 (idx_main_v77 (ix3 b r h))) = running (dec x1 x6 x7 b h) 31 :=
    (congrArg _ (eq_ix3 _)).trans (running_apply x1 x6 x7 b 31 h)
  rw [e]
  rfl

/-- The reference's result, element by element. -/
theorem state_apply (b : Fin 32) (j : Fin 2048) (n : Fin 128) :
    val_main_v96 (F := Ideal) x0 x1 x2 x3 x4 x5 x6 x7 (ix3 b j n) = state x0 x1 x2 x3 x4 x5 x6 x7 b j n := by
  rw [val_main_v96_apply, val_main_v95_apply, val_main_v94_apply, val_main_v85_apply]
  generalize hi : idx_main_v96 (ix3 b j n) = i
  have i0 : (i 0).val = b.val := by rw [← hi]; show ((b.val * 2048 + j.val) * 128 + n.val) / 262144 = b.val; omega
  have i1 : (i 1).val = j.val / 512 := by rw [← hi]; show ((b.val * 2048 + j.val) * 128 + n.val) / 65536 % 4 = j.val / 512; omega
  have i2 : (i 2).val = j.val / 64 % 8 := by rw [← hi]; show ((b.val * 2048 + j.val) * 128 + n.val) / 8192 % 8 = j.val / 64 % 8; omega
  have i3 : (i 3).val = j.val % 64 := by rw [← hi]; show ((b.val * 2048 + j.val) * 128 + n.val) / 128 % 64 = j.val % 64; omega
  have i4' : (i 4).val = n.val := by rw [← hi]; show ((b.val * 2048 + j.val) * 128 + n.val) % 128 = n.val; omega
  have hj := j.isLt
  have hn := n.isLt
  have hb := b.isLt
  refine congrArg₂ (fun a c : EReal => a + c) (congrArg₂ (fun a c : EReal => a * c) ?_ ?_) (Finset.sum_congr rfl fun r _ => ?_)
  · rw [val_main_v87_apply, val_main_v86_apply]
    refine congrArg x3 ?_
    generalize hk : idx_main_v87 i = k
    have k0 : (k 0).val = b.val := by
      rw [← hk]; show (((((i 0).val * 4 + (i 1).val) * 8 + (i 2).val) * 64 + (i 3).val) * 128 + (i 4).val) / 262144 = b.val; omega
    have k1 : (k 1).val = j.val / 64 := by
      rw [← hk]; show (((((i 0).val * 4 + (i 1).val) * 8 + (i 2).val) * 64 + (i 3).val) * 128 + (i 4).val) / 8192 % 32 = j.val / 64; omega
    have k2 : (k 2).val = j.val % 64 := by
      rw [← hk]; show (((((i 0).val * 4 + (i 1).val) * 8 + (i 2).val) * 64 + (i 3).val) * 128 + (i 4).val) / 128 % 64 = j.val % 64; omega
    have k3 : (k 3).val = n.val := by
      rw [← hk]; show (((((i 0).val * 4 + (i 1).val) * 8 + (i 2).val) * 64 + (i 3).val) * 128 + (i 4).val) % 128 = n.val; omega
    funext a
    refine Fin.ext ?_
    match a with
    | ⟨0, _⟩ => rfl
    | ⟨1, _⟩ => show ((((k 0).val * 32 + (k 1).val) * 64 + (k 2).val) * 128 + (k 3).val) / 262144 % 32 = b.val; omega
    | ⟨2, _⟩ => show ((((k 0).val * 32 + (k 1).val) * 64 + (k 2).val) * 128 + (k 3).val) / 8192 % 32 = j.val / 64; omega
    | ⟨3, _⟩ => show ((((k 0).val * 32 + (k 1).val) * 64 + (k 2).val) * 128 + (k 3).val) / 128 % 64 = j.val % 64; omega
    | ⟨4, _⟩ => show ((((k 0).val * 32 + (k 1).val) * 64 + (k 2).val) * 128 + (k 3).val) % 128 = n.val; omega
  · rw [val_main_v93_apply, val_main_v92_apply, val_main_v91_apply, val_main_v90_apply, val_main_v89_apply, val_main_v88_apply]
    refine congrArg Ideal.exp (Eq.trans (congrArg _ ?_) (running_apply x1 x6 x7 b 31 (head j)))
    generalize hk : idx_main_v91 (idx_main_v92 (idx_main_v93 i)) = k
    have k0 : (k 0).val = b.val := by rw [← hk]; show (((i 0).val * 4 + (i 1).val) * 8 + (i 2).val) / 32 = b.val; omega
    have k1 : (k 1).val = j.val / 64 := by rw [← hk]; show (((i 0).val * 4 + (i 1).val) * 8 + (i 2).val) % 32 = j.val / 64; omega
    funext a
    refine Fin.ext ?_
    match a with
    | ⟨0, _⟩ => show ((k 0).val * 32 + (k 1).val) / 32 = b.val; omega
    | ⟨1, _⟩ => rfl
    | ⟨2, _⟩ => show ((k 0).val * 32 + (k 1).val) % 32 = j.val / 64; omega
  · rw [mul_comm]
    refine congrArg₂ (fun a c : EReal => a * c) ?_ ?_
    · rw [val_main_v45_apply, val_main_v44_apply]
      refine Eq.trans (congrArg _ ?_) (act_apply x0 x2 x4 x5 b r ⟨2048 + 128 * (j.val / 512) + n.val, by omega⟩)
      have hr := r.isLt
      funext a
      refine Fin.ext ?_
      match a with
      | ⟨0, _⟩ => show ((((i 0).val * 32 + r.val) * 4 + (i 1).val) * 128 + (i 4).val) / 16384 = b.val; omega
      | ⟨1, _⟩ => show ((((i 0).val * 32 + r.val) * 4 + (i 1).val) * 128 + (i 4).val) / 512 % 32 = r.val; omega
      | ⟨2, _⟩ => show 2048 + ((((i 0).val * 32 + r.val) * 4 + (i 1).val) * 128 + (i 4).val) % 512 = 2048 + 128 * (j.val / 512) + n.val; omega
    · rw [val_main_v84_apply, val_main_v43_apply, val_main_v42_apply, val_main_v83_apply, val_main_v82_apply, val_main_v81_apply]
      have hr := r.isLt
      refine congrArg₂ (fun a c : EReal => a * c) (Eq.trans (congrArg _ ?_) (act_apply x0 x2 x4 x5 b r ⟨j.val, by omega⟩))
        (Eq.trans (congrArg _ ?_) (weight_apply x1 x6 x7 b r (head j)))
      · funext a
        refine Fin.ext ?_
        match a with
        | ⟨0, _⟩ => show (((((i 0).val * 32 + r.val) * 4 + (i 1).val) * 8 + (i 2).val) * 64 + (i 3).val) / 65536 = b.val; omega
        | ⟨1, _⟩ => show (((((i 0).val * 32 + r.val) * 4 + (i 1).val) * 8 + (i 2).val) * 64 + (i 3).val) / 2048 % 32 = r.val; omega
        | ⟨2, _⟩ => show (((((i 0).val * 32 + r.val) * 4 + (i 1).val) * 8 + (i 2).val) * 64 + (i 3).val) % 2048 = j.val; omega
      · funext a
        refine Fin.ext ?_
        match a with
        | ⟨0, _⟩ => show ((((i 0).val * 32 + r.val) * 4 + (i 1).val) * 8 + (i 2).val) / 1024 = b.val; omega
        | ⟨1, _⟩ => show ((((i 0).val * 32 + r.val) * 4 + (i 1).val) * 8 + (i 2).val) / 32 % 32 = r.val; omega
        | ⟨2, _⟩ => show ((((i 0).val * 32 + r.val) * 4 + (i 1).val) * 8 + (i 2).val) % 32 = j.val / 64; omega

end

end Cert.SsdStateRefIdeal.Plain

end
-- ==== Proof.SsdState.lean ====
/-
  The running streams' new states: the kernel's blocks are the plain statement's, and what follows for the claims.
-/
module

public import proofs.«01_k».proof.Defs
public import proofs.«01_k».proof.Proof.SsdHost
public import proofs.«01_k».proof.Proof.SsdPlain
public import proofs.«01_k».proof.Proof.Gen.SsdState.Frame
public import Idealize.ShloMosaic.Lib.Pipeline.Value
public import Idealize.ShloMosaic.Lib.ValueIdx
public import Idealize.ShloMosaic.Lib.ValueLayout
public import Idealize.ShloMosaic.Lib.KernelVsHost
public import Idealize.ShloMosaic.Lib.IdealHost
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.SsdStateIdeal.Tiles

open Cert.SsdStateIdeal Cert.SsdStateIdeal.Gen Cert.SsdStateIdeal.Host Cert.SsdMath

variable (m : (ℓ : Loc nD τ sig) → Buf (Elt Ideal) ℓ) (ρ : Dev nD → PrngReg)

/-! The prepared arrays, element by element. -/

theorem hist_apply (c : Dev nD) (b : Fin 32) (q : Fin 3) (k : Fin 3072) :
    V (F := Ideal) m c main_v1 (ix3 b (⟨5 + q.val, by omega⟩ : Fin 8) k) = m ((c : Thread nD τ).loc main_arg2) (SsdStateRefIdeal.Plain.i4 b q k) := by
  rw [found_hist]
  refine (pad_apply_of_inside _ _ _ _ _ _ _ _ (ix3 b q k) fun a => ?_).trans ?_
  · match a with
    | ⟨0, _⟩ => show b.val = 0 + b.val * (0 + 1); omega
    | ⟨1, _⟩ => show 5 + q.val = 5 + q.val * (0 + 1); omega
    | ⟨2, _⟩ => show k.val = 0 + k.val * (0 + 1); omega
  · refine shapeCast_apply _ _ _ _ ?_
    show (S1x32x3x3072.rowMajor (SsdStateRefIdeal.Plain.i4 b q k) : Nat) = (S32x3x3072.rowMajor (ix3 b q k) : Nat)
    rw [Shape.rowMajor_val_four, Shape.rowMajor_val_three]
    show ((0 * 32 + b.val) * 3 + q.val) * 3072 + k.val = (b.val * 3 + q.val) * 3072 + k.val
    omega

/-- A state's index, by head and row. -/
def byHead (b : Fin 32) (j : Fin 2048) (n : Fin 128) : S32x32x64x128.Idx := fun a => match a with
  | ⟨0, _⟩ => b
  | ⟨1, _⟩ => (⟨j.val / 64, by omega⟩ : Fin 32)
  | ⟨2, _⟩ => (⟨j.val % 64, by omega⟩ : Fin 64)
  | ⟨3, _⟩ => n

theorem state_apply (c : Dev nD) (b : Fin 32) (j : Fin 2048) (n : Fin 128) :
    V (F := Ideal) m c main_v3 (ix3 b j n) = m ((c : Thread nD τ).loc main_arg3) (SsdStateRefIdeal.Plain.i5 b j n) := by
  rw [found_state]
  refine (shapeCast_apply _ _ _ (byHead b j n) ?_).trans (shapeCast_apply _ _ _ _ ?_)
  · show (S32x32x64x128.rowMajor (byHead b j n) : Nat) = (S32x2048x128.rowMajor (ix3 b j n) : Nat)
    rw [Shape.rowMajor_val_four, Shape.rowMajor_val_three]
    show ((b.val * 32 + j.val / 64) * 64 + j.val % 64) * 128 + n.val = (b.val * 2048 + j.val) * 128 + n.val
    omega
  · show (S1x32x32x64x128.rowMajor (SsdStateRefIdeal.Plain.i5 b j n) : Nat) = (S32x32x64x128.rowMajor (byHead b j n) : Nat)
    rw [Shape.rowMajor_val_five, Shape.rowMajor_val_four]
    show (((0 * 32 + b.val) * 32 + j.val / 64) * 64 + j.val % 64) * 128 + n.val = ((b.val * 32 + j.val / 64) * 64 + j.val % 64) * 128 + n.val
    omega

theorem tap_apply (c : Dev nD) (k : Fin 4) (q : Fin 3072) :
    V (F := Ideal) m c main_v8 (ix2 (⟨k.val, by omega⟩ : Fin 8) q) = m ((c : Thread nD τ).loc main_arg4) (ix3 (0 : Fin 1) k q) := by
  rw [found_taps]
  refine (pad_apply_of_inside _ _ _ _ _ _ _ _ (ix2 (⟨k.val, by omega⟩ : Fin 5) q) fun a => ?_).trans ?_
  · match a with
    | ⟨0, _⟩ => show k.val = 0 + k.val * (0 + 1); omega
    | ⟨1, _⟩ => show q.val = 0 + q.val * (0 + 1); omega
  refine (concatenate_pair_apply_left (t := S5x3072) (s₁ := S4x3072) (s₂ := S1x3072) 0 _ _ _ _ rfl (ix2 k q) (fun a => ?_)).trans ?_
  · match a with
    | ⟨0, _⟩ => rfl
    | ⟨1, _⟩ => rfl
  exact shapeCast_1ab_ab_apply _ _ k q

theorem bias_apply (c : Dev nD) (q : Fin 3072) :
    V (F := Ideal) m c main_v8 (ix2 (4 : Fin 8) q) = m ((c : Thread nD τ).loc main_arg5) (ix2 (0 : Fin 1) q) := by
  rw [found_taps]
  refine (pad_apply_of_inside _ _ _ _ _ _ _ _ (ix2 (4 : Fin 5) q) fun a => ?_).trans ?_
  · match a with
    | ⟨0, _⟩ => rfl
    | ⟨1, _⟩ => show q.val = 0 + q.val * (0 + 1); omega
  refine (concatenate_pair_apply_right (t := S5x3072) (s₁ := S4x3072) (s₂ := S1x3072) 0 _ _ _ _ rfl rfl (ix2 (0 : Fin 1) q) (fun a ha => ?_) ?_).trans ?_
  · match a with
    | ⟨0, _⟩ => exact absurd rfl ha
    | ⟨1, _⟩ => rfl
  · rfl
  refine (broadcastInDim_apply _ _ _ _ (ix1 q) fun a => ?_).trans (shapeCast_1a_a_apply _ _ q)
  match a with
  | ⟨0, _⟩ => rfl

theorem head0_apply (c : Dev nD) (h : Fin 32) :
    V (F := Ideal) m c main_v15 (ix2 (0 : Fin 8) (⟨h.val, by omega⟩ : Fin 128)) = m ((c : Thread nD τ).loc main_arg6) (ix2 (0 : Fin 1) h) := by
  rw [found_heads]
  refine (pad_apply_of_inside _ _ _ _ _ _ _ _ (ix2 (0 : Fin 2) (⟨h.val, by omega⟩ : Fin 128)) fun a => ?_).trans ?_
  · match a with
    | ⟨0, _⟩ => rfl
    | ⟨1, _⟩ => show h.val = 0 + h.val * (0 + 1); omega
  refine (pad_apply_of_inside _ _ _ _ _ _ _ _ (ix2 (0 : Fin 2) h) fun a => ?_).trans ?_
  · match a with
    | ⟨0, _⟩ => rfl
    | ⟨1, _⟩ => show h.val = 0 + h.val * (0 + 1); omega
  refine (concatenate_pair_apply_left (t := S2x32) (s₁ := S1x32) (s₂ := S1x32) 0 _ _ _ _ rfl (ix2 (0 : Fin 1) h) (fun a => ?_)).trans ?_
  · match a with
    | ⟨0, _⟩ => rfl
    | ⟨1, _⟩ => rfl
  refine (broadcastInDim_apply _ _ _ _ (ix1 h) fun a => ?_).trans (shapeCast_1a_a_apply _ _ h)
  match a with
  | ⟨0, _⟩ => rfl

theorem head1_apply (c : Dev nD) (h : Fin 32) :
    V (F := Ideal) m c main_v15 (ix2 (1 : Fin 8) (⟨h.val, by omega⟩ : Fin 128)) = m ((c : Thread nD τ).loc main_arg7) (ix2 (0 : Fin 1) h) := by
  rw [found_heads]
  refine (pad_apply_of_inside _ _ _ _ _ _ _ _ (ix2 (1 : Fin 2) (⟨h.val, by omega⟩ : Fin 128)) fun a => ?_).trans ?_
  · match a with
    | ⟨0, _⟩ => rfl
    | ⟨1, _⟩ => show h.val = 0 + h.val * (0 + 1); omega
  refine (pad_apply_of_inside _ _ _ _ _ _ _ _ (ix2 (1 : Fin 2) h) fun a => ?_).trans ?_
  · match a with
    | ⟨0, _⟩ => rfl
    | ⟨1, _⟩ => show h.val = 0 + h.val * (0 + 1); omega
  refine (concatenate_pair_apply_right (t := S2x32) (s₁ := S1x32) (s₂ := S1x32) 0 _ _ _ _ rfl rfl (ix2 (0 : Fin 1) h) (fun a ha => ?_) ?_).trans ?_
  · match a with
    | ⟨0, _⟩ => exact absurd rfl ha
    | ⟨1, _⟩ => rfl
  · rfl
  refine (broadcastInDim_apply _ _ _ _ (ix1 h) fun a => ?_).trans (shapeCast_1a_a_apply _ _ h)
  match a with
  | ⟨0, _⟩ => rfl

theorem word_eq : ∀ h k : Fin 128, IntOp.cmpi .eq (BitVec.ofNat 32 h.val) (BitVec.ofNat 32 k.val) = if h = k then 1#1 else 0#1 := by decide +kernel

theorem oneHot_apply (h : Fin 128) (j : Fin 2048) : oneHot (ix2 h j) = if h = Body.headOf j then (1 : EReal) else 0 := by
  have e : shapeCast S128x2048 (iotaInDim S128x32x64 32 1) shapeCasts_S128x32x64_S128x2048 (ix2 h j) = BitVec.ofNat 32 (Body.headOf j).val := by
    refine (shapeCast_apply _ _ _ (ix3 h (⟨j.val / 64, by omega⟩ : Fin 32) (⟨j.val % 64, by omega⟩ : Fin 64)) ?_).trans rfl
    show (S128x32x64.rowMajor (ix3 h (⟨j.val / 64, by omega⟩ : Fin 32) (⟨j.val % 64, by omega⟩ : Fin 64)) : Nat) = (S128x2048.rowMajor (ix2 h j) : Nat)
    rw [Shape.rowMajor_val_three, Shape.rowMajor_val_two]
    show (h.val * 32 + j.val / 64) * 64 + j.val % 64 = h.val * 2048 + j.val
    omega
  show (((IntOp.cmpi .eq (BitVec.ofNat 32 h.val) (shapeCast S128x2048 (iotaInDim S128x32x64 32 1) shapeCasts_S128x32x64_S128x2048 (ix2 h j))).toNat : ℝ) : EReal) = _
  rw [e, word_eq]
  by_cases hh : h = Body.headOf j
  · rw [if_pos hh, if_pos hh]; norm_num
  · rw [if_neg hh, if_neg hh]; norm_num

theorem spread_apply (c : Dev nD) (k : Fin 3) (h : Fin 128) (j : Fin 2048) :
    V (F := Ideal) m c main_v25 (ix2 (⟨128 * k.val + h.val, by omega⟩ : Fin 384) j) = if h = Body.headOf j then (1 : EReal) else 0 := by
  rw [found_spread]
  refine (concatenate_replicate_apply (t := S384x2048) (s₁ := S128x2048) 0 3 oneHot concatenates_S128x2048_S128x2048_S128x2048_S384x2048_d0 rfl _ (ix2 h j) ?_ fun a ha => ?_).trans (oneHot_apply h j)
  · show h.val = (128 * k.val + h.val) % 128
    omega
  · match a with
    | ⟨0, _⟩ => exact absurd rfl ha
    | ⟨1, _⟩ => rfl

/-! The blocks the body is handed. -/

theorem idx_all : ∀ t : Fin grid0.N,
    (win0_0.index t 0 = t.val ∧ win0_0.index t 1 = 2) ∧ (win0_1.index t 0 = t.val ∧ win0_1.index t 1 = 6)
    ∧ (win0_3.index t 0 = t.val ∧ win0_3.index t 1 = 0)
    ∧ (win0_4.index t 0 = t.val ∧ win0_4.index t 1 = 0 ∧ win0_4.index t 2 = 0)
    ∧ (win0_5.index t 0 = t.val ∧ win0_5.index t 1 = 0 ∧ win0_5.index t 2 = 0)
    ∧ (win0_6.index t 0 = 0 ∧ win0_6.index t 1 = 0) ∧ (win0_7.index t 0 = 0 ∧ win0_7.index t 1 = 0)
    ∧ (win0_10.index t 0 = 0 ∧ win0_10.index t 1 = 0)
    ∧ (win0_12.index t 0 = t.val ∧ win0_12.index t 1 = 0 ∧ win0_12.index t 2 = 0) := by decide +kernel

theorem t_lt (t : Fin cfg0.N) : t.val < 32 := lt_of_lt_of_eq t.isLt N_0

/-- The stream a point works on. -/
def st (t : Fin cfg0.N) : Fin 32 := ⟨t.val, t_lt t⟩

theorem blk0 (c : Dev nD) (t : Fin cfg0.N) (r : Fin 32) (k : Fin 2048) :
    X0_0 (F := Ideal) m c t (ix2 r k)
      = m ((c : Thread nD τ).loc main_arg0) (ix2 (⟨(st t).val * 32 + r.val, by have := (st t).isLt; omega⟩ : Fin 1024) (⟨4096 + k.val, by omega⟩ : Fin 7168)) := by
  refine Eq.trans ?_ (congrFun (V_main_arg0 m c) _)
  unfold X0_0 Pipeline.Window.fill
  rw [dif_pos (moved0_0 t (ix2 r k))]
  unfold iblk
  refine congrArg (V (F := Ideal) m c main_arg0) (funext fun a => Fin.ext ?_)
  obtain ⟨h0, -⟩ := idx_all t
  match a with
  | ⟨0, _⟩ => show win0_0.index t 0 * 32 + 1 * r.val = t.val * 32 + r.val; rw [h0.1]; omega
  | ⟨1, _⟩ => show win0_0.index t 1 * 2048 + 1 * k.val = 4096 + k.val; rw [h0.2]; omega

theorem blk1 (c : Dev nD) (t : Fin cfg0.N) (r : Fin 32) (k : Fin 1024) :
    iblk (F := Ideal) m c 1 t (ix2 r k)
      = m ((c : Thread nD τ).loc main_arg0) (ix2 (⟨(st t).val * 32 + r.val, by have := (st t).isLt; omega⟩ : Fin 1024) (⟨6144 + k.val, by omega⟩ : Fin 7168)) := by
  refine Eq.trans ?_ (congrFun (V_main_arg0 m c) _)
  unfold iblk
  refine congrArg (V (F := Ideal) m c main_arg0) (funext fun a => Fin.ext ?_)
  obtain ⟨-, h0, -⟩ := idx_all t
  match a with
  | ⟨0, _⟩ => show win0_1.index t 0 * 32 + 1 * r.val = t.val * 32 + r.val; rw [h0.1]; omega
  | ⟨1, _⟩ => show win0_1.index t 1 * 1024 + 1 * k.val = 6144 + k.val; rw [h0.2]; omega

theorem blk3 (c : Dev nD) (t : Fin cfg0.N) (r : Fin 32) (h : Fin 128) :
    iblk (F := Ideal) m c 3 t (ix2 r h)
      = m ((c : Thread nD τ).loc main_arg1) (ix2 (⟨(st t).val * 32 + r.val, by have := (st t).isLt; omega⟩ : Fin 1024) h) := by
  refine Eq.trans ?_ (congrFun (V_main_arg1 m c) _)
  unfold iblk
  refine congrArg (V (F := Ideal) m c main_arg1) (funext fun a => Fin.ext ?_)
  obtain ⟨-, -, h0, -⟩ := idx_all t
  match a with
  | ⟨0, _⟩ => show win0_3.index t 0 * 32 + 1 * r.val = t.val * 32 + r.val; rw [h0.1]; omega
  | ⟨1, _⟩ => show win0_3.index t 1 * 128 + 1 * h.val = h.val; rw [h0.2]; omega

theorem blk4 (c : Dev nD) (t : Fin cfg0.N) (q : Fin 3) (k : Fin 3072) :
    iblk (F := Ideal) m c 4 t (ix3 (0 : Fin 1) (⟨5 + q.val, by omega⟩ : Fin 8) k)
      = m ((c : Thread nD τ).loc main_arg2) (SsdStateRefIdeal.Plain.i4 (st t) q k) := by
  refine Eq.trans ?_ (hist_apply m c (st t) q k)
  unfold iblk
  refine congrArg (V (F := Ideal) m c main_v1) (funext fun a => Fin.ext ?_)
  obtain ⟨-, -, -, h0, -⟩ := idx_all t
  match a with
  | ⟨0, _⟩ => show win0_4.index t 0 * 1 + 1 * 0 = t.val; rw [h0.1]; omega
  | ⟨1, _⟩ => show win0_4.index t 1 * 8 + 1 * (5 + q.val) = 5 + q.val; rw [h0.2.1]; omega
  | ⟨2, _⟩ => show win0_4.index t 2 * 3072 + 1 * k.val = k.val; rw [h0.2.2]; omega

theorem blk5 (c : Dev nD) (t : Fin cfg0.N) (j : Fin 2048) (n : Fin 128) :
    iblk (F := Ideal) m c 5 t (ix3 (0 : Fin 1) j n) = m ((c : Thread nD τ).loc main_arg3) (SsdStateRefIdeal.Plain.i5 (st t) j n) := by
  refine Eq.trans ?_ (state_apply m c (st t) j n)
  unfold iblk
  refine congrArg (V (F := Ideal) m c main_v3) (funext fun a => Fin.ext ?_)
  obtain ⟨-, -, -, -, h0, -⟩ := idx_all t
  match a with
  | ⟨0, _⟩ => show win0_5.index t 0 * 1 + 1 * 0 = t.val; rw [h0.1]; omega
  | ⟨1, _⟩ => show win0_5.index t 1 * 2048 + 1 * j.val = j.val; rw [h0.2.1]; omega
  | ⟨2, _⟩ => show win0_5.index t 2 * 128 + 1 * n.val = n.val; rw [h0.2.2]; omega

theorem blk6 (c : Dev nD) (t : Fin cfg0.N) (k : Fin 8) (q : Fin 3072) :
    iblk (F := Ideal) m c 6 t (ix2 k q) = V (F := Ideal) m c main_v8 (ix2 k q) := by
  unfold iblk
  refine congrArg (V (F := Ideal) m c main_v8) (funext fun a => Fin.ext ?_)
  obtain ⟨-, -, -, -, -, h0, -⟩ := idx_all t
  match a with
  | ⟨0, _⟩ => show win0_6.index t 0 * 8 + 1 * k.val = k.val; rw [h0.1]; omega
  | ⟨1, _⟩ => show win0_6.index t 1 * 3072 + 1 * q.val = q.val; rw [h0.2]; omega

theorem blk7 (c : Dev nD) (t : Fin cfg0.N) (k : Fin 8) (h : Fin 128) :
    iblk (F := Ideal) m c 7 t (ix2 k h) = V (F := Ideal) m c main_v15 (ix2 k h) := by
  unfold iblk
  refine congrArg (V (F := Ideal) m c main_v15) (funext fun a => Fin.ext ?_)
  obtain ⟨-, -, -, -, -, -, h0, -⟩ := idx_all t
  match a with
  | ⟨0, _⟩ => show win0_7.index t 0 * 8 + 1 * k.val = k.val; rw [h0.1]; omega
  | ⟨1, _⟩ => show win0_7.index t 1 * 128 + 1 * h.val = h.val; rw [h0.2]; omega

theorem spreads (c : Dev nD) (t : Fin cfg0.N) : Body.Spreads (iblk (F := Ideal) m c 10 t) := by
  intro j k h
  refine Eq.trans ?_ (spread_apply m c k h j)
  unfold iblk
  refine congrArg (V (F := Ideal) m c main_v25) (funext fun a => Fin.ext ?_)
  obtain ⟨-, -, -, -, -, -, -, h0, -⟩ := idx_all t
  match a with
  | ⟨0, _⟩ => show win0_10.index t 0 * 384 + 1 * (128 * k.val + h.val) = 128 * k.val + h.val; rw [h0.1]; omega
  | ⟨1, _⟩ => show win0_10.index t 1 * 2048 + 1 * j.val = j.val; rw [h0.2]; omega

/-! The new state, point by point. -/

/-- Three of the blocks, as arrays of extended reals. -/
abbrev b3 (c : Dev nD) (t : Fin cfg0.N) : S32x128.Idx → EReal := iblk (F := Ideal) m c 3 t
abbrev b6 (c : Dev nD) (t : Fin cfg0.N) : S8x3072.Idx → EReal := iblk (F := Ideal) m c 6 t
abbrev b7 (c : Dev nD) (t : Fin cfg0.N) : S8x128.Idx → EReal := iblk (F := Ideal) m c 7 t

theorem padded_eq (c : Dev nD) (t : Fin cfg0.N) (q : Fin 35) (k : Fin 3072) (hq : q.val + 5 < 40) :
    Body.padded (X0_0 (F := Ideal) m c t) (iblk (F := Ideal) m c 1 t) (iblk (F := Ideal) m c 4 t) (ix2 (⟨q.val + 5, hq⟩ : Fin 40) k)
      = SsdStateRefIdeal.Plain.pad (m ((c : Thread nD τ).loc main_arg0)) (m ((c : Thread nD τ).loc main_arg2)) (st t) q k := by
  unfold Body.padded SsdStateRefIdeal.Plain.pad
  by_cases h : q.val < 3
  · rw [dif_pos (show q.val + 5 < 8 by omega), dif_pos h]
    refine Eq.trans (congrArg _ (funext fun a => Fin.ext ?_)) (blk4 m c t ⟨q.val, h⟩ k)
    match a with
    | ⟨0, _⟩ => rfl
    | ⟨1, _⟩ => show q.val + 5 = 5 + q.val; omega
    | ⟨2, _⟩ => rfl
  · rw [dif_neg (show ¬ q.val + 5 < 8 by omega), dif_neg h]
    by_cases h' : k.val < 2048
    · rw [dif_pos (show k.val < 2048 from h')]
      refine (blk0 m c t ⟨q.val + 5 - 8, by omega⟩ ⟨k.val, h'⟩).trans (congrArg _ (funext fun a => Fin.ext ?_))
      match a with
      | ⟨0, _⟩ => show t.val * 32 + (q.val + 5 - 8) = t.val * 32 + (q.val - 3); omega
      | ⟨1, _⟩ => rfl
    · rw [dif_neg (show ¬ k.val < 2048 from h')]
      refine (blk1 m c t ⟨q.val + 5 - 8, by omega⟩ ⟨k.val - 2048, by omega⟩).trans (congrArg _ (funext fun a => Fin.ext ?_))
      match a with
      | ⟨0, _⟩ => show t.val * 32 + (q.val + 5 - 8) = t.val * 32 + (q.val - 3); omega
      | ⟨1, _⟩ => show 6144 + (k.val - 2048) = 4096 + k.val; omega

theorem act_eq (c : Dev nD) (t : Fin cfg0.N) (r : Fin 32) (k : Fin 3072) :
    Body.act (X0_0 (F := Ideal) m c t) (iblk (F := Ideal) m c 1 t) (iblk (F := Ideal) m c 4 t) (iblk (F := Ideal) m c 6 t) (ix2 r k)
      = SsdStateRefIdeal.Plain.act (m ((c : Thread nD τ).loc main_arg0)) (m ((c : Thread nD τ).loc main_arg2)) (m ((c : Thread nD τ).loc main_arg4))
          (m ((c : Thread nD τ).loc main_arg5)) (st t) r k := by
  have p3 := padded_eq m c t ⟨3 + r.val, by omega⟩ k (by show 3 + r.val + 5 < 40; omega)
  have p2 := padded_eq m c t ⟨2 + r.val, by omega⟩ k (by show 2 + r.val + 5 < 40; omega)
  have p1 := padded_eq m c t ⟨1 + r.val, by omega⟩ k (by show 1 + r.val + 5 < 40; omega)
  have p0 := padded_eq m c t ⟨r.val, by omega⟩ k (by show r.val + 5 < 40; omega)
  have i3 : (ix2 (⟨r.val + 8, by omega⟩ : Fin 40) k : S40x3072.Idx) = ix2 (⟨3 + r.val + 5, by omega⟩ : Fin 40) k :=
    congrArg (fun q : Fin 40 => (ix2 q k : S40x3072.Idx)) (Fin.ext (show r.val + 8 = 3 + r.val + 5 by omega))
  have i2 : (ix2 (⟨r.val + 7, by omega⟩ : Fin 40) k : S40x3072.Idx) = ix2 (⟨2 + r.val + 5, by omega⟩ : Fin 40) k :=
    congrArg (fun q : Fin 40 => (ix2 q k : S40x3072.Idx)) (Fin.ext (show r.val + 7 = 2 + r.val + 5 by omega))
  have i1 : (ix2 (⟨r.val + 6, by omega⟩ : Fin 40) k : S40x3072.Idx) = ix2 (⟨1 + r.val + 5, by omega⟩ : Fin 40) k :=
    congrArg (fun q : Fin 40 => (ix2 q k : S40x3072.Idx)) (Fin.ext (show r.val + 6 = 1 + r.val + 5 by omega))
  have w0 : b6 m c t (ix2 (0 : Fin 8) k) = m ((c : Thread nD τ).loc main_arg4) (ix3 (0 : Fin 1) (0 : Fin 4) k) := (blk6 m c t 0 k).trans (tap_apply m c 0 k)
  have w1 : b6 m c t (ix2 (1 : Fin 8) k) = m ((c : Thread nD τ).loc main_arg4) (ix3 (0 : Fin 1) (1 : Fin 4) k) := (blk6 m c t 1 k).trans (tap_apply m c 1 k)
  have w2 : b6 m c t (ix2 (2 : Fin 8) k) = m ((c : Thread nD τ).loc main_arg4) (ix3 (0 : Fin 1) (2 : Fin 4) k) := (blk6 m c t 2 k).trans (tap_apply m c 2 k)
  have w3 : b6 m c t (ix2 (3 : Fin 8) k) = m ((c : Thread nD τ).loc main_arg4) (ix3 (0 : Fin 1) (3 : Fin 4) k) := (blk6 m c t 3 k).trans (tap_apply m c 3 k)
  have w4 : b6 m c t (ix2 (4 : Fin 8) k) = m ((c : Thread nD τ).loc main_arg5) (ix2 (0 : Fin 1) k) := (blk6 m c t 4 k).trans (bias_apply m c k)
  have e : SsdStateRefIdeal.Plain.pre (m ((c : Thread nD τ).loc main_arg0)) (m ((c : Thread nD τ).loc main_arg2)) (m ((c : Thread nD τ).loc main_arg4))
          (m ((c : Thread nD τ).loc main_arg5)) (st t) r k
      = b6 m c t (ix2 (4 : Fin 8) k)
        + b6 m c t (ix2 (3 : Fin 8) k) * Body.padded (X0_0 (F := Ideal) m c t) (iblk (F := Ideal) m c 1 t) (iblk (F := Ideal) m c 4 t) (ix2 (⟨r.val + 8, by omega⟩ : Fin 40) k)
        + b6 m c t (ix2 (2 : Fin 8) k) * Body.padded (X0_0 (F := Ideal) m c t) (iblk (F := Ideal) m c 1 t) (iblk (F := Ideal) m c 4 t) (ix2 (⟨r.val + 7, by omega⟩ : Fin 40) k)
        + b6 m c t (ix2 (1 : Fin 8) k) * Body.padded (X0_0 (F := Ideal) m c t) (iblk (F := Ideal) m c 1 t) (iblk (F := Ideal) m c 4 t) (ix2 (⟨r.val + 6, by omega⟩ : Fin 40) k)
        + b6 m c t (ix2 (0 : Fin 8) k) * Body.padded (X0_0 (F := Ideal) m c t) (iblk (F := Ideal) m c 1 t) (iblk (F := Ideal) m c 4 t) (ix2 (⟨r.val + 5, by omega⟩ : Fin 40) k) := by
    rw [i3, i2, i1, p3, p2, p1, p0, w0, w1, w2, w3, w4]
    unfold SsdStateRefIdeal.Plain.pre
    abel
  unfold SsdStateRefIdeal.Plain.act
  rw [e]
  rfl

theorem step_eq (c : Dev nD) (t : Fin cfg0.N) (r h : Fin 32) (h' : Fin 128) (hh : h' = ⟨h.val, by omega⟩) :
    step (b3 m c t (ix2 r h') + b7 m c t (ix2 (0 : Fin 8) h'))
      = SsdStateRefIdeal.Plain.dt (m ((c : Thread nD τ).loc main_arg1)) (m ((c : Thread nD τ).loc main_arg6)) (st t) r h := by
  subst hh
  have e3 : b3 m c t (ix2 r ⟨h.val, by omega⟩) = _ := blk3 m c t r ⟨h.val, by omega⟩
  have e7 : b7 m c t (ix2 (0 : Fin 8) ⟨h.val, by omega⟩) = _ := (blk7 m c t 0 ⟨h.val, by omega⟩).trans (head0_apply m c h)
  rw [e3, e7]
  rfl

theorem decay_eq (c : Dev nD) (t : Fin cfg0.N) (h : Fin 32) (h' : Fin 128) (hh : h' = ⟨h.val, by omega⟩) :
    Body.decay (iblk (F := Ideal) m c 3 t) (Body.row7 (iblk (F := Ideal) m c 7 t) 0) (Body.row7 (iblk (F := Ideal) m c 7 t) 1) h'
      = SsdStateRefIdeal.Plain.dec (m ((c : Thread nD τ).loc main_arg1)) (m ((c : Thread nD τ).loc main_arg6)) (m ((c : Thread nD τ).loc main_arg7)) (st t) h := by
  funext r
  show step (b3 m c t (ix2 r h') + b7 m c t (ix2 (0 : Fin 8) h'))
      * -Ideal.exp (b7 m c t (ix2 (1 : Fin 8) h')) = _
  rw [step_eq m c t r h h' hh]
  subst hh
  have e7 : b7 m c t (ix2 (1 : Fin 8) ⟨h.val, by omega⟩) = _ := (blk7 m c t 1 ⟨h.val, by omega⟩).trans (head1_apply m c h)
  rw [e7]
  rfl

theorem newState_eq (c : Dev nD) (t : Fin cfg0.N) (j : Fin 2048) (n : Fin 128) :
    Body.newState (X0_0 (F := Ideal) m c t) (iblk (F := Ideal) m c 1 t) (iblk (F := Ideal) m c 3 t) (iblk (F := Ideal) m c 4 t) (iblk (F := Ideal) m c 5 t)
        (iblk (F := Ideal) m c 6 t) (iblk (F := Ideal) m c 7 t) j n
      = SsdStateRefIdeal.Plain.state (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (st t) j n := by
  unfold Body.newState SsdStateRefIdeal.Plain.state Body.kept Body.wt
  rw [blk5, decay_eq m c t (SsdStateRefIdeal.Plain.head j) (Body.headOf j) rfl]
  refine congrArg _ (Finset.sum_congr rfl fun r _ => ?_)
  rw [act_eq, act_eq, step_eq m c t r (SsdStateRefIdeal.Plain.head j) (Body.headOf j) rfl]
  rfl

/-- The running streams' new states. -/
def G (c : Dev nD) : S32x2048x128.Idx → EReal := fun i =>
  SsdStateRefIdeal.Plain.state (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (i 0) (i 1) (i 2)

theorem flushed_eq (c : Dev nD) (hal : ∀ h : Fin 32, m ((c : Thread nD τ).loc main_arg7) (ix2 (0 : Fin 1) h) ≠ (⊥ : EReal)) (t : Fin cfg0.N) :
    (dats (F := Ideal) m 0 c).flushed 12 t = ((cfg0.win 12).blk t).view.read (Elt Ideal) (G m c) := by
  rw [Value.flushed12_A]
  funext y
  have hal' : ∀ h : Fin 128, h.val < 32 → iblk (F := Ideal) m c 7 t (ix2 (1 : Fin 8) h) ≠ (⊥ : EReal) := fun h hh => by
    have e := (blk7 m c t 1 h).trans (head1_apply m c ⟨h.val, hh⟩)
    rw [e]
    exact hal _
  refine (Body.out_apply (spreads m c t) hal' _).trans ((newState_eq m c t _ _).trans ?_)
  refine congrArg (G m c) (show ix3 (st t) _ _ = _ from funext fun a => Fin.ext ?_)
  obtain ⟨-, -, -, -, -, -, -, -, h0⟩ := idx_all t
  match a with
  | ⟨0, _⟩ =>
    show t.val = win0_12.index t 0 * 1 + 1 * (y 0).val
    have : (y 0).val < 1 := (y 0).isLt
    rw [h0.1]; omega
  | ⟨1, _⟩ => show (y 1).val = win0_12.index t 1 * 2048 + 1 * (y 1).val; rw [h0.2.1]; omega
  | ⟨2, _⟩ => show (y 2).val = win0_12.index t 2 * 128 + 1 * (y 2).val; rw [h0.2.2]; omega

/-- The blocks fill the array. -/
theorem cover (i : S32x2048x128.Idx) :
    ∃ t : Fin cfg0.N, (cfg0.win 12).flush t = true ∧ i ∈ ((cfg0.win 12).blk t).view.set := by
  have h0 : (i 0 : Nat) < 32 := (i 0).isLt
  have h1 : (i 1 : Nat) < 2048 := (i 1).isLt
  have h2 : (i 2 : Nat) < 128 := (i 2).isLt
  have ht : (i 0 : Nat) < cfg0.N := lt_of_lt_of_eq h0 N_0.symm
  refine ⟨⟨_, ht⟩, flush0_12 _, ?_⟩
  show i ∈ ((View.whole main_v28_1).slice (win0_12.rect ⟨(i 0 : Nat), ht⟩)).set
  rw [View.set_slice_whole, Rect.mem_set_unit]
  obtain ⟨-, -, -, -, -, -, -, -, e0, e1, e2⟩ := idx_all ⟨_, ht⟩
  dsimp only at e0 e1 e2
  intro a
  match a with
  | ⟨0, _⟩ =>
    show win0_12.index ⟨_, ht⟩ 0 * 1 ≤ (i 0 : Nat) ∧ (i 0 : Nat) < win0_12.index ⟨_, ht⟩ 0 * 1 + 1
    rw [e0]; omega
  | ⟨1, _⟩ =>
    show win0_12.index ⟨_, ht⟩ 1 * 2048 ≤ (i 1 : Nat) ∧ (i 1 : Nat) < win0_12.index ⟨_, ht⟩ 1 * 2048 + 2048
    rw [e1]; omega
  | ⟨2, _⟩ =>
    show win0_12.index ⟨_, ht⟩ 2 * 128 ≤ (i 2 : Nat) ∧ (i 2 : Nat) < win0_12.index ⟨_, ht⟩ 2 * 128 + 128
    rw [e2]; omega

end Cert.SsdStateIdeal.Tiles

namespace Cert.Proof.SsdStateClaims

open Cert.SsdStateIdeal.Tiles

instance preFacts : Cert.Pre_decaying.Facts := ⟨by decide⟩

theorem frame_kernel : Cert.quiescent_SsdState := fun m ρ _ => Cert.SsdState.Gen.frame m ρ

theorem frame_ideal : Cert.quiescent_SsdStateIdeal := fun m ρ _ => Cert.SsdStateIdeal.Gen.frame m ρ

theorem frame_ideal_pre : Cert.quiescent_SsdStateIdeal_pre_decaying := fun m ρ _ => Cert.SsdStateIdeal.Gen.frame m ρ

theorem frame_ref : Cert.quiescent_SsdStateRefIdeal := fun m ρ _ =>
  (θ_run Cert.SsdStateRefIdeal.defs _ _).mono (fun r h => ⟨fun c => (h c).2, Idealize.ShloMosaic.sem_eq_zero_of_no_sems (by decide) r.2⟩)
    (Cert.SsdStateRefIdeal.Value.run (F := Ideal) m ρ)

theorem frame_ref_pre : Cert.quiescent_SsdStateRefIdeal_pre_decaying := fun m ρ _ => frame_ref m ρ trivial

theorem preserves : Cert.preserves_SsdState_SsdStateIdeal :=
  ⟨IdealRules.named_const.statement Cert.SsdStateIdeal.κ "neg_log2e" .f32 0xBFB8AA3B#32 ((-((Real.log 2)⁻¹) : ℝ) : EReal) rfl,
    IdealRules.named_const.statement Cert.SsdStateIdeal.κ "log2e" .f32 0x3FB8AA3B#32 (((Real.log 2)⁻¹ : ℝ) : EReal) rfl⟩

/-- What the precondition says of the decay logarithms. -/
theorem rates_ne (m : (ℓ : Loc Cert.SsdStateIdeal.nD Cert.SsdStateIdeal.τ Cert.SsdStateIdeal.sig) → Buf (Elt Ideal) ℓ)
    (hp : Cert.Pre_SsdStateIdeal_decaying m) (c : Dev Cert.SsdStateIdeal.nD) (h : Fin 32) :
    m ((c.tc : Thread Cert.SsdStateIdeal.nD Cert.SsdStateIdeal.τ).loc Cert.SsdStateIdeal.main_arg7) (ix2 (0 : Fin 1) h) ≠ (⊥ : EReal) := by
  intro e
  have hc := congrFun (hp c) (ix2 (0 : Fin 1) h)
  have hc' : Ideal.cmp .ogt (m ((c.tc : Thread Cert.SsdStateIdeal.nD Cert.SsdStateIdeal.τ).loc Cert.SsdStateIdeal.main_arg7) (ix2 (0 : Fin 1) h))
      (Ideal.ofBits .f32 0xFF800000#32) = 1#1 := hc
  rw [e] at hc'
  unfold Ideal.cmp at hc'
  simp at hc'

theorem algebraic : Cert.algebraic_SsdStateIdeal_SsdStateRefIdeal_pre_decaying := by
  intro m ρ m' ρ' hp hagree
  refine ⟨fun c => G m c, (θ_run Cert.SsdStateIdeal.defs _ _).mono (fun _ h c => ⟨(h c).2.1.trans
      ((Cert.SsdStateIdeal.Gen.dats m 0 c).arrAt_eq_of_cover 12 (G m c) (fun t _ => flushed_eq m c (rates_ne m hp c) t) cover), (h c).2.2⟩)
    (Cert.SsdStateIdeal.Value.run_blocks m ρ), ?_⟩
  refine (θ_run Cert.SsdStateRefIdeal.defs _ _).mono (fun _ h c => ⟨(h c).1.trans ?_, (h c).2⟩) (Cert.SsdStateRefIdeal.Value.run (F := Ideal) m' ρ')
  obtain ⟨h0, h1, h2, h3, h4, h5, h6, h7, -⟩ := hagree c
  refine (Cert.SsdStateRefIdeal.Read.val_main_v96_eq (F := Ideal) m' c).trans (funext fun i => ?_)
  rw [h0, h1, h2, h3, h4, h5, h6, h7]
  refine (congrArg _ (eq_ix3 i)).trans (Cert.SsdStateRefIdeal.Plain.state_apply _ _ _ _ _ _ _ _ (i 0) (i 1) (i 2))

end Cert.Proof.SsdStateClaims

end
-- ==== Proof.lean ====
module

public import proofs.«01_k».proof.Defs
public import proofs.«01_k».proof.Proof.OutProj
public import proofs.«01_k».proof.Proof.InProj
public import proofs.«01_k».proof.Proof.OutSample
public import proofs.«01_k».proof.Proof.KvRows
public import proofs.«01_k».proof.Proof.InSample
public import proofs.«01_k».proof.Proof.SsdState
public import Idealize.ShloMosaic.Adequacy
public import Idealize.ShloMosaic.Init

@[expose] public section

noncomputable section

namespace Cert.Proof

open Idealize.ShloMosaic Idealize.SL.Sem

theorem claim : Cert.Claim :=
  ⟨Cert.OutProj.Gen.facts, Cert.OutProjIdeal.Gen.facts, Cert.OutProjRefIdeal.Gen.facts, Cert.InProj.Gen.facts, Cert.InProjIdeal.Gen.facts, Cert.InProjRefIdeal.Gen.facts, Cert.OutSample.Gen.facts, Cert.OutSampleIdeal.Gen.facts, Cert.OutSampleRefIdeal.Gen.facts, Cert.KvRows.Gen.facts, Cert.KvRowsIdeal.Gen.facts, Cert.KvRowsRefIdeal.Gen.facts, Cert.InSample.Gen.facts, Cert.InSampleIdeal.Gen.facts, Cert.InSampleRefIdeal.Gen.facts, Cert.SsdState.Gen.facts, Cert.SsdStateIdeal.Gen.facts, Cert.SsdStateRefIdeal.Gen.facts, SsdStateClaims.preFacts,
    OutProjClaims.frame_kernel, OutProjClaims.frame_ideal, OutProjClaims.frame_ref, InProjClaims.frame_kernel, InProjClaims.frame_ideal, InProjClaims.frame_ref, OutSampleClaims.frame_kernel, OutSampleClaims.frame_ideal, OutSampleClaims.frame_ref, KvRowsClaims.frame_kernel, KvRowsClaims.frame_ideal, KvRowsClaims.frame_ref, InSampleClaims.frame_kernel, InSampleClaims.frame_ideal, InSampleClaims.frame_ref, SsdStateClaims.frame_kernel, SsdStateClaims.frame_ideal, SsdStateClaims.frame_ideal_pre, SsdStateClaims.frame_ref, SsdStateClaims.frame_ref_pre, OutProjClaims.preserves, OutProjClaims.algebraic, InProjClaims.preserves, InProjClaims.algebraic, OutSampleClaims.preserves, OutSampleClaims.algebraic, KvRowsClaims.preserves, KvRowsClaims.algebraic, InSampleClaims.preserves, InSampleClaims.algebraic, SsdStateClaims.preserves, SsdStateClaims.algebraic⟩

end Cert.Proof

end

end
